-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v173_0)) (v1 : (c : Dev Cert.KernelIdeal.nD) → Buf (Elt Ideal) ((c.tc : Thread Cert.KernelIdeal.nD Cert.KernelIdeal.τ).loc Cert.KernelIdeal.main_v173_1)) (v2 : (c : Dev Cert.KernelIdeal.nD) → Buf (Elt Ideal) ((c.tc : Thread Cert.KernelIdeal.nD Cert.KernelIdeal.τ).loc Cert.KernelIdeal.main_v173_2)) (v3 : (c : Dev Cert.KernelIdeal.nD) → Buf (Elt Ideal) ((c.tc : Thread Cert.KernelIdeal.nD Cert.KernelIdeal.τ).loc Cert.KernelIdeal.main_v173_3)) (v4 : (c : Dev Cert.KernelIdeal.nD) → Buf (Elt Ideal) ((c.tc : Thread Cert.KernelIdeal.nD Cert.KernelIdeal.τ).loc Cert.KernelIdeal.main_v173_4)) (v5 : (c : Dev Cert.KernelIdeal.nD) → Buf (Elt Ideal) ((c.tc : Thread Cert.KernelIdeal.nD Cert.KernelIdeal.τ).loc Cert.KernelIdeal.main_v173_5)) (v6 : (c : Dev Cert.KernelIdeal.nD) → Buf (Elt Ideal) ((c.tc : Thread Cert.KernelIdeal.nD Cert.KernelIdeal.τ).loc Cert.KernelIdeal.main_v173_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v173_0) = v0 c
          ∧ r.2.mem ((c.tc : Thread Cert.KernelIdeal.nD Cert.KernelIdeal.τ).loc Cert.KernelIdeal.main_v173_1) = v1 c
          ∧ r.2.mem ((c.tc : Thread Cert.KernelIdeal.nD Cert.KernelIdeal.τ).loc Cert.KernelIdeal.main_v173_2) = v2 c
          ∧ r.2.mem ((c.tc : Thread Cert.KernelIdeal.nD Cert.KernelIdeal.τ).loc Cert.KernelIdeal.main_v173_3) = v3 c
          ∧ r.2.mem ((c.tc : Thread Cert.KernelIdeal.nD Cert.KernelIdeal.τ).loc Cert.KernelIdeal.main_v173_4) = v4 c
          ∧ r.2.mem ((c.tc : Thread Cert.KernelIdeal.nD Cert.KernelIdeal.τ).loc Cert.KernelIdeal.main_v173_5) = v5 c
          ∧ r.2.mem ((c.tc : Thread Cert.KernelIdeal.nD Cert.KernelIdeal.τ).loc Cert.KernelIdeal.main_v173_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v357) = v0 c
          ∧ r.2.mem ((c.tc : Thread Cert.ReferenceIdeal.nD Cert.ReferenceIdeal.τ).loc Cert.ReferenceIdeal.main_v358) = v1 c
          ∧ r.2.mem ((c.tc : Thread Cert.ReferenceIdeal.nD Cert.ReferenceIdeal.τ).loc Cert.ReferenceIdeal.main_v359) = v2 c
          ∧ r.2.mem ((c.tc : Thread Cert.ReferenceIdeal.nD Cert.ReferenceIdeal.τ).loc Cert.ReferenceIdeal.main_v360) = v3 c
          ∧ r.2.mem ((c.tc : Thread Cert.ReferenceIdeal.nD Cert.ReferenceIdeal.τ).loc Cert.ReferenceIdeal.main_v235) = v4 c
          ∧ r.2.mem ((c.tc : Thread Cert.ReferenceIdeal.nD Cert.ReferenceIdeal.τ).loc Cert.ReferenceIdeal.main_v216) = v5 c
          ∧ r.2.mem ((c.tc : Thread Cert.ReferenceIdeal.nD Cert.ReferenceIdeal.τ).loc Cert.ReferenceIdeal.main_v356) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v23_0)) (v1 : (c : Dev Cert.Kernel3Ideal.nD) → Buf (Elt Ideal) ((c.tc : Thread Cert.Kernel3Ideal.nD Cert.Kernel3Ideal.τ).loc Cert.Kernel3Ideal.main_v23_1)) (v2 : (c : Dev Cert.Kernel3Ideal.nD) → Buf (Elt Ideal) ((c.tc : Thread Cert.Kernel3Ideal.nD Cert.Kernel3Ideal.τ).loc Cert.Kernel3Ideal.main_v23_2)) (v3 : (c : Dev Cert.Kernel3Ideal.nD) → Buf (Elt Ideal) ((c.tc : Thread Cert.Kernel3Ideal.nD Cert.Kernel3Ideal.τ).loc Cert.Kernel3Ideal.main_v23_3)) (v4 : (c : Dev Cert.Kernel3Ideal.nD) → Buf (Elt Ideal) ((c.tc : Thread Cert.Kernel3Ideal.nD Cert.Kernel3Ideal.τ).loc Cert.Kernel3Ideal.main_v23_4)) (v5 : (c : Dev Cert.Kernel3Ideal.nD) → Buf (Elt Ideal) ((c.tc : Thread Cert.Kernel3Ideal.nD Cert.Kernel3Ideal.τ).loc Cert.Kernel3Ideal.main_v23_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23_0) = v0 c
          ∧ r.2.mem ((c.tc : Thread Cert.Kernel3Ideal.nD Cert.Kernel3Ideal.τ).loc Cert.Kernel3Ideal.main_v23_1) = v1 c
          ∧ r.2.mem ((c.tc : Thread Cert.Kernel3Ideal.nD Cert.Kernel3Ideal.τ).loc Cert.Kernel3Ideal.main_v23_2) = v2 c
          ∧ r.2.mem ((c.tc : Thread Cert.Kernel3Ideal.nD Cert.Kernel3Ideal.τ).loc Cert.Kernel3Ideal.main_v23_3) = v3 c
          ∧ r.2.mem ((c.tc : Thread Cert.Kernel3Ideal.nD Cert.Kernel3Ideal.τ).loc Cert.Kernel3Ideal.main_v23_4) = v4 c
          ∧ r.2.mem ((c.tc : Thread Cert.Kernel3Ideal.nD Cert.Kernel3Ideal.τ).loc Cert.Kernel3Ideal.main_v23_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_v58) = v1 c
          ∧ r.2.mem ((c.tc : Thread Cert.Reference3Ideal.nD Cert.Reference3Ideal.τ).loc Cert.Reference3Ideal.main_v59) = v2 c
          ∧ r.2.mem ((c.tc : Thread Cert.Reference3Ideal.nD Cert.Reference3Ideal.τ).loc Cert.Reference3Ideal.main_v60) = v3 c
          ∧ r.2.mem ((c.tc : Thread Cert.Reference3Ideal.nD Cert.Reference3Ideal.τ).loc Cert.Reference3Ideal.main_v61) = v4 c
          ∧ r.2.mem ((c.tc : Thread Cert.Reference3Ideal.nD Cert.Reference3Ideal.τ).loc Cert.Reference3Ideal.main_v57) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_v13) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_v16) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v6_0)) (v1 : (c : Dev Cert.Kernel8Ideal.nD) → Buf (Elt Ideal) ((c.tc : Thread Cert.Kernel8Ideal.nD Cert.Kernel8Ideal.τ).loc Cert.Kernel8Ideal.main_v6_1)) (v2 : (c : Dev Cert.Kernel8Ideal.nD) → Buf (Elt Ideal) ((c.tc : Thread Cert.Kernel8Ideal.nD Cert.Kernel8Ideal.τ).loc Cert.Kernel8Ideal.main_v6_2)) (v3 : (c : Dev Cert.Kernel8Ideal.nD) → Buf (Elt Ideal) ((c.tc : Thread Cert.Kernel8Ideal.nD Cert.Kernel8Ideal.τ).loc Cert.Kernel8Ideal.main_v6_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_0) = v0 c
          ∧ r.2.mem ((c.tc : Thread Cert.Kernel8Ideal.nD Cert.Kernel8Ideal.τ).loc Cert.Kernel8Ideal.main_v6_1) = v1 c
          ∧ r.2.mem ((c.tc : Thread Cert.Kernel8Ideal.nD Cert.Kernel8Ideal.τ).loc Cert.Kernel8Ideal.main_v6_2) = v2 c
          ∧ r.2.mem ((c.tc : Thread Cert.Kernel8Ideal.nD Cert.Kernel8Ideal.τ).loc Cert.Kernel8Ideal.main_v6_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v80) = v0 c
          ∧ r.2.mem ((c.tc : Thread Cert.Reference8Ideal.nD Cert.Reference8Ideal.τ).loc Cert.Reference8Ideal.main_v81) = v1 c
          ∧ r.2.mem ((c.tc : Thread Cert.Reference8Ideal.nD Cert.Reference8Ideal.τ).loc Cert.Reference8Ideal.main_v75) = v2 c
          ∧ r.2.mem ((c.tc : Thread Cert.Reference8Ideal.nD Cert.Reference8Ideal.τ).loc Cert.Reference8Ideal.main_v79) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S4096x1024 : Shape := ⟨2, ![4096, 1024]⟩
abbrev S4096x8192 : Shape := ⟨2, ![4096, 8192]⟩
abbrev S3x1024 : Shape := ⟨2, ![3, 1024]⟩
abbrev S1024x1024 : Shape := ⟨2, ![1024, 1024]⟩
abbrev S4x256x256 : Shape := ⟨3, ![4, 256, 256]⟩
abbrev S1x1024 : Shape := ⟨2, ![1, 1024]⟩
abbrev S256x1024 : Shape := ⟨2, ![256, 1024]⟩
abbrev S_ : Shape := ⟨0, ![]⟩

class Facts : Prop where
  bcast_S_S4096x1024 : S_.BroadcastsInDim S4096x1024 (![] : Fin 0 → Fin S4096x1024.rank)
  bcast_S_S4096x8192 : S_.BroadcastsInDim S4096x8192 (![] : Fin 0 → Fin S4096x8192.rank)
  bcast_S_S4x256x256 : S_.BroadcastsInDim S4x256x256 (![] : Fin 0 → Fin S4x256x256.rank)
  bcast_S_S1x1024 : S_.BroadcastsInDim S1x1024 (![] : Fin 0 → Fin S1x1024.rank)
  bcast_S_S256x1024 : S_.BroadcastsInDim S256x1024 (![] : Fin 0 → Fin S256x1024.rank)
  bcast_S_S1024x1024 : S_.BroadcastsInDim S1024x1024 (![] : Fin 0 → Fin S1024x1024.rank)

variable [Facts]

def fn_part1 {F : FTy → Type} [FloatOps F] (main_arg8 : FVec F S1024x1024 .f32) (main_arg9 : FVec F S1024x1024 .f32) (main_v2 : IVec S4096x1024 1) (main_v5 : IVec S4096x8192 1) (main_v8 : IVec S4x256x256 1) (main_v11 : IVec S1x1024 1) (main_v14 : IVec S256x1024 1) (main_v17 : IVec S256x1024 1) : IVec S4096x1024 1 × IVec S4096x8192 1 × IVec S4x256x256 1 × IVec S1x1024 1 × IVec S256x1024 1 × IVec S256x1024 1 × IVec S1024x1024 1 × IVec S1024x1024 1 :=
  let main_v18 : FVec F S1024x1024 .f32 := Host.absf main_arg8
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  let main_v21 : FVec F S1024x1024 .f32 := Host.absf main_arg9
  let main_cst_6 : FVec F S_ .f32 := constant S_ .f32 0x7F800000#32
  let main_v22 : FVec F S1024x1024 .f32 := broadcastInDim S1024x1024 ![] bcast_S_S1024x1024 main_cst_6
  let main_v23 : IVec S1024x1024 1 := cmpf .olt main_v21 main_v22
  (main_v2, main_v5, main_v8, main_v11, main_v14, main_v17, main_v20, main_v23)

def fn {F : FTy → Type} [FloatOps F] (main_arg0 : FVec F S4096x1024 .f32) (main_arg1 : FVec F S4096x8192 .f32) (main_arg2 : FVec F S3x1024 .f32) (main_arg3 : FVec F S1024x1024 .f32) (main_arg4 : FVec F S4x256x256 .f32) (main_arg5 : FVec F S1x1024 .f32) (main_arg6 : FVec F S256x1024 .f32) (main_arg7 : FVec F S256x1024 .f32) (main_arg8 : FVec F S1024x1024 .f32) (main_arg9 : FVec F S1024x1024 .f32) : IVec S4096x1024 1 × IVec S4096x8192 1 × IVec S4x256x256 1 × IVec S1x1024 1 × IVec S256x1024 1 × IVec S256x1024 1 × IVec S1024x1024 1 × IVec S1024x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x8192 .f32 := Host.absf main_arg1
  let main_cst_0 : FVec F S_ .f32 := constant S_ .f32 0x7F800000#32
  let main_v4 : FVec F S4096x8192 .f32 := broadcastInDim S4096x8192 ![] bcast_S_S4096x8192 main_cst_0
  let main_v5 : IVec S4096x8192 1 := cmpf .olt main_v3 main_v4
  let main_v6 : FVec F S4x256x256 .f32 := Host.absf main_arg4
  let main_cst_1 : FVec F S_ .f32 := constant S_ .f32 0x7F800000#32
  let main_v7 : FVec F S4x256x256 .f32 := broadcastInDim S4x256x256 ![] bcast_S_S4x256x256 main_cst_1
  let main_v8 : IVec S4x256x256 1 := cmpf .olt main_v6 main_v7
  let main_v9 : FVec F S1x1024 .f32 := Host.absf main_arg5
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S256x1024 .f32 := Host.absf main_arg6
  let main_cst_3 : FVec F S_ .f32 := constant S_ .f32 0x7F800000#32
  let main_v13 : FVec F S256x1024 .f32 := broadcastInDim S256x1024 ![] bcast_S_S256x1024 main_cst_3
  let main_v14 : IVec S256x1024 1 := cmpf .olt main_v12 main_v13
  let main_v15 : FVec F S256x1024 .f32 := Host.absf main_arg7
  let main_cst_4 : FVec F S_ .f32 := constant S_ .f32 0x7F800000#32
  let main_v16 : FVec F S256x1024 .f32 := broadcastInDim S256x1024 ![] bcast_S_S256x1024 main_cst_4
  let main_v17 : IVec S256x1024 1 := cmpf .olt main_v15 main_v16
  fn_part1 (F := F) main_arg8 main_arg9 main_v2 main_v5 main_v8 main_v11 main_v14 main_v17
-- ==== Pre_finite3.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S4096x1024 .f32) (main_arg2 : FVec F S1x1024 .f32) (main_arg3 : FVec F S1024x2816 .f32) (main_arg4 : FVec F S1024x2816 .f32) (main_arg5 : FVec F S2816x1024 .f32) : IVec S4096x1024 1 × IVec S1x1024 1 × IVec S1024x2816 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := Host.absf main_arg4
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S2816x1024 .f32 := Host.absf main_arg5
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  (main_v2, main_v5, main_v8, main_v11)
-- ==== Kernel.lean ====
abbrev S4096x1024 : Shape := ⟨2, ![4096, 1024]⟩
abbrev S4096x8192 : Shape := ⟨2, ![4096, 8192]⟩
abbrev S3x1024 : Shape := ⟨2, ![3, 1024]⟩
abbrev S1024x1024 : Shape := ⟨2, ![1024, 1024]⟩
abbrev S4x256x256 : Shape := ⟨3, ![4, 256, 256]⟩
abbrev S1x1024 : Shape := ⟨2, ![1, 1024]⟩
abbrev S256x1024 : Shape := ⟨2, ![256, 1024]⟩
abbrev S_ : Shape := ⟨0, ![]⟩
abbrev S2x1024 : Shape := ⟨2, ![2, 1024]⟩
abbrev S4098x1024 : Shape := ⟨2, ![4098, 1024]⟩
abbrev S1024 : Shape := ⟨1, ![1024]⟩
abbrev S4096x4x256 : Shape := ⟨3, ![4096, 4, 256]⟩
abbrev S4096 : Shape := ⟨1, ![4096]⟩
abbrev S4096x1x256 : Shape := ⟨3, ![4096, 1, 256]⟩
abbrev S4096x256 : Shape := ⟨2, ![4096, 256]⟩
abbrev S2x256 : Shape := ⟨2, ![2, 256]⟩
abbrev S4094x256 : Shape := ⟨2, ![4094, 256]⟩
abbrev S4096x1 : Shape := ⟨2, ![4096, 1]⟩
abbrev S4x256 : Shape := ⟨2, ![4, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4x256x4096 : Shape := ⟨3, ![4, 256, 4096]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S5x1024 : Shape := ⟨2, ![5, 1024]⟩
abbrev S8x1024 : Shape := ⟨2, ![8, 1024]⟩
abbrev S256x384 : Shape := ⟨2, ![256, 384]⟩
abbrev S1x256x384 : Shape := ⟨3, ![1, 256, 384]⟩
abbrev S4x256x384 : Shape := ⟨3, ![4, 256, 384]⟩
abbrev S256x8192 : Shape := ⟨2, ![256, 8192]⟩
abbrev S16x8192 : Shape := ⟨2, ![16, 8192]⟩
abbrev S272x1024 : Shape := ⟨2, ![272, 1024]⟩
abbrev S384x1024 : Shape := ⟨2, ![384, 1024]⟩
abbrev S16x1024 : Shape := ⟨2, ![16, 1024]⟩
abbrev S128x1024 : Shape := ⟨2, ![128, 1024]⟩
abbrev S256x256 : Shape := ⟨2, ![256, 256]⟩
abbrev S1x256x256 : Shape := ⟨3, ![1, 256, 256]⟩
abbrev S256x1 : Shape := ⟨2, ![256, 1]⟩
abbrev S384x256 : Shape := ⟨2, ![384, 256]⟩
abbrev S256 : Shape := ⟨1, ![256]⟩

abbrev nBuf : Space → Nat
  | .hbm => 216
  | .vmem => 37
  | .smem => 0
  | _ => 0

abbrev hbmTy0_0 (i : Nat) : BufTy := match i % 128 with
  | 0 => ⟨S4096x1024, .f32⟩
  | 1 => ⟨S4096x8192, .f32⟩
  | 2 => ⟨S3x1024, .f32⟩
  | 3 => ⟨S1024x1024, .f32⟩
  | 4 => ⟨S4x256x256, .f32⟩
  | 5 => ⟨S1x1024, .f32⟩
  | 6 => ⟨S256x1024, .f32⟩
  | 7 => ⟨S256x1024, .f32⟩
  | 8 => ⟨S1024x1024, .f32⟩
  | 9 => ⟨S1024x1024, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S_, .f32⟩
  | 17 => ⟨S2x1024, .f32⟩
  | 18 => ⟨S4098x1024, .f32⟩
  | 19 => ⟨S1x1024, .f32⟩
  | 20 => ⟨S1024, .f32⟩
  | 21 => ⟨S1x1024, .f32⟩
  | 22 => ⟨S4096x1024, .f32⟩
  | 23 => ⟨S4096x1024, .f32⟩
  | 24 => ⟨S4096x1024, .f32⟩
  | 25 => ⟨S_, .f32⟩
  | 26 => ⟨S4096x1024, .f32⟩
  | 27 => ⟨S4096x1024, .f32⟩
  | 28 => ⟨S1x1024, .f32⟩
  | 29 => ⟨S1024, .f32⟩
  | 30 => ⟨S1x1024, .f32⟩
  | 31 => ⟨S4096x1024, .f32⟩
  | 32 => ⟨S4096x1024, .f32⟩
  | 33 => ⟨S4096x1024, .f32⟩
  | 34 => ⟨S4096x1024, .f32⟩
  | 35 => ⟨S1x1024, .f32⟩
  | 36 => ⟨S1024, .f32⟩
  | 37 => ⟨S1x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S4096x4x256, .f32⟩
  | 45 => ⟨S_, .f32⟩
  | 46 => ⟨S_, .f32⟩
  | 47 => ⟨S4096x4x256, .f32⟩
  | 48 => ⟨S4096, .i32⟩
  | 49 => ⟨S_, .i32⟩
  | 50 => ⟨S4096, .i32⟩
  | 51 => ⟨S4096, .i32⟩
  | 52 => ⟨S4096x1x256, .f32⟩
  | 53 => ⟨S4096x256, .f32⟩
  | 54 => ⟨S_, .f32⟩
  | 55 => ⟨S2x256, .f32⟩
  | 56 => ⟨S4094x256, .f32⟩
  | 57 => ⟨S4096x256, .f32⟩
  | 58 => ⟨S_, .i32⟩
  | 59 => ⟨S4096, .i32⟩
  | 60 => ⟨S4096, .i32⟩
  | 61 => ⟨S4096, .f32⟩
  | 62 => ⟨S4096x1, .f32⟩
  | 63 => ⟨S4096x256, .f32⟩
  | 64 => ⟨S4096x256, .f32⟩
  | 65 => ⟨S4096x256, .f32⟩
  | 66 => ⟨S4096x1x256, .f32⟩
  | 67 => ⟨S4096x256, .f32⟩
  | 68 => ⟨S4096x256, .f32⟩
  | 69 => ⟨S4096x1x256, .f32⟩
  | 70 => ⟨S4096x256, .f32⟩
  | 71 => ⟨S_, .f32⟩
  | 72 => ⟨S4x256, .f32⟩
  | 73 => ⟨S4092x256, .f32⟩
  | 74 => ⟨S4096x256, .f32⟩
  | 75 => ⟨S_, .i32⟩
  | 76 => ⟨S4096, .i32⟩
  | 77 => ⟨S4096, .i32⟩
  | 78 => ⟨S4096, .f32⟩
  | 79 => ⟨S4096x1, .f32⟩
  | 80 => ⟨S4096x256, .f32⟩
  | 81 => ⟨S4096x256, .f32⟩
  | 82 => ⟨S4096x256, .f32⟩
  | 83 => ⟨S4096x1x256, .f32⟩
  | 84 => ⟨S4096x256, .f32⟩
  | 85 => ⟨S4096x256, .f32⟩
  | 86 => ⟨S4096x1x256, .f32⟩
  | 87 => ⟨S4096x256, .f32⟩
  | 88 => ⟨S_, .f32⟩
  | 89 => ⟨S8x256, .f32⟩
  | 90 => ⟨S4088x256, .f32⟩
  | 91 => ⟨S4096x256, .f32⟩
  | 92 => ⟨S_, .i32⟩
  | 93 => ⟨S4096, .i32⟩
  | 94 => ⟨S4096, .i32⟩
  | 95 => ⟨S4096, .f32⟩
  | 96 => ⟨S4096x1, .f32⟩
  | 97 => ⟨S4096x256, .f32⟩
  | 98 => ⟨S4096x256, .f32⟩
  | 99 => ⟨S4096x256, .f32⟩
  | 100 => ⟨S4096x1x256, .f32⟩
  | 101 => ⟨S4096x256, .f32⟩
  | 102 => ⟨S4096x256, .f32⟩
  | 103 => ⟨S4096x1x256, .f32⟩
  | 104 => ⟨S4096x256, .f32⟩
  | 105 => ⟨S_, .f32⟩
  | 106 => ⟨S16x256, .f32⟩
  | 107 => ⟨S4080x256, .f32⟩
  | 108 => ⟨S4096x256, .f32⟩
  | 109 => ⟨S_, .i32⟩
  | 110 => ⟨S4096, .i32⟩
  | 111 => ⟨S4096, .i32⟩
  | 112 => ⟨S4096, .f32⟩
  | 113 => ⟨S4096x1, .f32⟩
  | 114 => ⟨S4096x256, .f32⟩
  | 115 => ⟨S4096x256, .f32⟩
  | 116 => ⟨S4096x256, .f32⟩
  | 117 => ⟨S4096x1x256, .f32⟩
  | 118 => ⟨S4096x256, .f32⟩
  | 119 => ⟨S4096x256, .f32⟩
  | 120 => ⟨S4096x1x256, .f32⟩
  | 121 => ⟨S4096x1x256, .f32⟩
  | 122 => ⟨S4096x1x256, .f32⟩
  | 123 => ⟨S4096x1x256, .f32⟩
  | 124 => ⟨S4096x4x256, .f32⟩
  | 125 => ⟨S4x256x4096, .f32⟩
  | 126 => ⟨S4096x4x256, .f32⟩
  | 127 => ⟨S4096x1024, .f32⟩
  | _ => ⟨S4096x1024, .f32⟩

abbrev hbmTy0_1 (i : Nat) : BufTy := match i % 128 with
  | 0 => ⟨S4096x4x256, .f32⟩
  | 1 => ⟨S256x4x256, .f32⟩
  | 2 => ⟨S4x4096x256, .f32⟩
  | 3 => ⟨S_, .f32⟩
  | 4 => ⟨S4x4096x256, .f32⟩
  | 5 => ⟨S4x4096x256, .f32⟩
  | 6 => ⟨S_, .f32⟩
  | 7 => ⟨S4x4096, .f32⟩
  | 8 => ⟨S_, .f32⟩
  | 9 => ⟨S4x4096, .f32⟩
  | 10 => ⟨S4x4096, .f32⟩
  | 11 => ⟨S4x4096x1, .f32⟩
  | 12 => ⟨S4x4096x256, .f32⟩
  | 13 => ⟨S4x4096x256, .f32⟩
  | 14 => ⟨S4x4096x256, .f32⟩
  | 15 => ⟨S_, .f32⟩
  | 16 => ⟨S4x4096, .f32⟩
  | 17 => ⟨S4x4096x1, .f32⟩
  | 18 => ⟨S4x4096x256, .f32⟩
  | 19 => ⟨S4x4096x256, .f32⟩
  | 20 => ⟨S256x4x256, .f32⟩
  | 21 => ⟨S4x256x4096, .f32⟩
  | 22 => ⟨S4096x4x256, .f32⟩
  | 23 => ⟨S4096x1024, .f32⟩
  | 24 => ⟨S4096x1024, .f32⟩
  | 25 => ⟨S4096x4x256, .f32⟩
  | 26 => ⟨S4096x1024, .f32⟩
  | 27 => ⟨S_, .f32⟩
  | 28 => ⟨S5x1024, .f32⟩
  | 29 => ⟨S8x1024, .f32⟩
  | 30 => ⟨S4096x8192, .bf16⟩
  | 31 => ⟨S4096x1024, .bf16⟩
  | 32 => ⟨S4096x1024, .bf16⟩
  | 33 => ⟨S4096x1024, .bf16⟩
  | 34 => ⟨S4096x1024, .bf16⟩
  | 35 => ⟨S1024x1024, .bf16⟩
  | 36 => ⟨S4x256x256, .bf16⟩
  | 37 => ⟨S256x1024, .bf16⟩
  | 38 => ⟨S256x1024, .bf16⟩
  | 39 => ⟨S1024x1024, .bf16⟩
  | 40 => ⟨S1024x1024, .bf16⟩
  | 41 => ⟨S256x384, .i32⟩
  | 42 => ⟨S256x384, .i32⟩
  | 43 => ⟨S256x384, .i32⟩
  | 44 => ⟨S_, .i32⟩
  | 45 => ⟨S256x384, .i32⟩
  | 46 => ⟨S256x384, .i1⟩
  | 47 => ⟨S_, .i32⟩
  | 48 => ⟨S256x384, .i32⟩
  | 49 => ⟨S256x384, .i1⟩
  | 50 => ⟨S256x384, .i1⟩
  | 51 => ⟨S256x384, .bf16⟩
  | 52 => ⟨S_, .i32⟩
  | 53 => ⟨S256x384, .i32⟩
  | 54 => ⟨S256x384, .i1⟩
  | 55 => ⟨S_, .i32⟩
  | 56 => ⟨S256x384, .i32⟩
  | 57 => ⟨S256x384, .i1⟩
  | 58 => ⟨S256x384, .i1⟩
  | 59 => ⟨S256x384, .bf16⟩
  | 60 => ⟨S_, .i32⟩
  | 61 => ⟨S256x384, .i32⟩
  | 62 => ⟨S256x384, .i1⟩
  | 63 => ⟨S_, .i32⟩
  | 64 => ⟨S256x384, .i32⟩
  | 65 => ⟨S256x384, .i1⟩
  | 66 => ⟨S256x384, .i1⟩
  | 67 => ⟨S256x384, .bf16⟩
  | 68 => ⟨S_, .i32⟩
  | 69 => ⟨S256x384, .i32⟩
  | 70 => ⟨S256x384, .i1⟩
  | 71 => ⟨S_, .i32⟩
  | 72 => ⟨S256x384, .i32⟩
  | 73 => ⟨S256x384, .i1⟩
  | 74 => ⟨S256x384, .i1⟩
  | 75 => ⟨S256x384, .bf16⟩
  | 76 => ⟨S1x256x384, .bf16⟩
  | 77 => ⟨S1x256x384, .bf16⟩
  | 78 => ⟨S1x256x384, .bf16⟩
  | 79 => ⟨S1x256x384, .bf16⟩
  | 80 => ⟨S4x256x384, .bf16⟩
  | 81 => ⟨S4096x8192, .bf16⟩
  | 82 => ⟨S4096x1024, .bf16⟩
  | 83 => ⟨S4096x1024, .bf16⟩
  | 84 => ⟨S4096x1024, .bf16⟩
  | 85 => ⟨S256x1024, .f32⟩
  | 86 => ⟨S256x1024, .f32⟩
  | 87 => ⟨S8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x8192, .bf16⟩
  | .local _ .vmem, ⟨3, _⟩ => ⟨S256x8192, .bf16⟩
  | .local _ .vmem, ⟨4, _⟩ => ⟨S16x8192, .bf16⟩
  | .local _ .vmem, ⟨5, _⟩ => ⟨S16x8192, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S8x1024, .f32⟩
  | .local _ .vmem, ⟨15, _⟩ => ⟨S1024x1024, .bf16⟩
  | .local _ .vmem, ⟨16, _⟩ => ⟨S4x256x256, .bf16⟩
  | .local _ .vmem, ⟨17, _⟩ => ⟨S1x1024, .f32⟩
  | .local _ .vmem, ⟨18, _⟩ => ⟨S256x1024, .bf16⟩
  | .local _ .vmem, ⟨19, _⟩ => ⟨S256x1024, .bf16⟩
  | .local _ .vmem, ⟨20, _⟩ => ⟨S1024x1024, .bf16⟩
  | .local _ .vmem, ⟨21, _⟩ => ⟨S1024x1024, .bf16⟩
  | .local _ .vmem, ⟨22, _⟩ => ⟨S4x256x384, .bf16⟩
  | .local _ .vmem, ⟨23, _⟩ => ⟨S256x8192, .bf16⟩
  | .local _ .vmem, ⟨24, _⟩ => ⟨S256x8192, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .f32⟩
  | .local _ .vmem, ⟨32, _⟩ => ⟨S256x1024, .f32⟩
  | .local _ .vmem, ⟨33, _⟩ => ⟨S8x1024, .f32⟩
  | .local _ .vmem, ⟨34, _⟩ => ⟨S272x1024, .f32⟩
  | .local _ .vmem, ⟨35, _⟩ => ⟨S272x1024, .f32⟩
  | .local _ .vmem, ⟨36, _⟩ => ⟨S384x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call0_call0_cst : Ref sig .tc := ⟨.hbm, 45, rfl⟩
abbrev main_call0_call0_v0 : Ref sig .tc := ⟨.hbm, 46, rfl⟩
abbrev main_v33 : Ref sig .tc := ⟨.hbm, 47, rfl⟩
abbrev main_v34 : Ref sig .tc := ⟨.hbm, 48, rfl⟩
abbrev main_c : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_1 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_2 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_3 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c_4 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_5 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_c_6 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_7 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_c_8 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_cst_9 : Ref sig .tc := ⟨.hbm, 131, rfl⟩
abbrev main_v108 : Ref sig .tc := ⟨.hbm, 132, rfl⟩
abbrev main_v109 : Ref sig .tc := ⟨.hbm, 133, rfl⟩
abbrev main_cst_10 : Ref sig .tc := ⟨.hbm, 134, rfl⟩
abbrev main_v110 : Ref sig .tc := ⟨.hbm, 135, rfl⟩
abbrev main_cst_11 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_cst_12 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_cst_13 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_c_14 : Ref sig .tc := ⟨.hbm, 172, rfl⟩
abbrev main_v144 : Ref sig .tc := ⟨.hbm, 173, rfl⟩
abbrev main_v145 : Ref sig .tc := ⟨.hbm, 174, rfl⟩
abbrev main_c_15 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_c_16 : Ref sig .tc := ⟨.hbm, 180, rfl⟩
abbrev main_v150 : Ref sig .tc := ⟨.hbm, 181, rfl⟩
abbrev main_v151 : Ref sig .tc := ⟨.hbm, 182, rfl⟩
abbrev main_c_17 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_c_18 : Ref sig .tc := ⟨.hbm, 188, rfl⟩
abbrev main_v156 : Ref sig .tc := ⟨.hbm, 189, rfl⟩
abbrev main_v157 : Ref sig .tc := ⟨.hbm, 190, rfl⟩
abbrev main_c_19 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_c_20 : Ref sig .tc := ⟨.hbm, 196, rfl⟩
abbrev main_v162 : Ref sig .tc := ⟨.hbm, 197, rfl⟩
abbrev main_v163 : Ref sig .tc := ⟨.hbm, 198, rfl⟩
abbrev main_c_21 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173_0 : Ref sig .tc := ⟨.hbm, 209, rfl⟩
abbrev main_v173_1 : Ref sig .tc := ⟨.hbm, 210, rfl⟩
abbrev main_v173_2 : Ref sig .tc := ⟨.hbm, 211, rfl⟩
abbrev main_v173_3 : Ref sig .tc := ⟨.hbm, 212, rfl⟩
abbrev main_v173_4 : Ref sig .tc := ⟨.hbm, 213, rfl⟩
abbrev main_v173_5 : Ref sig .tc := ⟨.hbm, 214, rfl⟩
abbrev main_v173_6 : Ref sig .tc := ⟨.hbm, 215, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem21_0 : DmaSem sig := 32
abbrev cc0_sem22_0 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x256x384 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x8192 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S256x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S8x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== ReferenceIdeal.lean ====
abbrev S4096x1024 : Shape := ⟨2, ![4096, 1024]⟩
abbrev S4096x8192 : Shape := ⟨2, ![4096, 8192]⟩
abbrev S3x1024 : Shape := ⟨2, ![3, 1024]⟩
abbrev S1024x1024 : Shape := ⟨2, ![1024, 1024]⟩
abbrev S4x256x256 : Shape := ⟨3, ![4, 256, 256]⟩
abbrev S1x1024 : Shape := ⟨2, ![1, 1024]⟩
abbrev S256x1024 : Shape := ⟨2, ![256, 1024]⟩
abbrev S_ : Shape := ⟨0, ![]⟩
abbrev S2x1024 : Shape := ⟨2, ![2, 1024]⟩
abbrev S4098x1024 : Shape := ⟨2, ![4098, 1024]⟩
abbrev S1024 : Shape := ⟨1, ![1024]⟩
abbrev S4096x4x256 : Shape := ⟨3, ![4096, 4, 256]⟩
abbrev S4096 : Shape := ⟨1, ![4096]⟩
abbrev S4096x1x256 : Shape := ⟨3, ![4096, 1, 256]⟩
abbrev S4096x256 : Shape := ⟨2, ![4096, 256]⟩
abbrev S2x256 : Shape := ⟨2, ![2, 256]⟩
abbrev S4094x256 : Shape := ⟨2, ![4094, 256]⟩
abbrev S4096x1 : Shape := ⟨2, ![4096, 1]⟩
abbrev S4x256 : Shape := ⟨2, ![4, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4x256x4096 : Shape := ⟨3, ![4, 256, 4096]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S8x1024 : Shape := ⟨2, ![8, 1024]⟩

abbrev nBuf : Space → Nat
  | .hbm => 450
  | .vmem => 0
  | .smem => 0
  | _ => 0

abbrev hbmTy0_0 (i : Nat) : BufTy := match i % 128 with
  | 0 => ⟨S4096x1024, .f32⟩
  | 1 => ⟨S4096x8192, .f32⟩
  | 2 => ⟨S3x1024, .f32⟩
  | 3 => ⟨S1024x1024, .f32⟩
  | 4 => ⟨S4x256x256, .f32⟩
  | 5 => ⟨S1x1024, .f32⟩
  | 6 => ⟨S256x1024, .f32⟩
  | 7 => ⟨S256x1024, .f32⟩
  | 8 => ⟨S1024x1024, .f32⟩
  | 9 => ⟨S1024x1024, .f32⟩
  | 10 => ⟨S_, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S_, .f32⟩
  | 19 => ⟨S2x1024, .f32⟩
  | 20 => ⟨S4098x1024, .f32⟩
  | 21 => ⟨S_, .f32⟩
  | 22 => ⟨S2x1024, .f32⟩
  | 23 => ⟨S1x1024, .f32⟩
  | 24 => ⟨S1024, .f32⟩
  | 25 => ⟨S1x1024, .f32⟩
  | 26 => ⟨S4096x1024, .f32⟩
  | 27 => ⟨S4096x1024, .f32⟩
  | 28 => ⟨S4096x1024, .f32⟩
  | 29 => ⟨S_, .f32⟩
  | 30 => ⟨S4096x1024, .f32⟩
  | 31 => ⟨S4096x1024, .f32⟩
  | 32 => ⟨S1x1024, .f32⟩
  | 33 => ⟨S1024, .f32⟩
  | 34 => ⟨S1x1024, .f32⟩
  | 35 => ⟨S4096x1024, .f32⟩
  | 36 => ⟨S4096x1024, .f32⟩
  | 37 => ⟨S4096x1024, .f32⟩
  | 38 => ⟨S4096x1024, .f32⟩
  | 39 => ⟨S1x1024, .f32⟩
  | 40 => ⟨S1024, .f32⟩
  | 41 => ⟨S1x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x4x256, .f32⟩
  | 49 => ⟨S_, .f32⟩
  | 50 => ⟨S_, .f32⟩
  | 51 => ⟨S4096x4x256, .f32⟩
  | 52 => ⟨S4096, .i32⟩
  | 53 => ⟨S_, .i32⟩
  | 54 => ⟨S4096, .i32⟩
  | 55 => ⟨S4096, .i32⟩
  | 56 => ⟨S4096x1x256, .f32⟩
  | 57 => ⟨S4096x256, .f32⟩
  | 58 => ⟨S_, .f32⟩
  | 59 => ⟨S2x256, .f32⟩
  | 60 => ⟨S4094x256, .f32⟩
  | 61 => ⟨S4096x256, .f32⟩
  | 62 => ⟨S_, .f32⟩
  | 63 => ⟨S2x256, .f32⟩
  | 64 => ⟨S_, .i32⟩
  | 65 => ⟨S4096, .i32⟩
  | 66 => ⟨S4096, .i32⟩
  | 67 => ⟨S4096, .f32⟩
  | 68 => ⟨S4096x1, .f32⟩
  | 69 => ⟨S4096x256, .f32⟩
  | 70 => ⟨S4096x256, .f32⟩
  | 71 => ⟨S4096x256, .f32⟩
  | 72 => ⟨S4096x1x256, .f32⟩
  | 73 => ⟨S4096x256, .f32⟩
  | 74 => ⟨S4096x256, .f32⟩
  | 75 => ⟨S4096x1x256, .f32⟩
  | 76 => ⟨S4096x256, .f32⟩
  | 77 => ⟨S_, .f32⟩
  | 78 => ⟨S4x256, .f32⟩
  | 79 => ⟨S4092x256, .f32⟩
  | 80 => ⟨S4096x256, .f32⟩
  | 81 => ⟨S_, .f32⟩
  | 82 => ⟨S4x256, .f32⟩
  | 83 => ⟨S_, .i32⟩
  | 84 => ⟨S4096, .i32⟩
  | 85 => ⟨S4096, .i32⟩
  | 86 => ⟨S4096, .f32⟩
  | 87 => ⟨S4096x1, .f32⟩
  | 88 => ⟨S4096x256, .f32⟩
  | 89 => ⟨S4096x256, .f32⟩
  | 90 => ⟨S4096x256, .f32⟩
  | 91 => ⟨S4096x1x256, .f32⟩
  | 92 => ⟨S4096x256, .f32⟩
  | 93 => ⟨S4096x256, .f32⟩
  | 94 => ⟨S4096x1x256, .f32⟩
  | 95 => ⟨S4096x256, .f32⟩
  | 96 => ⟨S_, .f32⟩
  | 97 => ⟨S8x256, .f32⟩
  | 98 => ⟨S4088x256, .f32⟩
  | 99 => ⟨S4096x256, .f32⟩
  | 100 => ⟨S_, .f32⟩
  | 101 => ⟨S8x256, .f32⟩
  | 102 => ⟨S_, .i32⟩
  | 103 => ⟨S4096, .i32⟩
  | 104 => ⟨S4096, .i32⟩
  | 105 => ⟨S4096, .f32⟩
  | 106 => ⟨S4096x1, .f32⟩
  | 107 => ⟨S4096x256, .f32⟩
  | 108 => ⟨S4096x256, .f32⟩
  | 109 => ⟨S4096x256, .f32⟩
  | 110 => ⟨S4096x1x256, .f32⟩
  | 111 => ⟨S4096x256, .f32⟩
  | 112 => ⟨S4096x256, .f32⟩
  | 113 => ⟨S4096x1x256, .f32⟩
  | 114 => ⟨S4096x256, .f32⟩
  | 115 => ⟨S_, .f32⟩
  | 116 => ⟨S16x256, .f32⟩
  | 117 => ⟨S4080x256, .f32⟩
  | 118 => ⟨S4096x256, .f32⟩
  | 119 => ⟨S_, .f32⟩
  | 120 => ⟨S16x256, .f32⟩
  | 121 => ⟨S_, .i32⟩
  | 122 => ⟨S4096, .i32⟩
  | 123 => ⟨S4096, .i32⟩
  | 124 => ⟨S4096, .f32⟩
  | 125 => ⟨S4096x1, .f32⟩
  | 126 => ⟨S4096x256, .f32⟩
  | 127 => ⟨S4096x256, .f32⟩
  | _ => ⟨S4096x1024, .f32⟩

abbrev hbmTy0_1 (i : Nat) : BufTy := match i % 128 with
  | 0 => ⟨S4096x256, .f32⟩
  | 1 => ⟨S4096x1x256, .f32⟩
  | 2 => ⟨S4096x256, .f32⟩
  | 3 => ⟨S4096x256, .f32⟩
  | 4 => ⟨S4096x1x256, .f32⟩
  | 5 => ⟨S4096x1x256, .f32⟩
  | 6 => ⟨S4096x1x256, .f32⟩
  | 7 => ⟨S4096x1x256, .f32⟩
  | 8 => ⟨S4096x4x256, .f32⟩
  | 9 => ⟨S4x256x4096, .f32⟩
  | 10 => ⟨S4096x4x256, .f32⟩
  | 11 => ⟨S4096x1024, .f32⟩
  | 12 => ⟨S4096x4x256, .f32⟩
  | 13 => ⟨S256x4x256, .f32⟩
  | 14 => ⟨S4x4096x256, .f32⟩
  | 15 => ⟨S_, .f32⟩
  | 16 => ⟨S4x4096x256, .f32⟩
  | 17 => ⟨S4x4096x256, .f32⟩
  | 18 => ⟨S_, .f32⟩
  | 19 => ⟨S4x4096, .f32⟩
  | 20 => ⟨S4x4096x1, .f32⟩
  | 21 => ⟨S4x4096x256, .f32⟩
  | 22 => ⟨S4x4096x256, .i1⟩
  | 23 => ⟨S4x4096x256, .f32⟩
  | 24 => ⟨S_, .f32⟩
  | 25 => ⟨S4x4096, .f32⟩
  | 26 => ⟨S_, .f32⟩
  | 27 => ⟨S4x4096, .f32⟩
  | 28 => ⟨S4x4096, .f32⟩
  | 29 => ⟨S_, .f32⟩
  | 30 => ⟨S4x4096, .f32⟩
  | 31 => ⟨S4x4096, .i1⟩
  | 32 => ⟨S_, .f32⟩
  | 33 => ⟨S4x4096, .f32⟩
  | 34 => ⟨S4x4096, .i1⟩
  | 35 => ⟨S_, .f32⟩
  | 36 => ⟨S4x4096, .f32⟩
  | 37 => ⟨S_, .f32⟩
  | 38 => ⟨S4x4096, .f32⟩
  | 39 => ⟨S_, .f32⟩
  | 40 => ⟨S4x4096, .f32⟩
  | 41 => ⟨S4x4096, .f32⟩
  | 42 => ⟨S4x4096, .f32⟩
  | 43 => ⟨S4x4096x1, .f32⟩
  | 44 => ⟨S4x4096x256, .f32⟩
  | 45 => ⟨S4x4096x256, .f32⟩
  | 46 => ⟨S4x4096x256, .f32⟩
  | 47 => ⟨S_, .f32⟩
  | 48 => ⟨S4x4096, .f32⟩
  | 49 => ⟨S4x4096x1, .f32⟩
  | 50 => ⟨S4x4096x256, .f32⟩
  | 51 => ⟨S4x4096x256, .f32⟩
  | 52 => ⟨S4x4096x1, .f32⟩
  | 53 => ⟨S_, .f32⟩
  | 54 => ⟨S4x4096x1, .f32⟩
  | 55 => ⟨S4x4096x1, .f32⟩
  | 56 => ⟨S256x4x256, .f32⟩
  | 57 => ⟨S4x256x4096, .f32⟩
  | 58 => ⟨S4096x4x256, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S4096x1024, .f32⟩
  | 66 => ⟨S_, .f32⟩
  | 67 => ⟨S4096x1024, .f32⟩
  | 68 => ⟨S4096x1024, .f32⟩
  | 69 => ⟨S_, .f32⟩
  | 70 => ⟨S4096x1024, .f32⟩
  | 71 => ⟨S4096x1024, .f32⟩
  | 72 => ⟨S_, .f32⟩
  | 73 => ⟨S4096x1024, .f32⟩
  | 74 => ⟨S4096x1024, .f32⟩
  | 75 => ⟨S4096x1024, .f32⟩
  | 76 => ⟨S4096x1024, .f32⟩
  | 77 => ⟨S4096x1024, .f32⟩
  | 78 => ⟨S4096x1024, .f32⟩
  | 79 => ⟨S4096x1024, .f32⟩
  | 80 => ⟨S_, .f32⟩
  | 81 => ⟨S4096x1024, .f32⟩
  | 82 => ⟨S4096x1024, .f32⟩
  | 83 => ⟨S_, .f32⟩
  | 84 => ⟨S4096x1024, .f32⟩
  | 85 => ⟨S4096x1024, .f32⟩
  | 86 => ⟨S_, .f32⟩
  | 87 => ⟨S4096x1024, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S_, .f32⟩
  | 98 => ⟨S4096x1024, .f32⟩
  | 99 => ⟨S4096x1024, .f32⟩
  | 100 => ⟨S_, .f32⟩
  | 101 => ⟨S4096x1024, .f32⟩
  | 102 => ⟨S4096x1024, .f32⟩
  | 103 => ⟨S_, .f32⟩
  | 104 => ⟨S4096x1024, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S_, .f32⟩
  | 119 => ⟨S1024, .f32⟩
  | 120 => ⟨S1x1024, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S4096x1024, .f32⟩
  | 127 => ⟨S_, .f32⟩
  | _ => ⟨S4096x1024, .f32⟩

abbrev hbmTy0_2 (i : Nat) : BufTy := match i % 128 with
  | 0 => ⟨S4096x8192, .f32⟩
  | 1 => ⟨S_, .f32⟩
  | 2 => ⟨S4096x8192, .f32⟩
  | 3 => ⟨S4096x8192, .f32⟩
  | 4 => ⟨S_, .f32⟩
  | 5 => ⟨S4096x8192, .f32⟩
  | 6 => ⟨S4096x8192, .f32⟩
  | 7 => ⟨S4096x1024, .f32⟩
  | 8 => ⟨S4096x4x256, .f32⟩
  | 9 => ⟨S4x256x4096, .f32⟩
  | 10 => ⟨S4x4096x256, .f32⟩
  | 11 => ⟨S4x256x256, .f32⟩
  | 12 => ⟨S256x4x256, .f32⟩
  | 13 => ⟨S256x1024, .f32⟩
  | 14 => ⟨S4x4096x256, .f32⟩
  | 15 => ⟨S4x4096x256, .f32⟩
  | 16 => ⟨S4x4096x256, .f32⟩
  | 17 => ⟨S_, .f32⟩
  | 18 => ⟨S4x4096, .f32⟩
  | 19 => ⟨S4x4096x1, .f32⟩
  | 20 => ⟨S4x4096x1, .f32⟩
  | 21 => ⟨S4x4096x256, .f32⟩
  | 22 => ⟨S4x4096x256, .f32⟩
  | 23 => ⟨S_, .f32⟩
  | 24 => ⟨S4x4096, .f32⟩
  | 25 => ⟨S4x4096x256, .f32⟩
  | 26 => ⟨S4x4096x256, .f32⟩
  | 27 => ⟨S4x4096x256, .f32⟩
  | 28 => ⟨S_, .f32⟩
  | 29 => ⟨S4x4096x256, .f32⟩
  | 30 => ⟨S4x4096x256, .f32⟩
  | 31 => ⟨S4x256x256, .f32⟩
  | 32 => ⟨S256x4x256, .f32⟩
  | 33 => ⟨S4x4096x256, .f32⟩
  | 34 => ⟨S4096x4x256, .f32⟩
  | 35 => ⟨S256x1024, .f32⟩
  | 36 => ⟨S4096x1024, .f32⟩
  | 37 => ⟨S4096x4x256, .f32⟩
  | 38 => ⟨S4x256x4096, .f32⟩
  | 39 => ⟨S4x4096x256, .f32⟩
  | 40 => ⟨S4096x4x256, .f32⟩
  | 41 => ⟨S4096x1x256, .f32⟩
  | 42 => ⟨S4096x256, .f32⟩
  | 43 => ⟨S4096x1x256, .f32⟩
  | 44 => ⟨S4096x256, .f32⟩
  | 45 => ⟨S4096x1x256, .f32⟩
  | 46 => ⟨S4096x256, .f32⟩
  | 47 => ⟨S4096x1x256, .f32⟩
  | 48 => ⟨S4096x256, .f32⟩
  | 49 => ⟨S4096x256, .f32⟩
  | 50 => ⟨S4096x1x256, .f32⟩
  | 51 => ⟨S_, .f32⟩
  | 52 => ⟨S4096x4x256, .f32⟩
  | 53 => ⟨S4096x256, .f32⟩
  | 54 => ⟨S4096x256, .f32⟩
  | 55 => ⟨S4096x256, .f32⟩
  | 56 => ⟨S16x256, .f32⟩
  | 57 => ⟨S4080x256, .f32⟩
  | 58 => ⟨S_, .f32⟩
  | 59 => ⟨S4096x256, .f32⟩
  | 60 => ⟨S4096x256, .f32⟩
  | 61 => ⟨S4096x1x256, .f32⟩
  | 62 => ⟨S_, .f32⟩
  | 63 => ⟨S4096x4x256, .f32⟩
  | 64 => ⟨S4096x256, .f32⟩
  | 65 => ⟨S4096x1x256, .f32⟩
  | 66 => ⟨S_, .f32⟩
  | 67 => ⟨S4096x4x256, .f32⟩
  | 68 => ⟨S4096x4x256, .f32⟩
  | 69 => ⟨S4096x256, .f32⟩
  | 70 => ⟨S4096x256, .f32⟩
  | 71 => ⟨S4096x256, .f32⟩
  | 72 => ⟨S8x256, .f32⟩
  | 73 => ⟨S4088x256, .f32⟩
  | 74 => ⟨S_, .f32⟩
  | 75 => ⟨S4096x256, .f32⟩
  | 76 => ⟨S4096x256, .f32⟩
  | 77 => ⟨S4096x1x256, .f32⟩
  | 78 => ⟨S_, .f32⟩
  | 79 => ⟨S4096x4x256, .f32⟩
  | 80 => ⟨S4096x4x256, .f32⟩
  | 81 => ⟨S4096x256, .f32⟩
  | 82 => ⟨S4096x1x256, .f32⟩
  | 83 => ⟨S_, .f32⟩
  | 84 => ⟨S4096x4x256, .f32⟩
  | 85 => ⟨S4096x4x256, .f32⟩
  | 86 => ⟨S4096x256, .f32⟩
  | 87 => ⟨S4096x256, .f32⟩
  | 88 => ⟨S4096x256, .f32⟩
  | 89 => ⟨S4x256, .f32⟩
  | 90 => ⟨S4092x256, .f32⟩
  | 91 => ⟨S_, .f32⟩
  | 92 => ⟨S4096x256, .f32⟩
  | 93 => ⟨S4096x256, .f32⟩
  | 94 => ⟨S4096x1x256, .f32⟩
  | 95 => ⟨S_, .f32⟩
  | 96 => ⟨S4096x4x256, .f32⟩
  | 97 => ⟨S4096x4x256, .f32⟩
  | 98 => ⟨S4096x256, .f32⟩
  | 99 => ⟨S4096x1x256, .f32⟩
  | 100 => ⟨S_, .f32⟩
  | 101 => ⟨S4096x4x256, .f32⟩
  | 102 => ⟨S4096x4x256, .f32⟩
  | 103 => ⟨S4096x256, .f32⟩
  | 104 => ⟨S4096x256, .f32⟩
  | 105 => ⟨S4096x256, .f32⟩
  | 106 => ⟨S2x256, .f32⟩
  | 107 => ⟨S4094x256, .f32⟩
  | 108 => ⟨S_, .f32⟩
  | 109 => ⟨S4096x256, .f32⟩
  | 110 => ⟨S4096x256, .f32⟩
  | 111 => ⟨S4096x1x256, .f32⟩
  | 112 => ⟨S_, .f32⟩
  | 113 => ⟨S4096x4x256, .f32⟩
  | 114 => ⟨S4096x4x256, .f32⟩
  | 115 => ⟨S_, .f32⟩
  | 116 => ⟨S_, .f32⟩
  | 117 => ⟨S4096x4x256, .f32⟩
  | 118 => ⟨S4096x4x256, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S_, .f32⟩
  | 127 => ⟨S1024, .f32⟩
  | _ => ⟨S4096x1024, .f32⟩

abbrev hbmTy0_3 (i : Nat) : BufTy := match i % 128 with
  | 0 => ⟨S1x1024, .f32⟩
  | 1 => ⟨S_, .f32⟩
  | 2 => ⟨S4098x1024, .f32⟩
  | 3 => ⟨S_, .f32⟩
  | 4 => ⟨S1024, .f32⟩
  | 5 => ⟨S1x1024, .f32⟩
  | 6 => ⟨S_, .f32⟩
  | 7 => ⟨S3x1024, .f32⟩
  | 8 => ⟨S4096x1024, .f32⟩
  | 9 => ⟨S4096x1024, .f32⟩
  | 10 => ⟨S4096x1024, .f32⟩
  | 11 => ⟨S_, .f32⟩
  | 12 => ⟨S1024, .f32⟩
  | 13 => ⟨S1x1024, .f32⟩
  | 14 => ⟨S_, .f32⟩
  | 15 => ⟨S4098x1024, .f32⟩
  | 16 => ⟨S4098x1024, .f32⟩
  | 17 => ⟨S_, .f32⟩
  | 18 => ⟨S1024, .f32⟩
  | 19 => ⟨S1x1024, .f32⟩
  | 20 => ⟨S_, .f32⟩
  | 21 => ⟨S3x1024, .f32⟩
  | 22 => ⟨S3x1024, .f32⟩
  | 23 => ⟨S4096x1024, .f32⟩
  | 24 => ⟨S4096x1024, .f32⟩
  | 25 => ⟨S4096x1024, .f32⟩
  | 26 => ⟨S_, .f32⟩
  | 27 => ⟨S1024, .f32⟩
  | 28 => ⟨S1x1024, .f32⟩
  | 29 => ⟨S_, .f32⟩
  | 30 => ⟨S4098x1024, .f32⟩
  | 31 => ⟨S4098x1024, .f32⟩
  | 32 => ⟨S_, .f32⟩
  | 33 => ⟨S1024, .f32⟩
  | 34 => ⟨S1x1024, .f32⟩
  | 35 => ⟨S_, .f32⟩
  | 36 => ⟨S3x1024, .f32⟩
  | 37 => ⟨S3x1024, .f32⟩
  | 38 => ⟨S2x1024, .f32⟩
  | 39 => ⟨S4096x1024, .f32⟩
  | 40 => ⟨S4096x1024, .f32⟩
  | 41 => ⟨S4096x1024, .f32⟩
  | 42 => ⟨S_, .f32⟩
  | 43 => ⟨S4096x8192, .f32⟩
  | 44 => ⟨S4096x8192, .f32⟩
  | 45 => ⟨S_, .f32⟩
  | 46 => ⟨S4096x8192, .f32⟩
  | 47 => ⟨S4096x8192, .f32⟩
  | 48 => ⟨S_, .f32⟩
  | 49 => ⟨S4096x8192, .f32⟩
  | 50 => ⟨S4096x8192, .f32⟩
  | 51 => ⟨S_, .f32⟩
  | 52 => ⟨S4096x8192, .f32⟩
  | 53 => ⟨S4096x8192, .f32⟩
  | 54 => ⟨S_, .f32⟩
  | 55 => ⟨S4096x8192, .f32⟩
  | 56 => ⟨S4096x8192, .f32⟩
  | 57 => ⟨S_, .f32⟩
  | 58 => ⟨S1x1024, .f32⟩
  | 59 => ⟨S_, .f32⟩
  | 60 => ⟨S3x1024, .f32⟩
  | 61 => ⟨S8x1024, .f32⟩
  | 62 => ⟨S4096x8192, .bf16⟩
  | 63 => ⟨S4096x1024, .bf16⟩
  | 64 => ⟨S4096x1024, .bf16⟩
  | 65 => ⟨S4096x1024, .bf16⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call0_call0_cst : Ref sig .tc := ⟨.hbm, 49, rfl⟩
abbrev main_call0_call0_v0 : Ref sig .tc := ⟨.hbm, 50, rfl⟩
abbrev main_v35 : Ref sig .tc := ⟨.hbm, 51, rfl⟩
abbrev main_v36 : Ref sig .tc := ⟨.hbm, 52, rfl⟩
abbrev main_c : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_3 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_4 : Ref sig .tc := ⟨.hbm, 62, rfl⟩
abbrev main_v44 : Ref sig .tc := ⟨.hbm, 63, rfl⟩
abbrev main_c_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_6 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_7 : Ref sig .tc := ⟨.hbm, 81, rfl⟩
abbrev main_v60 : Ref sig .tc := ⟨.hbm, 82, rfl⟩
abbrev main_c_8 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_9 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_10 : Ref sig .tc := ⟨.hbm, 100, rfl⟩
abbrev main_v76 : Ref sig .tc := ⟨.hbm, 101, rfl⟩
abbrev main_c_11 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_12 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_13 : Ref sig .tc := ⟨.hbm, 119, rfl⟩
abbrev main_v92 : Ref sig .tc := ⟨.hbm, 120, rfl⟩
abbrev main_c_14 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_cst_15 : Ref sig .tc := ⟨.hbm, 143, rfl⟩
abbrev main_v114 : Ref sig .tc := ⟨.hbm, 144, rfl⟩
abbrev main_v115 : Ref sig .tc := ⟨.hbm, 145, rfl⟩
abbrev main_cst_16 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_cst_17 : Ref sig .tc := ⟨.hbm, 152, rfl⟩
abbrev main_v121 : Ref sig .tc := ⟨.hbm, 153, rfl⟩
abbrev main_cst_18 : Ref sig .tc := ⟨.hbm, 154, rfl⟩
abbrev main_v122 : Ref sig .tc := ⟨.hbm, 155, rfl⟩
abbrev main_v123 : Ref sig .tc := ⟨.hbm, 156, rfl⟩
abbrev main_cst_19 : Ref sig .tc := ⟨.hbm, 157, rfl⟩
abbrev main_v124 : Ref sig .tc := ⟨.hbm, 158, rfl⟩
abbrev main_v125 : Ref sig .tc := ⟨.hbm, 159, rfl⟩
abbrev main_cst_20 : Ref sig .tc := ⟨.hbm, 160, rfl⟩
abbrev main_v126 : Ref sig .tc := ⟨.hbm, 161, rfl⟩
abbrev main_v127 : Ref sig .tc := ⟨.hbm, 162, rfl⟩
abbrev main_cst_21 : Ref sig .tc := ⟨.hbm, 163, rfl⟩
abbrev main_v128 : Ref sig .tc := ⟨.hbm, 164, rfl⟩
abbrev main_cst_22 : Ref sig .tc := ⟨.hbm, 165, rfl⟩
abbrev main_v129 : Ref sig .tc := ⟨.hbm, 166, rfl⟩
abbrev main_cst_23 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_cst_24 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_cst_25 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_cst_26 : Ref sig .tc := ⟨.hbm, 194, rfl⟩
abbrev main_v154 : Ref sig .tc := ⟨.hbm, 195, rfl⟩
abbrev main_v155 : Ref sig .tc := ⟨.hbm, 196, rfl⟩
abbrev main_cst_27 : Ref sig .tc := ⟨.hbm, 197, rfl⟩
abbrev main_v156 : Ref sig .tc := ⟨.hbm, 198, rfl⟩
abbrev main_v157 : Ref sig .tc := ⟨.hbm, 199, rfl⟩
abbrev main_cst_28 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_cst_29 : Ref sig .tc := ⟨.hbm, 208, rfl⟩
abbrev main_v165 : Ref sig .tc := ⟨.hbm, 209, rfl⟩
abbrev main_v166 : Ref sig .tc := ⟨.hbm, 210, rfl⟩
abbrev main_cst_30 : Ref sig .tc := ⟨.hbm, 211, rfl⟩
abbrev main_v167 : Ref sig .tc := ⟨.hbm, 212, rfl⟩
abbrev main_v168 : Ref sig .tc := ⟨.hbm, 213, rfl⟩
abbrev main_cst_31 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_cst_32 : Ref sig .tc := ⟨.hbm, 225, rfl⟩
abbrev main_v179 : Ref sig .tc := ⟨.hbm, 226, rfl⟩
abbrev main_v180 : Ref sig .tc := ⟨.hbm, 227, rfl⟩
abbrev main_cst_33 : Ref sig .tc := ⟨.hbm, 228, rfl⟩
abbrev main_v181 : Ref sig .tc := ⟨.hbm, 229, rfl⟩
abbrev main_v182 : Ref sig .tc := ⟨.hbm, 230, rfl⟩
abbrev main_cst_34 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_cst_35 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_cst_36 : Ref sig .tc := ⟨.hbm, 255, rfl⟩
abbrev main_v205 : Ref sig .tc := ⟨.hbm, 256, rfl⟩
abbrev main_cst_37 : Ref sig .tc := ⟨.hbm, 257, rfl⟩
abbrev main_v206 : Ref sig .tc := ⟨.hbm, 258, rfl⟩
abbrev main_v207 : Ref sig .tc := ⟨.hbm, 259, rfl⟩
abbrev main_cst_38 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_cst_39 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_cst_40 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_cst_41 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_v238 : Ref sig .tc := ⟨.hbm, 294, rfl⟩
abbrev main_v239 : Ref sig .tc := ⟨.hbm, 295, rfl⟩
abbrev main_v240 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_v244 : Ref sig .tc := ⟨.hbm, 300, rfl⟩
abbrev main_v245 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_v249 : Ref sig .tc := ⟨.hbm, 305, rfl⟩
abbrev main_v250 : Ref sig .tc := ⟨.hbm, 306, rfl⟩
abbrev main_cst_42 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_v256 : Ref sig .tc := ⟨.hbm, 313, rfl⟩
abbrev main_cst_43 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_cst_44 : Ref sig .tc := ⟨.hbm, 318, rfl⟩
abbrev main_v260 : Ref sig .tc := ⟨.hbm, 319, rfl⟩
abbrev main_v261 : Ref sig .tc := ⟨.hbm, 320, rfl⟩
abbrev main_v262 : Ref sig .tc := ⟨.hbm, 321, rfl⟩
abbrev main_cst_45 : Ref sig .tc := ⟨.hbm, 322, rfl⟩
abbrev main_v263 : Ref sig .tc := ⟨.hbm, 323, rfl⟩
abbrev main_v264 : Ref sig .tc := ⟨.hbm, 324, rfl⟩
abbrev main_v265 : Ref sig .tc := ⟨.hbm, 325, rfl⟩
abbrev main_v266 : Ref sig .tc := ⟨.hbm, 326, rfl⟩
abbrev main_v267 : Ref sig .tc := ⟨.hbm, 327, rfl⟩
abbrev main_v268 : Ref sig .tc := ⟨.hbm, 328, rfl⟩
abbrev main_v269 : Ref sig .tc := ⟨.hbm, 329, rfl⟩
abbrev main_cst_46 : Ref sig .tc := ⟨.hbm, 330, rfl⟩
abbrev main_v270 : Ref sig .tc := ⟨.hbm, 331, rfl⟩
abbrev main_v271 : Ref sig .tc := ⟨.hbm, 332, rfl⟩
abbrev main_v272 : Ref sig .tc := ⟨.hbm, 333, rfl⟩
abbrev main_cst_47 : Ref sig .tc := ⟨.hbm, 334, rfl⟩
abbrev main_v273 : Ref sig .tc := ⟨.hbm, 335, rfl⟩
abbrev main_v274 : Ref sig .tc := ⟨.hbm, 336, rfl⟩
abbrev main_v275 : Ref sig .tc := ⟨.hbm, 337, rfl⟩
abbrev main_v276 : Ref sig .tc := ⟨.hbm, 338, rfl⟩
abbrev main_cst_48 : Ref sig .tc := ⟨.hbm, 339, rfl⟩
abbrev main_v277 : Ref sig .tc := ⟨.hbm, 340, rfl⟩
abbrev main_v278 : Ref sig .tc := ⟨.hbm, 341, rfl⟩
abbrev main_v279 : Ref sig .tc := ⟨.hbm, 342, rfl⟩
abbrev main_v280 : Ref sig .tc := ⟨.hbm, 343, rfl⟩
abbrev main_v281 : Ref sig .tc := ⟨.hbm, 344, rfl⟩
abbrev main_v282 : Ref sig .tc := ⟨.hbm, 345, rfl⟩
abbrev main_v283 : Ref sig .tc := ⟨.hbm, 346, rfl⟩
abbrev main_cst_49 : Ref sig .tc := ⟨.hbm, 347, rfl⟩
abbrev main_v284 : Ref sig .tc := ⟨.hbm, 348, rfl⟩
abbrev main_v285 : Ref sig .tc := ⟨.hbm, 349, rfl⟩
abbrev main_v286 : Ref sig .tc := ⟨.hbm, 350, rfl⟩
abbrev main_cst_50 : Ref sig .tc := ⟨.hbm, 351, rfl⟩
abbrev main_v287 : Ref sig .tc := ⟨.hbm, 352, rfl⟩
abbrev main_v288 : Ref sig .tc := ⟨.hbm, 353, rfl⟩
abbrev main_v289 : Ref sig .tc := ⟨.hbm, 354, rfl⟩
abbrev main_v290 : Ref sig .tc := ⟨.hbm, 355, rfl⟩
abbrev main_cst_51 : Ref sig .tc := ⟨.hbm, 356, rfl⟩
abbrev main_v291 : Ref sig .tc := ⟨.hbm, 357, rfl⟩
abbrev main_v292 : Ref sig .tc := ⟨.hbm, 358, rfl⟩
abbrev main_v293 : Ref sig .tc := ⟨.hbm, 359, rfl⟩
abbrev main_v294 : Ref sig .tc := ⟨.hbm, 360, rfl⟩
abbrev main_v295 : Ref sig .tc := ⟨.hbm, 361, rfl⟩
abbrev main_v296 : Ref sig .tc := ⟨.hbm, 362, rfl⟩
abbrev main_v297 : Ref sig .tc := ⟨.hbm, 363, rfl⟩
abbrev main_cst_52 : Ref sig .tc := ⟨.hbm, 364, rfl⟩
abbrev main_v298 : Ref sig .tc := ⟨.hbm, 365, rfl⟩
abbrev main_v299 : Ref sig .tc := ⟨.hbm, 366, rfl⟩
abbrev main_v300 : Ref sig .tc := ⟨.hbm, 367, rfl⟩
abbrev main_cst_53 : Ref sig .tc := ⟨.hbm, 368, rfl⟩
abbrev main_v301 : Ref sig .tc := ⟨.hbm, 369, rfl⟩
abbrev main_v302 : Ref sig .tc := ⟨.hbm, 370, rfl⟩
abbrev main_call1_call0_cst : Ref sig .tc := ⟨.hbm, 371, rfl⟩
abbrev main_call1_call0_v0 : Ref sig .tc := ⟨.hbm, 372, rfl⟩
abbrev main_v303 : Ref sig .tc := ⟨.hbm, 373, rfl⟩
abbrev main_v304 : Ref sig .tc := ⟨.hbm, 374, rfl⟩
abbrev main_v305 : Ref sig .tc := ⟨.hbm, 375, rfl⟩
abbrev main_v306 : Ref sig .tc := ⟨.hbm, 376, rfl⟩
abbrev main_v307 : Ref sig .tc := ⟨.hbm, 377, rfl⟩
abbrev main_v308 : Ref sig .tc := ⟨.hbm, 378, rfl⟩
abbrev main_v309 : Ref sig .tc := ⟨.hbm, 379, rfl⟩
abbrev main_v310 : Ref sig .tc := ⟨.hbm, 380, rfl⟩
abbrev main_v311 : Ref sig .tc := ⟨.hbm, 381, rfl⟩
abbrev main_cst_54 : Ref sig .tc := ⟨.hbm, 382, rfl⟩
abbrev main_v312 : Ref sig .tc := ⟨.hbm, 383, rfl⟩
abbrev main_v313 : Ref sig .tc := ⟨.hbm, 384, rfl⟩
abbrev main_cst_55 : Ref sig .tc := ⟨.hbm, 385, rfl⟩
abbrev main_v314 : Ref sig .tc := ⟨.hbm, 386, rfl⟩
abbrev main_cst_56 : Ref sig .tc := ⟨.hbm, 387, rfl⟩
abbrev main_v315 : Ref sig .tc := ⟨.hbm, 388, rfl⟩
abbrev main_v316 : Ref sig .tc := ⟨.hbm, 389, rfl⟩
abbrev main_cst_57 : Ref sig .tc := ⟨.hbm, 390, rfl⟩
abbrev main_v317 : Ref sig .tc := ⟨.hbm, 391, rfl⟩
abbrev main_v318 : Ref sig .tc := ⟨.hbm, 392, rfl⟩
abbrev main_v319 : Ref sig .tc := ⟨.hbm, 393, rfl⟩
abbrev main_v320 : Ref sig .tc := ⟨.hbm, 394, rfl⟩
abbrev main_cst_58 : Ref sig .tc := ⟨.hbm, 395, rfl⟩
abbrev main_v321 : Ref sig .tc := ⟨.hbm, 396, rfl⟩
abbrev main_v322 : Ref sig .tc := ⟨.hbm, 397, rfl⟩
abbrev main_cst_59 : Ref sig .tc := ⟨.hbm, 398, rfl⟩
abbrev main_v323 : Ref sig .tc := ⟨.hbm, 399, rfl⟩
abbrev main_v324 : Ref sig .tc := ⟨.hbm, 400, rfl⟩
abbrev main_cst_60 : Ref sig .tc := ⟨.hbm, 401, rfl⟩
abbrev main_v325 : Ref sig .tc := ⟨.hbm, 402, rfl⟩
abbrev main_v326 : Ref sig .tc := ⟨.hbm, 403, rfl⟩
abbrev main_cst_61 : Ref sig .tc := ⟨.hbm, 404, rfl⟩
abbrev main_v327 : Ref sig .tc := ⟨.hbm, 405, rfl⟩
abbrev main_v328 : Ref sig .tc := ⟨.hbm, 406, rfl⟩
abbrev main_v329 : Ref sig .tc := ⟨.hbm, 407, rfl⟩
abbrev main_v330 : Ref sig .tc := ⟨.hbm, 408, rfl⟩
abbrev main_v331 : Ref sig .tc := ⟨.hbm, 409, rfl⟩
abbrev main_cst_62 : Ref sig .tc := ⟨.hbm, 410, rfl⟩
abbrev main_v332 : Ref sig .tc := ⟨.hbm, 411, rfl⟩
abbrev main_v333 : Ref sig .tc := ⟨.hbm, 412, rfl⟩
abbrev main_cst_63 : Ref sig .tc := ⟨.hbm, 413, rfl⟩
abbrev main_v334 : Ref sig .tc := ⟨.hbm, 414, rfl⟩
abbrev main_v335 : Ref sig .tc := ⟨.hbm, 415, rfl⟩
abbrev main_cst_64 : Ref sig .tc := ⟨.hbm, 416, rfl⟩
abbrev main_v336 : Ref sig .tc := ⟨.hbm, 417, rfl⟩
abbrev main_v337 : Ref sig .tc := ⟨.hbm, 418, rfl⟩
abbrev main_cst_65 : Ref sig .tc := ⟨.hbm, 419, rfl⟩
abbrev main_v338 : Ref sig .tc := ⟨.hbm, 420, rfl⟩
abbrev main_v339 : Ref sig .tc := ⟨.hbm, 421, rfl⟩
abbrev main_v340 : Ref sig .tc := ⟨.hbm, 422, rfl⟩
abbrev main_v341 : Ref sig .tc := ⟨.hbm, 423, rfl⟩
abbrev main_v342 : Ref sig .tc := ⟨.hbm, 424, rfl⟩
abbrev main_v343 : Ref sig .tc := ⟨.hbm, 425, rfl⟩
abbrev main_cst_66 : Ref sig .tc := ⟨.hbm, 426, rfl⟩
abbrev main_v344 : Ref sig .tc := ⟨.hbm, 427, rfl⟩
abbrev main_v345 : Ref sig .tc := ⟨.hbm, 428, rfl⟩
abbrev main_cst_67 : Ref sig .tc := ⟨.hbm, 429, rfl⟩
abbrev main_v346 : Ref sig .tc := ⟨.hbm, 430, rfl⟩
abbrev main_v347 : Ref sig .tc := ⟨.hbm, 431, rfl⟩
abbrev main_cst_68 : Ref sig .tc := ⟨.hbm, 432, rfl⟩
abbrev main_v348 : Ref sig .tc := ⟨.hbm, 433, rfl⟩
abbrev main_v349 : Ref sig .tc := ⟨.hbm, 434, rfl⟩
abbrev main_cst_69 : Ref sig .tc := ⟨.hbm, 435, rfl⟩
abbrev main_v350 : Ref sig .tc := ⟨.hbm, 436, rfl⟩
abbrev main_v351 : Ref sig .tc := ⟨.hbm, 437, rfl⟩
abbrev main_cst_70 : Ref sig .tc := ⟨.hbm, 438, rfl⟩
abbrev main_v352 : Ref sig .tc := ⟨.hbm, 439, rfl⟩
abbrev main_v353 : Ref sig .tc := ⟨.hbm, 440, rfl⟩
abbrev main_cst_71 : Ref sig .tc := ⟨.hbm, 441, rfl⟩
abbrev main_v354 : Ref sig .tc := ⟨.hbm, 442, rfl⟩
abbrev main_cst_72 : Ref sig .tc := ⟨.hbm, 443, rfl⟩
abbrev main_v355 : Ref sig .tc := ⟨.hbm, 444, rfl⟩
abbrev main_v356 : Ref sig .tc := ⟨.hbm, 445, rfl⟩
abbrev main_v357 : Ref sig .tc := ⟨.hbm, 446, rfl⟩
abbrev main_v358 : Ref sig .tc := ⟨.hbm, 447, rfl⟩
abbrev main_v359 : Ref sig .tc := ⟨.hbm, 448, rfl⟩
abbrev main_v360 : Ref sig .tc := ⟨.hbm, 449, rfl⟩

abbrev nD : Nat := 1
abbrev τ : Topo := Topo.v7x

variable {F : FTy → Type} [FloatOps F]
-- ==== Kernel2.lean ====
abbrev S4096x8192 : Shape := ⟨2, ![4096, 8192]⟩
abbrev S1024x8192 : Shape := ⟨2, ![1024, 8192]⟩
abbrev S4096x1024 : Shape := ⟨2, ![4096, 1024]⟩
abbrev S1x1024 : Shape := ⟨2, ![1, 1024]⟩
abbrev S8x1024 : Shape := ⟨2, ![8, 1024]⟩
abbrev S512x8192 : Shape := ⟨2, ![512, 8192]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 11
  | .smem => 0
  | _ => 0

abbrev bufTy : (tb : Table) → Fin (tcTables nBuf tb) → BufTy
  | .hbm, ⟨0, _⟩ => ⟨S4096x8192, .f32⟩
  | .hbm, ⟨1, _⟩ => ⟨S1024x8192, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x8192, .bf16⟩
  | .hbm, ⟨6, _⟩ => ⟨S1024x8192, .bf16⟩
  | .hbm, ⟨7, _⟩ => ⟨S4096x1024, .f32⟩
  | .hbm, ⟨8, _⟩ => ⟨S8x1024, .f32⟩
  | .local _ .vmem, ⟨0, _⟩ => ⟨S512x8192, .bf16⟩
  | .local _ .vmem, ⟨1, _⟩ => ⟨S512x8192, .bf16⟩
  | .local _ .vmem, ⟨2, _⟩ => ⟨S1024x8192, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S4096x8192 : Shape := ⟨2, ![4096, 8192]⟩
abbrev S1024x8192 : Shape := ⟨2, ![1024, 8192]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S7x1024 : Shape := ⟨2, ![7, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S1024x8192, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x8192, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | .hbm, ⟨55, _⟩ => ⟨S_, .f32⟩
  | .hbm, ⟨56, _⟩ => ⟨S7x1024, .f32⟩
  | .hbm, ⟨57, _⟩ => ⟨S8x1024, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S8x1024 : Shape := ⟨2, ![8, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 38
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .bf16⟩
  | .hbm, ⟨25, _⟩ => ⟨S4096x2816, .f32⟩
  | .hbm, ⟨26, _⟩ => ⟨S4096x2816, .bf16⟩
  | .hbm, ⟨27, _⟩ => ⟨S2816x1024, .f32⟩
  | .hbm, ⟨28, _⟩ => ⟨S2816x1024, .bf16⟩
  | .hbm, ⟨29, _⟩ => ⟨S2816x1024, .f32⟩
  | .hbm, ⟨30, _⟩ => ⟨S2816x1024, .bf16⟩
  | .hbm, ⟨31, _⟩ => ⟨S2816x1024, .bf16⟩
  | .hbm, ⟨32, _⟩ => ⟨S4096x1024, .f32⟩
  | .hbm, ⟨33, _⟩ => ⟨S4096x2816, .bf16⟩
  | .hbm, ⟨34, _⟩ => ⟨S4096x2816, .bf16⟩
  | .hbm, ⟨35, _⟩ => ⟨S4096x2816, .bf16⟩
  | .hbm, ⟨36, _⟩ => ⟨S4096x1024, .bf16⟩
  | .hbm, ⟨37, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x1024, .bf16⟩
  | .local _ .vmem, ⟨21, _⟩ => ⟨S256x1024, .bf16⟩
  | .local _ .vmem, ⟨22, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev main_v23_5 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference3Ideal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096x2816 : Shape := ⟨2, ![4096, 2816]⟩
abbrev S1024 : Shape := ⟨1, ![1024]⟩
abbrev S4096 : Shape := ⟨1, ![4096]⟩
abbrev S4096x1 : Shape := ⟨2, ![4096, 1]⟩
abbrev S7x1024 : Shape := ⟨2, ![7, 1024]⟩
abbrev S8x1024 : Shape := ⟨2, ![8, 1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S_, .f32⟩
  | .hbm, ⟨7, _⟩ => ⟨S4096x2816, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x1024, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S1x1024, .f32⟩
  | .hbm, ⟨87, _⟩ => ⟨S_, .f32⟩
  | .hbm, ⟨88, _⟩ => ⟨S7x1024, .f32⟩
  | .hbm, ⟨89, _⟩ => ⟨S8x1024, .f32⟩
  | .hbm, ⟨90, _⟩ => ⟨S4096x2816, .bf16⟩
  | .hbm, ⟨91, _⟩ => ⟨S4096x2816, .bf16⟩
  | .hbm, ⟨92, _⟩ => ⟨S4096x2816, .bf16⟩
  | .hbm, ⟨93, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v20_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v20_1 : Ref sig .tc := ⟨.hbm, 42, rfl⟩
abbrev main_v20_0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_4 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_5 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_cst_8 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_9 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩

abbrev nD : Nat := 1
abbrev τ : Topo := Topo.v7x

variable {F : FTy → Type} [FloatOps F]
-- ==== Kernel4.lean ====
abbrev S4096x1024 : Shape := ⟨2, ![4096, 1024]⟩
abbrev S4096x8192 : Shape := ⟨2, ![4096, 8192]⟩
abbrev S4x1024x2048 : Shape := ⟨3, ![4, 1024, 2048]⟩
abbrev S2048x1024 : Shape := ⟨2, ![2048, 1024]⟩
abbrev S2048x2048 : Shape := ⟨2, ![2048, 2048]⟩
abbrev S1x1024x2048 : Shape := ⟨3, ![1, 1024, 2048]⟩
abbrev S1024x2048 : Shape := ⟨2, ![1024, 2048]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S4096x1024, .bf16⟩
  | .hbm, ⟨3, _⟩ => ⟨S4096x8192, .bf16⟩
  | .hbm, ⟨4, _⟩ => ⟨S4x1024x2048, .f32⟩
  | .hbm, ⟨5, _⟩ => ⟨S4x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1x1024x2048, .f32⟩
  | .local _ .vmem, ⟨5, _⟩ => ⟨S1x1024x2048, .f32⟩
  | .local _ .vmem, ⟨6, _⟩ => ⟨S1x1024x2048, .bf16⟩
  | .local _ .vmem, ⟨7, _⟩ => ⟨S1x1024x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference4Ideal.lean ====
abbrev S4096x1024 : Shape := ⟨2, ![4096, 1024]⟩
abbrev S4096x8192 : Shape := ⟨2, ![4096, 8192]⟩
abbrev S_ : Shape := ⟨0, ![]⟩
abbrev S1024x8192 : Shape := ⟨2, ![1024, 8192]⟩
abbrev S8192x1024 : Shape := ⟨2, ![8192, 1024]⟩
abbrev S1024x2048 : Shape := ⟨2, ![1024, 2048]⟩
abbrev S1x1024x2048 : Shape := ⟨3, ![1, 1024, 2048]⟩
abbrev S4x1024x2048 : Shape := ⟨3, ![4, 1024, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S_, .f32⟩
  | .hbm, ⟨3, _⟩ => ⟨S1024x8192, .f32⟩
  | .hbm, ⟨4, _⟩ => ⟨S4096x8192, .f32⟩
  | .hbm, ⟨5, _⟩ => ⟨S8192x1024, .f32⟩
  | .hbm, ⟨6, _⟩ => ⟨S1024x8192, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S1x1024x2048, .f32⟩
  | .hbm, ⟨12, _⟩ => ⟨S1x1024x2048, .f32⟩
  | .hbm, ⟨13, _⟩ => ⟨S1x1024x2048, .f32⟩
  | .hbm, ⟨14, _⟩ => ⟨S1x1024x2048, .f32⟩
  | .hbm, ⟨15, _⟩ => ⟨S4x1024x2048, .f32⟩
  | .hbm, ⟨16, _⟩ => ⟨S4x1024x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S2048x2816 : Shape := ⟨2, ![2048, 2816]⟩
abbrev S2048x512 : Shape := ⟨2, ![2048, 512]⟩
abbrev S2816x512 : Shape := ⟨2, ![2816, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .f32⟩
  | .hbm, ⟨5, _⟩ => ⟨S2816x1024, .bf16⟩
  | .local _ .vmem, ⟨0, _⟩ => ⟨S2048x2816, .bf16⟩
  | .local _ .vmem, ⟨1, _⟩ => ⟨S2048x2816, .bf16⟩
  | .local _ .vmem, ⟨2, _⟩ => ⟨S2048x512, .bf16⟩
  | .local _ .vmem, ⟨3, _⟩ => ⟨S2048x512, .bf16⟩
  | .local _ .vmem, ⟨4, _⟩ => ⟨S2816x512, .f32⟩
  | .local _ .vmem, ⟨5, _⟩ => ⟨S2816x512, .f32⟩
  | .local _ .vmem, ⟨6, _⟩ => ⟨S2816x512, .bf16⟩
  | .local _ .vmem, ⟨7, _⟩ => ⟨S2816x512, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2816x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference5Ideal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x2816 : Shape := ⟨2, ![4096, 2816]⟩
abbrev S4096x1024 : Shape := ⟨2, ![4096, 1024]⟩
abbrev S2816x1024 : Shape := ⟨2, ![2816, 1024]⟩
abbrev S2048x2816 : Shape := ⟨2, ![2048, 2816]⟩
abbrev S2048x512 : Shape := ⟨2, ![2048, 512]⟩
abbrev S2816x512 : Shape := ⟨2, ![2816, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S2816x1024, .f32⟩
  | .hbm, ⟨4, _⟩ => ⟨S2816x1024, .bf16⟩
  | .local _ .vmem, ⟨0, _⟩ => ⟨S2048x2816, .bf16⟩
  | .local _ .vmem, ⟨1, _⟩ => ⟨S2048x2816, .bf16⟩
  | .local _ .vmem, ⟨2, _⟩ => ⟨S2048x512, .f32⟩
  | .local _ .vmem, ⟨3, _⟩ => ⟨S2048x512, .f32⟩
  | .local _ .vmem, ⟨4, _⟩ => ⟨S2816x512, .f32⟩
  | .local _ .vmem, ⟨5, _⟩ => ⟨S2816x512, .f32⟩
  | .local _ .vmem, ⟨6, _⟩ => ⟨S2816x512, .bf16⟩
  | .local _ .vmem, ⟨7, _⟩ => ⟨S2816x512, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2816x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference6Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S1024x8192 : Shape := ⟨2, ![1024, 8192]⟩
abbrev S4096x8192 : Shape := ⟨2, ![4096, 8192]⟩
abbrev S1024x1024 : Shape := ⟨2, ![1024, 1024]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x8192, .f32⟩
  | .hbm, ⟨3, _⟩ => ⟨S1024x8192, .bf16⟩
  | .hbm, ⟨4, _⟩ => ⟨S4096x8192, .bf16⟩
  | .hbm, ⟨5, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x1024, .bf16⟩
  | .local _ .vmem, ⟨8, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference7Ideal.lean ====
abbrev S4096x1024 : Shape := ⟨2, ![4096, 1024]⟩
abbrev S1x1024 : Shape := ⟨2, ![1, 1024]⟩
abbrev S1024x8192 : Shape := ⟨2, ![1024, 8192]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x8192 : Shape := ⟨2, ![4096, 8192]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x8192, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x8192, .f32⟩
  | .hbm, ⟨21, _⟩ => ⟨S4096x8192, .bf16⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S4096x2816 : Shape := ⟨2, ![4096, 2816]⟩
abbrev S8x1024 : Shape := ⟨2, ![8, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 17
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S1x1024, .f32⟩
  | .hbm, ⟨13, _⟩ => ⟨S4096x2816, .bf16⟩
  | .hbm, ⟨14, _⟩ => ⟨S4096x2816, .bf16⟩
  | .hbm, ⟨15, _⟩ => ⟨S4096x1024, .f32⟩
  | .hbm, ⟨16, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S2816x1024, .bf16⟩
  | .local _ .vmem, ⟨6, _⟩ => ⟨S2816x1024, .bf16⟩
  | .local _ .vmem, ⟨7, _⟩ => ⟨S2816x1024, .bf16⟩
  | .local _ .vmem, ⟨8, _⟩ => ⟨S1x1024, .f32⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x1024, .f32⟩
  | .local _ .vmem, ⟨14, _⟩ => ⟨S512x1024, .f32⟩
  | .local _ .vmem, ⟨15, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference8Ideal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S6x1024 : Shape := ⟨2, ![6, 1024]⟩
abbrev S8x1024 : Shape := ⟨2, ![8, 1024]⟩

abbrev nBuf : Space → Nat
  | .hbm => 121
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S_, .f32⟩
  | .hbm, ⟨78, _⟩ => ⟨S1024, .f32⟩
  | .hbm, ⟨79, _⟩ => ⟨S1024, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S4096, .f32⟩
  | .hbm, ⟨84, _⟩ => ⟨S_, .f32⟩
  | .hbm, ⟨85, _⟩ => ⟨S4096, .f32⟩
  | .hbm, ⟨86, _⟩ => ⟨S4096, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S1024, .f32⟩
  | .hbm, ⟨92, _⟩ => ⟨S1x1024, .f32⟩
  | .hbm, ⟨93, _⟩ => ⟨S4096x1024, .f32⟩
  | .hbm, ⟨94, _⟩ => ⟨S4096x1024, .f32⟩
  | .hbm, ⟨95, _⟩ => ⟨S_, .f32⟩
  | .hbm, ⟨96, _⟩ => ⟨S1024, .f32⟩
  | .hbm, ⟨97, _⟩ => ⟨S4096x1024, .f32⟩
  | .hbm, ⟨98, _⟩ => ⟨S_, .f32⟩
  | .hbm, ⟨99, _⟩ => ⟨S4096, .f32⟩
  | .hbm, ⟨100, _⟩ => ⟨S4096x1, .f32⟩
  | .hbm, ⟨101, _⟩ => ⟨S4096x1024, .f32⟩
  | .hbm, ⟨102, _⟩ => ⟨S4096x1024, .f32⟩
  | .hbm, ⟨103, _⟩ => ⟨S4096x1, .f32⟩
  | .hbm, ⟨104, _⟩ => ⟨S_, .f32⟩
  | .hbm, ⟨105, _⟩ => ⟨S4096x1, .f32⟩
  | .hbm, ⟨106, _⟩ => ⟨S4096x1, .f32⟩
  | .hbm, ⟨107, _⟩ => ⟨S_, .f32⟩
  | .hbm, ⟨108, _⟩ => ⟨S4096, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S4096x1024, .f32⟩
  | .hbm, ⟨114, _⟩ => ⟨S1x1024, .f32⟩
  | .hbm, ⟨115, _⟩ => ⟨S1x1024, .f32⟩
  | .hbm, ⟨116, _⟩ => ⟨S_, .f32⟩
  | .hbm, ⟨117, _⟩ => ⟨S6x1024, .f32⟩
  | .hbm, ⟨118, _⟩ => ⟨S8x1024, .f32⟩
  | .hbm, ⟨119, _⟩ => ⟨S4096x2816, .bf16⟩
  | .hbm, ⟨120, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_cst_11 : Ref sig .tc := ⟨.hbm, 72, rfl⟩
abbrev main_v45 : Ref sig .tc := ⟨.hbm, 73, rfl⟩
abbrev main_v46 : Ref sig .tc := ⟨.hbm, 74, rfl⟩
abbrev main_cst_12 : Ref sig .tc := ⟨.hbm, 75, rfl⟩
abbrev main_v47 : Ref sig .tc := ⟨.hbm, 76, rfl⟩
abbrev main_cst_13 : Ref sig .tc := ⟨.hbm, 77, rfl⟩
abbrev main_v48 : Ref sig .tc := ⟨.hbm, 78, rfl⟩
abbrev main_v49 : Ref sig .tc := ⟨.hbm, 79, rfl⟩
abbrev main_cst_14 : Ref sig .tc := ⟨.hbm, 80, rfl⟩
abbrev main_cst_15 : Ref sig .tc := ⟨.hbm, 81, rfl⟩
abbrev main_v50 : Ref sig .tc := ⟨.hbm, 82, rfl⟩
abbrev main_v51 : Ref sig .tc := ⟨.hbm, 83, rfl⟩
abbrev main_cst_16 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_17 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_18 : Ref sig .tc := ⟨.hbm, 95, rfl⟩
abbrev main_v61 : Ref sig .tc := ⟨.hbm, 96, rfl⟩
abbrev main_v62 : Ref sig .tc := ⟨.hbm, 97, rfl⟩
abbrev main_cst_19 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_20 : Ref sig .tc := ⟨.hbm, 104, rfl⟩
abbrev main_v68 : Ref sig .tc := ⟨.hbm, 105, rfl⟩
abbrev main_v69 : Ref sig .tc := ⟨.hbm, 106, rfl⟩
abbrev main_cst_21 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_22 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .f32⟩
  | .hbm, ⟨5, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference9Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x1024, .f32⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference10Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference11Ideal.lean ====
abbrev S8x1024 : Shape := ⟨2, ![8, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S_, .f32⟩
  | .hbm, ⟨27, _⟩ => ⟨S8x1024, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S_, .f32⟩
  | .hbm, ⟨35, _⟩ => ⟨S8x1024, .f32⟩
  | .hbm, ⟨36, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Points.lean ====
/-
  The run of the kernel at every grid point, and of the whole program. What the body leaves at a point is a tuple: the
  blocks of the seven outputs in window order, then the two scratch buffers that the kernel carries to the next point.
  At the first point nothing comes from before (`atFirst`); at a later point the tuple of the point before enters
  (`atNext`). `outs` is the tuple after each point, by recursion on the point. The rest of the module sets the
  pipeline's proof data up from it, proves the obligation of the body, and closes with the run of the program.
-/
module

public import proofs.«01_k».proof.Proof.Gen.KernelIdeal.Frame.RunB
public import Idealize.ShloMosaic.Lib.Claim

@[expose] public section

set_option maxRecDepth 16384

noncomputable section

namespace Cert.Mixer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the kernel leaves at a point: its outputs' blocks, then its two carried scratch buffers. -/
structure Left (F : FTy → Type) where
  /-- the block of `dproj` -/
  dproj : Vec F S256x8192 .bf16
  /-- the block of `dya` -/
  dya : Vec F S256x1024 .bf16
  /-- the block of `dpp` -/
  dpp : Vec F S256x1024 .bf16
  /-- the block of `dyx` -/
  dyx : Vec F S256x1024 .bf16
  /-- the running gradient of the keys -/
  dk : Vec F S256x1024 .f32
  /-- the running gradient of the values -/
  dv : Vec F S256x1024 .f32
  /-- the running sums over the rows -/
  stat : Vec F S8x1024 .f32
  /-- the gradient at the convolution's output, and the rows that follow it -/
  dconv : Vec F S272x1024 .f32
  /-- the scaled gradient at the pooled values, and the rows that follow it -/
  dpool : Vec F S384x1024 .bf16

/-- The body's run at the first point. -/
def runFirst (c : Dev nD) (t : Fin cfg0.N) (h0 : cond0_0 (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) h0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-- The body's run at a later point, over what the point before left. -/
def runNext (c : Dev nD) (t : Fin cfg0.N) (h0 : ¬cond0_0 (grid0.coords t)) (p : Left F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) h0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p.dk p.dv p.stat p.dconv p.dpool

section First

variable (c : Dev nD) (t : Fin cfg0.N) (h0 : cond0_0 (grid0.coords t))

/-- The stores into the block of `dproj` cover it. -/
theorem coverDprojFirst (y : S256x8192.Idx) : ∃ pc ∈ (runFirst m c t h0).1, y ∈ pc.1.set :=
  View.cover_of_tiledBy (runFirst m c t h0).1 ![256, 256] (by sl_kernel_rfl) y

/-- The stores into the block of `dya` cover it. -/
theorem coverDyaFirst (y : S256x1024.Idx) : ∃ pc ∈ (runFirst m c t h0).2.1, y ∈ pc.1.set :=
  View.cover_of_tiledL (runFirst m c t h0).2.1 S256x1024.size (by sl_kernel_rfl) y

/-- The stores into the block of `dpp` cover it. -/
theorem coverDppFirst (y : S256x1024.Idx) : ∃ pc ∈ (runFirst m c t h0).2.2.1, y ∈ pc.1.set :=
  View.cover_of_tiledL (runFirst m c t h0).2.2.1 S256x1024.size (by sl_kernel_rfl) y

/-- The stores into the block of `dyx` cover it. -/
theorem coverDyxFirst (y : S256x1024.Idx) : ∃ pc ∈ (runFirst m c t h0).2.2.2.1, y ∈ pc.1.set :=
  View.cover_of_tiledL (runFirst m c t h0).2.2.2.1 S256x1024.size (by sl_kernel_rfl) y

/-- The stores into the running gradient of the keys cover it. -/
theorem coverDkFirst (y : S256x1024.Idx) : ∃ pc ∈ (runFirst m c t h0).2.2.2.2.1, y ∈ pc.1.set :=
  View.cover_of_tiledBy (runFirst m c t h0).2.2.2.2.1 ![256, 256] (by sl_kernel_rfl) y

/-- The stores into the running gradient of the values cover it. -/
theorem coverDvFirst (y : S256x1024.Idx) : ∃ pc ∈ (runFirst m c t h0).2.2.2.2.2.1, y ∈ pc.1.set :=
  View.cover_of_tiledBy (runFirst m c t h0).2.2.2.2.2.1 ![256, 256] (by sl_kernel_rfl) y

/-- The stores into the running sums cover it. -/
theorem coverStatFirst (y : S8x1024.Idx) : ∃ pc ∈ (runFirst m c t h0).2.2.2.2.2.2.1, y ∈ pc.1.set :=
  View.cover_of_tiledBy (runFirst m c t h0).2.2.2.2.2.2.1 ![1, 1024] (by sl_kernel_rfl) y

/-- The stores into the first carried scratch cover it. -/
theorem coverDconvFirst (y : S272x1024.Idx) : ∃ pc ∈ (runFirst m c t h0).2.2.2.2.2.2.2.1, y ∈ pc.1.set :=
  View.cover_of_tiledBy (runFirst m c t h0).2.2.2.2.2.2.2.1 ![16, 1024] (by sl_kernel_rfl) y

/-- The stores into the second carried scratch cover it. -/
theorem coverDpoolFirst (y : S384x1024.Idx) : ∃ pc ∈ (runFirst m c t h0).2.2.2.2.2.2.2.2.1, y ∈ pc.1.set :=
  View.cover_of_tiledBy (runFirst m c t h0).2.2.2.2.2.2.2.2.1 ![16, 256] (by sl_kernel_rfl) y

/-- What the body leaves at the first point. -/
def atFirst : Left F where
  dproj := VO0_16.read (Elt F) (VO0_16.writes (Elt F) VO0_16.junk (runFirst m c t h0).1)
  dya := VO0_17.read (Elt F) (VO0_17.writes (Elt F) VO0_17.junk (runFirst m c t h0).2.1)
  dpp := VO0_18.read (Elt F) (VO0_18.writes (Elt F) VO0_18.junk (runFirst m c t h0).2.2.1)
  dyx := VO0_19.read (Elt F) (VO0_19.writes (Elt F) VO0_19.junk (runFirst m c t h0).2.2.2.1)
  dk := VO0_20.read (Elt F) (VO0_20.writes (Elt F) VO0_20.junk (runFirst m c t h0).2.2.2.2.1)
  dv := VO0_21.read (Elt F) (VO0_21.writes (Elt F) VO0_21.junk (runFirst m c t h0).2.2.2.2.2.1)
  stat := VO0_22.read (Elt F) (VO0_22.writes (Elt F) VO0_22.junk (runFirst m c t h0).2.2.2.2.2.2.1)
  dconv := VS0_1.read (Elt F) (VS0_1.writes (Elt F) VS0_1.junk (runFirst m c t h0).2.2.2.2.2.2.2.1)
  dpool := VS0_2.read (Elt F) (VS0_2.writes (Elt F) VS0_2.junk (runFirst m c t h0).2.2.2.2.2.2.2.2.1)

end First

section Next

variable (c : Dev nD) (t : Fin cfg0.N) (h0 : ¬cond0_0 (grid0.coords t)) (p : Left F)

/-- The stores into the block of `dproj` cover it. -/
theorem coverDprojNext (y : S256x8192.Idx) : ∃ pc ∈ (runNext m c t h0 p).1, y ∈ pc.1.set :=
  View.cover_of_tiledBy (runNext m c t h0 p).1 ![256, 256] (by sl_kernel_rfl) y

/-- The stores into the block of `dya` cover it. -/
theorem coverDyaNext (y : S256x1024.Idx) : ∃ pc ∈ (runNext m c t h0 p).2.1, y ∈ pc.1.set :=
  View.cover_of_tiledL (runNext m c t h0 p).2.1 S256x1024.size (by sl_kernel_rfl) y

/-- The stores into the block of `dpp` cover it. -/
theorem coverDppNext (y : S256x1024.Idx) : ∃ pc ∈ (runNext m c t h0 p).2.2.1, y ∈ pc.1.set :=
  View.cover_of_tiledL (runNext m c t h0 p).2.2.1 S256x1024.size (by sl_kernel_rfl) y

/-- The stores into the block of `dyx` cover it. -/
theorem coverDyxNext (y : S256x1024.Idx) : ∃ pc ∈ (runNext m c t h0 p).2.2.2.1, y ∈ pc.1.set :=
  View.cover_of_tiledL (runNext m c t h0 p).2.2.2.1 S256x1024.size (by sl_kernel_rfl) y

/-- The stores into the running gradient of the keys cover it. -/
theorem coverDkNext (y : S256x1024.Idx) : ∃ pc ∈ (runNext m c t h0 p).2.2.2.2.1, y ∈ pc.1.set :=
  View.cover_of_tiledL (runNext m c t h0 p).2.2.2.2.1 S256x256.size (by sl_kernel_rfl) y

/-- The stores into the running gradient of the values cover it. -/
theorem coverDvNext (y : S256x1024.Idx) : ∃ pc ∈ (runNext m c t h0 p).2.2.2.2.2.1, y ∈ pc.1.set :=
  View.cover_of_tiledL (runNext m c t h0 p).2.2.2.2.2.1 S256x256.size (by sl_kernel_rfl) y

/-- The stores into the first carried scratch cover it. -/
theorem coverDconvNext (y : S272x1024.Idx) : ∃ pc ∈ (runNext m c t h0 p).2.2.2.2.2.2.2.1, y ∈ pc.1.set :=
  View.cover_of_tiledBy (runNext m c t h0 p).2.2.2.2.2.2.2.1 ![16, 1024] (by sl_kernel_rfl) y

/-- What the body leaves at a later point. -/
def atNext : Left F where
  dproj := VO0_16.read (Elt F) (VO0_16.writes (Elt F) VO0_16.junk (runNext m c t h0 p).1)
  dya := VO0_17.read (Elt F) (VO0_17.writes (Elt F) VO0_17.junk (runNext m c t h0 p).2.1)
  dpp := VO0_18.read (Elt F) (VO0_18.writes (Elt F) VO0_18.junk (runNext m c t h0 p).2.2.1)
  dyx := VO0_19.read (Elt F) (VO0_19.writes (Elt F) VO0_19.junk (runNext m c t h0 p).2.2.2.1)
  dk := VO0_20.read (Elt F) (VO0_20.writes (Elt F) VO0_20.junk (runNext m c t h0 p).2.2.2.2.1)
  dv := VO0_21.read (Elt F) (VO0_21.writes (Elt F) VO0_21.junk (runNext m c t h0 p).2.2.2.2.2.1)
  stat := (ms0_22 t).view.read (Elt F) ((ms0_22 t).view.writes (Elt F) ((hs0_22 t).unread p.stat) (runNext m c t h0 p).2.2.2.2.2.2.1)
  dconv := VS0_1.read (Elt F) (VS0_1.writes (Elt F) VS0_1.junk (runNext m c t h0 p).2.2.2.2.2.2.2.1)
  dpool := scM0_2.view.read (Elt F) (scM0_2.view.writes (Elt F) ((Memref.isWhole_whole cc0_scratch2).unread p.dpool) (runNext m c t h0 p).2.2.2.2.2.2.2.2.1)

end Next

/-- What the kernel leaves after each point. -/
def outs (c : Dev nD) : (n : ℕ) → n < cfg0.N → Left F
  | 0, hn => atFirst m c ⟨0, hn⟩ ((hcond0_0 ⟨0, hn⟩).mpr (Nat.zero_mod _))
  | n + 1, hn =>
    if h0 : (n + 1) % 16 = 0 then atFirst m c ⟨n + 1, hn⟩ ((hcond0_0 ⟨n + 1, hn⟩).mpr h0)
    else atNext m c ⟨n + 1, hn⟩ (fun h => h0 ((hcond0_0 ⟨n + 1, hn⟩).mp h)) (outs c n (Nat.lt_of_succ_lt hn))

/-- The tuple after the first point. -/
theorem outs_first (c : Dev nD) (t : Fin cfg0.N) (h0 : t.val % 16 = 0) :
    outs m c t.val t.isLt = atFirst m c t ((hcond0_0 t).mpr h0) := by
  obtain ⟨n, hn⟩ := t
  cases n with
  | zero => rfl
  | succ n => rw [outs, dif_pos h0]

/-- The tuple after a later point. -/
theorem outs_next (c : Dev nD) (t : Fin cfg0.N) (h0 : ¬t.val % 16 = 0) :
    outs m c t.val t.isLt = atNext m c t (fun h => h0 ((hcond0_0 t).mp h))
      (outs m c (t.val - 1) (Nat.lt_of_le_of_lt (Nat.sub_le _ _) t.isLt)) := by
  obtain ⟨n, hn⟩ := t
  cases n with
  | zero => exact absurd (Nat.zero_mod _) h0
  | succ n => rw [outs, dif_neg h0]; rfl

/-- The region invariant before position `n` with a scratch the kernel CARRIES between points: before the first point the
    class's (Lib/Pipeline/Frame.lean `ΦA`: every scratch at anything); afterwards the scoped rest with each carried scratch
    at what the point before left in it (`outs`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outs m c n hn).dconv) ∗ owns (c : Thread nD τ) scM0_2 fullShare ((outs m c n hn).dpool)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outs m c n hn).dconv) ∗ owns (c : Thread nD τ) scM0_2 fullShare ((outs m c n hn).dpool)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outs m c (n - 1) (by omega)).dconv) ∗ owns (c : Thread nD τ) scM0_2 fullShare ((outs m c (n - 1) (by omega)).dpool)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outs`; the invariant the class's
    (`PhiS`: the class's `ΦA` before the first point, then the scoped rest with the carried scratch at `outs`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outs m c t.val t.isLt).dproj
    | ⟨17, _⟩ => (outs m c t.val t.isLt).dya
    | ⟨18, _⟩ => (outs m c t.val t.isLt).dpp
    | ⟨19, _⟩ => (outs m c t.val t.isLt).dyx
    | ⟨20, _⟩ => (outs m c t.val t.isLt).dk
    | ⟨21, _⟩ => (outs m c t.val t.isLt).dv
    | ⟨22, _⟩ => (outs m c t.val t.isLt).stat
    | ⟨_ + 23, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outs m c t.val t.isLt).dproj := by dsimp only [dats]
theorem after0_17 (c : Dev nD) (t : Fin cfg0.N) : (dats m 0 c).after 17 t = (outs m c t.val t.isLt).dya := by dsimp only [dats]
theorem after0_18 (c : Dev nD) (t : Fin cfg0.N) : (dats m 0 c).after 18 t = (outs m c t.val t.isLt).dpp := by dsimp only [dats]
theorem after0_19 (c : Dev nD) (t : Fin cfg0.N) : (dats m 0 c).after 19 t = (outs m c t.val t.isLt).dyx := by dsimp only [dats]
theorem after0_20 (c : Dev nD) (t : Fin cfg0.N) : (dats m 0 c).after 20 t = (outs m c t.val t.isLt).dk := by dsimp only [dats]
theorem after0_21 (c : Dev nD) (t : Fin cfg0.N) : (dats m 0 c).after 21 t = (outs m c t.val t.isLt).dv := by dsimp only [dats]
theorem after0_22 (c : Dev nD) (t : Fin cfg0.N) : (dats m 0 c).after 22 t = (outs m c t.val t.isLt).stat := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
/-- At a point of case B output 20's current staging buffer holds what the body left at the point before: the point is
    not the first, the buffer was not written back between (`flush0_20`), the window is live and uncut (Lib/Pipeline/Frame.lean
    `Dat.before_out_kept`). -/
theorem before0_20_B (c : Dev nD) (t : Fin cfg0.N) (h0 : ¬t.val % 16 = 0) (d) :
    (dats m 0 c).before 20 t d = (outs m c (t.val - 1) (Nat.lt_of_le_of_lt (Nat.sub_le _ _) t.isLt)).dk := by
  have hN : t.val < 16 := lt_of_lt_of_eq t.isLt (show cfg0.N = 16 from N_0)
  rw [Dat.before_out_kept _ 20 rfl t (by omega) (Bool.eq_false_iff.mpr fun h => by have := (flush0_20 _).mp h; dsimp only at this; omega)
    (fun _ => rfl) (fun _ _ => rfl)]
  dsimp only [dats]
/-- At a point of case B output 21's current staging buffer holds what the body left at the point before: the point is
    not the first, the buffer was not written back between (`flush0_21`), the window is live and uncut (Lib/Pipeline/Frame.lean
    `Dat.before_out_kept`). -/
theorem before0_21_B (c : Dev nD) (t : Fin cfg0.N) (h0 : ¬t.val % 16 = 0) (d) :
    (dats m 0 c).before 21 t d = (outs m c (t.val - 1) (Nat.lt_of_le_of_lt (Nat.sub_le _ _) t.isLt)).dv := by
  have hN : t.val < 16 := lt_of_lt_of_eq t.isLt (show cfg0.N = 16 from N_0)
  rw [Dat.before_out_kept _ 21 rfl t (by omega) (Bool.eq_false_iff.mpr fun h => by have := (flush0_21 _).mp h; dsimp only at this; omega)
    (fun _ => rfl) (fun _ _ => rfl)]
  dsimp only [dats]
/-- At a point of case B output 22's current staging buffer holds what the body left at the point before: the point is
    not the first, the buffer was not written back between (`flush0_22`), the window is live and uncut (Lib/Pipeline/Frame.lean
    `Dat.before_out_kept`). -/
theorem before0_22_B (c : Dev nD) (t : Fin cfg0.N) (h0 : ¬t.val % 16 = 0) (d) :
    (dats m 0 c).before 22 t d = (outs m c (t.val - 1) (Nat.lt_of_le_of_lt (Nat.sub_le _ _) t.isLt)).stat := by
  have hN : t.val < 16 := lt_of_lt_of_eq t.isLt (show cfg0.N = 16 from N_0)
  rw [Dat.before_out_kept _ 22 rfl t (by omega) (Bool.eq_false_iff.mpr fun h => by have := (flush0_22 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc m c t, PhiS_zero m c _ _ hz, PhiA0_eq]
      rw [outs_first m c t h0]
      unfold atFirst; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
      iapply ((runFirst m c t ((hcond0_0 t).mpr h0)).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [HS0]; · iexact HS0
      isplitl [HS1]; · iexact HS1
      isplitl [HS2]; · iexact HS2
      iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%fT0, HS0⟩, ⟨%es1, HS1⟩, ⟨%es2, HS2⟩⟩
      isplitl [HS0 HS1 HS2 Hg]
      · isplitl [HS0 HS1 HS2]
        · isplitl [HS0]
          · iexists _; unfold owns; iexists _; isplitr
            swap; · iexact HS0
            ipureintro; rfl
          isplitl [HS1]
          · unfold owns; iexists _; isplitr
            swap; · iexact HS1
            ipureintro; exact View.read_writes_of_cover _ _ _ _ _ (coverDconvFirst m c t _)
          unfold owns; iexists _; isplitr
          swap; · iexact HS2
          ipureintro; exact View.read_writes_of_cover _ _ _ _ _ (coverDpoolFirst m c t _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (coverDprojFirst m c t _)
      isplitl [H17]
      · unfold owns; iexists _; isplitr
        swap; · iexact H17
        ipureintro; exact View.read_writes_of_cover _ _ _ _ _ (coverDyaFirst m c t _)
      isplitl [H18]
      · unfold owns; iexists _; isplitr
        swap; · iexact H18
        ipureintro; exact View.read_writes_of_cover _ _ _ _ _ (coverDppFirst m c t _)
      isplitl [H19]
      · unfold owns; iexists _; isplitr
        swap; · iexact H19
        ipureintro; exact View.read_writes_of_cover _ _ _ _ _ (coverDyxFirst m c t _)
      isplitl [H20]
      · unfold owns; iexists _; isplitr
        swap; · iexact H20
        ipureintro; exact View.read_writes_of_cover _ _ _ _ _ (coverDkFirst m c t _)
      isplitl [H21]
      · unfold owns; iexists _; isplitr
        swap; · iexact H21
        ipureintro; exact View.read_writes_of_cover _ _ _ _ _ (coverDvFirst m c t _)
      unfold owns; iexists _; isplitr
      swap; · iexact H22
      ipureintro; exact View.read_writes_of_cover _ _ _ _ _ (coverStatFirst m c t _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outs_next m c t h0]
      simp only [before0_20_B m c t h0, before0_21_B m c t h0, before0_22_B m c t h0]
      unfold atNext; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
      iapply ((runNext m c t (fun h => h0 ((hcond0_0 t).mp h)) (outs m c (t.val - 1) (Nat.lt_of_le_of_lt (Nat.sub_le _ _) t.isLt))).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexists _; iexact H17
      isplitl [H18]; · iexists _; iexact H18
      isplitl [H19]; · iexists _; iexact H19
      isplitl [H20]; · iexact H20
      isplitl [H21]; · iexact H21
      isplitl [H22]; · iexact H22
      isplitl [HS0]; · iexact HS0
      isplitl [HS1]; · iexact HS1
      isplitl [HS2]; · iexact HS2
      iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, H22, ⟨%fT0, HS0⟩, ⟨%es1, HS1⟩, HS2⟩
      isplitl [HS0 HS1 HS2 Hg]
      · isplitl [HS0 HS1 HS2]
        · isplitl [HS0]
          · iexists _; unfold owns; iexists _; isplitr
            swap; · iexact HS0
            ipureintro; rfl
          isplitl [HS1]
          · unfold owns; iexists _; isplitr
            swap; · iexact HS1
            ipureintro; exact View.read_writes_of_cover _ _ _ _ _ (coverDconvNext m c t _ _)
          unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (coverDprojNext m c t _ _)
      isplitl [H17]
      · unfold owns; iexists _; isplitr
        swap; · iexact H17
        ipureintro; exact View.read_writes_of_cover _ _ _ _ _ (coverDyaNext m c t _ _)
      isplitl [H18]
      · unfold owns; iexists _; isplitr
        swap; · iexact H18
        ipureintro; exact View.read_writes_of_cover _ _ _ _ _ (coverDppNext m c t _ _)
      isplitl [H19]
      · unfold owns; iexists _; isplitr
        swap; · iexact H19
        ipureintro; exact View.read_writes_of_cover _ _ _ _ _ (coverDyxNext m c t _ _)
      isplitl [H20]
      · unfold owns; iexists _; isplitr
        swap; · iexact H20
        ipureintro; exact View.read_writes_of_cover _ _ _ _ _ (coverDkNext m c t _ _)
      isplitl [H21]
      · unfold owns; iexists _; isplitr
        swap; · iexact H21
        ipureintro; exact View.read_writes_of_cover _ _ _ _ _ (coverDvNext m c t _ _)
      unfold owns; iexists _; isplitr
      swap; · iexact H22
      ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Mixer

end
-- ==== Proof.KernelFrame.lean ====
module

public import proofs.«01_k».proof.Defs
public import proofs.«01_k».proof.Proof.Gen.Kernel
public import proofs.«01_k».proof.Proof.Points
public import Idealize.ShloMosaic.Lib.Tactic

/-! The frame of the kernel as printed. `Points.lean` proves the run at any arithmetic for the program printed for
    exact arithmetic; no rule changed an operation of it, so that the two programs are one term, and so are the two
    frames at machine arithmetic. -/

@[expose] public section

set_option maxRecDepth 100000

noncomputable section

namespace Cert.Mixer

open Idealize.ShloMosaic Idealize.SL.Sem

open Cert.KernelIdeal in
/-- The program runs, its semaphores end at zero and its arguments unchanged, at machine arithmetic. -/
def FrameBits : Prop :=
  ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0)

theorem frameBits : FrameBits := fun m ρ _ => frame (F := Bits) m ρ

theorem frameBits_eq : FrameBits = Cert.quiescent_Kernel (hKernel := Cert.Kernel.Gen.facts) := by
  sl_kernel_rfl

/-- The frame of the kernel as printed. -/
theorem kernel_frame : Cert.quiescent_Kernel (hKernel := Cert.Kernel.Gen.facts) :=
  frameBits_eq ▸ frameBits

end Cert.Mixer

end
-- ==== Proof.Host.lean ====
module

public import proofs.«01_k».proof.Proof.Gen.KernelIdeal.Frame.Runs
public import proofs.«01_k».proof.Proof.Gen.ReferenceIdeal.Read
public import Idealize.ShloMosaic.Lib.StableHlo.RunRead

/-! What the host computes ahead of the call: each array given to the call is one of the reference's values or an argument. -/

@[expose] public section

noncomputable section

namespace Cert.Mixer

open Idealize.ShloMosaic Idealize.ShloMosaic.TcCoe Idealize.SL.Sem
open Cert.KernelIdeal Cert.KernelIdeal.Gen Cert.ReferenceIdeal.Read

variable (m : (ℓ : Loc nD τ sig) → Buf (Elt Ideal) ℓ) (c : Dev nD)

theorem V130 : V m c main_v130 = (m ((c : Thread nD τ).loc main_arg1)) := by
  unfold V
  after_reads_simp
  rfl

theorem V131 : V m c main_v131 = val_main_v33 (m ((c : Thread nD τ).loc main_arg1)) (m ((c : Thread nD τ).loc main_arg2)) (m ((c : Thread nD τ).loc main_arg3)) := by
  unfold V
  after_reads_simp
  rfl

theorem V132 : V m c main_v132 = val_main_v110 (m ((c : Thread nD τ).loc main_arg1)) (m ((c : Thread nD τ).loc main_arg4)) := by
  unfold V
  after_reads_simp
  rfl

theorem V133 : V m c main_v133 = val_main_v148 (m ((c : Thread nD τ).loc main_arg1)) (m ((c : Thread nD τ).loc main_arg6)) (m ((c : Thread nD τ).loc main_arg7)) (m ((c : Thread nD τ).loc main_arg8)) := by
  unfold V
  after_reads_simp
  rfl

theorem V134 : V m c main_v134 = shapeCast S4096x1024 (transpose S4096x4x256 [1, 0, 2] (val_main_v140 (m ((c : Thread nD τ).loc main_arg1)) (m ((c : Thread nD τ).loc main_arg6))) transposes_S4x4096x256_S4096x4x256_1_0_2) shapeCasts_S4096x4x256_S4096x1024 := by
  unfold V
  after_reads_simp
  rfl

theorem V135 : V m c main_v135 = (m ((c : Thread nD τ).loc main_arg3)) := by
  unfold V
  after_reads_simp
  rfl

theorem V136 : V m c main_v136 = (m ((c : Thread nD τ).loc main_arg4)) := by
  unfold V
  after_reads_simp
  rfl

theorem V137 : V m c main_v137 = (m ((c : Thread nD τ).loc main_arg6)) := by
  unfold V
  after_reads_simp
  rfl

theorem V138 : V m c main_v138 = (m ((c : Thread nD τ).loc main_arg7)) := by
  unfold V
  after_reads_simp
  rfl

theorem V139 : V m c main_v139 = (m ((c : Thread nD τ).loc main_arg8)) := by
  unfold V
  after_reads_simp
  rfl

theorem V140 : V m c main_v140 = (m ((c : Thread nD τ).loc main_arg9)) := by
  unfold V
  after_reads_simp
  rfl

end Cert.Mixer

end
-- ==== Proof.HostMade.lean ====
module

public import proofs.«01_k».proof.Proof.Host

/-! The two arrays that the program makes on the host for the call alone: the taps in eight rows, and the four bands of ones. -/

@[expose] public section

noncomputable section

namespace Cert.Mixer

open Cert.KernelIdeal Cert.KernelIdeal.Gen
open Idealize.ShloMosaic Idealize.ShloMosaic.TcCoe Idealize.SL.Sem

variable (m : (ℓ : Loc nD τ sig) → Buf (Elt Ideal) ℓ) (c : Dev nD)

theorem V129 : V m c main_v129 = concatenate S8x1024 0 [⟨S3x1024, m ((c : Thread nD τ).loc main_arg2)⟩,
    ⟨S5x1024, broadcastInDim S5x1024 ![] bcast_S_S5x1024 (constant (F := Ideal) S_ .f32 0x00000000#32)⟩] concatenates_S3x1024_S5x1024_S8x1024_d0 := by
  unfold V
  after_reads_simp
  rfl

/-- Column minus row. -/
def bandD : IVec S256x384 32 := subi (iotaInDim S256x384 32 1) (iotaInDim S256x384 32 0)

/-- A band of `w` diagonals of ones, from the main one to the right. -/
def band (w : BitVec 32) : FVec Ideal S1x256x384 .bf16 :=
  broadcastInDim S1x256x384 ![1, 2] bcast_S256x384_S1x256x384_1_2 (uitofp .bf16 (andi
    (cmpi .sge bandD (broadcastInDim S256x384 ![] bcast_S_S256x384 (constantI S_ 32 0#32)))
    (cmpi .slt bandD (broadcastInDim S256x384 ![] bcast_S_S256x384 (constantI S_ 32 w)))))

theorem V172 : V m c main_v172 = concatenate S4x256x384 0 [⟨S1x256x384, band 2#32⟩, ⟨S1x256x384, band 4#32⟩,
    ⟨S1x256x384, band 8#32⟩, ⟨S1x256x384, band 16#32⟩] concatenates_S1x256x384_S1x256x384_S1x256x384_S1x256x384_S4x256x384_d0 := by
  unfold V
  after_reads_simp
  rfl

end Cert.Mixer

end
-- ==== Proof.Tiles2.lean ====
module

public import Idealize.ShloMosaic.Lib.Pipeline.Value
public import Idealize.ShloMosaic.Lib.Pipeline.ValueKit
public import Idealize.ShloMosaic.Lib.Pipeline.ReadBack
public import Idealize.ShloMosaic.Lib.WritesUnit
public import Idealize.ShloMosaic.Lib.ValueIdx

/-! Stores of rectangles into a two-dimensional buffer, read back at one index. -/

@[expose] public section

noncomputable section

namespace Cert.Mixer

open Idealize.ShloMosaic

variable {Val : EltTy → Type} {e : EltTy} {H W a b h w : ℕ}

/-- The shape of a matrix. -/
abbrev Sh (H W : ℕ) : Shape := ⟨2, ![H, W]⟩

/-- A rectangle's own index, placed in the buffer. -/
theorem rect_emb (inb : ∀ k, (![a, b] : Fin 2 → ℕ) k + (![h, w] : Fin 2 → ℕ) k ≤ (Sh H W).size k) (i : Fin H) (j : Fin W)
    (hi : a ≤ i.val) (hi' : i.val < a + h) (hj : b ≤ j.val) (hj' : j.val < b + w) :
    (Rect.unit (s := Sh H W) ![a, b] ![h, w] inb).emb (ix2 ⟨i.val - a, by omega⟩ ⟨j.val - b, by omega⟩) = ix2 i j := by
  funext k
  apply Fin.ext
  refine (Rect.idx_unit_val ![a, b] ![h, w] inb (ix2 ⟨i.val - a, by omega⟩ ⟨j.val - b, by omega⟩) k).trans ?_
  fin_cases k
  · show a + (i.val - a) = i.val
    omega
  · show b + (j.val - b) = j.val
    omega

/-- Off the rectangle's rows or columns an index is not in it. -/
theorem not_mem_rect (inb : ∀ k, (![a, b] : Fin 2 → ℕ) k + (![h, w] : Fin 2 → ℕ) k ≤ (Sh H W).size k) (i : Fin H) (j : Fin W)
    (ho : i.val < a ∨ a + h ≤ i.val ∨ j.val < b ∨ b + w ≤ j.val) :
    (ix2 i j : (Sh H W).Idx) ∉ (Rect.unit (s := Sh H W) ![a, b] ![h, w] inb).set := by
  rw [Rect.mem_set_unit]
  intro hm
  have h0 : a ≤ i.val ∧ i.val < a + h := hm 0
  have h1 : b ≤ j.val ∧ j.val < b + w := hm 1
  omega

section Canon

variable [∀ e, Nonempty (Val e)]

theorem canon_in (inb : ∀ k, (![a, b] : Fin 2 → ℕ) k + (![h, w] : Fin 2 → ℕ) k ≤ (Sh H W).size k)
    (p : (Rect.unit (s := Sh H W) ![a, b] ![h, w] inb).shape.Idx → Val e) (L : List (View.Piece Val (Sh H W) e)) (i : Fin H) (j : Fin W)
    (hi : a ≤ i.val) (hi' : i.val < a + h) (hj : b ≤ j.val) (hj' : j.val < b + w) :
    View.canon (⟨Rect.unit (s := Sh H W) ![a, b] ![h, w] inb, p⟩ :: L) (ix2 i j)
      = p (ix2 ⟨i.val - a, by omega⟩ ⟨j.val - b, by omega⟩) := by
  have hk := View.canon_cons_emb (Rect.unit (s := Sh H W) ![a, b] ![h, w] inb) p L (ix2 ⟨i.val - a, by omega⟩ ⟨j.val - b, by omega⟩)
  rw [rect_emb inb i j hi hi' hj hj'] at hk
  exact hk

theorem canon_out (inb : ∀ k, (![a, b] : Fin 2 → ℕ) k + (![h, w] : Fin 2 → ℕ) k ≤ (Sh H W).size k)
    (p : (Rect.unit (s := Sh H W) ![a, b] ![h, w] inb).shape.Idx → Val e) (L : List (View.Piece Val (Sh H W) e)) (i : Fin H) (j : Fin W)
    (ho : i.val < a ∨ a + h ≤ i.val ∨ j.val < b ∨ b + w ≤ j.val) :
    View.canon (⟨Rect.unit (s := Sh H W) ![a, b] ![h, w] inb, p⟩ :: L) (ix2 i j) = View.canon L (ix2 i j) :=
  View.canon_cons_of_not_mem _ L (not_mem_rect inb i j ho)

/-- A load of stored rectangles, at one index of what is loaded. -/
theorem readCov_at {sig : RefSig} {κ : Kind} {sp : Space} (v : View sig κ sp (Sh H W) e) (L : List (View.Piece Val (Sh H W) e))
    (inb : ∀ k, (![a, b] : Fin 2 → ℕ) k + (![h, w] : Fin 2 → ℕ) k ≤ (Sh H W).size k) (i : Fin h) (j : Fin w)
    (hi : a + i.val < H) (hj : b + j.val < W) :
    v.readCov L (Rect.unit (s := Sh H W) ![a, b] ![h, w] inb).toLoadRect (ix2 i j) = View.canon L (ix2 ⟨a + i.val, hi⟩ ⟨b + j.val, hj⟩) := by
  rw [View.readCov_eq_canon']
  refine congrArg (View.canon L) (funext fun k => Fin.ext ?_)
  refine (Rect.idx_unit_val ![a, b] ![h, w] inb (ix2 i j) k).trans ?_
  fin_cases k <;> rfl

end Canon

/-- A load of a buffer, at one index of what is loaded. -/
theorem ld_at (X : (Sh H W).Idx → Val e)
    (inb : ∀ k, (![a, b] : Fin 2 → ℕ) k + (![h, w] : Fin 2 → ℕ) k ≤ (Sh H W).size k) (i : Fin h) (j : Fin w)
    (hi : a + i.val < H) (hj : b + j.val < W) :
    View.ld X (Rect.unit (s := Sh H W) ![a, b] ![h, w] inb) (ix2 i j) = X (ix2 ⟨a + i.val, hi⟩ ⟨b + j.val, hj⟩) :=
  View.ld_unit_apply_of X _ _ inb (ix2 i j) _ fun k => by fin_cases k <;> rfl

theorem writes_in {sig : RefSig} {κ : Kind} {sp : Space} (v : View sig κ sp (Sh H W) e) (f : v.ty.Contents Val)
    (inb : ∀ k, (![a, b] : Fin 2 → ℕ) k + (![h, w] : Fin 2 → ℕ) k ≤ (Sh H W).size k)
    (p : (Rect.unit (s := Sh H W) ![a, b] ![h, w] inb).shape.Idx → Val e) (L : List (View.Piece Val (Sh H W) e)) (i : Fin H) (j : Fin W)
    (hi : a ≤ i.val) (hi' : i.val < a + h) (hj : b ≤ j.val) (hj' : j.val < b + w) :
    v.read Val (v.writes Val f (⟨Rect.unit (s := Sh H W) ![a, b] ![h, w] inb, p⟩ :: L)) (ix2 i j)
      = p (ix2 ⟨i.val - a, by omega⟩ ⟨j.val - b, by omega⟩) := by
  refine View.read_writes_cons_unit_of_mem v f inb p L _ (ix2 ⟨i.val - a, by omega⟩ ⟨j.val - b, by omega⟩) rfl fun k => ?_
  fin_cases k
  · show i.val = a + (i.val - a)
    omega
  · show j.val = b + (j.val - b)
    omega

theorem writes_out {sig : RefSig} {κ : Kind} {sp : Space} (v : View sig κ sp (Sh H W) e) (f : v.ty.Contents Val)
    (inb : ∀ k, (![a, b] : Fin 2 → ℕ) k + (![h, w] : Fin 2 → ℕ) k ≤ (Sh H W).size k)
    (p : (Rect.unit (s := Sh H W) ![a, b] ![h, w] inb).shape.Idx → Val e) (L : List (View.Piece Val (Sh H W) e)) (i : Fin H) (j : Fin W)
    (ho : i.val < a ∨ a + h ≤ i.val ∨ j.val < b ∨ b + w ≤ j.val) :
    v.read Val (v.writes Val f (⟨Rect.unit (s := Sh H W) ![a, b] ![h, w] inb, p⟩ :: L)) (ix2 i j)
      = v.read Val (v.writes Val f L) (ix2 i j) := by
  rcases ho with ho | ho | ho | ho
  · exact View.read_writes_cons_unit_of_not_mem v f inb p L _ rfl 0 (Or.inl ho)
  · exact View.read_writes_cons_unit_of_not_mem v f inb p L _ rfl 0 (Or.inr ho)
  · exact View.read_writes_cons_unit_of_not_mem v f inb p L _ rfl 1 (Or.inl ho)
  · exact View.read_writes_cons_unit_of_not_mem v f inb p L _ rfl 1 (Or.inr ho)

end Cert.Mixer
-- ==== Proof.Body.lean ====
module

public import proofs.«01_k».proof.Proof.Points
public import proofs.«01_k».proof.Proof.Tiles2
public import Idealize.ShloMosaic.Lib.Pointwise
public import Idealize.ShloMosaic.Lib.Tactic

/-! What one grid point leaves in its buffers, as the body's own terms over the point's input blocks and what the
    point before carried over: `tail1`, the rows of the convolution's output gradient that lie below the tile, and `tail2`, the
    rows of the pooled inputs' gradient that lie below it. -/

@[expose] public section

set_option maxRecDepth 16384

noncomputable section

namespace Cert.Mixer

open Cert.KernelIdeal Cert.KernelIdeal.Gen
open Idealize.ShloMosaic Idealize.ShloMosaic.TcCoe Idealize.SL.Sem

variable (m : (ℓ : Loc nD τ sig) → Buf (Elt Ideal) ℓ) (c : Dev nD) (t : Fin cfg0.N)

/-- A matrix from its entries. -/
def ofIx {α : Type} {a b : ℕ} (f : Fin a → Fin b → α) : (Sh a b).Idx → α := fun y => f (y 0) (y 1)

theorem ofIx_apply {α : Type} {a b : ℕ} (f : Fin a → Fin b → α) (i : Fin a) (j : Fin b) : ofIx f (ix2 i j) = f i j := rfl

/-- Rows `k … k + 255` of `A` with `T` below it. -/
def ext1 (A : Vec Ideal S256x1024 .f32) (T : Vec Ideal S16x1024 .f32) (k : ℕ) (hk : k ≤ 16) : Vec Ideal S256x1024 .f32 :=
  ofIx fun i j => if h : i.val + k < 256 then A (ix2 ⟨i.val + k, h⟩ j) else T (ix2 ⟨i.val + k - 256, by omega⟩ j)

/-- Rows `k … k + 255` of `A` with `T` above it. -/
def ext0 (A : Vec Ideal S256x1024 .f32) (T : Vec Ideal S16x1024 .f32) (k : ℕ) (hk : k ≤ 16) : Vec Ideal S256x1024 .f32 :=
  ofIx fun i j => if h : i.val + k < 16 then T (ix2 ⟨i.val + k, h⟩ j) else A (ix2 ⟨i.val + k - 16, by omega⟩ j)

/-- `N` with the columns `j₀ … j₀ + 255` of `T` below it. -/
def ext2 (N : Vec Ideal S256x256 .bf16) (T : Vec Ideal S128x1024 .bf16) (j₀ : ℕ) (hj : j₀ ≤ 768) : Vec Ideal S384x256 .bf16 :=
  ofIx fun i j => if h : i.val < 256 then N (ix2 ⟨i.val, h⟩ j) else T (ix2 ⟨i.val - 256, by omega⟩ ⟨j₀ + j.val, by omega⟩)

/-- The rows below the tile of the first scratch buffer. -/
def tail1 (X : Vec Ideal S272x1024 .f32) : Vec Ideal S16x1024 .f32 := ofIx fun i j => X (ix2 ⟨256 + i.val, by omega⟩ j)

/-- The rows below the tile of the second. -/
def tail2 (X : Vec Ideal S384x1024 .bf16) : Vec Ideal S128x1024 .bf16 := ofIx fun i j => X (ix2 ⟨256 + i.val, by omega⟩ j)

/-- A shape cast to the same shape changes nothing. -/
theorem cast_self {s : Shape} {α : Type} (x : s.Idx → α) (h : s.ShapeCasts s) : shapeCast s x h = x :=
  funext fun y => by pointwise

/-- The number of the tile that the point works on. -/
def TILE : BitVec 32 := Scalar.subi (15#32) (BitVec.ofNat 32 ↑(grid0.coords t 0))

/-- The gradient of the merged branches. -/
def DM : FVec Ideal S256x1024 .bf16 :=
  k0_pay6 (View.ld (iblk m c 0 t) (Rect.unit ![0, 0] ![256, 1024] inb_S256x1024_S256x1024_0_0)) (View.ld (iblk m c 14 t) (Rect.unit ![0, 0] ![1024, 1024] inb_S1024x1024_S1024x1024_0_0))

/-- That of the convolution branch. -/
def DYA : FVec Ideal S256x1024 .bf16 :=
  k0_pay16 (DM m c t) (k0_pay7 (View.ld (iblk m c 1 t) (Rect.unit ![0, 5120] ![256, 1024] inb_S256x8192_S256x1024_0_5120)))

/-- That of the scaled pooling branch. -/
def DYP : FVec Ideal S256x1024 .bf16 :=
  k0_pay17 (DM m c t) (k0_pay8 (View.ld (iblk m c 1 t) (Rect.unit ![0, 6144] ![256, 1024] inb_S256x8192_S256x1024_0_6144)))

/-- That of the attention branch. -/
def DYX : FVec Ideal S256x1024 .bf16 :=
  k0_pay18 (DM m c t) (k0_pay9 (View.ld (iblk m c 1 t) (Rect.unit ![0, 7168] ![256, 1024] inb_S256x8192_S256x1024_0_7168)))

/-- That of the pooling branch before the scale. -/
def DPP : FVec Ideal S256x1024 .bf16 :=
  k0_pay20 (k0_pay12 (View.ld (iblk m c 10 t) (Rect.unit ![0, 0] ![1, 1024] inb_S1x1024_S1x1024_0_0))) (DYP m c t)

/-- That of the gated convolution. -/
def DA : FVec Ideal S256x1024 .f32 :=
  k0_pay21 (DYA m c t) (View.ld (iblk m c 8 t) (Rect.unit ![0, 0] ![1024, 1024] inb_S1024x1024_S1024x1024_0_0))

/-- That of the convolution. -/
def DCONV : FVec Ideal S256x1024 .f32 :=
  k0_pay28 (DA m c t) (View.ld (iblk m c 1 t) (Rect.unit ![0, 0] ![256, 1024] inb_S256x8192_S256x1024_0_0))

/-- The input of the convolution. -/
def CU : FVec Ideal S256x1024 .f32 :=
  k0_pay24 (View.ld (iblk m c 1 t) (Rect.unit ![0, 1024] ![256, 1024] inb_S256x8192_S256x1024_0_1024)) (View.ld (iblk m c 1 t) (Rect.unit ![0, 2048] ![256, 1024] inb_S256x8192_S256x1024_0_2048))

/-- The sixteen rows of it above the tile. -/
def HALO : FVec Ideal S16x1024 .f32 :=
  k0_pay25 (TILE t) (View.ld (iblk m c 2 t) (Rect.unit ![0, 1024] ![16, 1024] inb_S16x8192_S16x1024_0_1024)) (View.ld (iblk m c 2 t) (Rect.unit ![0, 2048] ![16, 1024] inb_S16x8192_S16x1024_0_2048))

/-- The gradient of the attention before its output projection. -/
def DO : FVec Ideal S256x1024 .f32 :=
  k0_pay51 (DYX m c t) (View.ld (iblk m c 13 t) (Rect.unit ![0, 0] ![1024, 1024] inb_S1024x1024_S1024x1024_0_0))

/-- The gradient of the first group of pooled inputs, each row over its number of inputs. -/
def N0 : FVec Ideal S256x256 .bf16 :=
  k0_pay37 (TILE t) (DPP m c t) (View.ld (iblk m c 9 t) (Rect.unit ![0, 0, 0] ![1, 256, 256] inb_S4x256x256_S1x256x256_0_0_0))

/-- The second. -/
def N1 : FVec Ideal S256x256 .bf16 :=
  k0_pay41 (TILE t) (k0_pay39 (DPP m c t)) (View.ld (iblk m c 9 t) (Rect.unit ![1, 0, 0] ![1, 256, 256] inb_S4x256x256_S1x256x256_1_0_0))

/-- The third. -/
def N2 : FVec Ideal S256x256 .bf16 :=
  k0_pay45 (k0_pay43 (DPP m c t) (View.ld (iblk m c 9 t) (Rect.unit ![2, 0, 0] ![1, 256, 256] inb_S4x256x256_S1x256x256_2_0_0))) (k0_pay44 (TILE t))

/-- The fourth. -/
def N3 : FVec Ideal S256x256 .bf16 :=
  k0_pay49 (k0_pay48 (TILE t) (DPP m c t) (View.ld (iblk m c 9 t) (Rect.unit ![3, 0, 0] ![1, 256, 256] inb_S4x256x256_S1x256x256_3_0_0)))

/-- The gradient of the convolution's input. -/
def DCU (T1 : Vec Ideal S16x1024 .f32) : FVec Ideal S256x1024 .f32 :=
  k0_pay33 (DCONV m c t) (View.ld (iblk m c 7 t) (Rect.unit ![2, 0] ![1, 1024] inb_S8x1024_S1x1024_2_0)) (View.ld (iblk m c 7 t) (Rect.unit ![1, 0] ![1, 1024] inb_S8x1024_S1x1024_1_0)) (ext1 (DCONV m c t) T1 1 (by decide)) (View.ld (iblk m c 7 t) (Rect.unit ![0, 0] ![1, 1024] inb_S8x1024_S1x1024_0_0)) (ext1 (DCONV m c t) T1 2 (by decide))

/-- The gradient of the queries of head 0. -/
def DQ0 : FVec Ideal S256x256 .bf16 :=
  k0_pay61 (k0_pay53 (View.ld (iblk m c 11 t) (Rect.unit ![0, 0] ![256, 256] inb_S256x1024_S256x256_0_0))) (k0_pay55 (View.ld (iblk m c 6 t) (Rect.unit ![0, 0] ![256, 256] inb_S256x1024_S256x256_0_0))) (k0_pay57 (DYX m c t) (View.ld (iblk m c 13 t) (Rect.unit ![0, 0] ![1024, 1024] inb_S1024x1024_S1024x1024_0_0)) (View.ld (iblk m c 12 t) (Rect.unit ![0, 0] ![256, 256] inb_S256x1024_S256x256_0_0))) (k0_pay59 (DYX m c t) (View.ld (iblk m c 13 t) (Rect.unit ![0, 0] ![1024, 1024] inb_S1024x1024_S1024x1024_0_0)) (View.ld (iblk m c 6 t) (Rect.unit ![0, 0] ![256, 256] inb_S256x1024_S256x256_0_0)) (View.ld (iblk m c 12 t) (Rect.unit ![0, 0] ![256, 256] inb_S256x1024_S256x256_0_0)))

/-- The gradient of the queries of head 1. -/
def DQ1 : FVec Ideal S256x256 .bf16 :=
  k0_pay72 (k0_pay64 (View.ld (iblk m c 11 t) (Rect.unit ![0, 256] ![256, 256] inb_S256x1024_S256x256_0_256))) (k0_pay66 (View.ld (iblk m c 6 t) (Rect.unit ![0, 256] ![256, 256] inb_S256x1024_S256x256_0_256))) (k0_pay68 (DO m c t) (View.ld (iblk m c 12 t) (Rect.unit ![0, 256] ![256, 256] inb_S256x1024_S256x256_0_256))) (k0_pay70 (DO m c t) (View.ld (iblk m c 6 t) (Rect.unit ![0, 256] ![256, 256] inb_S256x1024_S256x256_0_256)) (View.ld (iblk m c 12 t) (Rect.unit ![0, 256] ![256, 256] inb_S256x1024_S256x256_0_256)))

/-- The gradient of the queries of head 2. -/
def DQ2 : FVec Ideal S256x256 .bf16 :=
  k0_pay82 (k0_pay75 (View.ld (iblk m c 11 t) (Rect.unit ![0, 512] ![256, 256] inb_S256x1024_S256x256_0_512))) (k0_pay77 (View.ld (iblk m c 6 t) (Rect.unit ![0, 512] ![256, 256] inb_S256x1024_S256x256_0_512))) (k0_pay79 (DO m c t) (View.ld (iblk m c 12 t) (Rect.unit ![0, 512] ![256, 256] inb_S256x1024_S256x256_0_512)))

/-- The gradient of the queries of head 3. -/
def DQ3 : FVec Ideal S256x256 .bf16 :=
  k0_pay92 (k0_pay85 (View.ld (iblk m c 11 t) (Rect.unit ![0, 768] ![256, 256] inb_S256x1024_S256x256_0_768))) (k0_pay87 (View.ld (iblk m c 6 t) (Rect.unit ![0, 768] ![256, 256] inb_S256x1024_S256x256_0_768))) (k0_pay89 (DO m c t) (View.ld (iblk m c 12 t) (Rect.unit ![0, 768] ![256, 256] inb_S256x1024_S256x256_0_768)))

/-- The gradient of the keys of head 0, added to what is in `X`. -/
def DK0 (X : Vec Ideal S256x1024 .f32) : FVec Ideal S256x256 .f32 :=
  k0_pay62 (k0_pay52 (View.ld (iblk m c 1 t) (Rect.unit ![0, 4096] ![256, 256] inb_S256x8192_S256x256_0_4096))) (k0_pay55 (View.ld (iblk m c 6 t) (Rect.unit ![0, 0] ![256, 256] inb_S256x1024_S256x256_0_0))) (k0_pay57 (DYX m c t) (View.ld (iblk m c 13 t) (Rect.unit ![0, 0] ![1024, 1024] inb_S1024x1024_S1024x1024_0_0)) (View.ld (iblk m c 12 t) (Rect.unit ![0, 0] ![256, 256] inb_S256x1024_S256x256_0_0))) (k0_pay59 (DYX m c t) (View.ld (iblk m c 13 t) (Rect.unit ![0, 0] ![1024, 1024] inb_S1024x1024_S1024x1024_0_0)) (View.ld (iblk m c 6 t) (Rect.unit ![0, 0] ![256, 256] inb_S256x1024_S256x256_0_0)) (View.ld (iblk m c 12 t) (Rect.unit ![0, 0] ![256, 256] inb_S256x1024_S256x256_0_0))) (View.ld X (Rect.unit ![0, 0] ![256, 256] inb_S256x1024_S256x256_0_0))

/-- The gradient of the keys of head 1, added to what is in `X`. -/
def DK1 (X : Vec Ideal S256x1024 .f32) : FVec Ideal S256x256 .f32 :=
  k0_pay73 (k0_pay63 (View.ld (iblk m c 1 t) (Rect.unit ![0, 4352] ![256, 256] inb_S256x8192_S256x256_0_4352))) (k0_pay66 (View.ld (iblk m c 6 t) (Rect.unit ![0, 256] ![256, 256] inb_S256x1024_S256x256_0_256))) (k0_pay68 (DO m c t) (View.ld (iblk m c 12 t) (Rect.unit ![0, 256] ![256, 256] inb_S256x1024_S256x256_0_256))) (k0_pay70 (DO m c t) (View.ld (iblk m c 6 t) (Rect.unit ![0, 256] ![256, 256] inb_S256x1024_S256x256_0_256)) (View.ld (iblk m c 12 t) (Rect.unit ![0, 256] ![256, 256] inb_S256x1024_S256x256_0_256))) (View.ld X (Rect.unit ![0, 256] ![256, 256] inb_S256x1024_S256x256_0_256))

/-- The gradient of the keys of head 2, added to what is in `X`. -/
def DK2 (X : Vec Ideal S256x1024 .f32) : FVec Ideal S256x256 .f32 :=
  k0_pay83 (k0_pay74 (View.ld (iblk m c 1 t) (Rect.unit ![0, 4608] ![256, 256] inb_S256x8192_S256x256_0_4608))) (k0_pay77 (View.ld (iblk m c 6 t) (Rect.unit ![0, 512] ![256, 256] inb_S256x1024_S256x256_0_512))) (k0_pay79 (DO m c t) (View.ld (iblk m c 12 t) (Rect.unit ![0, 512] ![256, 256] inb_S256x1024_S256x256_0_512))) (View.ld X (Rect.unit ![0, 512] ![256, 256] inb_S256x1024_S256x256_0_512))

/-- The gradient of the keys of head 3, added to what is in `X`. -/
def DK3 (X : Vec Ideal S256x1024 .f32) : FVec Ideal S256x256 .f32 :=
  k0_pay93 (k0_pay84 (View.ld (iblk m c 1 t) (Rect.unit ![0, 4864] ![256, 256] inb_S256x8192_S256x256_0_4864))) (k0_pay87 (View.ld (iblk m c 6 t) (Rect.unit ![0, 768] ![256, 256] inb_S256x1024_S256x256_0_768))) (k0_pay89 (DO m c t) (View.ld (iblk m c 12 t) (Rect.unit ![0, 768] ![256, 256] inb_S256x1024_S256x256_0_768))) (View.ld X (Rect.unit ![0, 768] ![256, 256] inb_S256x1024_S256x256_0_768))

/-- The gradient of the values of head 0, added to what is in `X`. -/
def DV0 (X : Vec Ideal S256x1024 .f32) : FVec Ideal S256x256 .f32 :=
  k0_pay58 (DYX m c t) (View.ld (iblk m c 13 t) (Rect.unit ![0, 0] ![1024, 1024] inb_S1024x1024_S1024x1024_0_0)) (View.ld (iblk m c 6 t) (Rect.unit ![0, 0] ![256, 256] inb_S256x1024_S256x256_0_0)) (View.ld X (Rect.unit ![0, 0] ![256, 256] inb_S256x1024_S256x256_0_0))

/-- The gradient of the values of head 1, added to what is in `X`. -/
def DV1 (X : Vec Ideal S256x1024 .f32) : FVec Ideal S256x256 .f32 :=
  k0_pay69 (DO m c t) (View.ld (iblk m c 6 t) (Rect.unit ![0, 256] ![256, 256] inb_S256x1024_S256x256_0_256)) (View.ld X (Rect.unit ![0, 256] ![256, 256] inb_S256x1024_S256x256_0_256))

/-- The gradient of the values of head 2, added to what is in `X`. -/
def DV2 (X : Vec Ideal S256x1024 .f32) : FVec Ideal S256x256 .f32 :=
  k0_pay80 (DO m c t) (View.ld (iblk m c 6 t) (Rect.unit ![0, 512] ![256, 256] inb_S256x1024_S256x256_0_512)) (View.ld X (Rect.unit ![0, 512] ![256, 256] inb_S256x1024_S256x256_0_512))

/-- The gradient of the values of head 3, added to what is in `X`. -/
def DV3 (X : Vec Ideal S256x1024 .f32) : FVec Ideal S256x256 .f32 :=
  k0_pay90 (DO m c t) (View.ld (iblk m c 6 t) (Rect.unit ![0, 768] ![256, 256] inb_S256x1024_S256x256_0_768)) (View.ld X (Rect.unit ![0, 768] ![256, 256] inb_S256x1024_S256x256_0_768))

/-- The gradient of the inputs of pooling group 0. -/
def DU0 (T2 : Vec Ideal S128x1024 .bf16) : FVec Ideal S256x256 .bf16 :=
  k0_pay38 (DPP m c t) (View.ld (iblk m c 9 t) (Rect.unit ![0, 0, 0] ![1, 256, 256] inb_S4x256x256_S1x256x256_0_0_0)) (View.ld (iblk m c 15 t) (Rect.unit ![0, 0, 0] ![1, 256, 384] inb_S4x256x384_S1x256x384_0_0_0)) (ext2 (N0 m c t) T2 0 (by decide))

/-- The gradient of the inputs of pooling group 1. -/
def DU1 (T2 : Vec Ideal S128x1024 .bf16) : FVec Ideal S256x256 .bf16 :=
  k0_pay42 (k0_pay39 (DPP m c t)) (View.ld (iblk m c 9 t) (Rect.unit ![1, 0, 0] ![1, 256, 256] inb_S4x256x256_S1x256x256_1_0_0)) (View.ld (iblk m c 15 t) (Rect.unit ![1, 0, 0] ![1, 256, 384] inb_S4x256x384_S1x256x384_1_0_0)) (ext2 (N1 m c t) T2 256 (by decide))

/-- The gradient of the inputs of pooling group 2. -/
def DU2 (T2 : Vec Ideal S128x1024 .bf16) : FVec Ideal S256x256 .bf16 :=
  k0_pay46 (k0_pay43 (DPP m c t) (View.ld (iblk m c 9 t) (Rect.unit ![2, 0, 0] ![1, 256, 256] inb_S4x256x256_S1x256x256_2_0_0))) (View.ld (iblk m c 15 t) (Rect.unit ![2, 0, 0] ![1, 256, 384] inb_S4x256x384_S1x256x384_2_0_0)) (ext2 (N2 m c t) T2 512 (by decide))

/-- The gradient of the inputs of pooling group 3. -/
def DU3 (T2 : Vec Ideal S128x1024 .bf16) : FVec Ideal S256x256 .bf16 :=
  k0_pay50 (k0_pay47 (DPP m c t) (View.ld (iblk m c 9 t) (Rect.unit ![3, 0, 0] ![1, 256, 256] inb_S4x256x256_S1x256x256_3_0_0))) (View.ld (iblk m c 15 t) (Rect.unit ![3, 0, 0] ![1, 256, 384] inb_S4x256x384_S1x256x384_3_0_0)) (ext2 (N3 m c t) T2 768 (by decide))

/-- The gradient of the keys, added to what is in `X`. -/
def dkOf (X : Vec Ideal S256x1024 .f32) : Vec Ideal S256x1024 .f32 :=
  View.canon [⟨Rect.unit ![0, 768] ![256, 256] inb_S256x1024_S256x256_0_768, DK3 m c t X⟩,
    ⟨Rect.unit ![0, 512] ![256, 256] inb_S256x1024_S256x256_0_512, DK2 m c t X⟩,
    ⟨Rect.unit ![0, 256] ![256, 256] inb_S256x1024_S256x256_0_256, DK1 m c t X⟩,
    ⟨Rect.unit ![0, 0] ![256, 256] inb_S256x1024_S256x256_0_0, DK0 m c t X⟩]

/-- The gradient of the values, added to what is in `X`. -/
def dvOf (X : Vec Ideal S256x1024 .f32) : Vec Ideal S256x1024 .f32 :=
  View.canon [⟨Rect.unit ![0, 768] ![256, 256] inb_S256x1024_S256x256_0_768, DV3 m c t X⟩,
    ⟨Rect.unit ![0, 512] ![256, 256] inb_S256x1024_S256x256_0_512, DV2 m c t X⟩,
    ⟨Rect.unit ![0, 256] ![256, 256] inb_S256x1024_S256x256_0_256, DV1 m c t X⟩,
    ⟨Rect.unit ![0, 0] ![256, 256] inb_S256x1024_S256x256_0_0, DV0 m c t X⟩]

/-- The gradient of the scale, added to row 1 of `X`. -/
def ST1 (X : Vec Ideal S8x1024 .f32) : FVec Ideal S1x1024 .f32 :=
  k0_pay19 (k0_pay11 (View.ld (iblk m c 4 t) (Rect.unit ![0, 0] ![256, 1024] inb_S256x1024_S256x1024_0_0))) (DYP m c t) (View.ld X (Rect.unit ![1, 0] ![1, 1024] inb_S8x1024_S1x1024_1_0))

/-- The gradient of the first row of taps, added to row 5. -/
def ST5 (X : Vec Ideal S8x1024 .f32) : FVec Ideal S1x1024 .f32 :=
  k0_pay29 (DA m c t) (ext0 (CU m c t) (HALO m c t) 14 (by decide)) (View.ld (iblk m c 1 t) (Rect.unit ![0, 0] ![256, 1024] inb_S256x8192_S256x1024_0_0)) (View.ld X (Rect.unit ![5, 0] ![1, 1024] inb_S8x1024_S1x1024_5_0))

/-- The second row of taps, row 6. -/
def ST6 (X : Vec Ideal S8x1024 .f32) : FVec Ideal S1x1024 .f32 :=
  k0_pay30 (ext0 (CU m c t) (HALO m c t) 15 (by decide)) (DCONV m c t) (View.ld X (Rect.unit ![6, 0] ![1, 1024] inb_S8x1024_S1x1024_6_0))

/-- The third row of taps, row 7. -/
def ST7 (X : Vec Ideal S8x1024 .f32) : FVec Ideal S1x1024 .f32 :=
  k0_pay31 (CU m c t) (DCONV m c t) (View.ld X (Rect.unit ![7, 0] ![1, 1024] inb_S8x1024_S1x1024_7_0))

/-- The gradient of the projected inputs, its blocks of columns side by side. -/
def dprojOf (T1 : Vec Ideal S16x1024 .f32) (T2 : Vec Ideal S128x1024 .bf16) : Vec Ideal S256x8192 .bf16 :=
  View.canon [⟨Rect.unit ![0, 4864] ![256, 256] inb_S256x8192_S256x256_0_4864, DQ3 m c t⟩,
    ⟨Rect.unit ![0, 4608] ![256, 256] inb_S256x8192_S256x256_0_4608, DQ2 m c t⟩,
    ⟨Rect.unit ![0, 4352] ![256, 256] inb_S256x8192_S256x256_0_4352, DQ1 m c t⟩,
    ⟨Rect.unit ![0, 4096] ![256, 256] inb_S256x8192_S256x256_0_4096, DQ0 m c t⟩,
    ⟨Rect.unit ![0, 3840] ![256, 256] inb_S256x8192_S256x256_0_3840, DU3 m c t T2⟩,
    ⟨Rect.unit ![0, 3584] ![256, 256] inb_S256x8192_S256x256_0_3584, DU2 m c t T2⟩,
    ⟨Rect.unit ![0, 3328] ![256, 256] inb_S256x8192_S256x256_0_3328, DU1 m c t T2⟩,
    ⟨Rect.unit ![0, 3072] ![256, 256] inb_S256x8192_S256x256_0_3072, DU0 m c t T2⟩,
    ⟨Rect.unit ![0, 2048] ![256, 1024] inb_S256x8192_S256x1024_0_2048, k0_pay35 (k0_pay22 (View.ld (iblk m c 1 t) (Rect.unit ![0, 1024] ![256, 1024] inb_S256x8192_S256x1024_0_1024))) (DCU m c t T1)⟩,
    ⟨Rect.unit ![0, 1024] ![256, 1024] inb_S256x8192_S256x1024_0_1024, k0_pay34 (k0_pay23 (View.ld (iblk m c 1 t) (Rect.unit ![0, 2048] ![256, 1024] inb_S256x8192_S256x1024_0_2048))) (DCONV m c t) (View.ld (iblk m c 7 t) (Rect.unit ![2, 0] ![1, 1024] inb_S8x1024_S1x1024_2_0)) (View.ld (iblk m c 7 t) (Rect.unit ![1, 0] ![1, 1024] inb_S8x1024_S1x1024_1_0)) (ext1 (DCONV m c t) T1 1 (by decide)) (View.ld (iblk m c 7 t) (Rect.unit ![0, 0] ![1, 1024] inb_S8x1024_S1x1024_0_0)) (ext1 (DCONV m c t) T1 2 (by decide))⟩,
    ⟨Rect.unit ![0, 0] ![256, 1024] inb_S256x8192_S256x1024_0_0, k0_pay27 (DA m c t) (CU m c t) (ext0 (CU m c t) (HALO m c t) 15 (by decide)) (ext0 (CU m c t) (HALO m c t) 14 (by decide)) (View.ld (iblk m c 7 t) (Rect.unit ![2, 0] ![1, 1024] inb_S8x1024_S1x1024_2_0)) (View.ld (iblk m c 7 t) (Rect.unit ![1, 0] ![1, 1024] inb_S8x1024_S1x1024_1_0)) (View.ld (iblk m c 7 t) (Rect.unit ![0, 0] ![1, 1024] inb_S8x1024_S1x1024_0_0))⟩,
    ⟨Rect.unit ![0, 7168] ![256, 1024] inb_S256x8192_S256x1024_0_7168, k0_pay15 (DM m c t) (k0_pay9 (View.ld (iblk m c 1 t) (Rect.unit ![0, 7168] ![256, 1024] inb_S256x8192_S256x1024_0_7168))) (View.ld (iblk m c 5 t) (Rect.unit ![0, 0] ![256, 1024] inb_S256x1024_S256x1024_0_0))⟩,
    ⟨Rect.unit ![0, 6144] ![256, 1024] inb_S256x8192_S256x1024_0_6144, k0_pay14 (DM m c t) (k0_pay8 (View.ld (iblk m c 1 t) (Rect.unit ![0, 6144] ![256, 1024] inb_S256x8192_S256x1024_0_6144))) (View.ld (iblk m c 4 t) (Rect.unit ![0, 0] ![256, 1024] inb_S256x1024_S256x1024_0_0)) (View.ld (iblk m c 10 t) (Rect.unit ![0, 0] ![1, 1024] inb_S1x1024_S1x1024_0_0))⟩,
    ⟨Rect.unit ![0, 5120] ![256, 1024] inb_S256x8192_S256x1024_0_5120, k0_pay13 (DM m c t) (k0_pay7 (View.ld (iblk m c 1 t) (Rect.unit ![0, 5120] ![256, 1024] inb_S256x8192_S256x1024_0_5120))) (View.ld (iblk m c 3 t) (Rect.unit ![0, 0] ![256, 1024] inb_S256x1024_S256x1024_0_0))⟩]

/-! Loads of the scratch buffers, read as these. -/

theorem ext1_first {sp : Space} {κ : Kind} (v : View sig κ sp S272x1024 .f32) (A : Vec Ideal S256x1024 .f32) (T : Vec Ideal S16x1024 .f32) (k : ℕ) (hk : k ≤ 16)
    (inb0 : ∀ a, (![0, 0] : Fin 2 → ℕ) a + (![256, 1024] : Fin 2 → ℕ) a ≤ S272x1024.size a)
    (inb1 : ∀ a, (![256, 0] : Fin 2 → ℕ) a + (![16, 1024] : Fin 2 → ℕ) a ≤ S272x1024.size a)
    (inbk : ∀ a, (![k, 0] : Fin 2 → ℕ) a + (![256, 1024] : Fin 2 → ℕ) a ≤ S272x1024.size a) :
    v.readCov [⟨Rect.unit ![0, 0] ![256, 1024] inb0, A⟩, ⟨Rect.unit ![256, 0] ![16, 1024] inb1, T⟩]
      (Rect.unit (s := S272x1024) ![k, 0] ![256, 1024] inbk).toLoadRect = ext1 A T k hk := by
  funext y
  obtain ⟨i, j, rfl⟩ : ∃ (i : Fin 256) (j : Fin 1024), y = ix2 i j := ⟨y 0, y 1, eq_ix2 y⟩
  refine (readCov_at (Val := Elt Ideal) v _ inbk i j (by omega) (by omega)).trans ?_
  rw [ext1, ofIx_apply]
  by_cases h : i.val + k < 256
  · rw [dif_pos h]
    refine (canon_in (Val := Elt Ideal) inb0 _ _ _ _ (by simp) (by simp; omega) (by simp) (by simp)).trans ?_
    exact congrArg A (congrArg₂ ix2 (Fin.ext (by simp; omega)) (Fin.ext (by simp)))
  · rw [dif_neg h]
    refine (canon_out (Val := Elt Ideal) inb0 _ _ _ _ (by simp; omega)).trans ?_
    refine (canon_in (Val := Elt Ideal) inb1 _ _ _ _ (by simp; omega) (by simp; omega) (by simp) (by simp)).trans ?_
    exact congrArg T (congrArg₂ ix2 (Fin.ext (by simp; omega)) (Fin.ext (by simp)))

theorem ext0_first {sp : Space} {κ : Kind} (v : View sig κ sp S272x1024 .f32) (A : Vec Ideal S256x1024 .f32) (T : Vec Ideal S16x1024 .f32) (k : ℕ) (hk : k ≤ 16)
    (inb0 : ∀ a, (![16, 0] : Fin 2 → ℕ) a + (![256, 1024] : Fin 2 → ℕ) a ≤ S272x1024.size a)
    (inb1 : ∀ a, (![0, 0] : Fin 2 → ℕ) a + (![16, 1024] : Fin 2 → ℕ) a ≤ S272x1024.size a)
    (inbk : ∀ a, (![k, 0] : Fin 2 → ℕ) a + (![256, 1024] : Fin 2 → ℕ) a ≤ S272x1024.size a) :
    v.readCov [⟨Rect.unit ![16, 0] ![256, 1024] inb0, A⟩, ⟨Rect.unit ![0, 0] ![16, 1024] inb1, T⟩]
      (Rect.unit (s := S272x1024) ![k, 0] ![256, 1024] inbk).toLoadRect = ext0 A T k hk := by
  funext y
  obtain ⟨i, j, rfl⟩ : ∃ (i : Fin 256) (j : Fin 1024), y = ix2 i j := ⟨y 0, y 1, eq_ix2 y⟩
  refine (readCov_at (Val := Elt Ideal) v _ inbk i j (by omega) (by omega)).trans ?_
  rw [ext0, ofIx_apply]
  by_cases h : i.val + k < 16
  · rw [dif_pos h]
    refine (canon_out (Val := Elt Ideal) inb0 _ _ _ _ (by simp; omega)).trans ?_
    refine (canon_in (Val := Elt Ideal) inb1 _ _ _ _ (by simp) (by simp; omega) (by simp) (by simp)).trans ?_
    exact congrArg T (congrArg₂ ix2 (Fin.ext (by simp; omega)) (Fin.ext (by simp)))
  · rw [dif_neg h]
    refine (canon_in (Val := Elt Ideal) inb0 _ _ _ _ (by simp; omega) (by simp; omega) (by simp) (by simp)).trans ?_
    exact congrArg A (congrArg₂ ix2 (Fin.ext (by simp; omega)) (Fin.ext (by simp)))

theorem ext1_next {sp : Space} {κ : Kind} (v : View sig κ sp S272x1024 .f32) (f : v.ty.Contents (Elt Ideal)) (P : Vec Ideal S272x1024 .f32)
    (hf : v.read (Elt Ideal) f = P) (A : Vec Ideal S256x1024 .f32) (k : ℕ) (hk : k ≤ 16)
    (inb0 : ∀ a, (![0, 0] : Fin 2 → ℕ) a + (![256, 1024] : Fin 2 → ℕ) a ≤ S272x1024.size a)
    (inbk : ∀ a, (![k, 0] : Fin 2 → ℕ) a + (![256, 1024] : Fin 2 → ℕ) a ≤ S272x1024.size a) :
    View.ld (v.read (Elt Ideal) (v.writes (Elt Ideal) f [⟨Rect.unit ![0, 0] ![256, 1024] inb0, A⟩]))
      (Rect.unit (s := S272x1024) ![k, 0] ![256, 1024] inbk) = ext1 A (tail1 P) k hk := by
  funext y
  obtain ⟨i, j, rfl⟩ : ∃ (i : Fin 256) (j : Fin 1024), y = ix2 i j := ⟨y 0, y 1, eq_ix2 y⟩
  refine (ld_at (Val := Elt Ideal) _ inbk i j (by omega) (by omega)).trans ?_
  rw [ext1, ofIx_apply, tail1]
  by_cases h : i.val + k < 256
  · rw [dif_pos h]
    refine (writes_in (Val := Elt Ideal) v f inb0 _ _ _ _ (by simp) (by simp; omega) (by simp) (by simp)).trans ?_
    exact congrArg A (congrArg₂ ix2 (Fin.ext (by simp; omega)) (Fin.ext (by simp)))
  · rw [dif_neg h]
    refine (writes_out (Val := Elt Ideal) v f inb0 _ _ _ _ (by simp; omega)).trans ?_
    rw [View.writes_nil, hf, ofIx_apply]
    exact congrArg P (congrArg₂ ix2 (Fin.ext (by simp; omega)) (Fin.ext (by simp)))

section Pool

variable {sp : Space} {κ : Kind} (v : View sig κ sp S384x1024 .bf16)

/-- Below the tile the stores of `L` leave `T`. -/
def Below (L : List (View.Piece (Elt Ideal) S384x1024 .bf16)) (T : Vec Ideal S128x1024 .bf16) : Prop :=
  ∀ (i : Fin 384) (j : Fin 1024) (h : 256 ≤ i.val), View.canon (Val := Elt Ideal) (s := S384x1024) (e := .bf16) L (ix2 i j) = T (ix2 ⟨i.val - 256, by omega⟩ j)

theorem below_base (T : Vec Ideal S128x1024 .bf16) (inb : ∀ a, (![256, 0] : Fin 2 → ℕ) a + (![128, 1024] : Fin 2 → ℕ) a ≤ S384x1024.size a) :
    Below [⟨Rect.unit ![256, 0] ![128, 1024] inb, T⟩] T := fun i j h => by
  rw [canon_in (Val := Elt Ideal) inb _ _ _ _ h (by omega) (by omega) (by omega)]
  rfl

theorem below_cons {L : List (View.Piece (Elt Ideal) S384x1024 .bf16)} {T : Vec Ideal S128x1024 .bf16} (hL : Below L T) (N : Vec Ideal S256x256 .bf16) (j₀ : ℕ)
    (inb : ∀ a, (![0, j₀] : Fin 2 → ℕ) a + (![256, 256] : Fin 2 → ℕ) a ≤ S384x1024.size a) :
    Below (⟨Rect.unit ![0, j₀] ![256, 256] inb, N⟩ :: L) T := fun i j h => by
  rw [canon_out (Val := Elt Ideal) inb _ _ _ _ (by omega)]
  exact hL i j h

theorem ext2_first {L : List (View.Piece (Elt Ideal) S384x1024 .bf16)} {T : Vec Ideal S128x1024 .bf16} (hL : Below L T) (N : Vec Ideal S256x256 .bf16) (j₀ : ℕ) (hj : j₀ ≤ 768)
    (inb : ∀ a, (![0, j₀] : Fin 2 → ℕ) a + (![256, 256] : Fin 2 → ℕ) a ≤ S384x1024.size a)
    (inb' : ∀ a, (![0, j₀] : Fin 2 → ℕ) a + (![384, 256] : Fin 2 → ℕ) a ≤ S384x1024.size a) :
    v.readCov (⟨Rect.unit ![0, j₀] ![256, 256] inb, N⟩ :: L) (Rect.unit (s := S384x1024) ![0, j₀] ![384, 256] inb').toLoadRect = ext2 N T j₀ hj := by
  funext y
  obtain ⟨i, j, rfl⟩ : ∃ (i : Fin 384) (j : Fin 256), y = ix2 i j := ⟨y 0, y 1, eq_ix2 y⟩
  refine (readCov_at (Val := Elt Ideal) v _ inb' i j (by omega) (by omega)).trans ?_
  rw [ext2, ofIx_apply]
  by_cases h : i.val < 256
  · rw [dif_pos h]
    refine (canon_in (Val := Elt Ideal) inb _ _ _ _ (by simp) (by simp; omega) (by simp) (by simp)).trans ?_
    exact congrArg N (congrArg₂ ix2 (Fin.ext (by simp)) (Fin.ext (by simp)))
  · rw [dif_neg h]
    refine (canon_out (Val := Elt Ideal) inb _ _ _ _ (by simp; omega)).trans ?_
    refine (hL _ _ (by simp; omega)).trans ?_
    exact congrArg T (congrArg₂ ix2 (Fin.ext (by simp)) rfl)

/-- The same of stores into a buffer that holds something. -/
def BelowAt (f : v.ty.Contents (Elt Ideal)) (L : List (View.Piece (Elt Ideal) S384x1024 .bf16)) (T : Vec Ideal S128x1024 .bf16) : Prop :=
  ∀ (i : Fin 384) (j : Fin 1024) (h : 256 ≤ i.val), v.read (Elt Ideal) (v.writes (Elt Ideal) f L) (ix2 i j) = T (ix2 ⟨i.val - 256, by omega⟩ j)

theorem belowAt_nil {f : v.ty.Contents (Elt Ideal)} {P : Vec Ideal S384x1024 .bf16} (hf : v.read (Elt Ideal) f = P) : BelowAt v f [] (tail2 P) := fun i j h => by
  rw [View.writes_nil, hf, tail2, ofIx_apply]
  exact congrArg P (congrArg₂ ix2 (Fin.ext (by simp; omega)) rfl)

theorem belowAt_cons {f : v.ty.Contents (Elt Ideal)} {L : List (View.Piece (Elt Ideal) S384x1024 .bf16)} {T : Vec Ideal S128x1024 .bf16} (hL : BelowAt v f L T) (N : Vec Ideal S256x256 .bf16) (j₀ : ℕ)
    (inb : ∀ a, (![0, j₀] : Fin 2 → ℕ) a + (![256, 256] : Fin 2 → ℕ) a ≤ S384x1024.size a) :
    BelowAt v f (⟨Rect.unit ![0, j₀] ![256, 256] inb, N⟩ :: L) T := fun i j h => by
  refine (writes_out (Val := Elt Ideal) v f inb _ _ _ _ (by omega)).trans ?_
  exact hL i j h

theorem ext2_next {f : v.ty.Contents (Elt Ideal)} {L : List (View.Piece (Elt Ideal) S384x1024 .bf16)} {T : Vec Ideal S128x1024 .bf16} (hL : BelowAt v f L T) (N : Vec Ideal S256x256 .bf16) (j₀ : ℕ) (hj : j₀ ≤ 768)
    (inb : ∀ a, (![0, j₀] : Fin 2 → ℕ) a + (![256, 256] : Fin 2 → ℕ) a ≤ S384x1024.size a)
    (inb' : ∀ a, (![0, j₀] : Fin 2 → ℕ) a + (![384, 256] : Fin 2 → ℕ) a ≤ S384x1024.size a) :
    View.ld (v.read (Elt Ideal) (v.writes (Elt Ideal) f (⟨Rect.unit ![0, j₀] ![256, 256] inb, N⟩ :: L))) (Rect.unit (s := S384x1024) ![0, j₀] ![384, 256] inb') = ext2 N T j₀ hj := by
  funext y
  obtain ⟨i, j, rfl⟩ : ∃ (i : Fin 384) (j : Fin 256), y = ix2 i j := ⟨y 0, y 1, eq_ix2 y⟩
  refine (ld_at (Val := Elt Ideal) _ inb' i j (by omega) (by omega)).trans ?_
  rw [ext2, ofIx_apply]
  by_cases h : i.val < 256
  · rw [dif_pos h]
    refine (writes_in (Val := Elt Ideal) v f inb _ _ _ _ (by simp) (by simp; omega) (by simp) (by simp)).trans ?_
    exact congrArg N (congrArg₂ ix2 (Fin.ext (by simp)) (Fin.ext (by simp)))
  · rw [dif_neg h]
    refine (writes_out (Val := Elt Ideal) v f inb _ _ _ _ (by simp; omega)).trans ?_
    refine (hL _ _ (by simp; omega)).trans ?_
    exact congrArg T (congrArg₂ ix2 (Fin.ext (by simp)) rfl)

end Pool

/-- The sixteen upper rows. -/
def top1 (A : Vec Ideal S256x1024 .f32) : Vec Ideal S16x1024 .f32 := ofIx fun i j => A (ix2 ⟨i.val, by omega⟩ j)

/-- The sixteen upper rows of the four groups, above what was below. -/
def carry2 (A0 A1 A2 A3 : Vec Ideal S256x256 .bf16) (T : Vec Ideal S128x1024 .bf16) : Vec Ideal S128x1024 .bf16 :=
  ofIx fun i j => if h : i.val < 16 then
      (if h0 : j.val < 256 then A0 (ix2 ⟨i.val, by omega⟩ ⟨j.val, h0⟩)
      else if h1 : j.val < 512 then A1 (ix2 ⟨i.val, by omega⟩ ⟨j.val - 256, by omega⟩)
      else if h2 : j.val < 768 then A2 (ix2 ⟨i.val, by omega⟩ ⟨j.val - 512, by omega⟩)
      else A3 (ix2 ⟨i.val, by omega⟩ ⟨j.val - 768, by omega⟩))
    else T (ix2 i j)

section Leaves

variable {sp : Space} {κ : Kind}

/-- Four blocks of columns cover a buffer of 1024 columns, whatever was stored first. -/
theorem cols4 {e : EltTy} (p0 p1 p2 p3 : (Sh 256 256).Idx → Elt Ideal e) (W : (Sh 256 1024).Idx → Elt Ideal e)
    (i0 : ∀ a, (![0, 0] : Fin 2 → ℕ) a + (![256, 256] : Fin 2 → ℕ) a ≤ (Sh 256 1024).size a)
    (i1 : ∀ a, (![0, 256] : Fin 2 → ℕ) a + (![256, 256] : Fin 2 → ℕ) a ≤ (Sh 256 1024).size a)
    (i2 : ∀ a, (![0, 512] : Fin 2 → ℕ) a + (![256, 256] : Fin 2 → ℕ) a ≤ (Sh 256 1024).size a)
    (i3 : ∀ a, (![0, 768] : Fin 2 → ℕ) a + (![256, 256] : Fin 2 → ℕ) a ≤ (Sh 256 1024).size a)
    (iw : ∀ a, (![0, 0] : Fin 2 → ℕ) a + (![256, 1024] : Fin 2 → ℕ) a ≤ (Sh 256 1024).size a) :
    View.canon (Val := Elt Ideal) (s := Sh 256 1024) (e := e) [⟨Rect.unit ![0, 768] ![256, 256] i3, p3⟩, ⟨Rect.unit ![0, 512] ![256, 256] i2, p2⟩, ⟨Rect.unit ![0, 256] ![256, 256] i1, p1⟩,
        ⟨Rect.unit ![0, 0] ![256, 256] i0, p0⟩, ⟨Rect.unit ![0, 0] ![256, 1024] iw, W⟩]
      = View.canon (Val := Elt Ideal) (s := Sh 256 1024) (e := e) [⟨Rect.unit ![0, 768] ![256, 256] i3, p3⟩, ⟨Rect.unit ![0, 512] ![256, 256] i2, p2⟩, ⟨Rect.unit ![0, 256] ![256, 256] i1, p1⟩,
        ⟨Rect.unit ![0, 0] ![256, 256] i0, p0⟩] := by
  funext y
  obtain ⟨i, j, rfl⟩ : ∃ (i : Fin 256) (j : Fin 1024), y = ix2 i j := ⟨y 0, y 1, eq_ix2 y⟩
  by_cases h3 : 768 ≤ j.val
  · rw [canon_in (Val := Elt Ideal) i3 _ _ _ _ (by omega) (by omega) (by omega) (by omega), canon_in (Val := Elt Ideal) i3 _ _ _ _ (by omega) (by omega) (by omega) (by omega)]
  rw [canon_out (Val := Elt Ideal) i3 _ _ _ _ (by omega), canon_out (Val := Elt Ideal) i3 _ _ _ _ (by omega)]
  by_cases h2 : 512 ≤ j.val
  · rw [canon_in (Val := Elt Ideal) i2 _ _ _ _ (by omega) (by omega) (by omega) (by omega), canon_in (Val := Elt Ideal) i2 _ _ _ _ (by omega) (by omega) (by omega) (by omega)]
  rw [canon_out (Val := Elt Ideal) i2 _ _ _ _ (by omega), canon_out (Val := Elt Ideal) i2 _ _ _ _ (by omega)]
  by_cases h1 : 256 ≤ j.val
  · rw [canon_in (Val := Elt Ideal) i1 _ _ _ _ (by omega) (by omega) (by omega) (by omega), canon_in (Val := Elt Ideal) i1 _ _ _ _ (by omega) (by omega) (by omega) (by omega)]
  rw [canon_out (Val := Elt Ideal) i1 _ _ _ _ (by omega), canon_out (Val := Elt Ideal) i1 _ _ _ _ (by omega),
    canon_in (Val := Elt Ideal) i0 _ _ _ _ (by omega) (by omega) (by omega) (by omega), canon_in (Val := Elt Ideal) i0 _ _ _ _ (by omega) (by omega) (by omega) (by omega)]

/-- The rows that the point leaves below the tile of the first scratch buffer. -/
theorem tail1_canon (v : View sig κ sp S272x1024 .f32) (A : Vec Ideal S256x1024 .f32) (L M : List (View.Piece (Elt Ideal) S272x1024 .f32))
    (ib : ∀ a, (![256, 0] : Fin 2 → ℕ) a + (![16, 1024] : Fin 2 → ℕ) a ≤ S272x1024.size a)
    (ia : ∀ a, (![0, 0] : Fin 2 → ℕ) a + (![256, 1024] : Fin 2 → ℕ) a ≤ S272x1024.size a)
    (il : ∀ a, (![0, 0] : Fin 2 → ℕ) a + (![16, 1024] : Fin 2 → ℕ) a ≤ S272x1024.size a) :
    tail1 (View.canon (Val := Elt Ideal) (s := S272x1024) (e := .f32) (⟨Rect.unit ![256, 0] ![16, 1024] ib,
      v.readCov (⟨Rect.unit ![0, 0] ![256, 1024] ia, A⟩ :: L) (Rect.unit (s := S272x1024) ![0, 0] ![16, 1024] il).toLoadRect⟩ :: M)) = top1 A := by
  funext y
  obtain ⟨i, j, rfl⟩ : ∃ (i : Fin 16) (j : Fin 1024), y = ix2 i j := ⟨y 0, y 1, eq_ix2 y⟩
  rw [tail1, top1, ofIx_apply, ofIx_apply]
  refine (canon_in (Val := Elt Ideal) ib _ _ _ _ (by simp) (by simp; omega) (by simp) (by simp)).trans ?_
  refine (readCov_at (Val := Elt Ideal) v _ il _ _ (by simp; omega) (by simp)).trans ?_
  refine (canon_in (Val := Elt Ideal) ia _ _ _ _ (by simp) (by simp; omega) (by simp) (by simp)).trans ?_
  exact congrArg A (congrArg₂ ix2 (Fin.ext (by simp)) (Fin.ext (by simp)))

section Carry

variable (v : View sig κ sp S384x1024 .bf16) (A0 A1 A2 A3 : Vec Ideal S256x256 .bf16) (T : Vec Ideal S128x1024 .bf16)
  (i0 : ∀ a, (![0, 0] : Fin 2 → ℕ) a + (![256, 256] : Fin 2 → ℕ) a ≤ S384x1024.size a)
  (i1 : ∀ a, (![0, 256] : Fin 2 → ℕ) a + (![256, 256] : Fin 2 → ℕ) a ≤ S384x1024.size a)
  (i2 : ∀ a, (![0, 512] : Fin 2 → ℕ) a + (![256, 256] : Fin 2 → ℕ) a ≤ S384x1024.size a)
  (i3 : ∀ a, (![0, 768] : Fin 2 → ℕ) a + (![256, 256] : Fin 2 → ℕ) a ≤ S384x1024.size a)
  (ib : ∀ a, (![256, 0] : Fin 2 → ℕ) a + (![16, 1024] : Fin 2 → ℕ) a ≤ S384x1024.size a)
  (il : ∀ a, (![0, 0] : Fin 2 → ℕ) a + (![16, 1024] : Fin 2 → ℕ) a ≤ S384x1024.size a)

/-- The four groups' stores, the last first, before the stores of `L`. -/
abbrev four (L : List (View.Piece (Elt Ideal) S384x1024 .bf16)) : List (View.Piece (Elt Ideal) S384x1024 .bf16) :=
  ⟨Rect.unit ![0, 768] ![256, 256] i3, A3⟩ :: ⟨Rect.unit ![0, 512] ![256, 256] i2, A2⟩ :: ⟨Rect.unit ![0, 256] ![256, 256] i1, A1⟩
    :: ⟨Rect.unit ![0, 0] ![256, 256] i0, A0⟩ :: L

theorem four_top (L : List (View.Piece (Elt Ideal) S384x1024 .bf16)) (i : Fin 16) (j : Fin 1024) :
    v.readCov (four A0 A1 A2 A3 i0 i1 i2 i3 L) (Rect.unit (s := S384x1024) ![0, 0] ![16, 1024] il).toLoadRect (ix2 i j)
      = (if h0 : j.val < 256 then A0 (ix2 ⟨i.val, by omega⟩ ⟨j.val, h0⟩)
      else if h1 : j.val < 512 then A1 (ix2 ⟨i.val, by omega⟩ ⟨j.val - 256, by omega⟩)
      else if h2 : j.val < 768 then A2 (ix2 ⟨i.val, by omega⟩ ⟨j.val - 512, by omega⟩)
      else A3 (ix2 ⟨i.val, by omega⟩ ⟨j.val - 768, by omega⟩)) := by
  refine (readCov_at (Val := Elt Ideal) v _ il _ _ (by omega) (by omega)).trans ?_
  split
  · refine (canon_out (Val := Elt Ideal) i3 _ _ _ _ (by simp; omega)).trans ?_
    refine (canon_out (Val := Elt Ideal) i2 _ _ _ _ (by simp; omega)).trans ?_
    refine (canon_out (Val := Elt Ideal) i1 _ _ _ _ (by simp; omega)).trans ?_
    refine (canon_in (Val := Elt Ideal) i0 _ _ _ _ (by simp) (by simp; omega) (by simp) (by simp; omega)).trans ?_
    exact congrArg A0 (congrArg₂ ix2 (Fin.ext (by simp)) (Fin.ext (by simp)))
  split
  · refine (canon_out (Val := Elt Ideal) i3 _ _ _ _ (by simp; omega)).trans ?_
    refine (canon_out (Val := Elt Ideal) i2 _ _ _ _ (by simp; omega)).trans ?_
    refine (canon_in (Val := Elt Ideal) i1 _ _ _ _ (by simp) (by simp; omega) (by dsimp only; omega) (by dsimp only; omega)).trans ?_
    exact congrArg A1 (congrArg₂ ix2 (Fin.ext (by simp)) (Fin.ext (by simp)))
  split
  · refine (canon_out (Val := Elt Ideal) i3 _ _ _ _ (by simp; omega)).trans ?_
    refine (canon_in (Val := Elt Ideal) i2 _ _ _ _ (by simp) (by simp; omega) (by dsimp only; omega) (by dsimp only; omega)).trans ?_
    exact congrArg A2 (congrArg₂ ix2 (Fin.ext (by simp)) (Fin.ext (by simp)))
  · refine (canon_in (Val := Elt Ideal) i3 _ _ _ _ (by simp) (by simp; omega) (by dsimp only; omega) (by dsimp only; omega)).trans ?_
    exact congrArg A3 (congrArg₂ ix2 (Fin.ext (by simp)) (Fin.ext (by simp)))

/-- The rows that the first point leaves below the tile of the second scratch buffer. -/
theorem carry_first (L : List (View.Piece (Elt Ideal) S384x1024 .bf16)) {M : List (View.Piece (Elt Ideal) S384x1024 .bf16)} {T : Vec Ideal S128x1024 .bf16} (hM : Below M T) :
    tail2 (View.canon (Val := Elt Ideal) (s := S384x1024) (e := .bf16) (⟨Rect.unit ![256, 0] ![16, 1024] ib,
      v.readCov (four A0 A1 A2 A3 i0 i1 i2 i3 L) (Rect.unit (s := S384x1024) ![0, 0] ![16, 1024] il).toLoadRect⟩ :: M)) = carry2 A0 A1 A2 A3 T := by
  funext y
  obtain ⟨i, j, rfl⟩ : ∃ (i : Fin 128) (j : Fin 1024), y = ix2 i j := ⟨y 0, y 1, eq_ix2 y⟩
  rw [tail2, carry2, ofIx_apply, ofIx_apply]
  by_cases h : i.val < 16
  · rw [dif_pos h]
    refine (canon_in (Val := Elt Ideal) ib _ _ _ _ (by simp) (by simp; omega) (by simp) (by simp)).trans ?_
    refine (congrArg _ (congrArg₂ ix2 (Fin.ext (by simp)) (Fin.ext (by simp)))).trans (four_top v A0 A1 A2 A3 i0 i1 i2 i3 il L ⟨i.val, h⟩ j)
  · rw [dif_neg h]
    refine (canon_out (Val := Elt Ideal) ib _ _ _ _ (by simp; omega)).trans ?_
    refine (hM _ _ (by simp)).trans ?_
    exact congrArg T (congrArg₂ ix2 (Fin.ext (by simp)) rfl)

/-- Those that a later point leaves. -/
theorem carry_next (L : List (View.Piece (Elt Ideal) S384x1024 .bf16)) {f : v.ty.Contents (Elt Ideal)} {M : List (View.Piece (Elt Ideal) S384x1024 .bf16)} {T : Vec Ideal S128x1024 .bf16} (hM : BelowAt v f M T) :
    tail2 (v.read (Elt Ideal) (v.writes (Elt Ideal) f (⟨Rect.unit ![256, 0] ![16, 1024] ib,
      v.readCov (four A0 A1 A2 A3 i0 i1 i2 i3 L) (Rect.unit (s := S384x1024) ![0, 0] ![16, 1024] il).toLoadRect⟩ :: M))) = carry2 A0 A1 A2 A3 T := by
  funext y
  obtain ⟨i, j, rfl⟩ : ∃ (i : Fin 128) (j : Fin 1024), y = ix2 i j := ⟨y 0, y 1, eq_ix2 y⟩
  rw [tail2, carry2, ofIx_apply, ofIx_apply]
  by_cases h : i.val < 16
  · rw [dif_pos h]
    refine (writes_in (Val := Elt Ideal) v f ib _ _ _ _ (by simp) (by simp; omega) (by simp) (by simp)).trans ?_
    refine (congrArg _ (congrArg₂ ix2 (Fin.ext (by simp)) (Fin.ext (by simp)))).trans (four_top v A0 A1 A2 A3 i0 i1 i2 i3 il L ⟨i.val, h⟩ j)
  · rw [dif_neg h]
    refine (writes_out (Val := Elt Ideal) v f ib _ _ _ _ (by simp; omega)).trans ?_
    refine (hM _ _ (by simp)).trans ?_
    exact congrArg T (congrArg₂ ix2 (Fin.ext (by simp)) rfl)

end Carry

section Stat

variable (p1 p5 p6 p7 : Vec Ideal S1x1024 .f32) (X : Vec Ideal S8x1024 .f32)
  (i1 : ∀ a, (![1, 0] : Fin 2 → ℕ) a + (![1, 1024] : Fin 2 → ℕ) a ≤ S8x1024.size a)
  (i5 : ∀ a, (![5, 0] : Fin 2 → ℕ) a + (![1, 1024] : Fin 2 → ℕ) a ≤ S8x1024.size a)
  (i6 : ∀ a, (![6, 0] : Fin 2 → ℕ) a + (![1, 1024] : Fin 2 → ℕ) a ≤ S8x1024.size a)
  (i7 : ∀ a, (![7, 0] : Fin 2 → ℕ) a + (![1, 1024] : Fin 2 → ℕ) a ≤ S8x1024.size a)

/-- Rows 1, 5, 6 and 7 stored over an array. -/
def rows4 : Vec Ideal S8x1024 .f32 :=
  ofIx fun i j => if i.val = 7 then p7 (ix2 0 j) else if i.val = 6 then p6 (ix2 0 j)
    else if i.val = 5 then p5 (ix2 0 j) else if i.val = 1 then p1 (ix2 0 j) else X (ix2 i j)

theorem rows4_first (iw : ∀ a, (![0, 0] : Fin 2 → ℕ) a + (![8, 1024] : Fin 2 → ℕ) a ≤ S8x1024.size a) :
    View.canon (Val := Elt Ideal) (s := S8x1024) (e := .f32) [⟨Rect.unit ![7, 0] ![1, 1024] i7, p7⟩, ⟨Rect.unit ![6, 0] ![1, 1024] i6, p6⟩,
      ⟨Rect.unit ![5, 0] ![1, 1024] i5, p5⟩, ⟨Rect.unit ![1, 0] ![1, 1024] i1, p1⟩, ⟨Rect.unit ![0, 0] ![8, 1024] iw, X⟩] = rows4 p1 p5 p6 p7 X := by
  funext y
  obtain ⟨i, j, rfl⟩ : ∃ (i : Fin 8) (j : Fin 1024), y = ix2 i j := ⟨y 0, y 1, eq_ix2 y⟩
  rw [rows4, ofIx_apply]
  by_cases h7 : i.val = 7
  · rw [if_pos h7]
    refine (canon_in (Val := Elt Ideal) i7 _ _ _ _ (by omega) (by omega) (by omega) (by omega)).trans ?_
    exact congrArg p7 (congrArg₂ ix2 (Fin.ext (by simp; omega)) rfl)
  rw [if_neg h7]
  refine (canon_out (Val := Elt Ideal) i7 _ _ _ _ (by omega)).trans ?_
  by_cases h6 : i.val = 6
  · rw [if_pos h6]
    refine (canon_in (Val := Elt Ideal) i6 _ _ _ _ (by omega) (by omega) (by omega) (by omega)).trans ?_
    exact congrArg p6 (congrArg₂ ix2 (Fin.ext (by simp; omega)) rfl)
  rw [if_neg h6]
  refine (canon_out (Val := Elt Ideal) i6 _ _ _ _ (by omega)).trans ?_
  by_cases h5 : i.val = 5
  · rw [if_pos h5]
    refine (canon_in (Val := Elt Ideal) i5 _ _ _ _ (by omega) (by omega) (by omega) (by omega)).trans ?_
    exact congrArg p5 (congrArg₂ ix2 (Fin.ext (by simp; omega)) rfl)
  rw [if_neg h5]
  refine (canon_out (Val := Elt Ideal) i5 _ _ _ _ (by omega)).trans ?_
  by_cases h1 : i.val = 1
  · rw [if_pos h1]
    refine (canon_in (Val := Elt Ideal) i1 _ _ _ _ (by omega) (by omega) (by omega) (by omega)).trans ?_
    exact congrArg p1 (congrArg₂ ix2 (Fin.ext (by simp; omega)) rfl)
  rw [if_neg h1]
  refine (canon_out (Val := Elt Ideal) i1 _ _ _ _ (by omega)).trans ?_
  refine (canon_in (Val := Elt Ideal) iw _ _ _ _ (by omega) (by omega) (by omega) (by omega)).trans ?_
  rfl

theorem rows4_next (v : View sig κ sp S8x1024 .f32) (f : v.ty.Contents (Elt Ideal)) (hf : v.read (Elt Ideal) f = X) :
    v.read (Elt Ideal) (v.writes (Elt Ideal) f [⟨Rect.unit ![7, 0] ![1, 1024] i7, p7⟩, ⟨Rect.unit ![6, 0] ![1, 1024] i6, p6⟩,
      ⟨Rect.unit ![5, 0] ![1, 1024] i5, p5⟩, ⟨Rect.unit ![1, 0] ![1, 1024] i1, p1⟩]) = rows4 p1 p5 p6 p7 X := by
  funext y
  obtain ⟨i, j, rfl⟩ : ∃ (i : Fin 8) (j : Fin 1024), y = ix2 i j := ⟨y 0, y 1, eq_ix2 y⟩
  rw [rows4, ofIx_apply]
  by_cases h7 : i.val = 7
  · rw [if_pos h7]
    refine (writes_in (Val := Elt Ideal) v f i7 _ _ _ _ (by omega) (by omega) (by omega) (by omega)).trans ?_
    exact congrArg p7 (congrArg₂ ix2 (Fin.ext (by simp; omega)) rfl)
  rw [if_neg h7]
  refine (writes_out (Val := Elt Ideal) v f i7 _ _ _ _ (by omega)).trans ?_
  by_cases h6 : i.val = 6
  · rw [if_pos h6]
    refine (writes_in (Val := Elt Ideal) v f i6 _ _ _ _ (by omega) (by omega) (by omega) (by omega)).trans ?_
    exact congrArg p6 (congrArg₂ ix2 (Fin.ext (by simp; omega)) rfl)
  rw [if_neg h6]
  refine (writes_out (Val := Elt Ideal) v f i6 _ _ _ _ (by omega)).trans ?_
  by_cases h5 : i.val = 5
  · rw [if_pos h5]
    refine (writes_in (Val := Elt Ideal) v f i5 _ _ _ _ (by omega) (by omega) (by omega) (by omega)).trans ?_
    exact congrArg p5 (congrArg₂ ix2 (Fin.ext (by simp; omega)) rfl)
  rw [if_neg h5]
  refine (writes_out (Val := Elt Ideal) v f i5 _ _ _ _ (by omega)).trans ?_
  by_cases h1 : i.val = 1
  · rw [if_pos h1]
    refine (writes_in (Val := Elt Ideal) v f i1 _ _ _ _ (by omega) (by omega) (by omega) (by omega)).trans ?_
    exact congrArg p1 (congrArg₂ ix2 (Fin.ext (by simp; omega)) rfl)
  rw [if_neg h1]
  refine (writes_out (Val := Elt Ideal) v f i1 _ _ _ _ (by omega)).trans ?_
  rw [View.writes_nil, hf]

end Stat

end Leaves

/-- The running sums with the point's shares added. -/
def statOf (X : Vec Ideal S8x1024 .f32) : Vec Ideal S8x1024 .f32 := rows4 (ST1 m c t X) (ST5 m c t X) (ST6 m c t X) (ST7 m c t X) X

end Cert.Mixer

end
-- ==== Proof.Reads.lean ====
module

public import proofs.«01_k».proof.Proof.Host
public import proofs.«01_k».proof.Proof.HostMade
public import proofs.«01_k».proof.Proof.Body
public import Idealize.ShloMosaic.Lib.Pipeline.ValueKit

/-! The call's input blocks read at an index. -/

@[expose] public section

set_option maxRecDepth 16384

noncomputable section

namespace Cert.Mixer

open Cert.KernelIdeal Cert.KernelIdeal.Gen
open Idealize.ShloMosaic Idealize.ShloMosaic.TcCoe Idealize.SL.Sem

variable (m : (ℓ : Loc nD τ sig) → Buf (Elt Ideal) ℓ) (c : Dev nD) (t : Fin cfg0.N)

/-- Argument 0: the gradient of the output. -/
abbrev X0 : Vec Ideal S4096x1024 .f32 := m ((c : Thread nD τ).loc main_arg0)

/-- Argument 1: the projected inputs. -/
abbrev X1 : Vec Ideal S4096x8192 .f32 := m ((c : Thread nD τ).loc main_arg1)

/-- Argument 2: the taps. -/
abbrev X2 : Vec Ideal S3x1024 .f32 := m ((c : Thread nD τ).loc main_arg2)

/-- Argument 3: the output projection of the convolution. -/
abbrev X3 : Vec Ideal S1024x1024 .f32 := m ((c : Thread nD τ).loc main_arg3)

/-- Argument 4: the projections of the pools. -/
abbrev X4 : Vec Ideal S4x256x256 .f32 := m ((c : Thread nD τ).loc main_arg4)

/-- Argument 5: the scale of the pools. -/
abbrev X5 : Vec Ideal S1x1024 .f32 := m ((c : Thread nD τ).loc main_arg5)

/-- Argument 6: the keys. -/
abbrev X6 : Vec Ideal S256x1024 .f32 := m ((c : Thread nD τ).loc main_arg6)

/-- Argument 7: the values. -/
abbrev X7 : Vec Ideal S256x1024 .f32 := m ((c : Thread nD τ).loc main_arg7)

/-- Argument 8: the output projection of the attention. -/
abbrev X8 : Vec Ideal S1024x1024 .f32 := m ((c : Thread nD τ).loc main_arg8)

/-- Argument 9: the last projection. -/
abbrev X9 : Vec Ideal S1024x1024 .f32 := m ((c : Thread nD τ).loc main_arg9)

/-- Row `i` of the tile of point `t`: the last tile comes first. -/
def row (t : Fin cfg0.N) (i : Fin 256) : Fin 4096 := ⟨256 * (15 - t.val) + i.val, by omega⟩

theorem idx : ∀ t : Fin cfg0.N, win0_0.index t = ![15 - t.val, 0] ∧ win0_1.index t = ![15 - t.val, 0]
    ∧ win0_2.index t = ![(15 - t.val) * 16 - 1, 0] ∧ win0_3.index t = ![15 - t.val, 0] ∧ win0_4.index t = ![15 - t.val, 0]
    ∧ win0_5.index t = ![15 - t.val, 0] ∧ win0_6.index t = ![15 - t.val, 0] ∧ win0_7.index t = ![0, 0] ∧ win0_8.index t = ![0, 0]
    ∧ win0_9.index t = ![0, 0, 0] ∧ win0_10.index t = ![0, 0] ∧ win0_11.index t = ![0, 0] ∧ win0_12.index t = ![0, 0]
    ∧ win0_13.index t = ![0, 0] ∧ win0_14.index t = ![0, 0] ∧ win0_15.index t = ![0, 0, 0] :=
  (by decide +kernel : ∀ t : Fin grid0.N, _)

theorem blk0 (i : Fin 256) (j : Fin 1024) : iblk m c 0 t (ix2 i j) = X0 m c (ix2 (row t i) j) := by
  refine Eq.trans (b := V m c main_arg0 (ix2 (row t i) j)) ?_ (congrFun (V_main_arg0 m c) _)
  blk_ext [iblk, idx t, row]

theorem blk1 (i : Fin 256) (j : Fin 8192) : iblk m c 1 t (ix2 i j) = X1 m c (ix2 (row t i) j) := by
  refine Eq.trans (b := V m c main_v130 (ix2 (row t i) j)) ?_ (congrFun (V130 m c) _)
  blk_ext [iblk, idx t, row]

theorem blk2 (i : Fin 16) (j : Fin 8192) : iblk m c 2 t (ix2 i j) = X1 m c (ix2 (⟨16 * ((15 - t.val) * 16 - 1) + i.val, by omega⟩ : Fin 4096) j) := by
  refine Eq.trans (b := V m c main_v130 (ix2 (⟨16 * ((15 - t.val) * 16 - 1) + i.val, by omega⟩ : Fin 4096) j)) ?_ (congrFun (V130 m c) _)
  blk_ext [iblk, idx t, row]

theorem blk3 (i : Fin 256) (j : Fin 1024) : iblk m c 3 t (ix2 i j) = Cert.ReferenceIdeal.Read.val_main_v33 (X1 m c) (X2 m c) (X3 m c) (ix2 (row t i) j) := by
  refine Eq.trans (b := V m c main_v131 (ix2 (row t i) j)) ?_ (congrFun (V131 m c) _)
  blk_ext [iblk, idx t, row]

theorem blk4 (i : Fin 256) (j : Fin 1024) : iblk m c 4 t (ix2 i j) = Cert.ReferenceIdeal.Read.val_main_v110 (X1 m c) (X4 m c) (ix2 (row t i) j) := by
  refine Eq.trans (b := V m c main_v132 (ix2 (row t i) j)) ?_ (congrFun (V132 m c) _)
  blk_ext [iblk, idx t, row]

theorem blk5 (i : Fin 256) (j : Fin 1024) : iblk m c 5 t (ix2 i j) = Cert.ReferenceIdeal.Read.val_main_v148 (X1 m c) (X6 m c) (X7 m c) (X8 m c) (ix2 (row t i) j) := by
  refine Eq.trans (b := V m c main_v133 (ix2 (row t i) j)) ?_ (congrFun (V133 m c) _)
  blk_ext [iblk, idx t, row]

theorem blk8 (i : Fin 1024) (j : Fin 1024) : iblk m c 8 t (ix2 i j) = X3 m c (ix2 i j) := by
  refine Eq.trans (b := V m c main_v135 (ix2 i j)) ?_ (congrFun (V135 m c) _)
  blk_ext [iblk, idx t, row]

theorem blk10 (i : Fin 1) (j : Fin 1024) : iblk m c 10 t (ix2 i j) = X5 m c (ix2 i j) := by
  refine Eq.trans (b := V m c main_arg5 (ix2 i j)) ?_ (congrFun (V_main_arg5 m c) _)
  blk_ext [iblk, idx t, row]

theorem blk11 (i : Fin 256) (j : Fin 1024) : iblk m c 11 t (ix2 i j) = X6 m c (ix2 i j) := by
  refine Eq.trans (b := V m c main_v137 (ix2 i j)) ?_ (congrFun (V137 m c) _)
  blk_ext [iblk, idx t, row]

theorem blk12 (i : Fin 256) (j : Fin 1024) : iblk m c 12 t (ix2 i j) = X7 m c (ix2 i j) := by
  refine Eq.trans (b := V m c main_v138 (ix2 i j)) ?_ (congrFun (V138 m c) _)
  blk_ext [iblk, idx t, row]

theorem blk13 (i : Fin 1024) (j : Fin 1024) : iblk m c 13 t (ix2 i j) = X8 m c (ix2 i j) := by
  refine Eq.trans (b := V m c main_v139 (ix2 i j)) ?_ (congrFun (V139 m c) _)
  blk_ext [iblk, idx t, row]

theorem blk14 (i : Fin 1024) (j : Fin 1024) : iblk m c 14 t (ix2 i j) = X9 m c (ix2 i j) := by
  refine Eq.trans (b := V m c main_v140 (ix2 i j)) ?_ (congrFun (V140 m c) _)
  blk_ext [iblk, idx t, row]

theorem blk9 (g : Fin 4) (i j : Fin 256) : iblk m c 9 t (ix3 g i j) = X4 m c (ix3 g i j) := by
  refine Eq.trans (b := V m c main_v136 (ix3 g i j)) ?_ (congrFun (V136 m c) _)
  blk_ext [iblk, idx t, row]

end Cert.Mixer

end
-- ==== Proof.Reads2.lean ====
module

public import proofs.«01_k».proof.Proof.Reads

/-! The blocks of the probabilities, of the padded taps and of the bands read at an index. -/

@[expose] public section

set_option maxRecDepth 16384

noncomputable section

namespace Cert.Mixer

open Cert.KernelIdeal Cert.KernelIdeal.Gen
open Idealize.ShloMosaic Idealize.ShloMosaic.TcCoe Idealize.SL.Sem

variable (m : (ℓ : Loc nD τ sig) → Buf (Elt Ideal) ℓ) (c : Dev nD) (t : Fin cfg0.N)

theorem blk6 (i : Fin 256) (h : Fin 4) (q : Fin 256) (j : Fin 1024) (hj : j.val = 256 * h.val + q.val) :
    iblk m c 6 t (ix2 i j) = Cert.ReferenceIdeal.Read.val_main_v140 (X1 m c) (X6 m c) (ix3 h (row t i) q) := by
  refine Eq.trans (b := V m c main_v134 (ix2 (row t i) j)) ?_ ?_
  · blk_ext [iblk, idx t, row]
  refine (congrFun (V134 m c) _).trans ?_
  rw [show j = ⟨256 * h.val + q.val, by omega⟩ from Fin.ext hj]
  pointwise

theorem blk7 (i : Fin 3) (k : Fin 8) (j : Fin 1024) (hk : k.val = i.val) : iblk m c 7 t (ix2 k j) = X2 m c (ix2 i j) := by
  refine Eq.trans (b := V m c main_v129 (ix2 k j)) ?_ ?_
  · blk_ext [iblk, idx t, row]
  refine (congrFun (V129 m c) _).trans ?_
  pointwise
  rw [dif_pos (by omega)]
  exact congrArg (X2 m c) (congrArg₂ ix2 (Fin.ext hk) rfl)

/-- One entry of a band: bit one from the diagonal on, `w` entries wide. -/
theorem band_bit (w : Nat) (hw : w < 17) (i : Fin 256) (k : Fin 384) :
    FloatOps.uitofp (F := Ideal) .bf16 (IntOp.andi (IntOp.cmpi CmpIPredicate.sge (IntOp.subi (BitVec.ofNat 32 k.val) (BitVec.ofNat 32 i.val)) 0#32)
      (IntOp.cmpi CmpIPredicate.slt (IntOp.subi (BitVec.ofNat 32 k.val) (BitVec.ofNat 32 i.val)) (BitVec.ofNat 32 w)))
      = (if i.val ≤ k.val ∧ k.val < i.val + w then 1 else 0 : EReal) := by
  have hk : (BitVec.ofNat 32 k.val).toInt = (k.val : ℤ) := WordCmp.toInt_ofNat_of_lt (by omega)
  have hi : (BitVec.ofNat 32 i.val).toInt = (i.val : ℤ) := WordCmp.toInt_ofNat_of_lt (by omega)
  have h2 : (BitVec.ofNat 32 w).toInt = (w : ℤ) := WordCmp.toInt_ofNat_of_lt (by omega)
  have h1 : (BitVec.ofNat 32 k.val - BitVec.ofNat 32 i.val).toInt = (k.val : ℤ) - i.val := by
    rw [BitVec.toInt_sub, hk, hi]
    exact Int.bmod_eq_of_le (by omega) (by omega)
  simp only [IntOp.andi, WordCmp.cmpi_sge_eq, WordCmp.cmpi_slt_eq, IntOp.subi, h1, h2]
  by_cases ha : i.val ≤ k.val <;> by_cases hb : k.val < i.val + w
  · rw [if_pos ⟨ha, hb⟩]
    rw [decide_eq_true (by simp; omega), decide_eq_true (by omega)]
    simp [FloatOps.uitofp]
  · rw [if_neg (fun h => hb h.2)]
    rw [decide_eq_true (by simp; omega), decide_eq_false (by omega)]
    simp [FloatOps.uitofp]
  · rw [if_neg (fun h => ha h.1)]
    rw [decide_eq_false (by simp; omega)]
    simp [FloatOps.uitofp]
  · rw [if_neg (fun h => ha h.1)]
    rw [decide_eq_false (by simp; omega)]
    simp [FloatOps.uitofp]

theorem blk15 (g : Fin 4) (i : Fin 256) (k : Fin 384) :
    iblk m c 15 t (ix3 g i k) = (if i.val ≤ k.val ∧ k.val < i.val + ![2, 4, 8, 16] g then 1 else 0 : EReal) := by
  refine Eq.trans (b := V m c main_v172 (ix3 g i k)) ?_ ?_
  · blk_ext [iblk, idx t, row]
  refine (congrFun (V172 m c) _).trans ?_
  pointwise [band, bandD]
  fin_cases g
  · exact band_bit 2 (by omega) i k
  · exact band_bit 4 (by omega) i k
  · exact band_bit 8 (by omega) i k
  · exact band_bit 16 (by omega) i k

end Cert.Mixer

end
-- ==== Proof.Rows.lean ====
module

public import proofs.«01_k».proof.Proof.Reads2

/-! The stages of the backward pass that act row by row, in the call and in the reference.

At row `i` of its tile a point computes the reference's gradient at row `row t i` of the array: of the merged branches (`DM`),
of each branch (`DYA`, `DYP`, `DYX`, `DPP`), of the convolution (`DA`, `DCONV`) and of the attention (`DO`), and of the three gates. -/

@[expose] public section

set_option maxRecDepth 16384

noncomputable section

namespace Cert.Mixer

open Cert.KernelIdeal Cert.KernelIdeal.Gen
open Idealize.ShloMosaic Idealize.ShloMosaic.TcCoe Idealize.SL.Sem

variable (m : (ℓ : Loc nD τ sig) → Buf (Elt Ideal) ℓ) (c : Dev nD) (t : Fin cfg0.N)

/-- In the reference, the gradient of the merged branches. -/
abbrev R190 := Cert.ReferenceIdeal.Read.val_main_v190 (X0 m c) (X9 m c)

/-- In the reference, the gradient of the convolution branch. -/
abbrev R202 := Cert.ReferenceIdeal.Read.val_main_v202 (X0 m c) (X1 m c) (X9 m c)

/-- In the reference, the gradient of the scaled pooling branch. -/
abbrev R194 := Cert.ReferenceIdeal.Read.val_main_v194 (X0 m c) (X1 m c) (X9 m c)

/-- In the reference, the gradient of the attention branch. -/
abbrev R191 := Cert.ReferenceIdeal.Read.val_main_v191 (X0 m c) (X1 m c) (X9 m c)

/-- In the reference, the gradient of the pooling branch. -/
abbrev R200 := Cert.ReferenceIdeal.Read.val_main_v200 (X0 m c) (X1 m c) (X5 m c) (X9 m c)

/-- In the reference, the gradient of the gated convolution. -/
abbrev R306 := Cert.ReferenceIdeal.Read.val_main_v306 (X0 m c) (X1 m c) (X3 m c) (X9 m c)

/-- In the reference, the gradient of the convolution. -/
abbrev R307 := Cert.ReferenceIdeal.Read.val_main_v307 (X0 m c) (X1 m c) (X3 m c) (X9 m c)

/-- In the reference, the gradient of the attention before its projection. -/
abbrev R210 := Cert.ReferenceIdeal.Read.val_main_v210 (X0 m c) (X1 m c) (X8 m c) (X9 m c)

/-- In the reference, the gradient of the first gate. -/
abbrev R204 := Cert.ReferenceIdeal.Read.val_main_v204 (X0 m c) (X1 m c) (X2 m c) (X3 m c) (X9 m c)

/-- In the reference, the gradient of the second gate. -/
abbrev R201 := Cert.ReferenceIdeal.Read.val_main_v201 (X0 m c) (X1 m c) (X4 m c) (X5 m c) (X9 m c)

/-- In the reference, the gradient of the third gate. -/
abbrev R193 := Cert.ReferenceIdeal.Read.val_main_v193 (X0 m c) (X1 m c) (X6 m c) (X7 m c) (X8 m c) (X9 m c)

/-- In the reference, the convolution's input. -/
abbrev R6 := Cert.ReferenceIdeal.Read.val_main_v6 (X1 m c)

theorem gate157 (r : Fin 4096) (j : Fin 1024) : Cert.ReferenceIdeal.Read.val_main_v157 (X1 m c) (ix2 r j) = Ideal.div 1 (1 + Ideal.exp (0 - X1 m c (ix2 r ⟨5120 + j.val, by omega⟩))) := by
  pointwise [Cert.ReferenceIdeal.Read.val_main_v157, Cert.ReferenceIdeal.Read.val_main_v149, Cert.ReferenceIdeal.Read.val_main_v152, Cert.ReferenceIdeal.Read.val_main_v153, Cert.ReferenceIdeal.Read.val_main_v154, Cert.ReferenceIdeal.Read.val_main_v155, Cert.ReferenceIdeal.Read.val_main_v156, Cert.ReferenceIdeal.Read.val_main_cst_26, Cert.ReferenceIdeal.Read.val_main_cst_27]
  rw [sub_eq_add_neg, zero_add]

theorem gate168 (r : Fin 4096) (j : Fin 1024) : Cert.ReferenceIdeal.Read.val_main_v168 (X1 m c) (ix2 r j) = Ideal.div 1 (1 + Ideal.exp (0 - X1 m c (ix2 r ⟨6144 + j.val, by omega⟩))) := by
  pointwise [Cert.ReferenceIdeal.Read.val_main_v168, Cert.ReferenceIdeal.Read.val_main_v150, Cert.ReferenceIdeal.Read.val_main_v163, Cert.ReferenceIdeal.Read.val_main_v164, Cert.ReferenceIdeal.Read.val_main_v165, Cert.ReferenceIdeal.Read.val_main_v166, Cert.ReferenceIdeal.Read.val_main_v167, Cert.ReferenceIdeal.Read.val_main_cst_29, Cert.ReferenceIdeal.Read.val_main_cst_30]
  rw [sub_eq_add_neg, zero_add]

theorem gate182 (r : Fin 4096) (j : Fin 1024) : Cert.ReferenceIdeal.Read.val_main_v182 (X1 m c) (ix2 r j) = Ideal.div 1 (1 + Ideal.exp (0 - X1 m c (ix2 r ⟨7168 + j.val, by omega⟩))) := by
  pointwise [Cert.ReferenceIdeal.Read.val_main_v182, Cert.ReferenceIdeal.Read.val_main_v151, Cert.ReferenceIdeal.Read.val_main_v177, Cert.ReferenceIdeal.Read.val_main_v178, Cert.ReferenceIdeal.Read.val_main_v179, Cert.ReferenceIdeal.Read.val_main_v180, Cert.ReferenceIdeal.Read.val_main_v181, Cert.ReferenceIdeal.Read.val_main_cst_32, Cert.ReferenceIdeal.Read.val_main_cst_33]
  rw [sub_eq_add_neg, zero_add]

theorem DM_at (i : Fin 256) (j : Fin 1024) : DM m c t (ix2 i j) = R190 m c (ix2 (row t i) j) := by
  rw [DM, R190]
  pointwise [k0_pay6, Cert.ReferenceIdeal.Read.val_main_v190]
  exact Finset.sum_congr rfl fun x _ => by rw [blk0, blk14]

theorem DYA_at (i : Fin 256) (j : Fin 1024) : DYA m c t (ix2 i j) = R202 m c (ix2 (row t i) j) := by
  rw [DYA, R202]
  pointwise [k0_pay16, k0_pay7, Cert.ReferenceIdeal.Read.val_main_v202]
  rw [DM_at, blk1, ← gate157]
  exact mul_comm _ _

theorem DYP_at (i : Fin 256) (j : Fin 1024) : DYP m c t (ix2 i j) = R194 m c (ix2 (row t i) j) := by
  rw [DYP, R194]
  pointwise [k0_pay17, k0_pay8, Cert.ReferenceIdeal.Read.val_main_v194]
  rw [DM_at, blk1, ← gate168]
  exact mul_comm _ _

theorem DYX_at (i : Fin 256) (j : Fin 1024) : DYX m c t (ix2 i j) = R191 m c (ix2 (row t i) j) := by
  rw [DYX, R191]
  pointwise [k0_pay18, k0_pay9, k0_pay10, Cert.ReferenceIdeal.Read.val_main_v191]
  rw [DM_at, blk1, ← gate182]
  exact mul_comm _ _

theorem DPP_at (i : Fin 256) (j : Fin 1024) : DPP m c t (ix2 i j) = R200 m c (ix2 (row t i) j) := by
  rw [DPP, R200]
  pointwise [k0_pay20, k0_pay12, Cert.ReferenceIdeal.Read.val_main_v200, Cert.ReferenceIdeal.Read.val_main_v199]
  rw [DYP_at, blk10]

theorem DA_at (i : Fin 256) (j : Fin 1024) : DA m c t (ix2 i j) = R306 m c (ix2 (row t i) j) := by
  rw [DA, R306]
  pointwise [k0_pay21, Cert.ReferenceIdeal.Read.val_main_v306]
  exact Finset.sum_congr rfl fun x _ => by rw [DYA_at, blk8]

theorem DCONV_at (i : Fin 256) (j : Fin 1024) : DCONV m c t (ix2 i j) = R307 m c (ix2 (row t i) j) := by
  rw [DCONV, R307]
  pointwise [k0_pay28, Cert.ReferenceIdeal.Read.val_main_v307, Cert.ReferenceIdeal.Read.val_main_v1]
  rw [DA_at, blk1]
  exact mul_comm _ _

theorem CU_at (i : Fin 256) (j : Fin 1024) : CU m c t (ix2 i j) = R6 m c (ix2 (row t i) j) := by
  rw [CU, R6]
  pointwise [k0_pay24, k0_pay22, k0_pay23, Cert.ReferenceIdeal.Read.val_main_v6, Cert.ReferenceIdeal.Read.val_main_v2, Cert.ReferenceIdeal.Read.val_main_v3]
  rw [blk1, blk1]

theorem DO_at (i : Fin 256) (j : Fin 1024) : DO m c t (ix2 i j) = R210 m c (ix2 (row t i) j) := by
  rw [DO, R210]
  pointwise [k0_pay51, Cert.ReferenceIdeal.Read.val_main_v210]
  exact Finset.sum_congr rfl fun x _ => by rw [DYX_at, blk13]

theorem gateA_at (i : Fin 256) (j : Fin 1024) : k0_pay13 (DM m c t) (k0_pay7 (View.ld (iblk m c 1 t) (Rect.unit ![0, 5120] ![256, 1024] inb_S256x8192_S256x1024_0_5120))) (View.ld (iblk m c 3 t) (Rect.unit ![0, 0] ![256, 1024] inb_S256x1024_S256x1024_0_0)) (ix2 i j) = R204 m c (ix2 (row t i) j) := by
  rw [R204]
  pointwise [k0_pay13, k0_pay7, Cert.ReferenceIdeal.Read.val_main_v204, Cert.ReferenceIdeal.Read.val_main_v203, Cert.ReferenceIdeal.Read.val_main_v160, Cert.ReferenceIdeal.Read.val_main_v159, Cert.ReferenceIdeal.Read.val_main_v161, Cert.ReferenceIdeal.Read.val_main_v158, Cert.ReferenceIdeal.Read.val_main_v0, Cert.ReferenceIdeal.Read.val_main_cst, Cert.ReferenceIdeal.Read.val_main_cst_28]
  rw [DM_at, blk1, blk3, ← gate157]

theorem gateP_at (i : Fin 256) (j : Fin 1024) : k0_pay14 (DM m c t) (k0_pay8 (View.ld (iblk m c 1 t) (Rect.unit ![0, 6144] ![256, 1024] inb_S256x8192_S256x1024_0_6144))) (View.ld (iblk m c 4 t) (Rect.unit ![0, 0] ![256, 1024] inb_S256x1024_S256x1024_0_0)) (View.ld (iblk m c 10 t) (Rect.unit ![0, 0] ![1, 1024] inb_S1x1024_S1x1024_0_0)) (ix2 i j) = R201 m c (ix2 (row t i) j) := by
  rw [R201]
  pointwise [k0_pay14, k0_pay8, k0_pay11, k0_pay12, Cert.ReferenceIdeal.Read.val_main_v201, Cert.ReferenceIdeal.Read.val_main_v195, Cert.ReferenceIdeal.Read.val_main_v171, Cert.ReferenceIdeal.Read.val_main_v170, Cert.ReferenceIdeal.Read.val_main_v174, Cert.ReferenceIdeal.Read.val_main_v172, Cert.ReferenceIdeal.Read.val_main_v169, Cert.ReferenceIdeal.Read.val_main_v173, Cert.ReferenceIdeal.Read.val_main_v0, Cert.ReferenceIdeal.Read.val_main_cst, Cert.ReferenceIdeal.Read.val_main_cst_31]
  rw [DM_at, blk1, blk4, blk10, ← gate168]

theorem gateX_at (i : Fin 256) (j : Fin 1024) : k0_pay15 (DM m c t) (k0_pay9 (View.ld (iblk m c 1 t) (Rect.unit ![0, 7168] ![256, 1024] inb_S256x8192_S256x1024_0_7168))) (View.ld (iblk m c 5 t) (Rect.unit ![0, 0] ![256, 1024] inb_S256x1024_S256x1024_0_0)) (ix2 i j) = R193 m c (ix2 (row t i) j) := by
  rw [R193]
  pointwise [k0_pay15, k0_pay9, k0_pay10, Cert.ReferenceIdeal.Read.val_main_v193, Cert.ReferenceIdeal.Read.val_main_v192, Cert.ReferenceIdeal.Read.val_main_v185, Cert.ReferenceIdeal.Read.val_main_v184, Cert.ReferenceIdeal.Read.val_main_v186, Cert.ReferenceIdeal.Read.val_main_v183, Cert.ReferenceIdeal.Read.val_main_v0, Cert.ReferenceIdeal.Read.val_main_cst, Cert.ReferenceIdeal.Read.val_main_cst_34]
  rw [DM_at, blk1, blk5, ← gate182]

end Cert.Mixer

end
-- ==== Proof.Pads.lean ====
module

public import proofs.«01_k».proof.Proof.Rows
public import proofs.«01_k».proof.Proof.Tiles2

/-! A padded matrix read at an index. -/

@[expose] public section

set_option maxRecDepth 16384

noncomputable section

namespace Cert.Mixer

open Cert.KernelIdeal Cert.KernelIdeal.Gen
open Idealize.ShloMosaic Idealize.ShloMosaic.TcCoe Idealize.SL.Sem

/-- A matrix padded with rows and columns, read at an index: the matrix inside, the padding value outside. -/
theorem pad_at {α : Type} {H W H' W' l0 l1 r0 r1 : ℕ} (x : (Sh H W).Idx → α) {u : Shape} (v : u.Idx → α)
    (h : (Sh H W).Pads ![l0, l1] ![r0, r1] ![0, 0] (Sh H' W')) (hu : 0 < u.numel) (i : Fin H') (j : Fin W') :
    pad (Sh H' W') ![l0, l1] ![r0, r1] ![0, 0] x v h hu (ix2 i j)
      = if hin : (l0 ≤ i.val ∧ i.val - l0 < H) ∧ (l1 ≤ j.val ∧ j.val - l1 < W) then x (ix2 ⟨i.val - l0, hin.1.2⟩ ⟨j.val - l1, hin.2.2⟩) else v (Shape.Idx.first hu) := by
  unfold pad
  by_cases hin : (l0 ≤ i.val ∧ i.val - l0 < H) ∧ (l1 ≤ j.val ∧ j.val - l1 < W)
  · rw [dif_pos hin, dif_pos]
    · refine congrArg x (funext fun a => Fin.ext ?_)
      fin_cases a
      · exact Nat.div_one _
      · exact Nat.div_one _
    · intro a
      fin_cases a
      · exact ⟨hin.1.1, Nat.mod_one _, (Nat.div_one _).symm ▸ hin.1.2⟩
      · exact ⟨hin.2.1, Nat.mod_one _, (Nat.div_one _).symm ▸ hin.2.2⟩
  · rw [dif_neg hin, dif_neg]
    intro hall
    have h0 := hall 0
    have h1 := hall 1
    refine hin ⟨⟨h0.1, ?_⟩, h1.1, ?_⟩
    · have := h0.2.2
      exact (Nat.div_one (i.val - l0)).symm ▸ this
    · have := h1.2.2
      exact (Nat.div_one (j.val - l1)).symm ▸ this

end Cert.Mixer

end
-- ==== Proof.Window.lean ====
module

public import proofs.«01_k».proof.Proof.Pads

/-! A three-dimensional array padded along its middle axis, and one summed from each row on, read at an index. -/

@[expose] public section

set_option maxRecDepth 16384

noncomputable section

namespace Cert.Mixer

open Idealize.ShloMosaic Idealize.ShloMosaic.TcCoe Idealize.SL.Sem

/-- The shape of `H` rows of `G` groups of `W` numbers. -/
abbrev Sh3 (H G W : ℕ) : Shape := ⟨3, ![H, G, W]⟩

/-- One group put in place `l` among `G`, the others holding the padding value. -/
theorem pad3_at {α : Type} {H W G l r : ℕ} (x : (Sh3 H 1 W).Idx → α) {u : Shape} (v : u.Idx → α)
    (h : (Sh3 H 1 W).Pads ![0, l, 0] ![0, r, 0] ![0, 0, 0] (Sh3 H G W)) (hu : 0 < u.numel) (i : Fin H) (g : Fin G) (j : Fin W) :
    pad (Sh3 H G W) ![0, l, 0] ![0, r, 0] ![0, 0, 0] x v h hu (ix3 i g j) = if g.val = l then x (ix3 i 0 j) else v (Shape.Idx.first hu) := by
  unfold pad
  by_cases hin : g.val = l
  · rw [if_pos hin, dif_pos]
    · refine congrArg x (funext fun a => Fin.ext ?_)
      fin_cases a
      · exact Nat.div_one _
      · show (g.val - l) / 1 = 0
        rw [hin, Nat.sub_self]
      · exact Nat.div_one _
    · intro a
      fin_cases a
      · exact ⟨Nat.zero_le _, Nat.mod_one _, (Nat.div_one (i.val - 0)).symm ▸ i.isLt⟩
      · refine ⟨hin.ge, Nat.mod_one _, ?_⟩
        show (g.val - l) / 1 < 1
        rw [hin, Nat.sub_self]
        exact Nat.one_pos
      · exact ⟨Nat.zero_le _, Nat.mod_one _, (Nat.div_one (j.val - 0)).symm ▸ j.isLt⟩
  · rw [if_neg hin, dif_neg]
    intro hall
    have h1 := hall 1
    have h2 : l ≤ g.val := h1.1
    have h3 : (g.val - l) / 1 < 1 := h1.2.2
    rw [Nat.div_one] at h3
    omega

theorem foldl_add {ι : Type} (f : ι → EReal) (l : List ι) (a : EReal) : l.foldl (fun r n => r + f n) a = a + (l.map f).sum := by
  induction l generalizing a with
  | nil => simp
  | cons b l ih => rw [List.foldl_cons, ih, List.map_cons, List.sum_cons, add_assoc]

/-- A number of rows as an index of the window that is one column wide. -/
def rowsIdx (H : ℕ) : Fin H ≃ (⟨3, ![H, 1, 1]⟩ : Shape).Idx where
  toFun s := ix3 s 0 0
  invFun p := p 0
  left_inv _ := rfl
  right_inv p := by
    funext a
    fin_cases a
    · rfl
    · exact (Fin.fin_one_eq_zero _).symm
    · exact (Fin.fin_one_eq_zero _).symm

/-- Each row holds the sum of the rows from it on. -/
theorem windowSum_at {H G W k : ℕ} (x : (Sh3 H G W).Idx → EReal) {u : Shape} (init : u.Idx → EReal)
    (h : (Sh3 H G W).ReduceWindows ![H, 1, 1] ![1, 1, 1] ![0, 0, 0] ![k, 0, 0] (Sh3 H G W)) (hu : 0 < u.numel) (hi : init (Shape.Idx.first hu) = 0)
    (i : Fin H) (g : Fin G) (j : Fin W) :
    Host.reduceWindowAdd (F := Ideal) (φ := .f32) ![H, 1, 1] ![1, 1, 1] ![0, 0, 0] ![k, 0, 0] x init h hu (ix3 i g j)
      = ∑ s : Fin H, if hs : i.val + s.val < H then x (ix3 ⟨i.val + s.val, hs⟩ g j) else 0 := by
  show (List.finRange _).foldl (fun r n => r + _) _ = _
  rw [foldl_add]
  refine (congrArg₂ (· + ·) hi rfl).trans ((zero_add _).trans ?_)
  rw [← List.ofFn_eq_map, List.sum_ofFn]
  rw [← Equiv.sum_comp ((rowsIdx H).trans (Shape.rowMajor _))]
  refine Finset.sum_congr rfl fun s _ => ?_
  have e : ((⟨3, ![H, 1, 1]⟩ : Shape).rowMajor.symm (((rowsIdx H).trans (Shape.rowMajor _)) s)) = ix3 s 0 0 := Equiv.symm_apply_apply _ _
  have e0 : ((ix3 i g j) 0).val * 1 + ((⟨3, ![H, 1, 1]⟩ : Shape).rowMajor.symm (((rowsIdx H).trans (Shape.rowMajor _)) s) 0).val = i.val + s.val := by
    rw [e]
    exact congrArg (· + s.val) (Nat.mul_one i.val)
  have e1 : ((ix3 i g j) 1).val * 1 + ((⟨3, ![H, 1, 1]⟩ : Shape).rowMajor.symm (((rowsIdx H).trans (Shape.rowMajor _)) s) 1).val = g.val := by
    rw [e]
    exact (Nat.add_zero _).trans (Nat.mul_one g.val)
  have e2 : ((ix3 i g j) 2).val * 1 + ((⟨3, ![H, 1, 1]⟩ : Shape).rowMajor.symm (((rowsIdx H).trans (Shape.rowMajor _)) s) 2).val = j.val := by
    rw [e]
    exact (Nat.add_zero _).trans (Nat.mul_one j.val)
  by_cases hs : i.val + s.val < H
  · rw [dif_pos hs]
    refine (dif_pos ?_).trans (congrArg x (funext fun a => Fin.ext ?_))
    · intro a
      fin_cases a
      · exact ⟨Nat.zero_le _, e0.le.trans_lt hs⟩
      · exact ⟨Nat.zero_le _, e1.le.trans_lt g.isLt⟩
      · exact ⟨Nat.zero_le _, e2.le.trans_lt j.isLt⟩
    · fin_cases a
      · exact e0
      · exact e1
      · exact e2
  · rw [dif_neg hs]
    refine (dif_neg fun hall => hs ?_).trans hi
    exact e0.ge.trans_lt (hall 0).2

end Cert.Mixer

end
-- ==== Proof.Reals.lean ====
module

public import Idealize.ShloMosaic.PureOps
public import Idealize.ShloMosaic.Lib.IdealHost
public import Mathlib.Algebra.BigOperators.Fin

/-! Extended reals that are real numbers, and sums of consecutive ones.

A mean over the rows above is taken by the reference as a difference of two running sums, by the kernel as one short sum. The two
agree where the rows are real numbers (`sum_telescope`); an infinite row would make the difference meaningless. -/

@[expose] public section

noncomputable section

namespace Cert.Mixer

open Idealize.ShloMosaic

/-- The extended real is a real number. -/
def IsReal (x : EReal) : Prop := ∃ r : ℝ, x = (r : EReal)

theorem IsReal.zero : IsReal 0 := ⟨0, rfl⟩

theorem IsReal.one : IsReal 1 := ⟨1, rfl⟩

theorem IsReal.coe (r : ℝ) : IsReal (r : EReal) := ⟨r, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  rw [sub_eq_add_neg]
  exact hx.add hy.neg

theorem IsReal.inv {x : EReal} (hx : IsReal x) : IsReal x⁻¹ := by
  obtain ⟨a, rfl⟩ := hx
  exact ⟨a⁻¹, (EReal.coe_inv a).symm⟩

theorem IsReal.sum {ι : Type} (s : Finset ι) {f : ι → EReal} (hf : ∀ i ∈ s, IsReal (f i)) : IsReal (∑ i ∈ s, f i) := by
  classical
  induction s using Finset.induction_on with
  | empty => exact IsReal.zero
  | insert a s ha ih =>
    rw [Finset.sum_insert ha]
    exact (hf a (Finset.mem_insert_self a s)).add (ih fun i hi => hf i (Finset.mem_insert_of_mem hi))

theorem IsReal.div {x y : EReal} (hx : IsReal x) (hy : IsReal y) (h : y ≠ 0) : IsReal (Ideal.div x y) := by
  unfold Ideal.div
  rw [if_neg h]
  exact hx.mul hy.inv

theorem IsReal.div_mul {x y : EReal} (hx : IsReal x) (hy : IsReal y) (h : y ≠ 0) : Ideal.div x y = x * y⁻¹ := by
  unfold Ideal.div
  rw [if_neg h]

theorem coe_sum {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

/-- The largest of some real numbers, of which there is one, is real. -/
theorem IsReal.foldl_max {ι : Type} (f : ι → EReal) (l : List ι) (hf : ∀ i, IsReal (f i)) (a : EReal) (ha : a = ⊥ ∨ IsReal a)
    (hl : l ≠ [] ∨ IsReal a) : IsReal (l.foldl (fun r n => max r (f n)) a) := by
  induction l generalizing a with
  | nil => exact hl.resolve_left fun h => h rfl
  | cons b l ih =>
    rw [List.foldl_cons]
    have h : IsReal (max a (f b)) := by
      rcases ha with rfl | h
      · rw [max_eq_right bot_le]
        exact hf b
      · rcases max_choice a (f b) with e | e
        · rw [e]
          exact h
        · rw [e]
          exact hf b
    exact ih _ (Or.inr h) (Or.inr h)

/-- The exponential of a real number is a positive real number. -/
theorem exp_real {x : EReal} (hx : IsReal x) : ∃ r : ℝ, 0 < r ∧ Ideal.exp x = (r : EReal) := by
  obtain ⟨a, rfl⟩ := hx
  exact ⟨Real.exp a, Real.exp_pos a, Ideal.exp_coe a⟩

/-- The gradient through a softmax: the reference divides by the square of the sum of exponentials, the call multiplies by the
probabilities. -/
theorem softmax_grad {n : ℕ} (e d : Fin n → EReal) (z : EReal) (he : ∀ k, IsReal (e k)) (hd : ∀ k, IsReal (d k)) (hs : ∑ k, e k ≠ 0) (hz : IsReal z) (k : Fin n) :
    (Ideal.div (d k) (∑ k, e k) + -∑ k', d k' * Ideal.div 1 ((∑ k, e k) * ∑ k, e k) * e k') * e k * z
      = Ideal.div (e k) (∑ k, e k) * (d k - ∑ k', d k' * Ideal.div (e k') (∑ k, e k)) * z := by
  have hS : IsReal (∑ k, e k) := IsReal.sum _ fun k _ => he k
  generalize (∑ k, e k) = S at hS hs ⊢
  obtain ⟨s, rfl⟩ := hS
  obtain ⟨y, rfl⟩ := hz
  choose a ha using he
  choose b hb using hd
  have hs' : s ≠ 0 := fun h => hs (by rw [h]; rfl)
  have hss : (s : EReal) * (s : EReal) ≠ 0 := by
    rw [← EReal.coe_mul]
    exact_mod_cast mul_ne_zero hs' hs'
  simp only [ha, hb, Ideal.div, if_neg hs, if_neg hss, one_mul]
  simp only [← EReal.coe_mul, ← EReal.coe_inv, coe_sum, ← EReal.coe_neg, ← EReal.coe_add, ← EReal.coe_sub]
  refine congrArg _ ?_
  have e1 : ∑ k', b k' * (s * s)⁻¹ * a k' = s⁻¹ * ∑ k', b k' * (a k' * s⁻¹) := by
    rw [Finset.mul_sum]
    refine Finset.sum_congr rfl fun k' _ => ?_
    rw [mul_inv]
    ring
  rw [e1]
  ring

/-- The differences of rows `w` apart, summed from row `r` on, leave the first `w` rows. -/
theorem sum_telescope (F : ℕ → EReal) (N w r : ℕ) (hF : ∀ n, IsReal (F n)) (h0 : ∀ n, N ≤ n → F n = 0) :
    ∑ s ∈ Finset.range N, (F (r + s) + -F (r + s + w)) = ∑ k ∈ Finset.range w, F (r + k) := by
  choose f hf using hF
  have hz : ∀ n, N ≤ n → f n = 0 := fun n hn => EReal.coe_eq_zero.mp ((hf n).symm.trans (h0 n hn))
  simp only [hf, ← EReal.coe_neg, ← EReal.coe_add]
  rw [coe_sum, coe_sum, Finset.sum_add_distrib, Finset.sum_neg_distrib]
  refine congrArg _ ?_
  have h1 := Finset.sum_range_add (fun n => f (r + n)) N w
  have h2 := Finset.sum_range_add (fun n => f (r + n)) w N
  rw [Nat.add_comm w N] at h2
  have h3 : ∑ x ∈ Finset.range w, f (r + (N + x)) = 0 := Finset.sum_eq_zero fun x _ => hz _ (by omega)
  have h4 : ∑ x ∈ Finset.range N, f (r + (w + x)) = ∑ x ∈ Finset.range N, f (r + x + w) :=
    Finset.sum_congr rfl fun x _ => congrArg f (by omega)
  rw [h3, add_zero] at h1
  rw [h4] at h2
  linarith

/-- A sum over the rows `i … i + w − 1` picked out of `n` rows by ones and zeros. -/
theorem sum_band {n : ℕ} (V : ℕ → EReal) (i w : ℕ) (h : i + w ≤ n) :
    ∑ x : Fin n, (if i ≤ x.val ∧ x.val < i + w then (1 : EReal) else 0) * V x.val = ∑ k ∈ Finset.range w, V (i + k) := by
  rw [Fin.sum_univ_eq_sum_range fun x => (if i ≤ x ∧ x < i + w then (1 : EReal) else 0) * V x]
  simp only [ite_mul, one_mul, zero_mul]
  rw [← Finset.sum_filter]
  refine (Finset.sum_nbij' (fun k => i + k) (fun x => x - i) ?_ ?_ ?_ ?_ ?_).symm
  · intro k hk
    have := Finset.mem_range.mp hk
    exact Finset.mem_filter.mpr ⟨Finset.mem_range.mpr (by omega), by omega, by omega⟩
  · intro x hx
    have := (Finset.mem_filter.mp hx).2
    exact Finset.mem_range.mpr (by omega)
  · intro k _
    simp
  · intro x hx
    have := (Finset.mem_filter.mp hx).2
    show i + (x - i) = x
    omega
  · intro k _
    rfl

/-- A gate of a real number is real. -/
theorem gate_real {x : EReal} (hx : IsReal x) : IsReal (Ideal.div 1 (1 + Ideal.exp (0 - x))) := by
  obtain ⟨e, he, he'⟩ := exp_real (IsReal.zero.sub hx)
  rw [he', ← EReal.coe_one, ← EReal.coe_add]
  exact IsReal.one.div (IsReal.coe _) (EReal.coe_ne_zero.mpr (by linarith))

theorem pos_inf : Ideal.ofBits .f32 0x7F800000#32 = ⊤ := by
  simp [Ideal.ofBits, Ideal.ieee]

/-- A number whose absolute value is below infinity is real. -/
theorem real_of_lt (x : EReal) (h : max x (-x) < ⊤) : IsReal x := by
  induction x with
  | bot => exact absurd h (by simp)
  | top => exact absurd h (by simp)
  | coe r => exact ⟨r, rfl⟩

theorem real_of_mask {s : Shape} (x : FVec Ideal s .f32) (y : FVec Ideal s .f32) (hy : ∀ i, y i = Ideal.ofBits .f32 0x7F800000#32)
    (h : cmpf .olt (Host.absf x) y = fun _ => 1#1) (i : s.Idx) : IsReal (x i) := by
  have hi : Ideal.cmp .olt (max (x i : EReal) (-(x i))) (y i) = 1#1 := congrFun h i
  rw [hy, pos_inf] at hi
  refine real_of_lt _ ?_
  by_contra hn
  simp [Ideal.cmp, hn] at hi

end Cert.Mixer

end
-- ==== Proof.PoolRef.lean ====
module

public import proofs.«01_k».proof.Proof.Window
public import proofs.«01_k».proof.Proof.Reals

/-! The pooling branch of the reference and its gradient, read at an index.

Group `g` of the branch's input is averaged over the `w` rows that end at each row (fewer at the top). Backwards, a row's gradient
is divided by its number of rows and handed to each of them. The reference does it with running sums: the shares minus the shares
`w` rows below, summed from each row on. Where the shares are real numbers that leaves the sum of the shares of the `w` rows from
that row on (`pool_ref`). -/

@[expose] public section

set_option maxRecDepth 16384

noncomputable section

namespace Cert.Mixer

open Cert.KernelIdeal Cert.KernelIdeal.Gen
open Idealize.ShloMosaic Idealize.ShloMosaic.TcCoe Idealize.SL.Sem

variable (m : (ℓ : Loc nD τ sig) → Buf (Elt Ideal) ℓ) (c : Dev nD) (t : Fin cfg0.N)

/-- In the reference, the gradient of the pooled inputs. -/
abbrev R240 := Cert.ReferenceIdeal.Read.val_main_v240 (X0 m c) (X1 m c) (X4 m c) (X5 m c) (X9 m c)

/-- In the reference, the gradient of the pooling branch's input. -/
abbrev R305 := Cert.ReferenceIdeal.Read.val_main_v305 (X0 m c) (X1 m c) (X4 m c) (X5 m c) (X9 m c)

/-- The number of rows that the mean at row `n` of a window of `w` rows is taken over. -/
def rowsIn (w n : ℕ) : EReal := (((min (n + 1) w : ℕ) : ℝ) : EReal)

theorem rowsIn_word (w n : ℕ) (hn : n < 4096) (hw : w ≤ 16) :
    FloatOps.sitofp (F := Ideal) FTy.f32 (IntOp.minsi (BitVec.ofNat 32 (n + 1)) (BitVec.ofNat 32 w)) = rowsIn w n := by
  have e : IntOp.minsi (BitVec.ofNat 32 (n + 1)) (BitVec.ofNat 32 w) = BitVec.ofNat 32 (min (n + 1) w) := by
    unfold IntOp.minsi
    rw [BitVec.slt, WordCmp.toInt_ofNat_of_lt (by omega), WordCmp.toInt_ofNat_of_lt (by omega)]
    by_cases h : n + 1 < w
    · rw [min_eq_left h.le, if_pos (by simpa using (by omega : (n : ℤ) + 1 < (w : ℤ)))]
    · rw [min_eq_right (by omega), if_neg (by simpa using (by omega : (w : ℤ) ≤ (n : ℤ) + 1))]
  rw [e]
  show (((BitVec.ofNat 32 (min (n + 1) w)).toInt : ℝ) : EReal) = _
  rw [WordCmp.toInt_ofNat_of_lt (by omega), rowsIn]
  norm_cast

theorem rowsIn_ne (w n : ℕ) (hw : 0 < w) : rowsIn w n ≠ 0 := by
  rw [rowsIn]
  have : 0 < min (n + 1) w := by omega
  exact_mod_cast this.ne'

theorem next_word (n : ℕ) : IntOp.addi (1#32) (BitVec.ofNat 32 n) = BitVec.ofNat 32 (n + 1) := by
  rw [Nat.add_comm, BitVec.ofNat_add]
  rfl

theorem rows2_ref (r : Fin 4096) : Cert.ReferenceIdeal.Read.val_main_v48 (F := Ideal) (ix2 r 0) = rowsIn 2 r.val := by
  rw [← rowsIn_word 2 r.val r.isLt (by decide), ← next_word]
  pointwise [Cert.ReferenceIdeal.Read.val_main_v48, Cert.ReferenceIdeal.Read.val_main_v47, Cert.ReferenceIdeal.Read.val_main_v46, Cert.ReferenceIdeal.Read.val_main_v45, Cert.ReferenceIdeal.Read.val_main_v38, Cert.ReferenceIdeal.Read.val_main_v37, Cert.ReferenceIdeal.Read.val_main_v36, Cert.ReferenceIdeal.Read.val_main_c, Cert.ReferenceIdeal.Read.val_main_c_5]

theorem rows4_ref (r : Fin 4096) : Cert.ReferenceIdeal.Read.val_main_v64 (F := Ideal) (ix2 r 0) = rowsIn 4 r.val := by
  rw [← rowsIn_word 4 r.val r.isLt (by decide), ← next_word]
  pointwise [Cert.ReferenceIdeal.Read.val_main_v64, Cert.ReferenceIdeal.Read.val_main_v63, Cert.ReferenceIdeal.Read.val_main_v62, Cert.ReferenceIdeal.Read.val_main_v61, Cert.ReferenceIdeal.Read.val_main_v38, Cert.ReferenceIdeal.Read.val_main_v37, Cert.ReferenceIdeal.Read.val_main_v36, Cert.ReferenceIdeal.Read.val_main_c, Cert.ReferenceIdeal.Read.val_main_c_8]

theorem rows8_ref (r : Fin 4096) : Cert.ReferenceIdeal.Read.val_main_v80 (F := Ideal) (ix2 r 0) = rowsIn 8 r.val := by
  rw [← rowsIn_word 8 r.val r.isLt (by decide), ← next_word]
  pointwise [Cert.ReferenceIdeal.Read.val_main_v80, Cert.ReferenceIdeal.Read.val_main_v79, Cert.ReferenceIdeal.Read.val_main_v78, Cert.ReferenceIdeal.Read.val_main_v77, Cert.ReferenceIdeal.Read.val_main_v38, Cert.ReferenceIdeal.Read.val_main_v37, Cert.ReferenceIdeal.Read.val_main_v36, Cert.ReferenceIdeal.Read.val_main_c, Cert.ReferenceIdeal.Read.val_main_c_11]

theorem rows16_ref (r : Fin 4096) : Cert.ReferenceIdeal.Read.val_main_v96 (F := Ideal) (ix2 r 0) = rowsIn 16 r.val := by
  rw [← rowsIn_word 16 r.val r.isLt (by decide), ← next_word]
  pointwise [Cert.ReferenceIdeal.Read.val_main_v96, Cert.ReferenceIdeal.Read.val_main_v95, Cert.ReferenceIdeal.Read.val_main_v94, Cert.ReferenceIdeal.Read.val_main_v93, Cert.ReferenceIdeal.Read.val_main_v38, Cert.ReferenceIdeal.Read.val_main_v37, Cert.ReferenceIdeal.Read.val_main_v36, Cert.ReferenceIdeal.Read.val_main_c, Cert.ReferenceIdeal.Read.val_main_c_14]

/-- What row `n` hands to each of the rows that its mean is taken over; nothing below the array. -/
def share (g : Fin 4) (w n : ℕ) (q : Fin 256) : EReal := if h : n < 4096 then Ideal.div (R240 m c (ix3 ⟨n, h⟩ g q)) (rowsIn w n) else 0

theorem share0_ref (r : Fin 4096) (q : Fin 256) : Cert.ReferenceIdeal.Read.val_main_v294 (X0 m c) (X1 m c) (X4 m c) (X5 m c) (X9 m c) (ix2 r q) = share m c 0 2 r.val q := by
  rw [share, dif_pos r.isLt, ← rows2_ref]
  pointwise [Cert.ReferenceIdeal.Read.val_main_v294, Cert.ReferenceIdeal.Read.val_main_v293, Cert.ReferenceIdeal.Read.val_main_v242, Cert.ReferenceIdeal.Read.val_main_v241]

theorem below0_ref (r : Fin 4096) (q : Fin 256) : Cert.ReferenceIdeal.Read.val_main_v298 (X0 m c) (X1 m c) (X4 m c) (X5 m c) (X9 m c) (ix2 r q) = -share m c 0 2 (r.val + 2) q := by
  refine (pad_at _ _ _ _ _ _).trans ?_
  by_cases h : r.val + 2 < 4096
  · rw [dif_pos (by omega)]
    rw [← share0_ref m c ⟨r.val + 2, h⟩ q]
    pointwise [Cert.ReferenceIdeal.Read.val_main_v297, Cert.ReferenceIdeal.Read.val_main_v295]
    exact congrArg (fun i => -Cert.ReferenceIdeal.Read.val_main_v294 (X0 m c) (X1 m c) (X4 m c) (X5 m c) (X9 m c) (ix2 i q)) (Fin.ext (by simp; omega))
  · rw [dif_neg (by omega), share, dif_neg h]
    pointwise [Cert.ReferenceIdeal.Read.val_main_cst_52]
    exact neg_zero.symm

theorem diff0_ref (r : Fin 4096) (q : Fin 256) : Cert.ReferenceIdeal.Read.val_main_v299 (X0 m c) (X1 m c) (X4 m c) (X5 m c) (X9 m c) (ix2 r q) = share m c 0 2 r.val q + -share m c 0 2 (r.val + 2) q := by
  rw [← share0_ref, ← below0_ref]
  pointwise [Cert.ReferenceIdeal.Read.val_main_v299]

theorem put0_ref (r : Fin 4096) (g : Fin 4) (q : Fin 256) : Cert.ReferenceIdeal.Read.val_main_v301 (X0 m c) (X1 m c) (X4 m c) (X5 m c) (X9 m c) (ix3 r g q) = if g = 0 then share m c 0 2 r.val q + -share m c 0 2 (r.val + 2) q else 0 := by
  refine (pad3_at _ _ _ _ _ _ _).trans ?_
  rw [← diff0_ref]
  by_cases h : g = 0
  · rw [if_pos (by rw [h]; rfl), if_pos h]
    pointwise [Cert.ReferenceIdeal.Read.val_main_v300]
  · rw [if_neg (show ¬g.val = 0 from fun e => h (Fin.ext e)), if_neg h]
    pointwise [Cert.ReferenceIdeal.Read.val_main_cst_53]

theorem own0_ref (r : Fin 4096) (g : Fin 4) (q : Fin 256) : Cert.ReferenceIdeal.Read.val_main_v291 (X0 m c) (X1 m c) (X4 m c) (X5 m c) (X9 m c) (ix3 r g q) = if g = 0 then -R240 m c (ix3 r 0 q) else 0 := by
  refine (pad3_at _ _ _ _ _ _ _).trans ?_
  by_cases h : g = 0
  · rw [if_pos (by rw [h]; rfl), if_pos h]
    pointwise [Cert.ReferenceIdeal.Read.val_main_v290, Cert.ReferenceIdeal.Read.val_main_v289, Cert.ReferenceIdeal.Read.val_main_v242, Cert.ReferenceIdeal.Read.val_main_v241]
  · rw [if_neg (show ¬g.val = 0 from fun e => h (Fin.ext e)), if_neg h]
    pointwise [Cert.ReferenceIdeal.Read.val_main_cst_51]

theorem share1_ref (r : Fin 4096) (q : Fin 256) : Cert.ReferenceIdeal.Read.val_main_v280 (X0 m c) (X1 m c) (X4 m c) (X5 m c) (X9 m c) (ix2 r q) = share m c 1 4 r.val q := by
  rw [share, dif_pos r.isLt, ← rows4_ref]
  pointwise [Cert.ReferenceIdeal.Read.val_main_v280, Cert.ReferenceIdeal.Read.val_main_v279, Cert.ReferenceIdeal.Read.val_main_v244, Cert.ReferenceIdeal.Read.val_main_v243]

theorem below1_ref (r : Fin 4096) (q : Fin 256) : Cert.ReferenceIdeal.Read.val_main_v284 (X0 m c) (X1 m c) (X4 m c) (X5 m c) (X9 m c) (ix2 r q) = -share m c 1 4 (r.val + 4) q := by
  refine (pad_at _ _ _ _ _ _).trans ?_
  by_cases h : r.val + 4 < 4096
  · rw [dif_pos (by omega)]
    rw [← share1_ref m c ⟨r.val + 4, h⟩ q]
    pointwise [Cert.ReferenceIdeal.Read.val_main_v283, Cert.ReferenceIdeal.Read.val_main_v281]
    exact congrArg (fun i => -Cert.ReferenceIdeal.Read.val_main_v280 (X0 m c) (X1 m c) (X4 m c) (X5 m c) (X9 m c) (ix2 i q)) (Fin.ext (by simp; omega))
  · rw [dif_neg (by omega), share, dif_neg h]
    pointwise [Cert.ReferenceIdeal.Read.val_main_cst_49]
    exact neg_zero.symm

theorem diff1_ref (r : Fin 4096) (q : Fin 256) : Cert.ReferenceIdeal.Read.val_main_v285 (X0 m c) (X1 m c) (X4 m c) (X5 m c) (X9 m c) (ix2 r q) = share m c 1 4 r.val q + -share m c 1 4 (r.val + 4) q := by
  rw [← share1_ref, ← below1_ref]
  pointwise [Cert.ReferenceIdeal.Read.val_main_v285]

theorem put1_ref (r : Fin 4096) (g : Fin 4) (q : Fin 256) : Cert.ReferenceIdeal.Read.val_main_v287 (X0 m c) (X1 m c) (X4 m c) (X5 m c) (X9 m c) (ix3 r g q) = if g = 1 then share m c 1 4 r.val q + -share m c 1 4 (r.val + 4) q else 0 := by
  refine (pad3_at _ _ _ _ _ _ _).trans ?_
  rw [← diff1_ref]
  by_cases h : g = 1
  · rw [if_pos (by rw [h]; rfl), if_pos h]
    pointwise [Cert.ReferenceIdeal.Read.val_main_v286]
  · rw [if_neg (show ¬g.val = 1 from fun e => h (Fin.ext e)), if_neg h]
    pointwise [Cert.ReferenceIdeal.Read.val_main_cst_50]

theorem own1_ref (r : Fin 4096) (g : Fin 4) (q : Fin 256) : Cert.ReferenceIdeal.Read.val_main_v277 (X0 m c) (X1 m c) (X4 m c) (X5 m c) (X9 m c) (ix3 r g q) = if g = 1 then -R240 m c (ix3 r 1 q) else 0 := by
  refine (pad3_at _ _ _ _ _ _ _).trans ?_
  by_cases h : g = 1
  · rw [if_pos (by rw [h]; rfl), if_pos h]
    pointwise [Cert.ReferenceIdeal.Read.val_main_v276, Cert.ReferenceIdeal.Read.val_main_v275, Cert.ReferenceIdeal.Read.val_main_v244, Cert.ReferenceIdeal.Read.val_main_v243]
  · rw [if_neg (show ¬g.val = 1 from fun e => h (Fin.ext e)), if_neg h]
    pointwise [Cert.ReferenceIdeal.Read.val_main_cst_48]

theorem share2_ref (r : Fin 4096) (q : Fin 256) : Cert.ReferenceIdeal.Read.val_main_v266 (X0 m c) (X1 m c) (X4 m c) (X5 m c) (X9 m c) (ix2 r q) = share m c 2 8 r.val q := by
  rw [share, dif_pos r.isLt, ← rows8_ref]
  pointwise [Cert.ReferenceIdeal.Read.val_main_v266, Cert.ReferenceIdeal.Read.val_main_v265, Cert.ReferenceIdeal.Read.val_main_v246, Cert.ReferenceIdeal.Read.val_main_v245]

theorem below2_ref (r : Fin 4096) (q : Fin 256) : Cert.ReferenceIdeal.Read.val_main_v270 (X0 m c) (X1 m c) (X4 m c) (X5 m c) (X9 m c) (ix2 r q) = -share m c 2 8 (r.val + 8) q := by
  refine (pad_at _ _ _ _ _ _).trans ?_
  by_cases h : r.val + 8 < 4096
  · rw [dif_pos (by omega)]
    rw [← share2_ref m c ⟨r.val + 8, h⟩ q]
    pointwise [Cert.ReferenceIdeal.Read.val_main_v269, Cert.ReferenceIdeal.Read.val_main_v267]
    exact congrArg (fun i => -Cert.ReferenceIdeal.Read.val_main_v266 (X0 m c) (X1 m c) (X4 m c) (X5 m c) (X9 m c) (ix2 i q)) (Fin.ext (by simp; omega))
  · rw [dif_neg (by omega), share, dif_neg h]
    pointwise [Cert.ReferenceIdeal.Read.val_main_cst_46]
    exact neg_zero.symm

theorem diff2_ref (r : Fin 4096) (q : Fin 256) : Cert.ReferenceIdeal.Read.val_main_v271 (X0 m c) (X1 m c) (X4 m c) (X5 m c) (X9 m c) (ix2 r q) = share m c 2 8 r.val q + -share m c 2 8 (r.val + 8) q := by
  rw [← share2_ref, ← below2_ref]
  pointwise [Cert.ReferenceIdeal.Read.val_main_v271]

theorem put2_ref (r : Fin 4096) (g : Fin 4) (q : Fin 256) : Cert.ReferenceIdeal.Read.val_main_v273 (X0 m c) (X1 m c) (X4 m c) (X5 m c) (X9 m c) (ix3 r g q) = if g = 2 then share m c 2 8 r.val q + -share m c 2 8 (r.val + 8) q else 0 := by
  refine (pad3_at _ _ _ _ _ _ _).trans ?_
  rw [← diff2_ref]
  by_cases h : g = 2
  · rw [if_pos (by rw [h]; rfl), if_pos h]
    pointwise [Cert.ReferenceIdeal.Read.val_main_v272]
  · rw [if_neg (show ¬g.val = 2 from fun e => h (Fin.ext e)), if_neg h]
    pointwise [Cert.ReferenceIdeal.Read.val_main_cst_47]

theorem own2_ref (r : Fin 4096) (g : Fin 4) (q : Fin 256) : Cert.ReferenceIdeal.Read.val_main_v263 (X0 m c) (X1 m c) (X4 m c) (X5 m c) (X9 m c) (ix3 r g q) = if g = 2 then -R240 m c (ix3 r 2 q) else 0 := by
  refine (pad3_at _ _ _ _ _ _ _).trans ?_
  by_cases h : g = 2
  · rw [if_pos (by rw [h]; rfl), if_pos h]
    pointwise [Cert.ReferenceIdeal.Read.val_main_v262, Cert.ReferenceIdeal.Read.val_main_v261, Cert.ReferenceIdeal.Read.val_main_v246, Cert.ReferenceIdeal.Read.val_main_v245]
  · rw [if_neg (show ¬g.val = 2 from fun e => h (Fin.ext e)), if_neg h]
    pointwise [Cert.ReferenceIdeal.Read.val_main_cst_45]

theorem share3_ref (r : Fin 4096) (q : Fin 256) : Cert.ReferenceIdeal.Read.val_main_v253 (X0 m c) (X1 m c) (X4 m c) (X5 m c) (X9 m c) (ix2 r q) = share m c 3 16 r.val q := by
  rw [share, dif_pos r.isLt, ← rows16_ref]
  pointwise [Cert.ReferenceIdeal.Read.val_main_v253, Cert.ReferenceIdeal.Read.val_main_v252, Cert.ReferenceIdeal.Read.val_main_v248, Cert.ReferenceIdeal.Read.val_main_v247]

theorem below3_ref (r : Fin 4096) (q : Fin 256) : Cert.ReferenceIdeal.Read.val_main_v257 (X0 m c) (X1 m c) (X4 m c) (X5 m c) (X9 m c) (ix2 r q) = -share m c 3 16 (r.val + 16) q := by
  refine (pad_at _ _ _ _ _ _).trans ?_
  by_cases h : r.val + 16 < 4096
  · rw [dif_pos (by omega)]
    rw [← share3_ref m c ⟨r.val + 16, h⟩ q]
    pointwise [Cert.ReferenceIdeal.Read.val_main_v256, Cert.ReferenceIdeal.Read.val_main_v254]
    exact congrArg (fun i => -Cert.ReferenceIdeal.Read.val_main_v253 (X0 m c) (X1 m c) (X4 m c) (X5 m c) (X9 m c) (ix2 i q)) (Fin.ext (by simp; omega))
  · rw [dif_neg (by omega), share, dif_neg h]
    pointwise [Cert.ReferenceIdeal.Read.val_main_cst_43]
    exact neg_zero.symm

theorem diff3_ref (r : Fin 4096) (q : Fin 256) : Cert.ReferenceIdeal.Read.val_main_v258 (X0 m c) (X1 m c) (X4 m c) (X5 m c) (X9 m c) (ix2 r q) = share m c 3 16 r.val q + -share m c 3 16 (r.val + 16) q := by
  rw [← share3_ref, ← below3_ref]
  pointwise [Cert.ReferenceIdeal.Read.val_main_v258]

theorem put3_ref (r : Fin 4096) (g : Fin 4) (q : Fin 256) : Cert.ReferenceIdeal.Read.val_main_v260 (X0 m c) (X1 m c) (X4 m c) (X5 m c) (X9 m c) (ix3 r g q) = if g = 3 then share m c 3 16 r.val q + -share m c 3 16 (r.val + 16) q else 0 := by
  refine (pad3_at _ _ _ _ _ _ _).trans ?_
  rw [← diff3_ref]
  by_cases h : g = 3
  · rw [if_pos (by rw [h]; rfl), if_pos h]
    pointwise [Cert.ReferenceIdeal.Read.val_main_v259]
  · rw [if_neg (show ¬g.val = 3 from fun e => h (Fin.ext e)), if_neg h]
    pointwise [Cert.ReferenceIdeal.Read.val_main_cst_44]

theorem own3_ref (r : Fin 4096) (g : Fin 4) (q : Fin 256) : Cert.ReferenceIdeal.Read.val_main_v251 (X0 m c) (X1 m c) (X4 m c) (X5 m c) (X9 m c) (ix3 r g q) = if g = 3 then -R240 m c (ix3 r 3 q) else 0 := by
  refine (pad3_at _ _ _ _ _ _ _).trans ?_
  by_cases h : g = 3
  · rw [if_pos (by rw [h]; rfl), if_pos h]
    pointwise [Cert.ReferenceIdeal.Read.val_main_v250, Cert.ReferenceIdeal.Read.val_main_v249, Cert.ReferenceIdeal.Read.val_main_v248, Cert.ReferenceIdeal.Read.val_main_v247]
  · rw [if_neg (show ¬g.val = 3 from fun e => h (Fin.ext e)), if_neg h]
    pointwise [Cert.ReferenceIdeal.Read.val_main_cst_42]

theorem pool0_ref (hF : ∀ n q, IsReal (share m c 0 2 n q)) (r : Fin 4096) (q : Fin 256) :
    R305 m c (ix2 r ⟨q.val, by omega⟩) = -R240 m c (ix3 r 0 q) + ∑ k ∈ Finset.range 2, share m c 0 2 (r.val + k) q := by
  have h303 : Cert.ReferenceIdeal.Read.val_main_v303 (X0 m c) (X1 m c) (X4 m c) (X5 m c) (X9 m c) (ix3 r 0 q) = ∑ k ∈ Finset.range 2, share m c 0 2 (r.val + k) q := by
    refine (windowSum_at _ _ _ _ (by pointwise [Cert.ReferenceIdeal.Read.val_main_call1_call0_v0, Cert.ReferenceIdeal.Read.val_main_call1_call0_cst]) _ _ _).trans ?_
    rw [← sum_telescope (fun n => share m c 0 2 n q) 4096 2 r.val (fun n => hF n q) (fun n hn => by rw [share, dif_neg (by omega)])]
    rw [← Fin.sum_univ_eq_sum_range fun s => share m c 0 2 (r.val + s) q + -share m c 0 2 (r.val + s + 2) q]
    refine Finset.sum_congr rfl fun s _ => ?_
    by_cases hs : r.val + s.val < 4096
    · rw [dif_pos hs]
      pointwise [Cert.ReferenceIdeal.Read.val_main_v302, Cert.ReferenceIdeal.Read.val_main_v288, Cert.ReferenceIdeal.Read.val_main_v274]
      rw [put0_ref, put1_ref, put2_ref, put3_ref]
      simp
    · rw [dif_neg hs, share, dif_neg hs, share, dif_neg (by omega)]
      simp
  have h292 : Cert.ReferenceIdeal.Read.val_main_v292 (X0 m c) (X1 m c) (X4 m c) (X5 m c) (X9 m c) (ix3 r 0 q) = -R240 m c (ix3 r 0 q) := by
    pointwise [Cert.ReferenceIdeal.Read.val_main_v292, Cert.ReferenceIdeal.Read.val_main_v278, Cert.ReferenceIdeal.Read.val_main_v264]
    rw [own0_ref, own1_ref, own2_ref, own3_ref]
    simp
  rw [← h303, ← h292, R305]
  pointwise [Cert.ReferenceIdeal.Read.val_main_v305, Cert.ReferenceIdeal.Read.val_main_v304]
  have e1 : (q.val) / 256 = 0 := by omega
  have e2 : q.val % 256 = q.val := by omega
  simp only [e1, e2]
  rfl

theorem pool1_ref (hF : ∀ n q, IsReal (share m c 1 4 n q)) (r : Fin 4096) (q : Fin 256) :
    R305 m c (ix2 r ⟨256 + q.val, by omega⟩) = -R240 m c (ix3 r 1 q) + ∑ k ∈ Finset.range 4, share m c 1 4 (r.val + k) q := by
  have h303 : Cert.ReferenceIdeal.Read.val_main_v303 (X0 m c) (X1 m c) (X4 m c) (X5 m c) (X9 m c) (ix3 r 1 q) = ∑ k ∈ Finset.range 4, share m c 1 4 (r.val + k) q := by
    refine (windowSum_at _ _ _ _ (by pointwise [Cert.ReferenceIdeal.Read.val_main_call1_call0_v0, Cert.ReferenceIdeal.Read.val_main_call1_call0_cst]) _ _ _).trans ?_
    rw [← sum_telescope (fun n => share m c 1 4 n q) 4096 4 r.val (fun n => hF n q) (fun n hn => by rw [share, dif_neg (by omega)])]
    rw [← Fin.sum_univ_eq_sum_range fun s => share m c 1 4 (r.val + s) q + -share m c 1 4 (r.val + s + 4) q]
    refine Finset.sum_congr rfl fun s _ => ?_
    by_cases hs : r.val + s.val < 4096
    · rw [dif_pos hs]
      pointwise [Cert.ReferenceIdeal.Read.val_main_v302, Cert.ReferenceIdeal.Read.val_main_v288, Cert.ReferenceIdeal.Read.val_main_v274]
      rw [put0_ref, put1_ref, put2_ref, put3_ref]
      simp
    · rw [dif_neg hs, share, dif_neg hs, share, dif_neg (by omega)]
      simp
  have h292 : Cert.ReferenceIdeal.Read.val_main_v292 (X0 m c) (X1 m c) (X4 m c) (X5 m c) (X9 m c) (ix3 r 1 q) = -R240 m c (ix3 r 1 q) := by
    pointwise [Cert.ReferenceIdeal.Read.val_main_v292, Cert.ReferenceIdeal.Read.val_main_v278, Cert.ReferenceIdeal.Read.val_main_v264]
    rw [own0_ref, own1_ref, own2_ref, own3_ref]
    simp
  rw [← h303, ← h292, R305]
  pointwise [Cert.ReferenceIdeal.Read.val_main_v305, Cert.ReferenceIdeal.Read.val_main_v304]
  have e1 : (256 + q.val) / 256 = 1 := by omega

  simp only [e1]
  rfl

theorem pool2_ref (hF : ∀ n q, IsReal (share m c 2 8 n q)) (r : Fin 4096) (q : Fin 256) :
    R305 m c (ix2 r ⟨512 + q.val, by omega⟩) = -R240 m c (ix3 r 2 q) + ∑ k ∈ Finset.range 8, share m c 2 8 (r.val + k) q := by
  have h303 : Cert.ReferenceIdeal.Read.val_main_v303 (X0 m c) (X1 m c) (X4 m c) (X5 m c) (X9 m c) (ix3 r 2 q) = ∑ k ∈ Finset.range 8, share m c 2 8 (r.val + k) q := by
    refine (windowSum_at _ _ _ _ (by pointwise [Cert.ReferenceIdeal.Read.val_main_call1_call0_v0, Cert.ReferenceIdeal.Read.val_main_call1_call0_cst]) _ _ _).trans ?_
    rw [← sum_telescope (fun n => share m c 2 8 n q) 4096 8 r.val (fun n => hF n q) (fun n hn => by rw [share, dif_neg (by omega)])]
    rw [← Fin.sum_univ_eq_sum_range fun s => share m c 2 8 (r.val + s) q + -share m c 2 8 (r.val + s + 8) q]
    refine Finset.sum_congr rfl fun s _ => ?_
    by_cases hs : r.val + s.val < 4096
    · rw [dif_pos hs]
      pointwise [Cert.ReferenceIdeal.Read.val_main_v302, Cert.ReferenceIdeal.Read.val_main_v288, Cert.ReferenceIdeal.Read.val_main_v274]
      rw [put0_ref, put1_ref, put2_ref, put3_ref]
      simp
    · rw [dif_neg hs, share, dif_neg hs, share, dif_neg (by omega)]
      simp
  have h292 : Cert.ReferenceIdeal.Read.val_main_v292 (X0 m c) (X1 m c) (X4 m c) (X5 m c) (X9 m c) (ix3 r 2 q) = -R240 m c (ix3 r 2 q) := by
    pointwise [Cert.ReferenceIdeal.Read.val_main_v292, Cert.ReferenceIdeal.Read.val_main_v278, Cert.ReferenceIdeal.Read.val_main_v264]
    rw [own0_ref, own1_ref, own2_ref, own3_ref]
    simp
  rw [← h303, ← h292, R305]
  pointwise [Cert.ReferenceIdeal.Read.val_main_v305, Cert.ReferenceIdeal.Read.val_main_v304]
  have e1 : (512 + q.val) / 256 = 2 := by omega

  simp only [e1]
  rfl

theorem pool3_ref (hF : ∀ n q, IsReal (share m c 3 16 n q)) (r : Fin 4096) (q : Fin 256) :
    R305 m c (ix2 r ⟨768 + q.val, by omega⟩) = -R240 m c (ix3 r 3 q) + ∑ k ∈ Finset.range 16, share m c 3 16 (r.val + k) q := by
  have h303 : Cert.ReferenceIdeal.Read.val_main_v303 (X0 m c) (X1 m c) (X4 m c) (X5 m c) (X9 m c) (ix3 r 3 q) = ∑ k ∈ Finset.range 16, share m c 3 16 (r.val + k) q := by
    refine (windowSum_at _ _ _ _ (by pointwise [Cert.ReferenceIdeal.Read.val_main_call1_call0_v0, Cert.ReferenceIdeal.Read.val_main_call1_call0_cst]) _ _ _).trans ?_
    rw [← sum_telescope (fun n => share m c 3 16 n q) 4096 16 r.val (fun n => hF n q) (fun n hn => by rw [share, dif_neg (by omega)])]
    rw [← Fin.sum_univ_eq_sum_range fun s => share m c 3 16 (r.val + s) q + -share m c 3 16 (r.val + s + 16) q]
    refine Finset.sum_congr rfl fun s _ => ?_
    by_cases hs : r.val + s.val < 4096
    · rw [dif_pos hs]
      pointwise [Cert.ReferenceIdeal.Read.val_main_v302, Cert.ReferenceIdeal.Read.val_main_v288, Cert.ReferenceIdeal.Read.val_main_v274]
      rw [put0_ref, put1_ref, put2_ref, put3_ref]
      simp
    · rw [dif_neg hs, share, dif_neg hs, share, dif_neg (by omega)]
      simp
  have h292 : Cert.ReferenceIdeal.Read.val_main_v292 (X0 m c) (X1 m c) (X4 m c) (X5 m c) (X9 m c) (ix3 r 3 q) = -R240 m c (ix3 r 3 q) := by
    pointwise [Cert.ReferenceIdeal.Read.val_main_v292, Cert.ReferenceIdeal.Read.val_main_v278, Cert.ReferenceIdeal.Read.val_main_v264]
    rw [own0_ref, own1_ref, own2_ref, own3_ref]
    simp
  rw [← h303, ← h292, R305]
  pointwise [Cert.ReferenceIdeal.Read.val_main_v305, Cert.ReferenceIdeal.Read.val_main_v304]
  have e1 : (768 + q.val) / 256 = 3 := by omega

  simp only [e1]
  rfl

end Cert.Mixer

end
-- ==== Proof.Conv.lean ====
module

public import proofs.«01_k».proof.Proof.Pads

/-! The convolution of the reference and its gradients, read at an index. -/

@[expose] public section

set_option maxRecDepth 16384

noncomputable section

namespace Cert.Mixer

open Cert.KernelIdeal Cert.KernelIdeal.Gen
open Idealize.ShloMosaic Idealize.ShloMosaic.TcCoe Idealize.SL.Sem

variable (m : (ℓ : Loc nD τ sig) → Buf (Elt Ideal) ℓ) (c : Dev nD) (t : Fin cfg0.N)

/-- In the reference, the gradient of the convolution's gate. -/
abbrev R343 := Cert.ReferenceIdeal.Read.val_main_v343 (X0 m c) (X1 m c) (X2 m c) (X3 m c) (X9 m c)

/-- In the reference, the gradient of the convolution's other factor. -/
abbrev R342 := Cert.ReferenceIdeal.Read.val_main_v342 (X0 m c) (X1 m c) (X2 m c) (X3 m c) (X9 m c)

/-- In the reference, the gradient of the convolution's input. -/
abbrev R341 := Cert.ReferenceIdeal.Read.val_main_v341 (X0 m c) (X1 m c) (X2 m c) (X3 m c) (X9 m c)

/-- In the reference, the gradient of the gate after the convolution. -/
abbrev R308 := Cert.ReferenceIdeal.Read.val_main_v308 (X0 m c) (X1 m c) (X2 m c) (X3 m c) (X9 m c)

/-- In the reference, the gradient of the taps. -/
abbrev R339 := Cert.ReferenceIdeal.Read.val_main_v339 (X0 m c) (X1 m c) (X3 m c) (X9 m c)

/-- The gradient of the convolution `k` rows further down, zero below the array. -/
def up (k : ℕ) (r : Fin 4096) (j : Fin 1024) : EReal := if h : r.val + k < 4096 then R307 m c (ix2 ⟨r.val + k, h⟩ j) else 0

/-- The convolution's input `k` rows further up, zero above the array. -/
def down (k : ℕ) (r : Fin 4096) (j : Fin 1024) : EReal := if k ≤ r.val then R6 m c (ix2 ⟨r.val - k, by omega⟩ j) else 0

theorem down0 (r : Fin 4096) (j : Fin 1024) : Cert.ReferenceIdeal.Read.val_main_v28 (X1 m c) (ix2 r j) = R6 m c (ix2 r j) := by
  pointwise [Cert.ReferenceIdeal.Read.val_main_v28, Cert.ReferenceIdeal.Read.val_main_v8, Cert.ReferenceIdeal.Read.val_main_v7, Cert.ReferenceIdeal.Read.val_main_cst_0]

theorem down1 (r : Fin 4096) (j : Fin 1024) : Cert.ReferenceIdeal.Read.val_main_v21 (X1 m c) (ix2 r j) = down m c 1 r j := by
  pointwise [Cert.ReferenceIdeal.Read.val_main_v21, Cert.ReferenceIdeal.Read.val_main_v8, Cert.ReferenceIdeal.Read.val_main_v7, Cert.ReferenceIdeal.Read.val_main_cst_0]
  rw [down]
  by_cases h : 1 ≤ r.val
  · rw [dif_neg (by omega), if_pos h]
    exact congrArg (R6 m c) (congrArg₂ ix2 (Fin.ext (by simp; omega)) rfl)
  · rw [dif_pos (by omega), if_neg h]

theorem down2 (r : Fin 4096) (j : Fin 1024) : Cert.ReferenceIdeal.Read.val_main_v13 (X1 m c) (ix2 r j) = down m c 2 r j := by
  pointwise [Cert.ReferenceIdeal.Read.val_main_v13, Cert.ReferenceIdeal.Read.val_main_v8, Cert.ReferenceIdeal.Read.val_main_v7, Cert.ReferenceIdeal.Read.val_main_cst_0]
  rw [down]
  by_cases h : 2 ≤ r.val
  · rw [dif_neg (by omega), if_pos h]
  · rw [dif_pos (by omega), if_neg h]

theorem add_rev (x y z : EReal) : x + y + z = z + y + x := by rw [add_comm (x + y) z, add_comm x y, add_assoc]

theorem conv_at (r : Fin 4096) (j : Fin 1024) : Cert.ReferenceIdeal.Read.val_main_v31 (X1 m c) (X2 m c) (ix2 r j) = X2 m c (ix2 2 j) * R6 m c (ix2 r j) + X2 m c (ix2 1 j) * down m c 1 r j + X2 m c (ix2 0 j) * down m c 2 r j := by
  rw [← down0, ← down1, ← down2]
  pointwise [Cert.ReferenceIdeal.Read.val_main_v31, Cert.ReferenceIdeal.Read.val_main_v30, Cert.ReferenceIdeal.Read.val_main_v29, Cert.ReferenceIdeal.Read.val_main_v27, Cert.ReferenceIdeal.Read.val_main_v26, Cert.ReferenceIdeal.Read.val_main_v25, Cert.ReferenceIdeal.Read.val_main_v24, Cert.ReferenceIdeal.Read.val_main_v23, Cert.ReferenceIdeal.Read.val_main_v22, Cert.ReferenceIdeal.Read.val_main_v20, Cert.ReferenceIdeal.Read.val_main_v19, Cert.ReferenceIdeal.Read.val_main_v18, Cert.ReferenceIdeal.Read.val_main_v17, Cert.ReferenceIdeal.Read.val_main_v16, Cert.ReferenceIdeal.Read.val_main_v15, Cert.ReferenceIdeal.Read.val_main_v14, Cert.ReferenceIdeal.Read.val_main_v12, Cert.ReferenceIdeal.Read.val_main_v11, Cert.ReferenceIdeal.Read.val_main_v10, Cert.ReferenceIdeal.Read.val_main_cst_2]
  exact add_rev _ _ _

theorem db_ref (r : Fin 4096) (j : Fin 1024) : R308 m c (ix2 r j) = R306 m c (ix2 r j) * (X2 m c (ix2 2 j) * R6 m c (ix2 r j) + X2 m c (ix2 1 j) * down m c 1 r j + X2 m c (ix2 0 j) * down m c 2 r j) := by
  rw [← conv_at, R308]
  pointwise [Cert.ReferenceIdeal.Read.val_main_v308]

theorem v310_at (r : Fin 4096) (j : Fin 1024) : Cert.ReferenceIdeal.Read.val_main_v310 (X0 m c) (X1 m c) (X2 m c) (X3 m c) (X9 m c) (ix2 r j) = X2 m c (ix2 2 j) * R307 m c (ix2 r j) := by
  pointwise [Cert.ReferenceIdeal.Read.val_main_v310, Cert.ReferenceIdeal.Read.val_main_v309, Cert.ReferenceIdeal.Read.val_main_v27, Cert.ReferenceIdeal.Read.val_main_v26, Cert.ReferenceIdeal.Read.val_main_v25]

theorem v319_at (r : Fin 4096) (j : Fin 1024) : Cert.ReferenceIdeal.Read.val_main_v319 (X0 m c) (X1 m c) (X2 m c) (X3 m c) (X9 m c) (ix2 r j) = X2 m c (ix2 1 j) * R307 m c (ix2 r j) := by
  pointwise [Cert.ReferenceIdeal.Read.val_main_v319, Cert.ReferenceIdeal.Read.val_main_v318, Cert.ReferenceIdeal.Read.val_main_v20, Cert.ReferenceIdeal.Read.val_main_v19, Cert.ReferenceIdeal.Read.val_main_v18]

theorem v330_at (r : Fin 4096) (j : Fin 1024) : Cert.ReferenceIdeal.Read.val_main_v330 (X0 m c) (X1 m c) (X2 m c) (X3 m c) (X9 m c) (ix2 r j) = X2 m c (ix2 0 j) * R307 m c (ix2 r j) := by
  pointwise [Cert.ReferenceIdeal.Read.val_main_v330, Cert.ReferenceIdeal.Read.val_main_v329, Cert.ReferenceIdeal.Read.val_main_v12, Cert.ReferenceIdeal.Read.val_main_v11, Cert.ReferenceIdeal.Read.val_main_v10]

theorem v314_at (s : Fin 4098) (j : Fin 1024) (r : Fin 4096) (hs : s.val = 2 + r.val) : Cert.ReferenceIdeal.Read.val_main_v314 (X0 m c) (X1 m c) (X2 m c) (X3 m c) (X9 m c) (ix2 s j) = X2 m c (ix2 2 j) * R307 m c (ix2 r j) := by
  rw [← v310_at]
  refine (pad_at _ _ _ _ _ _).trans ?_
  rw [dif_pos (by omega)]
  exact congrArg (Cert.ReferenceIdeal.Read.val_main_v310 (X0 m c) (X1 m c) (X2 m c) (X3 m c) (X9 m c)) (congrArg₂ ix2 (Fin.ext (by simp; omega)) rfl)

theorem v323_at (s : Fin 4098) (j : Fin 1024) (r : Fin 4096) (hs : s.val = 2 + r.val) : Cert.ReferenceIdeal.Read.val_main_v323 (X0 m c) (X1 m c) (X2 m c) (X3 m c) (X9 m c) (ix2 s j) = X2 m c (ix2 1 j) * up m c 1 r j := by
  refine (pad_at _ _ _ _ _ _).trans ?_
  rw [up]
  by_cases h : r.val + 1 < 4096
  · rw [dif_pos h, ← v319_at, dif_pos (by omega)]
    exact congrArg (Cert.ReferenceIdeal.Read.val_main_v319 (X0 m c) (X1 m c) (X2 m c) (X3 m c) (X9 m c)) (congrArg₂ ix2 (Fin.ext (by simp; omega)) rfl)
  · rw [dif_neg h, dif_neg (by omega), mul_zero]
    pointwise [Cert.ReferenceIdeal.Read.val_main_cst_59]

theorem v334_at (s : Fin 4098) (j : Fin 1024) (r : Fin 4096) (hs : s.val = 2 + r.val) : Cert.ReferenceIdeal.Read.val_main_v334 (X0 m c) (X1 m c) (X2 m c) (X3 m c) (X9 m c) (ix2 s j) = X2 m c (ix2 0 j) * up m c 2 r j := by
  refine (pad_at _ _ _ _ _ _).trans ?_
  rw [up]
  by_cases h : r.val + 2 < 4096
  · rw [dif_pos h, ← v330_at, dif_pos (by omega)]
    exact congrArg (Cert.ReferenceIdeal.Read.val_main_v330 (X0 m c) (X1 m c) (X2 m c) (X3 m c) (X9 m c)) (congrArg₂ ix2 (Fin.ext (by simp; omega)) rfl)
  · rw [dif_neg h, dif_neg (by omega), mul_zero]
    pointwise [Cert.ReferenceIdeal.Read.val_main_cst_63]

theorem dcu_ref (r : Fin 4096) (j : Fin 1024) : R341 m c (ix2 r j) = X2 m c (ix2 2 j) * R307 m c (ix2 r j) + X2 m c (ix2 1 j) * up m c 1 r j + X2 m c (ix2 0 j) * up m c 2 r j := by
  rw [R341]
  pointwise [Cert.ReferenceIdeal.Read.val_main_v341, Cert.ReferenceIdeal.Read.val_main_v335, Cert.ReferenceIdeal.Read.val_main_v324]
  rw [v314_at m c _ j r rfl, v323_at m c _ j r rfl, v334_at m c _ j r rfl]

theorem du_ref (r : Fin 4096) (j : Fin 1024) : R342 m c (ix2 r j) = X1 m c (ix2 r ⟨1024 + j.val, by omega⟩) * R341 m c (ix2 r j) := by
  rw [R342]
  pointwise [Cert.ReferenceIdeal.Read.val_main_v342, Cert.ReferenceIdeal.Read.val_main_v2]

theorem dc_ref (r : Fin 4096) (j : Fin 1024) : R343 m c (ix2 r j) = R341 m c (ix2 r j) * X1 m c (ix2 r ⟨2048 + j.val, by omega⟩) := by
  rw [R343]
  pointwise [Cert.ReferenceIdeal.Read.val_main_v343, Cert.ReferenceIdeal.Read.val_main_v3]

theorem row2_ref (z : Fin 1) (j : Fin 1024) : Cert.ReferenceIdeal.Read.val_main_v316 (X0 m c) (X1 m c) (X3 m c) (X9 m c) (ix2 z j) = ∑ r, R307 m c (ix2 r j) * R6 m c (ix2 r j) := by
  pointwise [Cert.ReferenceIdeal.Read.val_main_v316, Cert.ReferenceIdeal.Read.val_main_v315, Cert.ReferenceIdeal.Read.val_main_v313, Cert.ReferenceIdeal.Read.val_main_v312, Cert.ReferenceIdeal.Read.val_main_v311, Cert.ReferenceIdeal.Read.val_main_cst_54, Cert.ReferenceIdeal.Read.val_main_cst_56]
  refine (Fin.sum_univ_one _).trans ?_
  exact Finset.sum_congr rfl fun r _ => by rw [down0]

theorem row1_ref (z : Fin 1) (j : Fin 1024) : Cert.ReferenceIdeal.Read.val_main_v326 (X0 m c) (X1 m c) (X3 m c) (X9 m c) (ix2 z j) = ∑ r, R307 m c (ix2 r j) * down m c 1 r j := by
  pointwise [Cert.ReferenceIdeal.Read.val_main_v326, Cert.ReferenceIdeal.Read.val_main_v325, Cert.ReferenceIdeal.Read.val_main_v322, Cert.ReferenceIdeal.Read.val_main_v321, Cert.ReferenceIdeal.Read.val_main_v320, Cert.ReferenceIdeal.Read.val_main_cst_58, Cert.ReferenceIdeal.Read.val_main_cst_60]
  refine (Fin.sum_univ_one _).trans ?_
  exact Finset.sum_congr rfl fun r _ => by rw [down1]

theorem row0_ref (z : Fin 1) (j : Fin 1024) : Cert.ReferenceIdeal.Read.val_main_v337 (X0 m c) (X1 m c) (X3 m c) (X9 m c) (ix2 z j) = ∑ r, R307 m c (ix2 r j) * down m c 2 r j := by
  pointwise [Cert.ReferenceIdeal.Read.val_main_v337, Cert.ReferenceIdeal.Read.val_main_v336, Cert.ReferenceIdeal.Read.val_main_v333, Cert.ReferenceIdeal.Read.val_main_v332, Cert.ReferenceIdeal.Read.val_main_v331, Cert.ReferenceIdeal.Read.val_main_cst_62, Cert.ReferenceIdeal.Read.val_main_cst_64]
  refine (Fin.sum_univ_one _).trans ?_
  exact Finset.sum_congr rfl fun r _ => by rw [down2]

theorem taps2_ref (j : Fin 1024) : R339 m c (ix2 2 j) = ∑ r, R307 m c (ix2 r j) * R6 m c (ix2 r j) := by
  rw [R339, ← row2_ref m c 0 j]
  pointwise [Cert.ReferenceIdeal.Read.val_main_v339, Cert.ReferenceIdeal.Read.val_main_v328]
  have h317 : Cert.ReferenceIdeal.Read.val_main_v317 (X0 m c) (X1 m c) (X3 m c) (X9 m c) (ix2 2 j) = Cert.ReferenceIdeal.Read.val_main_v316 (X0 m c) (X1 m c) (X3 m c) (X9 m c) (ix2 0 j) := by
    refine (pad_at _ _ _ _ _ _).trans ?_
    rw [dif_pos (by simp)]
    exact congrArg (Cert.ReferenceIdeal.Read.val_main_v316 (X0 m c) (X1 m c) (X3 m c) (X9 m c)) (congrArg₂ ix2 (Fin.ext (by simp)) rfl)
  have h327 : Cert.ReferenceIdeal.Read.val_main_v327 (X0 m c) (X1 m c) (X3 m c) (X9 m c) (ix2 2 j) = 0 := by
    refine (pad_at _ _ _ _ _ _).trans ?_
    rw [dif_neg (by simp)]
    pointwise [Cert.ReferenceIdeal.Read.val_main_cst_61]
  have h338 : Cert.ReferenceIdeal.Read.val_main_v338 (X0 m c) (X1 m c) (X3 m c) (X9 m c) (ix2 2 j) = 0 := by
    refine (pad_at _ _ _ _ _ _).trans ?_
    rw [dif_neg (by simp)]
    pointwise [Cert.ReferenceIdeal.Read.val_main_cst_65]
  rw [h317, h327, h338]
  simp only [zero_add, add_zero]

theorem taps1_ref (j : Fin 1024) : R339 m c (ix2 1 j) = ∑ r, R307 m c (ix2 r j) * down m c 1 r j := by
  rw [R339, ← row1_ref m c 0 j]
  pointwise [Cert.ReferenceIdeal.Read.val_main_v339, Cert.ReferenceIdeal.Read.val_main_v328]
  have h317 : Cert.ReferenceIdeal.Read.val_main_v317 (X0 m c) (X1 m c) (X3 m c) (X9 m c) (ix2 1 j) = 0 := by
    refine (pad_at _ _ _ _ _ _).trans ?_
    rw [dif_neg (by simp)]
    pointwise [Cert.ReferenceIdeal.Read.val_main_cst_57]
  have h327 : Cert.ReferenceIdeal.Read.val_main_v327 (X0 m c) (X1 m c) (X3 m c) (X9 m c) (ix2 1 j) = Cert.ReferenceIdeal.Read.val_main_v326 (X0 m c) (X1 m c) (X3 m c) (X9 m c) (ix2 0 j) := by
    refine (pad_at _ _ _ _ _ _).trans ?_
    rw [dif_pos (by simp)]
    exact congrArg (Cert.ReferenceIdeal.Read.val_main_v326 (X0 m c) (X1 m c) (X3 m c) (X9 m c)) (congrArg₂ ix2 (Fin.ext (by simp)) rfl)
  have h338 : Cert.ReferenceIdeal.Read.val_main_v338 (X0 m c) (X1 m c) (X3 m c) (X9 m c) (ix2 1 j) = 0 := by
    refine (pad_at _ _ _ _ _ _).trans ?_
    rw [dif_neg (by simp)]
    pointwise [Cert.ReferenceIdeal.Read.val_main_cst_65]
  rw [h317, h327, h338]
  simp only [zero_add, add_zero]

theorem taps0_ref (j : Fin 1024) : R339 m c (ix2 0 j) = ∑ r, R307 m c (ix2 r j) * down m c 2 r j := by
  rw [R339, ← row0_ref m c 0 j]
  pointwise [Cert.ReferenceIdeal.Read.val_main_v339, Cert.ReferenceIdeal.Read.val_main_v328]
  have h317 : Cert.ReferenceIdeal.Read.val_main_v317 (X0 m c) (X1 m c) (X3 m c) (X9 m c) (ix2 0 j) = 0 := by
    refine (pad_at _ _ _ _ _ _).trans ?_
    rw [dif_neg (by simp)]
    pointwise [Cert.ReferenceIdeal.Read.val_main_cst_57]
  have h327 : Cert.ReferenceIdeal.Read.val_main_v327 (X0 m c) (X1 m c) (X3 m c) (X9 m c) (ix2 0 j) = 0 := by
    refine (pad_at _ _ _ _ _ _).trans ?_
    rw [dif_neg (by simp)]
    pointwise [Cert.ReferenceIdeal.Read.val_main_cst_61]
  have h338 : Cert.ReferenceIdeal.Read.val_main_v338 (X0 m c) (X1 m c) (X3 m c) (X9 m c) (ix2 0 j) = Cert.ReferenceIdeal.Read.val_main_v337 (X0 m c) (X1 m c) (X3 m c) (X9 m c) (ix2 0 j) := by
    refine (pad_at _ _ _ _ _ _).trans ?_
    rw [dif_pos (by simp)]
    exact congrArg (Cert.ReferenceIdeal.Read.val_main_v337 (X0 m c) (X1 m c) (X3 m c) (X9 m c)) (congrArg₂ ix2 (Fin.ext (by simp)) rfl)
  rw [h317, h327, h338]
  simp only [zero_add, add_zero]

end Cert.Mixer

end
-- ==== Proof.Taps.lean ====
module

public import proofs.«01_k».proof.Proof.Conv

/-! The convolution's part of one point, read at an index.

The rows above the tile come from the block of sixteen rows above it (`HALO`), the rows below it from what the point before left in
the scratch buffer: a point computes the reference's convolution and its gradients once that buffer holds the reference's. -/

@[expose] public section

set_option maxRecDepth 16384

noncomputable section

namespace Cert.Mixer

open Cert.KernelIdeal Cert.KernelIdeal.Gen
open Idealize.ShloMosaic Idealize.ShloMosaic.TcCoe Idealize.SL.Sem

variable (m : (ℓ : Loc nD τ sig) → Buf (Elt Ideal) ℓ) (c : Dev nD) (t : Fin cfg0.N)

theorem TILE_eq : TILE t = BitVec.ofNat 32 (15 - t.val) := by
  revert t
  decide +kernel

theorem first_tile : Scalar.cmpi .sgt (BitVec.ofNat 32 (15 - t.val)) 0#32 = if t.val = 15 then 0#1 else 1#1 := by
  revert t
  decide +kernel

theorem HALO_at (i : Fin 16) (j : Fin 1024) : HALO m c t (ix2 i j) = if t.val = 15 then 0 else R6 m c (ix2 ⟨16 * ((15 - t.val) * 16 - 1) + i.val, by omega⟩ j) := by
  rw [HALO, TILE_eq, R6]
  pointwise [k0_pay25, k0_pay26, Cert.ReferenceIdeal.Read.val_main_v6, Cert.ReferenceIdeal.Read.val_main_v2, Cert.ReferenceIdeal.Read.val_main_v3]
  rw [first_tile, blk2, blk2]
  by_cases h : t.val = 15
  · rw [if_pos h, if_pos h, WordCmp.select_zero]
  · rw [if_neg h, if_neg h, WordCmp.select_one]

/-- The input of the convolution `k` rows further up. -/
theorem ext0_at (k : ℕ) (hk : 1 ≤ k) (hk' : k ≤ 2) (n : ℕ) (hn : n ≤ 16) (hnk : n + k = 16) (i : Fin 256) (j : Fin 1024) :
    ext0 (CU m c t) (HALO m c t) n hn (ix2 i j) = down m c k (row t i) j := by
  have ht : t.val < 16 := t.isLt
  rw [ext0, ofIx_apply, down]
  by_cases h : i.val + n < 16
  · rw [dif_pos h, HALO_at]
    by_cases h15 : t.val = 15
    · rw [if_pos h15, if_neg (by simp only [row]; omega)]
    · rw [if_neg h15, if_pos (by simp only [row]; omega)]
      exact congrArg (R6 m c) (congrArg₂ ix2 (Fin.ext (by simp only [row]; omega)) rfl)
  · rw [dif_neg h, CU_at, if_pos (by simp only [row]; omega)]
    exact congrArg (R6 m c) (congrArg₂ ix2 (Fin.ext (by simp only [row]; omega)) rfl)

/-- The scratch buffer's last sixteen rows hold the gradient of the convolution below the tile. -/
def Tail1 (T1 : Vec Ideal S16x1024 .f32) : Prop := ∀ (i : Fin 16) (j : Fin 1024), T1 (ix2 i j) = up m c 256 (row t ⟨i.val, by omega⟩) j

theorem ext1_at {T1 : Vec Ideal S16x1024 .f32} (hT : Tail1 m c t T1) (k : ℕ) (hk : k ≤ 16) (i : Fin 256) (j : Fin 1024) :
    ext1 (DCONV m c t) T1 k hk (ix2 i j) = up m c k (row t i) j := by
  have ht : t.val < 16 := t.isLt
  rw [ext1, ofIx_apply]
  by_cases h : i.val + k < 256
  · rw [dif_pos h, DCONV_at, up, dif_pos (by simp only [row]; omega)]
    exact congrArg (R307 m c) (congrArg₂ ix2 (Fin.ext (by simp only [row]; omega)) rfl)
  · rw [dif_neg h, hT, up, up]
    by_cases h' : (row t i).val + k < 4096
    · rw [dif_pos h', dif_pos (by simp only [row] at h' ⊢; omega)]
      exact congrArg (R307 m c) (congrArg₂ ix2 (Fin.ext (by simp only [row]; omega)) rfl)
    · rw [dif_neg h', dif_neg (by simp only [row] at h' ⊢; omega)]

theorem DCU_at {T1 : Vec Ideal S16x1024 .f32} (hT : Tail1 m c t T1) (i : Fin 256) (j : Fin 1024) : DCU m c t T1 (ix2 i j) = R341 m c (ix2 (row t i) j) := by
  rw [DCU, dcu_ref, ← ext1_at m c t hT 1 (by decide), ← ext1_at m c t hT 2 (by decide), ← DCONV_at]
  pointwise [k0_pay33]
  rw [blk7 m c t 2 2 j rfl, blk7 m c t 1 1 j rfl, blk7 m c t 0 0 j rfl]

theorem du_at {T1 : Vec Ideal S16x1024 .f32} (hT : Tail1 m c t T1) (i : Fin 256) (j : Fin 1024) :
    k0_pay35 (k0_pay22 (View.ld (iblk m c 1 t) (Rect.unit ![0, 1024] ![256, 1024] inb_S256x8192_S256x1024_0_1024))) (DCU m c t T1) (ix2 i j) = R342 m c (ix2 (row t i) j) := by
  rw [du_ref, ← DCU_at m c t hT]
  pointwise [k0_pay35, k0_pay22]
  rw [blk1]
  exact mul_comm _ _

theorem dc_at {T1 : Vec Ideal S16x1024 .f32} (hT : Tail1 m c t T1) (i : Fin 256) (j : Fin 1024) :
    k0_pay34 (k0_pay23 (View.ld (iblk m c 1 t) (Rect.unit ![0, 2048] ![256, 1024] inb_S256x8192_S256x1024_0_2048))) (DCONV m c t) (View.ld (iblk m c 7 t) (Rect.unit ![2, 0] ![1, 1024] inb_S8x1024_S1x1024_2_0)) (View.ld (iblk m c 7 t) (Rect.unit ![1, 0] ![1, 1024] inb_S8x1024_S1x1024_1_0)) (ext1 (DCONV m c t) T1 1 (by decide)) (View.ld (iblk m c 7 t) (Rect.unit ![0, 0] ![1, 1024] inb_S8x1024_S1x1024_0_0)) (ext1 (DCONV m c t) T1 2 (by decide)) (ix2 i j) = R343 m c (ix2 (row t i) j) := by
  rw [dc_ref, ← DCU_at m c t hT, DCU]
  pointwise [k0_pay34, k0_pay23]
  rw [blk1]

theorem db_at (i : Fin 256) (j : Fin 1024) :
    k0_pay27 (DA m c t) (CU m c t) (ext0 (CU m c t) (HALO m c t) 15 (by decide)) (ext0 (CU m c t) (HALO m c t) 14 (by decide)) (View.ld (iblk m c 7 t) (Rect.unit ![2, 0] ![1, 1024] inb_S8x1024_S1x1024_2_0)) (View.ld (iblk m c 7 t) (Rect.unit ![1, 0] ![1, 1024] inb_S8x1024_S1x1024_1_0)) (View.ld (iblk m c 7 t) (Rect.unit ![0, 0] ![1, 1024] inb_S8x1024_S1x1024_0_0)) (ix2 i j) = R308 m c (ix2 (row t i) j) := by
  rw [db_ref, ← ext0_at m c t 1 (by decide) (by decide) 15 (by decide) rfl, ← ext0_at m c t 2 (by decide) (by decide) 14 (by decide) rfl, ← DA_at, ← CU_at]
  pointwise [k0_pay27]
  rw [blk7 m c t 2 2 j rfl, blk7 m c t 1 1 j rfl, blk7 m c t 0 0 j rfl]

/-- The first sixteen rows of the tile are below the tile of the next point. -/
theorem tail1_step (t' : Fin cfg0.N) (h : t'.val = t.val + 1) : Tail1 m c t' (top1 (DCONV m c t)) := fun i j => by
  have ht : t'.val < 16 := t'.isLt
  rw [top1, ofIx_apply, DCONV_at, up, dif_pos (by simp only [row]; omega)]
  exact congrArg (R307 m c) (congrArg₂ ix2 (Fin.ext (by simp only [row]; omega)) rfl)

theorem tail1_start (h : t.val = 0) : Tail1 m c t (k0_pay4 (F := Ideal)) := fun i j => by
  rw [up, dif_neg (by simp only [row]; omega)]
  pointwise [k0_pay4]

/-- In the reference, the gradient of the scale. -/
abbrev R198 := Cert.ReferenceIdeal.Read.val_main_v198 (X0 m c) (X1 m c) (X4 m c) (X9 m c)

/-- The pooling branch. -/
abbrev R110 := Cert.ReferenceIdeal.Read.val_main_v110 (X1 m c) (X4 m c)

theorem scale_ref (j : Fin 1024) : R198 m c (ix2 0 j) = ∑ r, R194 m c (ix2 r j) * R110 m c (ix2 r j) := by
  rw [R198]
  pointwise [Cert.ReferenceIdeal.Read.val_main_v198, Cert.ReferenceIdeal.Read.val_main_v197, Cert.ReferenceIdeal.Read.val_main_v196, Cert.ReferenceIdeal.Read.val_main_v172, Cert.ReferenceIdeal.Read.val_main_v0, Cert.ReferenceIdeal.Read.val_main_cst_35, Cert.ReferenceIdeal.Read.val_main_cst]
  exact Finset.sum_congr rfl fun r _ => mul_comm _ _

theorem dconv_ref (r : Fin 4096) (j : Fin 1024) : R307 m c (ix2 r j) = R306 m c (ix2 r j) * X1 m c (ix2 r ⟨j.val, by omega⟩) := by
  rw [R307]
  pointwise [Cert.ReferenceIdeal.Read.val_main_v307, Cert.ReferenceIdeal.Read.val_main_v1]
  exact mul_comm _ _

theorem ST1_at (X : Vec Ideal S8x1024 .f32) (j : Fin 1024) : ST1 m c t X (ix2 0 j) = X (ix2 1 j) + ∑ i, R194 m c (ix2 (row t i) j) * R110 m c (ix2 (row t i) j) := by
  rw [ST1]
  pointwise [k0_pay19, k0_pay11, k0_pay29, k0_pay30, k0_pay31]
  simp only [DYP_at, blk4]

theorem ST5_at (X : Vec Ideal S8x1024 .f32) (j : Fin 1024) : ST5 m c t X (ix2 0 j) = X (ix2 5 j) + ∑ i, R307 m c (ix2 (row t i) j) * down m c 2 (row t i) j := by
  rw [ST5]
  pointwise [k0_pay19, k0_pay11, k0_pay28, k0_pay29, k0_pay30, k0_pay31]
  simp only [ext0_at m c t 2 (by decide) (by decide) 14 (by decide) rfl, DA_at, blk1, dconv_ref]

theorem ST6_at (X : Vec Ideal S8x1024 .f32) (j : Fin 1024) : ST6 m c t X (ix2 0 j) = X (ix2 6 j) + ∑ i, R307 m c (ix2 (row t i) j) * down m c 1 (row t i) j := by
  rw [ST6]
  pointwise [k0_pay19, k0_pay11, k0_pay29, k0_pay30, k0_pay31]
  simp only [ext0_at m c t 1 (by decide) (by decide) 15 (by decide) rfl, DCONV_at]

theorem ST7_at (X : Vec Ideal S8x1024 .f32) (j : Fin 1024) : ST7 m c t X (ix2 0 j) = X (ix2 7 j) + ∑ i, R307 m c (ix2 (row t i) j) * R6 m c (ix2 (row t i) j) := by
  rw [ST7]
  pointwise [k0_pay19, k0_pay11, k0_pay29, k0_pay30, k0_pay31]
  simp only [CU_at, DCONV_at]

end Cert.Mixer

end
-- ==== Proof.Heads.lean ====
module

public import proofs.«01_k».proof.Proof.Rows

/-! The attention's four heads in the call: the gradients of the scores, of the queries, and of the keys and values a tile adds, each a formula
over the rows of the whole arrays. -/

@[expose] public section

set_option maxRecDepth 16384

noncomputable section

namespace Cert.Mixer

open Cert.KernelIdeal Cert.KernelIdeal.Gen
open Idealize.ShloMosaic Idealize.ShloMosaic.TcCoe Idealize.SL.Sem

variable (m : (ℓ : Loc nD τ sig) → Buf (Elt Ideal) ℓ) (c : Dev nD) (t : Fin cfg0.N)

/-- The probability of key `k` in row `r` of head `h`. -/
def PH (h : Fin 4) (r : Fin 4096) (k : Fin 256) : EReal := Cert.ReferenceIdeal.Read.val_main_v140 (X1 m c) (X6 m c) (ix3 h r k)

/-- The gradient of output `d` of the head whose columns start at `o`. -/
def DOH (o : ℕ) (ho : o ≤ 768) (r : Fin 4096) (d : Fin 256) : EReal := R210 m c (ix2 r ⟨o + d.val, by omega⟩)

/-- The gradient of a probability. -/
def DPH (o : ℕ) (ho : o ≤ 768) (r : Fin 4096) (k : Fin 256) : EReal := ∑ d, DOH m c o ho r d * X7 m c (ix2 k ⟨o + d.val, by omega⟩)

/-- The gradient of a score, as the call computes it. -/
def DSH (h : Fin 4) (o : ℕ) (ho : o ≤ 768) (r : Fin 4096) (k : Fin 256) : EReal :=
  PH m c h r k * (DPH m c o ho r k - ∑ k', DPH m c o ho r k' * PH m c h r k') * Ideal.ofBits .f32 0x3D800000#32

/-- The product that head 0 computes anew is the gradient of the attention. -/
theorem DO_again (i : Fin 256) (j : Fin 1024) : k0_pay51 (DYX m c t) (View.ld (iblk m c 13 t) (Rect.unit ![0, 0] ![1024, 1024] inb_S1024x1024_S1024x1024_0_0)) (ix2 i j) = R210 m c (ix2 (row t i) j) :=
  DO_at m c t i j

theorem DQ0_at (i q : Fin 256) : DQ0 m c t (ix2 i q) = ∑ k, DSH m c 0 0 (by decide) (row t i) k * X6 m c (ix2 k ⟨0 + q.val, by omega⟩) := by
  rw [DQ0]
  pointwise [k0_pay52, k0_pay53, k0_pay54, k0_pay55, k0_pay56, k0_pay57, k0_pay58, k0_pay59, k0_pay60, k0_pay61, k0_pay62]
  have hp : ∀ (a k : Fin 256) (hk), iblk m c 6 t (ix2 a ⟨k.val, hk⟩) = PH m c 0 (row t a) k := fun a k _ => blk6 m c t a 0 k _ (by simp)
  simp only [hp, Nat.zero_add,  DO_again, blk1, blk11, blk12, DSH, DPH, DOH]

theorem DK0_at (X : Vec Ideal S256x1024 .f32) (k q : Fin 256) : DK0 m c t X (ix2 k q) = X (ix2 k ⟨0 + q.val, by omega⟩) + ∑ i, DSH m c 0 0 (by decide) (row t i) k * X1 m c (ix2 (row t i) ⟨4096 + q.val, by omega⟩) := by
  rw [DK0]
  pointwise [k0_pay52, k0_pay53, k0_pay54, k0_pay55, k0_pay56, k0_pay57, k0_pay58, k0_pay59, k0_pay60, k0_pay61, k0_pay62]
  have hp : ∀ (a k : Fin 256) (hk), iblk m c 6 t (ix2 a ⟨k.val, hk⟩) = PH m c 0 (row t a) k := fun a k _ => blk6 m c t a 0 k _ (by simp)
  simp only [hp, Nat.zero_add,  DO_again, blk1, blk11, blk12, DSH, DPH, DOH]

theorem DV0_at (X : Vec Ideal S256x1024 .f32) (k d : Fin 256) : DV0 m c t X (ix2 k d) = X (ix2 k ⟨0 + d.val, by omega⟩) + ∑ i, PH m c 0 (row t i) k * DOH m c 0 (by decide) (row t i) d := by
  rw [DV0]
  pointwise [k0_pay52, k0_pay53, k0_pay54, k0_pay55, k0_pay56, k0_pay57, k0_pay58, k0_pay59, k0_pay60, k0_pay61, k0_pay62]
  have hp : ∀ (a k : Fin 256) (hk), iblk m c 6 t (ix2 a ⟨k.val, hk⟩) = PH m c 0 (row t a) k := fun a k _ => blk6 m c t a 0 k _ (by simp)
  simp only [hp, Nat.zero_add,  DO_again, blk1, blk11, blk12, DOH]

theorem DQ1_at (i q : Fin 256) : DQ1 m c t (ix2 i q) = ∑ k, DSH m c 1 256 (by decide) (row t i) k * X6 m c (ix2 k ⟨256 + q.val, by omega⟩) := by
  rw [DQ1]
  pointwise [k0_pay63, k0_pay64, k0_pay65, k0_pay66, k0_pay67, k0_pay68, k0_pay69, k0_pay70, k0_pay71, k0_pay72, k0_pay73]
  have hp : ∀ (a k : Fin 256) (hk), iblk m c 6 t (ix2 a ⟨256 + k.val, hk⟩) = PH m c 1 (row t a) k := fun a k _ => blk6 m c t a 1 k _ (by simp)
  simp only [hp,  DO_at, blk1, blk11, blk12, DSH, DPH, DOH]

theorem DK1_at (X : Vec Ideal S256x1024 .f32) (k q : Fin 256) : DK1 m c t X (ix2 k q) = X (ix2 k ⟨256 + q.val, by omega⟩) + ∑ i, DSH m c 1 256 (by decide) (row t i) k * X1 m c (ix2 (row t i) ⟨4352 + q.val, by omega⟩) := by
  rw [DK1]
  pointwise [k0_pay63, k0_pay64, k0_pay65, k0_pay66, k0_pay67, k0_pay68, k0_pay69, k0_pay70, k0_pay71, k0_pay72, k0_pay73]
  have hp : ∀ (a k : Fin 256) (hk), iblk m c 6 t (ix2 a ⟨256 + k.val, hk⟩) = PH m c 1 (row t a) k := fun a k _ => blk6 m c t a 1 k _ (by simp)
  simp only [hp,  DO_at, blk1, blk11, blk12, DSH, DPH, DOH]

theorem DV1_at (X : Vec Ideal S256x1024 .f32) (k d : Fin 256) : DV1 m c t X (ix2 k d) = X (ix2 k ⟨256 + d.val, by omega⟩) + ∑ i, PH m c 1 (row t i) k * DOH m c 256 (by decide) (row t i) d := by
  rw [DV1]
  pointwise [k0_pay63, k0_pay64, k0_pay65, k0_pay66, k0_pay67, k0_pay68, k0_pay69, k0_pay70, k0_pay71, k0_pay72, k0_pay73]
  have hp : ∀ (a k : Fin 256) (hk), iblk m c 6 t (ix2 a ⟨256 + k.val, hk⟩) = PH m c 1 (row t a) k := fun a k _ => blk6 m c t a 1 k _ (by simp)
  simp only [hp,  DO_at, blk1, blk11, blk12, DOH]

theorem DQ2_at (i q : Fin 256) : DQ2 m c t (ix2 i q) = ∑ k, DSH m c 2 512 (by decide) (row t i) k * X6 m c (ix2 k ⟨512 + q.val, by omega⟩) := by
  rw [DQ2]
  pointwise [k0_pay74, k0_pay75, k0_pay76, k0_pay77, k0_pay78, k0_pay79, k0_pay80, k0_pay81, k0_pay82, k0_pay83]
  have hp : ∀ (a k : Fin 256) (hk), iblk m c 6 t (ix2 a ⟨512 + k.val, hk⟩) = PH m c 2 (row t a) k := fun a k _ => blk6 m c t a 2 k _ (by simp)
  simp only [hp,  DO_at, blk1, blk11, blk12, DSH, DPH, DOH]

theorem DK2_at (X : Vec Ideal S256x1024 .f32) (k q : Fin 256) : DK2 m c t X (ix2 k q) = X (ix2 k ⟨512 + q.val, by omega⟩) + ∑ i, DSH m c 2 512 (by decide) (row t i) k * X1 m c (ix2 (row t i) ⟨4608 + q.val, by omega⟩) := by
  rw [DK2]
  pointwise [k0_pay74, k0_pay75, k0_pay76, k0_pay77, k0_pay78, k0_pay79, k0_pay80, k0_pay81, k0_pay82, k0_pay83]
  have hp : ∀ (a k : Fin 256) (hk), iblk m c 6 t (ix2 a ⟨512 + k.val, hk⟩) = PH m c 2 (row t a) k := fun a k _ => blk6 m c t a 2 k _ (by simp)
  simp only [hp,  DO_at, blk1, blk11, blk12, DSH, DPH, DOH]

theorem DV2_at (X : Vec Ideal S256x1024 .f32) (k d : Fin 256) : DV2 m c t X (ix2 k d) = X (ix2 k ⟨512 + d.val, by omega⟩) + ∑ i, PH m c 2 (row t i) k * DOH m c 512 (by decide) (row t i) d := by
  rw [DV2]
  pointwise [k0_pay74, k0_pay75, k0_pay76, k0_pay77, k0_pay78, k0_pay79, k0_pay80, k0_pay81, k0_pay82, k0_pay83]
  have hp : ∀ (a k : Fin 256) (hk), iblk m c 6 t (ix2 a ⟨512 + k.val, hk⟩) = PH m c 2 (row t a) k := fun a k _ => blk6 m c t a 2 k _ (by simp)
  simp only [hp,  DO_at, blk1, blk11, blk12, DOH]

theorem DQ3_at (i q : Fin 256) : DQ3 m c t (ix2 i q) = ∑ k, DSH m c 3 768 (by decide) (row t i) k * X6 m c (ix2 k ⟨768 + q.val, by omega⟩) := by
  rw [DQ3]
  pointwise [k0_pay84, k0_pay85, k0_pay86, k0_pay87, k0_pay88, k0_pay89, k0_pay90, k0_pay91, k0_pay92, k0_pay93]
  have hp : ∀ (a k : Fin 256) (hk), iblk m c 6 t (ix2 a ⟨768 + k.val, hk⟩) = PH m c 3 (row t a) k := fun a k _ => blk6 m c t a 3 k _ (by simp)
  simp only [hp,  DO_at, blk1, blk11, blk12, DSH, DPH, DOH]

theorem DK3_at (X : Vec Ideal S256x1024 .f32) (k q : Fin 256) : DK3 m c t X (ix2 k q) = X (ix2 k ⟨768 + q.val, by omega⟩) + ∑ i, DSH m c 3 768 (by decide) (row t i) k * X1 m c (ix2 (row t i) ⟨4864 + q.val, by omega⟩) := by
  rw [DK3]
  pointwise [k0_pay84, k0_pay85, k0_pay86, k0_pay87, k0_pay88, k0_pay89, k0_pay90, k0_pay91, k0_pay92, k0_pay93]
  have hp : ∀ (a k : Fin 256) (hk), iblk m c 6 t (ix2 a ⟨768 + k.val, hk⟩) = PH m c 3 (row t a) k := fun a k _ => blk6 m c t a 3 k _ (by simp)
  simp only [hp,  DO_at, blk1, blk11, blk12, DSH, DPH, DOH]

theorem DV3_at (X : Vec Ideal S256x1024 .f32) (k d : Fin 256) : DV3 m c t X (ix2 k d) = X (ix2 k ⟨768 + d.val, by omega⟩) + ∑ i, PH m c 3 (row t i) k * DOH m c 768 (by decide) (row t i) d := by
  rw [DV3]
  pointwise [k0_pay84, k0_pay85, k0_pay86, k0_pay87, k0_pay88, k0_pay89, k0_pay90, k0_pay91, k0_pay92, k0_pay93]
  have hp : ∀ (a k : Fin 256) (hk), iblk m c 6 t (ix2 a ⟨768 + k.val, hk⟩) = PH m c 3 (row t a) k := fun a k _ => blk6 m c t a 3 k _ (by simp)
  simp only [hp,  DO_at, blk1, blk11, blk12, DOH]

end Cert.Mixer

end
-- ==== Proof.HeadsRef.lean ====
module

public import proofs.«01_k».proof.Proof.Heads
public import proofs.«01_k».proof.Proof.Reals

/-! The attention branch of the reference and its gradient, read at an index.

Each head's probabilities are the exponentials of the scores over their sum. Backwards, the reference divides by the sum and by its
square where the call multiplies by the probabilities; the two agree for real scores (`ds_ref`), because the sum of the exponentials is
then a positive real number. -/

@[expose] public section

set_option maxRecDepth 16384

noncomputable section

namespace Cert.Mixer

open Cert.KernelIdeal Cert.KernelIdeal.Gen
open Idealize.ShloMosaic Idealize.ShloMosaic.TcCoe Idealize.SL.Sem

variable (m : (ℓ : Loc nD τ sig) → Buf (Elt Ideal) ℓ) (c : Dev nD) (t : Fin cfg0.N)

/-- The inputs that must be real numbers are. -/
structure RealInputs : Prop where
  x0 : ∀ j, IsReal (X0 m c j)
  x1 : ∀ j, IsReal (X1 m c j)
  x4 : ∀ j, IsReal (X4 m c j)
  x5 : ∀ j, IsReal (X5 m c j)
  x6 : ∀ j, IsReal (X6 m c j)
  x7 : ∀ j, IsReal (X7 m c j)
  x8 : ∀ j, IsReal (X8 m c j)
  x9 : ∀ j, IsReal (X9 m c j)

/-- In the reference, the gradient of the keys, -/
abbrev R235 := Cert.ReferenceIdeal.Read.val_main_v235 (X0 m c) (X1 m c) (X6 m c) (X7 m c) (X8 m c) (X9 m c)

/-- of the values, -/
abbrev R216 := Cert.ReferenceIdeal.Read.val_main_v216 (X0 m c) (X1 m c) (X6 m c) (X8 m c) (X9 m c)

/-- and of the queries. -/
abbrev R236 := Cert.ReferenceIdeal.Read.val_main_v236 (X0 m c) (X1 m c) (X6 m c) (X7 m c) (X8 m c) (X9 m c)

/-- The scores. -/
abbrev R115 := Cert.ReferenceIdeal.Read.val_main_v115 (X1 m c) (X6 m c)

/-- Their exponentials. -/
abbrev R136 := Cert.ReferenceIdeal.Read.val_main_v136 (X1 m c) (X6 m c)

/-- The sums of those. -/
abbrev R137 := Cert.ReferenceIdeal.Read.val_main_v137 (X1 m c) (X6 m c)

/-- The gradient of the scores. -/
abbrev R230 := Cert.ReferenceIdeal.Read.val_main_v230 (X0 m c) (X1 m c) (X6 m c) (X7 m c) (X8 m c) (X9 m c)

theorem sixteenth : Ideal.ofBits .f32 0x3D800000#32 = (((1 : ℝ) / 16 : ℝ) : EReal) := by
  simp [Ideal.ofBits, Ideal.ieee, -EReal.coe_mul]
  norm_num

theorem neg_inf : Ideal.ofBits .f32 0xFF800000#32 = ⊥ := by
  simp [Ideal.ofBits, Ideal.ieee]

theorem score_real (hR : RealInputs m c) (h : Fin 4) (r : Fin 4096) (k : Fin 256) : IsReal (R115 m c (ix3 h r k)) := by
  rw [R115]
  pointwise [Cert.ReferenceIdeal.Read.val_main_v115, Cert.ReferenceIdeal.Read.val_main_v114, Cert.ReferenceIdeal.Read.val_main_v113, Cert.ReferenceIdeal.Read.val_main_v112, Cert.ReferenceIdeal.Read.val_main_v111, Cert.ReferenceIdeal.Read.val_main_v5, Cert.ReferenceIdeal.Read.val_main_cst_15]
  rw [sixteenth]
  exact (IsReal.sum _ fun x _ => (hR.x1 _).mul (hR.x6 _)).mul (IsReal.coe _)

theorem reduce_max_real {s t u : Shape} {axes : List (Fin s.rank)} (x : s.Idx → EReal) (init : u.Idx → EReal) (h : s.ReducesTo axes t) (hu : 0 < u.numel)
    (hx : ∀ i, IsReal (x i)) (hi : init (Shape.Idx.first hu) = ⊥) (j : t.Idx) (i : s.Idx) (hij : h.drop i = j) :
    IsReal (Host.reduce (FloatOps.maximumf (F := Ideal) (φ := .f32)) x init h hu j) := by
  refine IsReal.foldl_max _ _ (fun n => hx _) _ (Or.inl hi) (Or.inl ?_)
  refine List.ne_nil_of_mem (a := s.rowMajor i) (List.mem_filter.mpr ⟨List.mem_finRange _, ?_⟩)
  rw [decide_eq_true_eq, Equiv.symm_apply_apply]
  exact hij

theorem max_real (hR : RealInputs m c) (h : Fin 4) (r : Fin 4096) : IsReal (Cert.ReferenceIdeal.Read.val_main_v116 (X1 m c) (X6 m c) (ix2 h r)) := by
  unfold Cert.ReferenceIdeal.Read.val_main_v116
  refine reduce_max_real _ _ _ _ (fun i => ?_) ?_ _ (ix3 h r 0) ?_
  · rw [eq_ix3 i]
    exact score_real m c hR _ _ _
  · exact neg_inf
  · funext a
    fin_cases a
    · rfl
    · rfl

theorem exp_pos (hR : RealInputs m c) (h : Fin 4) (r : Fin 4096) (k : Fin 256) : ∃ e : ℝ, 0 < e ∧ R136 m c (ix3 h r k) = (e : EReal) := by
  have e3 : Cert.ReferenceIdeal.Read.val_main_v122 (F := Ideal) (ix2 h r) = ⊥ := by
    pointwise [Cert.ReferenceIdeal.Read.val_main_v122, Cert.ReferenceIdeal.Read.val_main_cst_18]
    exact neg_inf
  have e : R136 m c (ix3 h r k) = Ideal.exp (R115 m c (ix3 h r k) - max (Cert.ReferenceIdeal.Read.val_main_v122 (F := Ideal) (ix2 h r)) (Cert.ReferenceIdeal.Read.val_main_v116 (X1 m c) (X6 m c) (ix2 h r))) := by
    rw [R136, R115, Cert.ReferenceIdeal.Read.val_main_v136_apply, Cert.ReferenceIdeal.Read.val_main_v135_apply, Cert.ReferenceIdeal.Read.val_main_v134_apply, Cert.ReferenceIdeal.Read.val_main_v133_apply, Cert.ReferenceIdeal.Read.val_main_v123_apply]
    have hi : Cert.ReferenceIdeal.Read.idx_main_v133 (Cert.ReferenceIdeal.Read.idx_main_v134 (ix3 h r k)) = ix2 h r := by
      funext a
      fin_cases a
      · rfl
      · rfl
    rw [hi]
    generalize Cert.ReferenceIdeal.Read.val_main_v115 (X1 m c) (X6 m c) (ix3 h r k) = a
    generalize Cert.ReferenceIdeal.Read.val_main_v116 (X1 m c) (X6 m c) (ix2 h r) = b
    generalize Cert.ReferenceIdeal.Read.val_main_v122 (F := Ideal) (ix2 h r) = d
    rfl
  rw [e, e3, max_eq_right bot_le]
  exact exp_real ((score_real m c hR h r k).sub (max_real m c hR h r))

theorem sum_eq (h : Fin 4) (r : Fin 4096) : R137 m c (ix2 h r) = ∑ k, R136 m c (ix3 h r k) := by
  rw [R137]
  pointwise [Cert.ReferenceIdeal.Read.val_main_v137, Cert.ReferenceIdeal.Read.val_main_cst_24]

theorem sum_ne (hR : RealInputs m c) (h : Fin 4) (r : Fin 4096) : ∑ k, R136 m c (ix3 h r k) ≠ 0 := by
  choose e he he' using fun k => exp_pos m c hR h r k
  rw [Finset.sum_congr rfl fun k _ => he' k, coe_sum]
  exact EReal.coe_ne_zero.mpr (Finset.sum_pos (fun k _ => he k) Finset.univ_nonempty).ne'

theorem prob_eq (h : Fin 4) (r : Fin 4096) (k : Fin 256) : PH m c h r k = Ideal.div (R136 m c (ix3 h r k)) (∑ k, R136 m c (ix3 h r k)) := by
  rw [← sum_eq, PH]
  pointwise [Cert.ReferenceIdeal.Read.val_main_v140, Cert.ReferenceIdeal.Read.val_main_v139, Cert.ReferenceIdeal.Read.val_main_v138]

theorem do_real (hR : RealInputs m c) (r : Fin 4096) (j : Fin 1024) : IsReal (R210 m c (ix2 r j)) := by
  rw [R210]
  pointwise [Cert.ReferenceIdeal.Read.val_main_v210, Cert.ReferenceIdeal.Read.val_main_v191, Cert.ReferenceIdeal.Read.val_main_v190]
  refine IsReal.sum _ fun x _ => ((?_ : IsReal _).mul (IsReal.sum _ fun y _ => (hR.x0 _).mul (hR.x9 _))).mul (hR.x8 _)
  rw [gate182]
  exact gate_real (hR.x1 _)

theorem dp_ref (h : Fin 4) (o : ℕ) (ho : o ≤ 768) (hoh : o = h.val * 256) (r : Fin 4096) (k : Fin 256) :
    Cert.ReferenceIdeal.Read.val_main_v213 (X0 m c) (X1 m c) (X7 m c) (X8 m c) (X9 m c) (ix3 h r k) = DPH m c o ho r k := by
  subst hoh
  pointwise [Cert.ReferenceIdeal.Read.val_main_v213, Cert.ReferenceIdeal.Read.val_main_v212, Cert.ReferenceIdeal.Read.val_main_v211, Cert.ReferenceIdeal.Read.val_main_v144]
  simp only [DPH, DOH]

theorem dv_ref (h : Fin 4) (o : ℕ) (ho : o ≤ 768) (hoh : o = h.val * 256) (k q : Fin 256) (j : Fin 1024) (hj : j.val = o + q.val) :
    R216 m c (ix2 k j) = ∑ r, PH m c h r k * DOH m c o ho r q := by
  rw [R216]
  pointwise [Cert.ReferenceIdeal.Read.val_main_v216, Cert.ReferenceIdeal.Read.val_main_v215, Cert.ReferenceIdeal.Read.val_main_v214, Cert.ReferenceIdeal.Read.val_main_v212, Cert.ReferenceIdeal.Read.val_main_v211]
  refine Finset.sum_congr rfl fun r _ => ?_
  rw [mul_comm]
  exact congrArg₂ (· * ·) (congrArg (fun h => PH m c h r k) (Fin.ext (by show j.val / 256 = h.val; omega)))
    (congrArg (R210 m c) (congrArg₂ ix2 rfl (Fin.ext hj)))

theorem inner_ref (h : Fin 4) (r : Fin 4096) : Cert.ReferenceIdeal.Read.val_main_v220 (X0 m c) (X1 m c) (X6 m c) (X7 m c) (X8 m c) (X9 m c) (ix2 h r)
    = ∑ x, Cert.ReferenceIdeal.Read.val_main_v213 (X0 m c) (X1 m c) (X7 m c) (X8 m c) (X9 m c) (ix3 h r x) * Ideal.div 1 (R137 m c (ix2 h r) * R137 m c (ix2 h r)) * R136 m c (ix3 h r x) := by
  pointwise [Cert.ReferenceIdeal.Read.val_main_v220, Cert.ReferenceIdeal.Read.val_main_v219, Cert.ReferenceIdeal.Read.val_main_v218, Cert.ReferenceIdeal.Read.val_main_v217, Cert.ReferenceIdeal.Read.val_main_v143, Cert.ReferenceIdeal.Read.val_main_v142, Cert.ReferenceIdeal.Read.val_main_v141, Cert.ReferenceIdeal.Read.val_main_v138, Cert.ReferenceIdeal.Read.val_main_cst_25, Cert.ReferenceIdeal.Read.val_main_cst_39]

theorem outer_ref (h : Fin 4) (r : Fin 4096) : Cert.ReferenceIdeal.Read.val_main_v225 (X0 m c) (X1 m c) (X6 m c) (X7 m c) (X8 m c) (X9 m c) (ix2 h r) = -Cert.ReferenceIdeal.Read.val_main_v220 (X0 m c) (X1 m c) (X6 m c) (X7 m c) (X8 m c) (X9 m c) (ix2 h r) := by
  pointwise [Cert.ReferenceIdeal.Read.val_main_v225, Cert.ReferenceIdeal.Read.val_main_v222, Cert.ReferenceIdeal.Read.val_main_v221, Cert.ReferenceIdeal.Read.val_main_cst_40]
  exact Fin.sum_univ_one _

theorem form_ref (h : Fin 4) (r : Fin 4096) (k : Fin 256) : R230 m c (ix3 h r k)
    = (Ideal.div (Cert.ReferenceIdeal.Read.val_main_v213 (X0 m c) (X1 m c) (X7 m c) (X8 m c) (X9 m c) (ix3 h r k)) (R137 m c (ix2 h r)) + Cert.ReferenceIdeal.Read.val_main_v225 (X0 m c) (X1 m c) (X6 m c) (X7 m c) (X8 m c) (X9 m c) (ix2 h r)) * R136 m c (ix3 h r k) * Ideal.ofBits .f32 0x3D800000#32 := by
  rw [R230]
  pointwise [Cert.ReferenceIdeal.Read.val_main_v230, Cert.ReferenceIdeal.Read.val_main_v229, Cert.ReferenceIdeal.Read.val_main_v228, Cert.ReferenceIdeal.Read.val_main_v227, Cert.ReferenceIdeal.Read.val_main_v226, Cert.ReferenceIdeal.Read.val_main_v224, Cert.ReferenceIdeal.Read.val_main_v223, Cert.ReferenceIdeal.Read.val_main_v138, Cert.ReferenceIdeal.Read.val_main_cst_41]

theorem ds_ref (hR : RealInputs m c) (h : Fin 4) (o : ℕ) (ho : o ≤ 768) (hoh : o = h.val * 256) (r : Fin 4096) (k : Fin 256) :
    R230 m c (ix3 h r k) = DSH m c h o ho r k := by
  have hd : ∀ k, IsReal (DPH m c o ho r k) := fun k => IsReal.sum _ fun d _ => (do_real m c hR r _).mul (hR.x7 _)
  have he : ∀ k, IsReal (R136 m c (ix3 h r k)) := fun k => (exp_pos m c hR h r k).imp fun _ e => e.2
  have hg := softmax_grad (fun k => R136 m c (ix3 h r k)) (fun k => DPH m c o ho r k) (Ideal.ofBits .f32 0x3D800000#32) he hd (sum_ne m c hR h r) (by rw [sixteenth]; exact IsReal.coe _) k
  rw [form_ref, outer_ref, inner_ref, DSH]
  simp only [prob_eq, sum_eq, dp_ref m c h o ho hoh]
  exact hg

theorem dk_ref (hR : RealInputs m c) (h : Fin 4) (o : ℕ) (ho : o ≤ 768) (hoh : o = h.val * 256) (k q : Fin 256) (j : Fin 1024) (hj : j.val = o + q.val) (j' : Fin 8192) (hj' : j'.val = 4096 + o + q.val) :
    R235 m c (ix2 k j) = ∑ r, DSH m c h o ho r k * X1 m c (ix2 r j') := by
  rw [R235]
  pointwise [Cert.ReferenceIdeal.Read.val_main_v235, Cert.ReferenceIdeal.Read.val_main_v232, Cert.ReferenceIdeal.Read.val_main_v231, Cert.ReferenceIdeal.Read.val_main_v111, Cert.ReferenceIdeal.Read.val_main_v5]
  refine Finset.sum_congr rfl fun r _ => ?_
  rw [← ds_ref m c hR h o ho hoh]
  exact congrArg₂ (· * ·) (congrArg (fun h => R230 m c (ix3 h r k)) (Fin.ext (by show j.val / 256 = h.val; omega)))
    (congrArg (X1 m c) (congrArg₂ ix2 rfl (Fin.ext (by show 4096 + j.val = j'.val; omega))))

theorem dq_ref (hR : RealInputs m c) (h : Fin 4) (o : ℕ) (ho : o ≤ 768) (hoh : o = h.val * 256) (r : Fin 4096) (q : Fin 256) (j : Fin 1024) (hj : j.val = o + q.val) :
    R236 m c (ix2 r j) = ∑ k, DSH m c h o ho r k * X6 m c (ix2 k j) := by
  rw [R236]
  pointwise [Cert.ReferenceIdeal.Read.val_main_v236, Cert.ReferenceIdeal.Read.val_main_v234, Cert.ReferenceIdeal.Read.val_main_v233, Cert.ReferenceIdeal.Read.val_main_v112]
  refine Finset.sum_congr rfl fun k _ => ?_
  rw [← ds_ref m c hR h o ho hoh]
  exact congrArg₂ (· * ·) (congrArg (fun h => R230 m c (ix3 h r k)) (Fin.ext (by show j.val / 256 = h.val; omega))) rfl

end Cert.Mixer

end
-- ==== Proof.Pool.lean ====
module

public import proofs.«01_k».proof.Proof.PoolRef
public import proofs.«01_k».proof.Proof.Taps
public import proofs.«01_k».proof.Proof.HeadsRef

/-! The pooling branch's part of one point, read at an index.

A point divides the gradient of its 256 rows of pooled inputs by their numbers of rows, appends the rows below the tile, which the
point before left in the scratch buffer, and multiplies by the zero-one matrix whose row `i` picks the rows `i … i + w − 1`. The
product is the sum of the shares that the reference hands to row `i`, once the buffer holds the reference's shares (`Tail2`). -/

@[expose] public section

set_option maxRecDepth 16384

noncomputable section

namespace Cert.Mixer

open Cert.KernelIdeal Cert.KernelIdeal.Gen
open Idealize.ShloMosaic Idealize.ShloMosaic.TcCoe Idealize.SL.Sem

variable (m : (ℓ : Loc nD τ sig) → Buf (Elt Ideal) ℓ) (c : Dev nD) (t : Fin cfg0.N)

/-- The number of the row in the whole array, as a word. -/
theorem row_word (i : Fin 256) : IntOp.addi (IntOp.addi (Scalar.muli (TILE t) 256#32) (BitVec.ofNat 32 i.val)) 1#32 = BitVec.ofNat 32 ((row t i).val + 1) := by
  have ht : t.val < 16 := t.isLt
  rw [TILE_eq]
  refine BitVec.eq_of_toNat_eq ?_
  show (((BitVec.ofNat 32 (15 - t.val) * 256#32) + BitVec.ofNat 32 i.val) + 1#32).toNat = _
  simp only [BitVec.toNat_add, BitVec.toNat_mul, BitVec.toNat_ofNat, row]
  omega

/-- In group `g`, the gradient of the pooled inputs. -/
theorem pooled_ref (r : Fin 4096) (g : Fin 4) (q : Fin 256) :
    R240 m c (ix3 r g q) = ∑ x : Fin 256, R200 m c (ix2 r ⟨256 * g.val + x.val, by omega⟩) * X4 m c (ix3 g q x) := by
  rw [R240]
  pointwise [Cert.ReferenceIdeal.Read.val_main_v240, Cert.ReferenceIdeal.Read.val_main_v239, Cert.ReferenceIdeal.Read.val_main_v238, Cert.ReferenceIdeal.Read.val_main_v237]
  refine Finset.sum_congr rfl fun x _ => ?_
  exact congrArg (fun i => R200 m c i * X4 m c (ix3 g q x)) (congrArg₂ ix2 rfl (Fin.ext (congrArg (· + x.val) (Nat.mul_comm _ _))))

/-- The shares of the rows below the tile, a window's reach down. -/
def Tail2 (T2 : Vec Ideal S128x1024 .bf16) : Prop := ∀ (g : Fin 4) (i : Fin 16) (q : Fin 256),
  T2 (ix2 ⟨i.val, by omega⟩ ⟨256 * g.val + q.val, by omega⟩) = share m c g (![2, 4, 8, 16] g) (256 * (15 - t.val) + 256 + i.val) q

theorem ext2_at {T2 : Vec Ideal S128x1024 .bf16} (hT : Tail2 m c t T2) (g : Fin 4) (w : ℕ) (hgw : ![2, 4, 8, 16] g = w) (o : ℕ) (ho : o ≤ 768) (hog : o = 256 * g.val) (N : Vec Ideal S256x256 .bf16)
    (hN : ∀ i q, N (ix2 i q) = share m c g w (row t i).val q) (x : ℕ) (hx : x < 272) (q : Fin 256) :
    ext2 N T2 o ho (ix2 ⟨x, by omega⟩ q) = share m c g w (256 * (15 - t.val) + x) q := by
  subst hog
  subst hgw
  rw [ext2, ofIx_apply]
  by_cases h : x < 256
  · rw [dif_pos h, hN]
    rfl
  · rw [dif_neg h]
    refine (hT g ⟨x - 256, by omega⟩ q).trans ?_
    exact congrArg (fun n => share m c g (![2, 4, 8, 16] g) n q) (by show 256 * (15 - t.val) + 256 + (x - 256) = _; omega)

/-- The zero-one matrix picks the shares of a window. -/
theorem band_sum {T2 : Vec Ideal S128x1024 .bf16} (hT : Tail2 m c t T2) (g : Fin 4) (w : ℕ) (hgw : ![2, 4, 8, 16] g = w) (o : ℕ) (ho : o ≤ 768) (hog : o = 256 * g.val) (N : Vec Ideal S256x256 .bf16)
    (hN : ∀ i q, N (ix2 i q) = share m c g w (row t i).val q) (i q : Fin 256) :
    ∑ x : Fin 384, HMul.hMul (α := EReal) (β := EReal) (γ := EReal) (iblk m c 15 t (ix3 g i x)) (ext2 N T2 o ho (ix2 x q)) = ∑ k ∈ Finset.range w, share m c g w ((row t i).val + k) q := by
  have hw : ![2, 4, 8, 16] g ≤ 16 := by fin_cases g <;> decide
  subst hgw
  have e : ∀ x : Fin 384, HMul.hMul (α := EReal) (β := EReal) (γ := EReal) (iblk m c 15 t (ix3 g i x)) (ext2 N T2 o ho (ix2 x q))
      = (if i.val ≤ x.val ∧ x.val < i.val + ![2, 4, 8, 16] g then (1 : EReal) else 0) * share m c g (![2, 4, 8, 16] g) (256 * (15 - t.val) + x.val) q := fun x => by
    rw [blk15]
    by_cases h : i.val ≤ x.val ∧ x.val < i.val + ![2, 4, 8, 16] g
    · rw [ext2_at m c t hT g _ rfl o ho hog N hN x.val (by omega) q]
    · rw [if_neg h, zero_mul, zero_mul]
  rw [Finset.sum_congr rfl fun x _ => e x]
  rw [sum_band (fun n => share m c g (![2, 4, 8, 16] g) (256 * (15 - t.val) + n) q) i.val _ (by omega)]
  exact Finset.sum_congr rfl fun k _ => congrArg (fun n => share m c g (![2, 4, 8, 16] g) n q) (by simp only [row]; omega)

theorem N0_at (i q : Fin 256) : N0 m c t (ix2 i q) = share m c 0 2 (row t i).val q := by
  rw [share, dif_pos (row t i).isLt, ← Ideal.mul_one_div (rowsIn_ne 2 _ (by decide)), ← rowsIn_word 2 _ (row t i).isLt (by decide), ← row_word, pooled_ref, N0]
  pointwise [k0_pay36, k0_pay37, k0_pay38]
  simp only [DPP_at, blk9]

theorem DU0_at {T2 : Vec Ideal S128x1024 .bf16} (hT : Tail2 m c t T2) (hF : ∀ n q, IsReal (share m c 0 2 n q)) (i q : Fin 256) :
    DU0 m c t T2 (ix2 i q) = R305 m c (ix2 (row t i) ⟨q.val, by omega⟩) := by
  rw [pool0_ref m c hF, ← band_sum m c t hT 0 2 rfl 0 (by decide) rfl (N0 m c t) (N0_at m c t) i q, pooled_ref, DU0, add_comm, ← sub_eq_add_neg]
  pointwise [k0_pay36, k0_pay37, k0_pay38]
  simp only [DPP_at, blk9]

theorem N1_at (i q : Fin 256) : N1 m c t (ix2 i q) = share m c 1 4 (row t i).val q := by
  rw [share, dif_pos (row t i).isLt, ← Ideal.mul_one_div (rowsIn_ne 4 _ (by decide)), ← rowsIn_word 4 _ (row t i).isLt (by decide), ← row_word, pooled_ref, N1]
  pointwise [k0_pay39, k0_pay40, k0_pay41, k0_pay42]
  simp only [DPP_at, blk9]

theorem DU1_at {T2 : Vec Ideal S128x1024 .bf16} (hT : Tail2 m c t T2) (hF : ∀ n q, IsReal (share m c 1 4 n q)) (i q : Fin 256) :
    DU1 m c t T2 (ix2 i q) = R305 m c (ix2 (row t i) ⟨256 + q.val, by omega⟩) := by
  rw [pool1_ref m c hF, ← band_sum m c t hT 1 4 rfl 256 (by decide) rfl (N1 m c t) (N1_at m c t) i q, pooled_ref, DU1, add_comm, ← sub_eq_add_neg]
  pointwise [k0_pay39, k0_pay40, k0_pay41, k0_pay42]
  simp only [DPP_at, blk9]

theorem N2_at (i q : Fin 256) : N2 m c t (ix2 i q) = share m c 2 8 (row t i).val q := by
  rw [share, dif_pos (row t i).isLt, ← Ideal.mul_one_div (rowsIn_ne 8 _ (by decide)), ← rowsIn_word 8 _ (row t i).isLt (by decide), ← row_word, pooled_ref, N2]
  pointwise [k0_pay43, k0_pay44, k0_pay45, k0_pay46]
  simp only [DPP_at, blk9]

theorem DU2_at {T2 : Vec Ideal S128x1024 .bf16} (hT : Tail2 m c t T2) (hF : ∀ n q, IsReal (share m c 2 8 n q)) (i q : Fin 256) :
    DU2 m c t T2 (ix2 i q) = R305 m c (ix2 (row t i) ⟨512 + q.val, by omega⟩) := by
  rw [pool2_ref m c hF, ← band_sum m c t hT 2 8 rfl 512 (by decide) rfl (N2 m c t) (N2_at m c t) i q, pooled_ref, DU2, add_comm, ← sub_eq_add_neg]
  pointwise [k0_pay43, k0_pay44, k0_pay45, k0_pay46]
  simp only [DPP_at, blk9]

theorem N3_at (i q : Fin 256) : N3 m c t (ix2 i q) = share m c 3 16 (row t i).val q := by
  rw [share, dif_pos (row t i).isLt, ← Ideal.mul_one_div (rowsIn_ne 16 _ (by decide)), ← rowsIn_word 16 _ (row t i).isLt (by decide), ← row_word, pooled_ref, N3]
  pointwise [k0_pay47, k0_pay48, k0_pay49, k0_pay50]
  simp only [DPP_at, blk9]

theorem DU3_at {T2 : Vec Ideal S128x1024 .bf16} (hT : Tail2 m c t T2) (hF : ∀ n q, IsReal (share m c 3 16 n q)) (i q : Fin 256) :
    DU3 m c t T2 (ix2 i q) = R305 m c (ix2 (row t i) ⟨768 + q.val, by omega⟩) := by
  rw [pool3_ref m c hF, ← band_sum m c t hT 3 16 rfl 768 (by decide) rfl (N3 m c t) (N3_at m c t) i q, pooled_ref, DU3, add_comm, ← sub_eq_add_neg]
  pointwise [k0_pay47, k0_pay48, k0_pay49, k0_pay50]
  simp only [DPP_at, blk9]

/-- The first sixteen rows of the tile are below the tile of the next point. -/
theorem tail2_step (t' : Fin cfg0.N) (h : t'.val = t.val + 1) (T : Vec Ideal S128x1024 .bf16) :
    Tail2 m c t' (carry2 (N0 m c t) (N1 m c t) (N2 m c t) (N3 m c t) T) := fun g i q => by
  have ht : t'.val < 16 := t'.isLt
  have hn : (row t ⟨i.val, by omega⟩).val = 256 * (15 - t'.val) + 256 + i.val := by simp only [row]; omega
  rw [carry2, ofIx_apply, dif_pos i.isLt]
  fin_cases g
  · rw [dif_pos (by show 256 * 0 + q.val < 256; omega)]
    refine Eq.trans (congrArg (N0 m c t) (congrArg₂ ix2 rfl (Fin.ext (by show 256 * 0 + q.val = q.val; omega)))) ((N0_at m c t ⟨i.val, by omega⟩ q).trans ?_)
    exact congrArg (fun n => share m c 0 2 n q) hn
  · rw [dif_neg (by show ¬256 * 1 + q.val < 256; omega), dif_pos (by show 256 * 1 + q.val < 512; omega)]
    refine Eq.trans (congrArg (N1 m c t) (congrArg₂ ix2 rfl (Fin.ext (by show 256 * 1 + q.val - 256 = q.val; omega)))) ((N1_at m c t ⟨i.val, by omega⟩ q).trans ?_)
    exact congrArg (fun n => share m c 1 4 n q) hn
  · rw [dif_neg (by show ¬256 * 2 + q.val < 256; omega), dif_neg (by show ¬256 * 2 + q.val < 512; omega), dif_pos (by show 256 * 2 + q.val < 768; omega)]
    refine Eq.trans (congrArg (N2 m c t) (congrArg₂ ix2 rfl (Fin.ext (by show 256 * 2 + q.val - 512 = q.val; omega)))) ((N2_at m c t ⟨i.val, by omega⟩ q).trans ?_)
    exact congrArg (fun n => share m c 2 8 n q) hn
  · rw [dif_neg (by show ¬256 * 3 + q.val < 256; omega), dif_neg (by show ¬256 * 3 + q.val < 512; omega), dif_neg (by show ¬256 * 3 + q.val < 768; omega)]
    refine Eq.trans (congrArg (N3 m c t) (congrArg₂ ix2 rfl (Fin.ext (by show 256 * 3 + q.val - 768 = q.val; omega)))) ((N3_at m c t ⟨i.val, by omega⟩ q).trans ?_)
    exact congrArg (fun n => share m c 3 16 n q) hn

theorem tail2_start (h : t.val = 0) : Tail2 m c t (k0_pay5 (F := Ideal)) := fun g i q => by
  rw [share, dif_neg (by omega)]
  pointwise [k0_pay5]

theorem share_real (hR : RealInputs m c) (g : Fin 4) (w : ℕ) (hw : 0 < w) (n : ℕ) (q : Fin 256) : IsReal (share m c g w n q) := by
  rw [share]
  by_cases h : n < 4096
  · rw [dif_pos h]
    refine IsReal.div ?_ (IsReal.coe _) (rowsIn_ne w n hw)
    rw [pooled_ref]
    refine IsReal.sum _ fun x _ => IsReal.mul ?_ (hR.x4 _)
    rw [R200]
    pointwise [Cert.ReferenceIdeal.Read.val_main_v200, Cert.ReferenceIdeal.Read.val_main_v199, Cert.ReferenceIdeal.Read.val_main_v194, Cert.ReferenceIdeal.Read.val_main_v190]
    rw [gate168]
    exact ((gate_real (hR.x1 _)).mul (IsReal.sum _ fun y _ => (hR.x0 _).mul (hR.x9 _))).mul (hR.x5 _)
  · rw [dif_neg h]
    exact IsReal.zero

end Cert.Mixer

end
-- ==== Proof.Proj.lean ====
module

public import proofs.«01_k».proof.Proof.Pool
public import proofs.«01_k».proof.Proof.HeadsRef

/-! The gradient of the eight projections.

The reference puts eight gradients side by side as a sum of padded arrays; a point stores its 256 rows of the same eight, three of
them in four parts. `proj_at` is the equation between the two, given the reference's rows below the tile in the scratch buffers. -/

@[expose] public section

set_option maxRecDepth 16384

noncomputable section

namespace Cert.Mixer

open Cert.KernelIdeal Cert.KernelIdeal.Gen
open Idealize.ShloMosaic Idealize.ShloMosaic.TcCoe Idealize.SL.Sem

variable (m : (ℓ : Loc nD τ sig) → Buf (Elt Ideal) ℓ) (c : Dev nD) (t : Fin cfg0.N)

/-- In the reference, the gradient of the eight projections side by side. -/
abbrev R353 := Cert.ReferenceIdeal.Read.val_main_v353 (X0 m c) (X1 m c) (X2 m c) (X3 m c) (X4 m c) (X5 m c) (X6 m c) (X7 m c) (X8 m c) (X9 m c)

theorem place0 (r : Fin 4096) (j : Fin 8192) : Cert.ReferenceIdeal.Read.val_main_v352 (X0 m c) (X1 m c) (X2 m c) (X3 m c) (X9 m c) (ix2 r j) = if h : 0 ≤ j.val ∧ j.val < 1024 then R308 m c (ix2 r ⟨j.val - 0, by omega⟩) else 0 := by
  refine (pad_at _ _ _ _ _ _).trans ?_
  by_cases h : 0 ≤ j.val ∧ j.val < 1024
  · rw [dif_pos h, dif_pos ⟨⟨Nat.zero_le _, by omega⟩, by omega, by omega⟩]
    rfl
  · rw [dif_neg h, dif_neg (by omega)]
    pointwise [Cert.ReferenceIdeal.Read.val_main_cst_70]

theorem place1 (r : Fin 4096) (j : Fin 8192) : Cert.ReferenceIdeal.Read.val_main_v350 (X0 m c) (X1 m c) (X2 m c) (X3 m c) (X9 m c) (ix2 r j) = if h : 1024 ≤ j.val ∧ j.val < 2048 then R343 m c (ix2 r ⟨j.val - 1024, by omega⟩) else 0 := by
  refine (pad_at _ _ _ _ _ _).trans ?_
  by_cases h : 1024 ≤ j.val ∧ j.val < 2048
  · rw [dif_pos h, dif_pos ⟨⟨Nat.zero_le _, by omega⟩, by omega, by omega⟩]
    rfl
  · rw [dif_neg h, dif_neg (by omega)]
    pointwise [Cert.ReferenceIdeal.Read.val_main_cst_69]

theorem place2 (r : Fin 4096) (j : Fin 8192) : Cert.ReferenceIdeal.Read.val_main_v348 (X0 m c) (X1 m c) (X2 m c) (X3 m c) (X9 m c) (ix2 r j) = if h : 2048 ≤ j.val ∧ j.val < 3072 then R342 m c (ix2 r ⟨j.val - 2048, by omega⟩) else 0 := by
  refine (pad_at _ _ _ _ _ _).trans ?_
  by_cases h : 2048 ≤ j.val ∧ j.val < 3072
  · rw [dif_pos h, dif_pos ⟨⟨Nat.zero_le _, by omega⟩, by omega, by omega⟩]
    rfl
  · rw [dif_neg h, dif_neg (by omega)]
    pointwise [Cert.ReferenceIdeal.Read.val_main_cst_68]

theorem place3 (r : Fin 4096) (j : Fin 8192) : Cert.ReferenceIdeal.Read.val_main_v346 (X0 m c) (X1 m c) (X4 m c) (X5 m c) (X9 m c) (ix2 r j) = if h : 3072 ≤ j.val ∧ j.val < 4096 then R305 m c (ix2 r ⟨j.val - 3072, by omega⟩) else 0 := by
  refine (pad_at _ _ _ _ _ _).trans ?_
  by_cases h : 3072 ≤ j.val ∧ j.val < 4096
  · rw [dif_pos h, dif_pos ⟨⟨Nat.zero_le _, by omega⟩, by omega, by omega⟩]
    rfl
  · rw [dif_neg h, dif_neg (by omega)]
    pointwise [Cert.ReferenceIdeal.Read.val_main_cst_67]

theorem place4 (r : Fin 4096) (j : Fin 8192) : Cert.ReferenceIdeal.Read.val_main_v344 (X0 m c) (X1 m c) (X6 m c) (X7 m c) (X8 m c) (X9 m c) (ix2 r j) = if h : 4096 ≤ j.val ∧ j.val < 5120 then R236 m c (ix2 r ⟨j.val - 4096, by omega⟩) else 0 := by
  refine (pad_at _ _ _ _ _ _).trans ?_
  by_cases h : 4096 ≤ j.val ∧ j.val < 5120
  · rw [dif_pos h, dif_pos ⟨⟨Nat.zero_le _, by omega⟩, by omega, by omega⟩]
    rfl
  · rw [dif_neg h, dif_neg (by omega)]
    pointwise [Cert.ReferenceIdeal.Read.val_main_cst_66]

theorem place5 (r : Fin 4096) (j : Fin 8192) : Cert.ReferenceIdeal.Read.val_main_v208 (X0 m c) (X1 m c) (X2 m c) (X3 m c) (X9 m c) (ix2 r j) = if h : 5120 ≤ j.val ∧ j.val < 6144 then R204 m c (ix2 r ⟨j.val - 5120, by omega⟩) else 0 := by
  refine (pad_at _ _ _ _ _ _).trans ?_
  by_cases h : 5120 ≤ j.val ∧ j.val < 6144
  · rw [dif_pos h, dif_pos ⟨⟨Nat.zero_le _, by omega⟩, by omega, by omega⟩]
    rfl
  · rw [dif_neg h, dif_neg (by omega)]
    pointwise [Cert.ReferenceIdeal.Read.val_main_cst_38]

theorem place6 (r : Fin 4096) (j : Fin 8192) : Cert.ReferenceIdeal.Read.val_main_v206 (X0 m c) (X1 m c) (X4 m c) (X5 m c) (X9 m c) (ix2 r j) = if h : 6144 ≤ j.val ∧ j.val < 7168 then R201 m c (ix2 r ⟨j.val - 6144, by omega⟩) else 0 := by
  refine (pad_at _ _ _ _ _ _).trans ?_
  by_cases h : 6144 ≤ j.val ∧ j.val < 7168
  · rw [dif_pos h, dif_pos ⟨⟨Nat.zero_le _, by omega⟩, by omega, by omega⟩]
    rfl
  · rw [dif_neg h, dif_neg (by omega)]
    pointwise [Cert.ReferenceIdeal.Read.val_main_cst_37]

theorem place7 (r : Fin 4096) (j : Fin 8192) : Cert.ReferenceIdeal.Read.val_main_v205 (X0 m c) (X1 m c) (X6 m c) (X7 m c) (X8 m c) (X9 m c) (ix2 r j) = if h : 7168 ≤ j.val ∧ j.val < 8192 then R193 m c (ix2 r ⟨j.val - 7168, by omega⟩) else 0 := by
  refine (pad_at _ _ _ _ _ _).trans ?_
  by_cases h : 7168 ≤ j.val ∧ j.val < 8192
  · rw [dif_pos h, dif_pos ⟨⟨Nat.zero_le _, by omega⟩, by omega, by omega⟩]
    rfl
  · rw [dif_neg h, dif_neg (by omega)]
    pointwise [Cert.ReferenceIdeal.Read.val_main_cst_36]

theorem proj0_ref (r : Fin 4096) (j : Fin 8192) (q : Fin 1024) (hq : j.val = 0 + q.val) : R353 m c (ix2 r j) = R308 m c (ix2 r q) := by
  rw [R353]
  pointwise [Cert.ReferenceIdeal.Read.val_main_v353, Cert.ReferenceIdeal.Read.val_main_v351, Cert.ReferenceIdeal.Read.val_main_v349, Cert.ReferenceIdeal.Read.val_main_v347, Cert.ReferenceIdeal.Read.val_main_v345, Cert.ReferenceIdeal.Read.val_main_v209, Cert.ReferenceIdeal.Read.val_main_v207]
  rw [place0, place1, place2, place3, place4, place5, place6, place7]
  rw [dif_neg (show ¬(7168 ≤ j.val ∧ j.val < 8192) by omega), dif_neg (show ¬(6144 ≤ j.val ∧ j.val < 7168) by omega), dif_neg (show ¬(5120 ≤ j.val ∧ j.val < 6144) by omega), dif_neg (show ¬(4096 ≤ j.val ∧ j.val < 5120) by omega), dif_neg (show ¬(3072 ≤ j.val ∧ j.val < 4096) by omega), dif_neg (show ¬(2048 ≤ j.val ∧ j.val < 3072) by omega), dif_neg (show ¬(1024 ≤ j.val ∧ j.val < 2048) by omega), dif_pos (show 0 ≤ j.val ∧ j.val < 1024 by omega)]
  simp only [zero_add, add_zero]
  exact congrArg (R308 m c) (congrArg₂ ix2 rfl (Fin.ext (by show j.val - 0 = q.val; omega)))

theorem proj1_ref (r : Fin 4096) (j : Fin 8192) (q : Fin 1024) (hq : j.val = 1024 + q.val) : R353 m c (ix2 r j) = R343 m c (ix2 r q) := by
  rw [R353]
  pointwise [Cert.ReferenceIdeal.Read.val_main_v353, Cert.ReferenceIdeal.Read.val_main_v351, Cert.ReferenceIdeal.Read.val_main_v349, Cert.ReferenceIdeal.Read.val_main_v347, Cert.ReferenceIdeal.Read.val_main_v345, Cert.ReferenceIdeal.Read.val_main_v209, Cert.ReferenceIdeal.Read.val_main_v207]
  rw [place0, place1, place2, place3, place4, place5, place6, place7]
  rw [dif_neg (show ¬(7168 ≤ j.val ∧ j.val < 8192) by omega), dif_neg (show ¬(6144 ≤ j.val ∧ j.val < 7168) by omega), dif_neg (show ¬(5120 ≤ j.val ∧ j.val < 6144) by omega), dif_neg (show ¬(4096 ≤ j.val ∧ j.val < 5120) by omega), dif_neg (show ¬(3072 ≤ j.val ∧ j.val < 4096) by omega), dif_neg (show ¬(2048 ≤ j.val ∧ j.val < 3072) by omega), dif_pos (show 1024 ≤ j.val ∧ j.val < 2048 by omega), dif_neg (show ¬(0 ≤ j.val ∧ j.val < 1024) by omega)]
  simp only [zero_add, add_zero]
  exact congrArg (R343 m c) (congrArg₂ ix2 rfl (Fin.ext (by show j.val - 1024 = q.val; omega)))

theorem proj2_ref (r : Fin 4096) (j : Fin 8192) (q : Fin 1024) (hq : j.val = 2048 + q.val) : R353 m c (ix2 r j) = R342 m c (ix2 r q) := by
  rw [R353]
  pointwise [Cert.ReferenceIdeal.Read.val_main_v353, Cert.ReferenceIdeal.Read.val_main_v351, Cert.ReferenceIdeal.Read.val_main_v349, Cert.ReferenceIdeal.Read.val_main_v347, Cert.ReferenceIdeal.Read.val_main_v345, Cert.ReferenceIdeal.Read.val_main_v209, Cert.ReferenceIdeal.Read.val_main_v207]
  rw [place0, place1, place2, place3, place4, place5, place6, place7]
  rw [dif_neg (show ¬(7168 ≤ j.val ∧ j.val < 8192) by omega), dif_neg (show ¬(6144 ≤ j.val ∧ j.val < 7168) by omega), dif_neg (show ¬(5120 ≤ j.val ∧ j.val < 6144) by omega), dif_neg (show ¬(4096 ≤ j.val ∧ j.val < 5120) by omega), dif_neg (show ¬(3072 ≤ j.val ∧ j.val < 4096) by omega), dif_pos (show 2048 ≤ j.val ∧ j.val < 3072 by omega), dif_neg (show ¬(1024 ≤ j.val ∧ j.val < 2048) by omega), dif_neg (show ¬(0 ≤ j.val ∧ j.val < 1024) by omega)]
  simp only [zero_add, add_zero]
  exact congrArg (R342 m c) (congrArg₂ ix2 rfl (Fin.ext (by show j.val - 2048 = q.val; omega)))

theorem proj3_ref (r : Fin 4096) (j : Fin 8192) (q : Fin 1024) (hq : j.val = 3072 + q.val) : R353 m c (ix2 r j) = R305 m c (ix2 r q) := by
  rw [R353]
  pointwise [Cert.ReferenceIdeal.Read.val_main_v353, Cert.ReferenceIdeal.Read.val_main_v351, Cert.ReferenceIdeal.Read.val_main_v349, Cert.ReferenceIdeal.Read.val_main_v347, Cert.ReferenceIdeal.Read.val_main_v345, Cert.ReferenceIdeal.Read.val_main_v209, Cert.ReferenceIdeal.Read.val_main_v207]
  rw [place0, place1, place2, place3, place4, place5, place6, place7]
  rw [dif_neg (show ¬(7168 ≤ j.val ∧ j.val < 8192) by omega), dif_neg (show ¬(6144 ≤ j.val ∧ j.val < 7168) by omega), dif_neg (show ¬(5120 ≤ j.val ∧ j.val < 6144) by omega), dif_neg (show ¬(4096 ≤ j.val ∧ j.val < 5120) by omega), dif_pos (show 3072 ≤ j.val ∧ j.val < 4096 by omega), dif_neg (show ¬(2048 ≤ j.val ∧ j.val < 3072) by omega), dif_neg (show ¬(1024 ≤ j.val ∧ j.val < 2048) by omega), dif_neg (show ¬(0 ≤ j.val ∧ j.val < 1024) by omega)]
  simp only [zero_add, add_zero]
  exact congrArg (R305 m c) (congrArg₂ ix2 rfl (Fin.ext (by show j.val - 3072 = q.val; omega)))

theorem proj4_ref (r : Fin 4096) (j : Fin 8192) (q : Fin 1024) (hq : j.val = 4096 + q.val) : R353 m c (ix2 r j) = R236 m c (ix2 r q) := by
  rw [R353]
  pointwise [Cert.ReferenceIdeal.Read.val_main_v353, Cert.ReferenceIdeal.Read.val_main_v351, Cert.ReferenceIdeal.Read.val_main_v349, Cert.ReferenceIdeal.Read.val_main_v347, Cert.ReferenceIdeal.Read.val_main_v345, Cert.ReferenceIdeal.Read.val_main_v209, Cert.ReferenceIdeal.Read.val_main_v207]
  rw [place0, place1, place2, place3, place4, place5, place6, place7]
  rw [dif_neg (show ¬(7168 ≤ j.val ∧ j.val < 8192) by omega), dif_neg (show ¬(6144 ≤ j.val ∧ j.val < 7168) by omega), dif_neg (show ¬(5120 ≤ j.val ∧ j.val < 6144) by omega), dif_pos (show 4096 ≤ j.val ∧ j.val < 5120 by omega), dif_neg (show ¬(3072 ≤ j.val ∧ j.val < 4096) by omega), dif_neg (show ¬(2048 ≤ j.val ∧ j.val < 3072) by omega), dif_neg (show ¬(1024 ≤ j.val ∧ j.val < 2048) by omega), dif_neg (show ¬(0 ≤ j.val ∧ j.val < 1024) by omega)]
  simp only [zero_add, add_zero]
  exact congrArg (R236 m c) (congrArg₂ ix2 rfl (Fin.ext (by show j.val - 4096 = q.val; omega)))

theorem proj5_ref (r : Fin 4096) (j : Fin 8192) (q : Fin 1024) (hq : j.val = 5120 + q.val) : R353 m c (ix2 r j) = R204 m c (ix2 r q) := by
  rw [R353]
  pointwise [Cert.ReferenceIdeal.Read.val_main_v353, Cert.ReferenceIdeal.Read.val_main_v351, Cert.ReferenceIdeal.Read.val_main_v349, Cert.ReferenceIdeal.Read.val_main_v347, Cert.ReferenceIdeal.Read.val_main_v345, Cert.ReferenceIdeal.Read.val_main_v209, Cert.ReferenceIdeal.Read.val_main_v207]
  rw [place0, place1, place2, place3, place4, place5, place6, place7]
  rw [dif_neg (show ¬(7168 ≤ j.val ∧ j.val < 8192) by omega), dif_neg (show ¬(6144 ≤ j.val ∧ j.val < 7168) by omega), dif_pos (show 5120 ≤ j.val ∧ j.val < 6144 by omega), dif_neg (show ¬(4096 ≤ j.val ∧ j.val < 5120) by omega), dif_neg (show ¬(3072 ≤ j.val ∧ j.val < 4096) by omega), dif_neg (show ¬(2048 ≤ j.val ∧ j.val < 3072) by omega), dif_neg (show ¬(1024 ≤ j.val ∧ j.val < 2048) by omega), dif_neg (show ¬(0 ≤ j.val ∧ j.val < 1024) by omega)]
  simp only [zero_add, add_zero]
  exact congrArg (R204 m c) (congrArg₂ ix2 rfl (Fin.ext (by show j.val - 5120 = q.val; omega)))

theorem proj6_ref (r : Fin 4096) (j : Fin 8192) (q : Fin 1024) (hq : j.val = 6144 + q.val) : R353 m c (ix2 r j) = R201 m c (ix2 r q) := by
  rw [R353]
  pointwise [Cert.ReferenceIdeal.Read.val_main_v353, Cert.ReferenceIdeal.Read.val_main_v351, Cert.ReferenceIdeal.Read.val_main_v349, Cert.ReferenceIdeal.Read.val_main_v347, Cert.ReferenceIdeal.Read.val_main_v345, Cert.ReferenceIdeal.Read.val_main_v209, Cert.ReferenceIdeal.Read.val_main_v207]
  rw [place0, place1, place2, place3, place4, place5, place6, place7]
  rw [dif_neg (show ¬(7168 ≤ j.val ∧ j.val < 8192) by omega), dif_pos (show 6144 ≤ j.val ∧ j.val < 7168 by omega), dif_neg (show ¬(5120 ≤ j.val ∧ j.val < 6144) by omega), dif_neg (show ¬(4096 ≤ j.val ∧ j.val < 5120) by omega), dif_neg (show ¬(3072 ≤ j.val ∧ j.val < 4096) by omega), dif_neg (show ¬(2048 ≤ j.val ∧ j.val < 3072) by omega), dif_neg (show ¬(1024 ≤ j.val ∧ j.val < 2048) by omega), dif_neg (show ¬(0 ≤ j.val ∧ j.val < 1024) by omega)]
  simp only [zero_add, add_zero]
  exact congrArg (R201 m c) (congrArg₂ ix2 rfl (Fin.ext (by show j.val - 6144 = q.val; omega)))

theorem proj7_ref (r : Fin 4096) (j : Fin 8192) (q : Fin 1024) (hq : j.val = 7168 + q.val) : R353 m c (ix2 r j) = R193 m c (ix2 r q) := by
  rw [R353]
  pointwise [Cert.ReferenceIdeal.Read.val_main_v353, Cert.ReferenceIdeal.Read.val_main_v351, Cert.ReferenceIdeal.Read.val_main_v349, Cert.ReferenceIdeal.Read.val_main_v347, Cert.ReferenceIdeal.Read.val_main_v345, Cert.ReferenceIdeal.Read.val_main_v209, Cert.ReferenceIdeal.Read.val_main_v207]
  rw [place0, place1, place2, place3, place4, place5, place6, place7]
  rw [dif_pos (show 7168 ≤ j.val ∧ j.val < 8192 by omega), dif_neg (show ¬(6144 ≤ j.val ∧ j.val < 7168) by omega), dif_neg (show ¬(5120 ≤ j.val ∧ j.val < 6144) by omega), dif_neg (show ¬(4096 ≤ j.val ∧ j.val < 5120) by omega), dif_neg (show ¬(3072 ≤ j.val ∧ j.val < 4096) by omega), dif_neg (show ¬(2048 ≤ j.val ∧ j.val < 3072) by omega), dif_neg (show ¬(1024 ≤ j.val ∧ j.val < 2048) by omega), dif_neg (show ¬(0 ≤ j.val ∧ j.val < 1024) by omega)]
  simp only [zero_add, add_zero]
  exact congrArg (R193 m c) (congrArg₂ ix2 rfl (Fin.ext (by show j.val - 7168 = q.val; omega)))

theorem queries0_at (hR : RealInputs m c) (i : Fin 256) (j : Fin 8192) (q : Fin 256) (hq : j.val = 4096 + q.val) : DQ0 m c t (ix2 i q) = R353 m c (ix2 (row t i) j) := by
  rw [DQ0_at, proj4_ref m c _ j ⟨0 + q.val, by omega⟩ (by show j.val = 4096 + (0 + q.val); omega), dq_ref m c hR 0 0 (by decide) rfl _ q _ rfl]

theorem pools0_at (hR : RealInputs m c) {T2 : Vec Ideal S128x1024 .bf16} (hT : Tail2 m c t T2) (i : Fin 256) (j : Fin 8192) (q : Fin 256) (hq : j.val = 3072 + q.val) : DU0 m c t T2 (ix2 i q) = R353 m c (ix2 (row t i) j) := by
  rw [DU0_at m c t hT (share_real m c hR 0 2 (by decide)), proj3_ref m c _ j ⟨0 + q.val, by omega⟩ (by show j.val = 3072 + (0 + q.val); omega)]
  exact congrArg (R305 m c) (congrArg₂ ix2 rfl (Fin.ext (Nat.zero_add _).symm))

theorem queries1_at (hR : RealInputs m c) (i : Fin 256) (j : Fin 8192) (q : Fin 256) (hq : j.val = 4352 + q.val) : DQ1 m c t (ix2 i q) = R353 m c (ix2 (row t i) j) := by
  rw [DQ1_at, proj4_ref m c _ j ⟨256 + q.val, by omega⟩ (by show j.val = 4096 + (256 + q.val); omega), dq_ref m c hR 1 256 (by decide) rfl _ q _ rfl]

theorem pools1_at (hR : RealInputs m c) {T2 : Vec Ideal S128x1024 .bf16} (hT : Tail2 m c t T2) (i : Fin 256) (j : Fin 8192) (q : Fin 256) (hq : j.val = 3328 + q.val) : DU1 m c t T2 (ix2 i q) = R353 m c (ix2 (row t i) j) := by
  rw [DU1_at m c t hT (share_real m c hR 1 4 (by decide)), proj3_ref m c _ j ⟨256 + q.val, by omega⟩ (by show j.val = 3072 + (256 + q.val); omega)]

theorem queries2_at (hR : RealInputs m c) (i : Fin 256) (j : Fin 8192) (q : Fin 256) (hq : j.val = 4608 + q.val) : DQ2 m c t (ix2 i q) = R353 m c (ix2 (row t i) j) := by
  rw [DQ2_at, proj4_ref m c _ j ⟨512 + q.val, by omega⟩ (by show j.val = 4096 + (512 + q.val); omega), dq_ref m c hR 2 512 (by decide) rfl _ q _ rfl]

theorem pools2_at (hR : RealInputs m c) {T2 : Vec Ideal S128x1024 .bf16} (hT : Tail2 m c t T2) (i : Fin 256) (j : Fin 8192) (q : Fin 256) (hq : j.val = 3584 + q.val) : DU2 m c t T2 (ix2 i q) = R353 m c (ix2 (row t i) j) := by
  rw [DU2_at m c t hT (share_real m c hR 2 8 (by decide)), proj3_ref m c _ j ⟨512 + q.val, by omega⟩ (by show j.val = 3072 + (512 + q.val); omega)]

theorem queries3_at (hR : RealInputs m c) (i : Fin 256) (j : Fin 8192) (q : Fin 256) (hq : j.val = 4864 + q.val) : DQ3 m c t (ix2 i q) = R353 m c (ix2 (row t i) j) := by
  rw [DQ3_at, proj4_ref m c _ j ⟨768 + q.val, by omega⟩ (by show j.val = 4096 + (768 + q.val); omega), dq_ref m c hR 3 768 (by decide) rfl _ q _ rfl]

theorem pools3_at (hR : RealInputs m c) {T2 : Vec Ideal S128x1024 .bf16} (hT : Tail2 m c t T2) (i : Fin 256) (j : Fin 8192) (q : Fin 256) (hq : j.val = 3840 + q.val) : DU3 m c t T2 (ix2 i q) = R353 m c (ix2 (row t i) j) := by
  rw [DU3_at m c t hT (share_real m c hR 3 16 (by decide)), proj3_ref m c _ j ⟨768 + q.val, by omega⟩ (by show j.val = 3072 + (768 + q.val); omega)]

/-- A point's block of the gradient of the projections holds the reference's rows. -/
theorem proj_at (hR : RealInputs m c) {T1 : Vec Ideal S16x1024 .f32} (hT1 : Tail1 m c t T1) {T2 : Vec Ideal S128x1024 .bf16} (hT2 : Tail2 m c t T2) (i : Fin 256) (j : Fin 8192) :
    dprojOf m c t T1 T2 (ix2 i j) = R353 m c (ix2 (row t i) j) := by
  rw [dprojOf]
  by_cases h4864 : 4864 ≤ j.val ∧ j.val < 5120
  · refine (canon_in (Val := Elt Ideal) _ _ _ i j (Nat.zero_le _) (by omega) h4864.1 (by omega)).trans ?_
    exact queries3_at m c t hR i j _ (by show j.val = 4864 + (j.val - 4864); omega)
  refine (canon_out (Val := Elt Ideal) _ _ _ i j (by omega)).trans ?_
  by_cases h4608 : 4608 ≤ j.val ∧ j.val < 4864
  · refine (canon_in (Val := Elt Ideal) _ _ _ i j (Nat.zero_le _) (by omega) h4608.1 (by omega)).trans ?_
    exact queries2_at m c t hR i j _ (by show j.val = 4608 + (j.val - 4608); omega)
  refine (canon_out (Val := Elt Ideal) _ _ _ i j (by omega)).trans ?_
  by_cases h4352 : 4352 ≤ j.val ∧ j.val < 4608
  · refine (canon_in (Val := Elt Ideal) _ _ _ i j (Nat.zero_le _) (by omega) h4352.1 (by omega)).trans ?_
    exact queries1_at m c t hR i j _ (by show j.val = 4352 + (j.val - 4352); omega)
  refine (canon_out (Val := Elt Ideal) _ _ _ i j (by omega)).trans ?_
  by_cases h4096 : 4096 ≤ j.val ∧ j.val < 4352
  · refine (canon_in (Val := Elt Ideal) _ _ _ i j (Nat.zero_le _) (by omega) h4096.1 (by omega)).trans ?_
    exact queries0_at m c t hR i j _ (by show j.val = 4096 + (j.val - 4096); omega)
  refine (canon_out (Val := Elt Ideal) _ _ _ i j (by omega)).trans ?_
  by_cases h3840 : 3840 ≤ j.val ∧ j.val < 4096
  · refine (canon_in (Val := Elt Ideal) _ _ _ i j (Nat.zero_le _) (by omega) h3840.1 (by omega)).trans ?_
    exact pools3_at m c t hR hT2 i j _ (by show j.val = 3840 + (j.val - 3840); omega)
  refine (canon_out (Val := Elt Ideal) _ _ _ i j (by omega)).trans ?_
  by_cases h3584 : 3584 ≤ j.val ∧ j.val < 3840
  · refine (canon_in (Val := Elt Ideal) _ _ _ i j (Nat.zero_le _) (by omega) h3584.1 (by omega)).trans ?_
    exact pools2_at m c t hR hT2 i j _ (by show j.val = 3584 + (j.val - 3584); omega)
  refine (canon_out (Val := Elt Ideal) _ _ _ i j (by omega)).trans ?_
  by_cases h3328 : 3328 ≤ j.val ∧ j.val < 3584
  · refine (canon_in (Val := Elt Ideal) _ _ _ i j (Nat.zero_le _) (by omega) h3328.1 (by omega)).trans ?_
    exact pools1_at m c t hR hT2 i j _ (by show j.val = 3328 + (j.val - 3328); omega)
  refine (canon_out (Val := Elt Ideal) _ _ _ i j (by omega)).trans ?_
  by_cases h3072 : 3072 ≤ j.val ∧ j.val < 3328
  · refine (canon_in (Val := Elt Ideal) _ _ _ i j (Nat.zero_le _) (by omega) h3072.1 (by omega)).trans ?_
    exact pools0_at m c t hR hT2 i j _ (by show j.val = 3072 + (j.val - 3072); omega)
  refine (canon_out (Val := Elt Ideal) _ _ _ i j (by omega)).trans ?_
  by_cases h2048 : 2048 ≤ j.val ∧ j.val < 3072
  · refine (canon_in (Val := Elt Ideal) _ _ _ i j (Nat.zero_le _) (by omega) h2048.1 (by omega)).trans ?_
    exact (du_at m c t hT1 i ⟨j.val - 2048, by omega⟩).trans (proj2_ref m c _ j _ (by show j.val = 2048 + (j.val - 2048); omega)).symm
  refine (canon_out (Val := Elt Ideal) _ _ _ i j (by omega)).trans ?_
  by_cases h1024 : 1024 ≤ j.val ∧ j.val < 2048
  · refine (canon_in (Val := Elt Ideal) _ _ _ i j (Nat.zero_le _) (by omega) h1024.1 (by omega)).trans ?_
    exact (dc_at m c t hT1 i ⟨j.val - 1024, by omega⟩).trans (proj1_ref m c _ j _ (by show j.val = 1024 + (j.val - 1024); omega)).symm
  refine (canon_out (Val := Elt Ideal) _ _ _ i j (by omega)).trans ?_
  by_cases h0 : 0 ≤ j.val ∧ j.val < 1024
  · refine (canon_in (Val := Elt Ideal) _ _ _ i j (Nat.zero_le _) (by omega) h0.1 (by omega)).trans ?_
    exact (db_at m c t i ⟨j.val - 0, by omega⟩).trans (proj0_ref m c _ j _ (by show j.val = 0 + (j.val - 0); omega)).symm
  refine (canon_out (Val := Elt Ideal) _ _ _ i j (by omega)).trans ?_
  by_cases h7168 : 7168 ≤ j.val ∧ j.val < 8192
  · refine (canon_in (Val := Elt Ideal) _ _ _ i j (Nat.zero_le _) (by omega) h7168.1 (by omega)).trans ?_
    exact (gateX_at m c t i ⟨j.val - 7168, by omega⟩).trans (proj7_ref m c _ j _ (by show j.val = 7168 + (j.val - 7168); omega)).symm
  refine (canon_out (Val := Elt Ideal) _ _ _ i j (by omega)).trans ?_
  by_cases h6144 : 6144 ≤ j.val ∧ j.val < 7168
  · refine (canon_in (Val := Elt Ideal) _ _ _ i j (Nat.zero_le _) (by omega) h6144.1 (by omega)).trans ?_
    exact (gateP_at m c t i ⟨j.val - 6144, by omega⟩).trans (proj6_ref m c _ j _ (by show j.val = 6144 + (j.val - 6144); omega)).symm
  refine (canon_out (Val := Elt Ideal) _ _ _ i j (by omega)).trans ?_
  by_cases h5120 : 5120 ≤ j.val ∧ j.val < 6144
  · refine (canon_in (Val := Elt Ideal) _ _ _ i j (Nat.zero_le _) (by omega) h5120.1 (by omega)).trans ?_
    exact (gateA_at m c t i ⟨j.val - 5120, by omega⟩).trans (proj5_ref m c _ j _ (by show j.val = 5120 + (j.val - 5120); omega)).symm
  refine (canon_out (Val := Elt Ideal) _ _ _ i j (by omega)).trans ?_
  omega

end Cert.Mixer

end
-- ==== Proof.Fields.lean ====
module

public import proofs.«01_k».proof.Proof.Body

/-! What the first point and a later point leave in their buffers: the terms of `Body.lean`. -/

@[expose] public section

set_option maxRecDepth 16384

noncomputable section

namespace Cert.Mixer

open Cert.KernelIdeal Cert.KernelIdeal.Gen
open Idealize.ShloMosaic Idealize.ShloMosaic.TcCoe Idealize.SL.Sem

variable (m : (ℓ : Loc nD τ sig) → Buf (Elt Ideal) ℓ) (c : Dev nD) (t : Fin cfg0.N)

theorem hz : (![0, 0] : Fin 2 → Nat) = fun _ => 0 := funext fun a => by fin_cases a <;> rfl

theorem pay32_eq (X : FVec Ideal S256x1024 .f32) : k0_pay32 X = X := cast_self X _
theorem pay26_eq (X : FVec Ideal S256x1024 .f32) : k0_pay26 X = X := cast_self X _
theorem pay94_eq (X : Vec Ideal S16x1024 .f32) : k0_pay94 X = X := cast_self X _
theorem pay95_eq (X : Vec Ideal S16x1024 .bf16) : k0_pay95 X = X := cast_self X _

theorem dyaFirst (h0 : cond0_0 (grid0.coords t)) : (atFirst m c t h0).dya = DYA m c t := by
  unfold atFirst; dsimp only
  rw [View.read_writes_eq_canon _ _ _ (coverDyaFirst m c t h0)]
  unfold runFirst kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_20 t).read_unread, (hs0_21 t).read_unread, (hs0_22 t).read_unread, (Memref.isWhole_whole cc0_scratch1).read_unread, (Memref.isWhole_whole cc0_scratch2).read_unread, pay32_eq, pay26_eq, pay94_eq, pay95_eq]
  rw [View.canon_unit_zero hz]
  rfl

theorem dppFirst (h0 : cond0_0 (grid0.coords t)) : (atFirst m c t h0).dpp = DPP m c t := by
  unfold atFirst; dsimp only
  rw [View.read_writes_eq_canon _ _ _ (coverDppFirst m c t h0)]
  unfold runFirst kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_20 t).read_unread, (hs0_21 t).read_unread, (hs0_22 t).read_unread, (Memref.isWhole_whole cc0_scratch1).read_unread, (Memref.isWhole_whole cc0_scratch2).read_unread, pay32_eq, pay26_eq, pay94_eq, pay95_eq]
  rw [View.canon_unit_zero hz]
  rfl

theorem dyxFirst (h0 : cond0_0 (grid0.coords t)) : (atFirst m c t h0).dyx = DYX m c t := by
  unfold atFirst; dsimp only
  rw [View.read_writes_eq_canon _ _ _ (coverDyxFirst m c t h0)]
  unfold runFirst kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_20 t).read_unread, (hs0_21 t).read_unread, (hs0_22 t).read_unread, (Memref.isWhole_whole cc0_scratch1).read_unread, (Memref.isWhole_whole cc0_scratch2).read_unread, pay32_eq, pay26_eq, pay94_eq, pay95_eq]
  rw [View.canon_unit_zero hz]
  rfl

theorem dprojFirst (h0 : cond0_0 (grid0.coords t)) : (atFirst m c t h0).dproj = dprojOf m c t (k0_pay4 (F := Ideal)) (k0_pay5 (F := Ideal)) := by
  unfold atFirst; dsimp only
  rw [View.read_writes_eq_canon _ _ _ (coverDprojFirst m c t h0)]
  unfold runFirst kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_20 t).read_unread, (hs0_21 t).read_unread, (hs0_22 t).read_unread, (Memref.isWhole_whole cc0_scratch1).read_unread, (Memref.isWhole_whole cc0_scratch2).read_unread, pay32_eq, pay26_eq, pay94_eq, pay95_eq]
  simp only [ext0_first _ _ _ 14 (by decide), ext0_first _ _ _ 15 (by decide), ext1_first _ _ _ 1 (by decide), ext1_first _ _ _ 2 (by decide),
    ext2_first _ (below_base _ _) _ 0 (by decide), ext2_first _ (below_cons (below_base _ _) _ 0 _) _ 256 (by decide), ext2_first _ (below_cons (below_cons (below_base _ _) _ 0 _) _ 256 _) _ 512 (by decide), ext2_first _ (below_cons (below_cons (below_cons (below_base _ _) _ 0 _) _ 256 _) _ 512 _) _ 768 (by decide)]
  rfl

theorem dkFirst (h0 : cond0_0 (grid0.coords t)) : (atFirst m c t h0).dk = dkOf m c t (k0_pay1 (F := Ideal)) := by
  unfold atFirst; dsimp only
  rw [View.read_writes_eq_canon _ _ _ (coverDkFirst m c t h0)]
  unfold runFirst kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_20 t).read_unread, (hs0_21 t).read_unread, (hs0_22 t).read_unread, (Memref.isWhole_whole cc0_scratch1).read_unread, (Memref.isWhole_whole cc0_scratch2).read_unread, pay32_eq, pay26_eq, pay94_eq, pay95_eq]
  simp (disch := decide) only [↓ View.readCov_skip, ↓ View.readCov_fill]
  refine (cols4 _ _ _ _ _ _ _ _ _ _).trans ?_
  rfl

theorem dvFirst (h0 : cond0_0 (grid0.coords t)) : (atFirst m c t h0).dv = dvOf m c t (k0_pay2 (F := Ideal)) := by
  unfold atFirst; dsimp only
  rw [View.read_writes_eq_canon _ _ _ (coverDvFirst m c t h0)]
  unfold runFirst kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_20 t).read_unread, (hs0_21 t).read_unread, (hs0_22 t).read_unread, (Memref.isWhole_whole cc0_scratch1).read_unread, (Memref.isWhole_whole cc0_scratch2).read_unread, pay32_eq, pay26_eq, pay94_eq, pay95_eq]
  simp (disch := decide) only [↓ View.readCov_skip, ↓ View.readCov_fill]
  refine (cols4 _ _ _ _ _ _ _ _ _ _).trans ?_
  rfl

theorem statFirst (h0 : cond0_0 (grid0.coords t)) : (atFirst m c t h0).stat = statOf m c t (k0_pay3 (F := Ideal)) := by
  unfold atFirst; dsimp only
  rw [View.read_writes_eq_canon _ _ _ (coverStatFirst m c t h0)]
  unfold runFirst kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_20 t).read_unread, (hs0_21 t).read_unread, (hs0_22 t).read_unread, (Memref.isWhole_whole cc0_scratch1).read_unread, (Memref.isWhole_whole cc0_scratch2).read_unread, pay32_eq, pay26_eq, pay94_eq, pay95_eq]
  simp (disch := decide) only [↓ View.readCov_skip, ↓ View.readCov_fill]
  simp only [ext0_first _ _ _ 14 (by decide), ext0_first _ _ _ 15 (by decide)]
  refine (rows4_first _ _ _ _ _ _ _ _ _ _).trans ?_
  rfl

theorem dconvFirst (h0 : cond0_0 (grid0.coords t)) : tail1 (atFirst m c t h0).dconv = top1 (DCONV m c t) := by
  unfold atFirst; dsimp only
  rw [View.read_writes_eq_canon _ _ _ (coverDconvFirst m c t h0)]
  unfold runFirst kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_20 t).read_unread, (hs0_21 t).read_unread, (hs0_22 t).read_unread, (Memref.isWhole_whole cc0_scratch1).read_unread, (Memref.isWhole_whole cc0_scratch2).read_unread, pay32_eq, pay26_eq, pay94_eq, pay95_eq]
  refine (tail1_canon _ _ _ _ _ _ _).trans ?_
  rfl

theorem dpoolFirst (h0 : cond0_0 (grid0.coords t)) : tail2 (atFirst m c t h0).dpool = carry2 (N0 m c t) (N1 m c t) (N2 m c t) (N3 m c t) (k0_pay5 (F := Ideal)) := by
  unfold atFirst; dsimp only
  rw [View.read_writes_eq_canon _ _ _ (coverDpoolFirst m c t h0)]
  unfold runFirst kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_20 t).read_unread, (hs0_21 t).read_unread, (hs0_22 t).read_unread, (Memref.isWhole_whole cc0_scratch1).read_unread, (Memref.isWhole_whole cc0_scratch2).read_unread, pay32_eq, pay26_eq, pay94_eq, pay95_eq]
  refine (carry_first _ _ _ _ _ _ _ _ _ _ _ _ (below_cons (below_cons (below_cons (below_cons (below_base _ _) _ 0 _) _ 256 _) _ 512 _) _ 768 _)).trans ?_
  rfl

theorem dyaNext (h0 : ¬cond0_0 (grid0.coords t)) (p : Left Ideal) : (atNext m c t h0 p).dya = DYA m c t := by
  unfold atNext; dsimp only
  rw [View.read_writes_eq_canon _ _ _ (coverDyaNext m c t h0 p)]
  unfold runNext kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_20 t).read_unread, (hs0_21 t).read_unread, (hs0_22 t).read_unread, (Memref.isWhole_whole cc0_scratch1).read_unread, (Memref.isWhole_whole cc0_scratch2).read_unread, pay32_eq, pay26_eq, pay94_eq, pay95_eq]
  rw [View.canon_unit_zero hz]
  rfl

theorem dppNext (h0 : ¬cond0_0 (grid0.coords t)) (p : Left Ideal) : (atNext m c t h0 p).dpp = DPP m c t := by
  unfold atNext; dsimp only
  rw [View.read_writes_eq_canon _ _ _ (coverDppNext m c t h0 p)]
  unfold runNext kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_20 t).read_unread, (hs0_21 t).read_unread, (hs0_22 t).read_unread, (Memref.isWhole_whole cc0_scratch1).read_unread, (Memref.isWhole_whole cc0_scratch2).read_unread, pay32_eq, pay26_eq, pay94_eq, pay95_eq]
  rw [View.canon_unit_zero hz]
  rfl

theorem dyxNext (h0 : ¬cond0_0 (grid0.coords t)) (p : Left Ideal) : (atNext m c t h0 p).dyx = DYX m c t := by
  unfold atNext; dsimp only
  rw [View.read_writes_eq_canon _ _ _ (coverDyxNext m c t h0 p)]
  unfold runNext kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_20 t).read_unread, (hs0_21 t).read_unread, (hs0_22 t).read_unread, (Memref.isWhole_whole cc0_scratch1).read_unread, (Memref.isWhole_whole cc0_scratch2).read_unread, pay32_eq, pay26_eq, pay94_eq, pay95_eq]
  rw [View.canon_unit_zero hz]
  rfl

theorem dprojNext (h0 : ¬cond0_0 (grid0.coords t)) (p : Left Ideal) : (atNext m c t h0 p).dproj = dprojOf m c t (tail1 p.dconv) (tail2 p.dpool) := by
  unfold atNext; dsimp only
  rw [View.read_writes_eq_canon _ _ _ (coverDprojNext m c t h0 p)]
  unfold runNext kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_20 t).read_unread, (hs0_21 t).read_unread, (hs0_22 t).read_unread, (Memref.isWhole_whole cc0_scratch1).read_unread, (Memref.isWhole_whole cc0_scratch2).read_unread, pay32_eq, pay26_eq, pay94_eq, pay95_eq]
  simp only [ext0_first _ _ _ 14 (by decide), ext0_first _ _ _ 15 (by decide),
    ext1_next _ _ p.dconv (read_unread_whole cc0_scratch1 (Memref.isWhole_whole _) p.dconv) _ 1 (by decide), ext1_next _ _ p.dconv (read_unread_whole cc0_scratch1 (Memref.isWhole_whole _) p.dconv) _ 2 (by decide),
    ext2_next _ (belowAt_nil _ (read_unread_whole cc0_scratch2 (Memref.isWhole_whole _) p.dpool)) _ 0 (by decide), ext2_next _ (belowAt_cons _ (belowAt_nil _ (read_unread_whole cc0_scratch2 (Memref.isWhole_whole _) p.dpool)) _ 0 _) _ 256 (by decide), ext2_next _ (belowAt_cons _ (belowAt_cons _ (belowAt_nil _ (read_unread_whole cc0_scratch2 (Memref.isWhole_whole _) p.dpool)) _ 0 _) _ 256 _) _ 512 (by decide), ext2_next _ (belowAt_cons _ (belowAt_cons _ (belowAt_cons _ (belowAt_nil _ (read_unread_whole cc0_scratch2 (Memref.isWhole_whole _) p.dpool)) _ 0 _) _ 256 _) _ 512 _) _ 768 (by decide)]
  rfl

theorem dkNext (h0 : ¬cond0_0 (grid0.coords t)) (p : Left Ideal) : (atNext m c t h0 p).dk = dkOf m c t p.dk := by
  unfold atNext; dsimp only
  rw [View.read_writes_eq_canon _ _ _ (coverDkNext m c t h0 p)]
  unfold runNext kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_20 t).read_unread, (hs0_21 t).read_unread, (hs0_22 t).read_unread, (Memref.isWhole_whole cc0_scratch1).read_unread, (Memref.isWhole_whole cc0_scratch2).read_unread, pay32_eq, pay26_eq, pay94_eq, pay95_eq]
  rfl

theorem dvNext (h0 : ¬cond0_0 (grid0.coords t)) (p : Left Ideal) : (atNext m c t h0 p).dv = dvOf m c t p.dv := by
  unfold atNext; dsimp only
  rw [View.read_writes_eq_canon _ _ _ (coverDvNext m c t h0 p)]
  unfold runNext kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_20 t).read_unread, (hs0_21 t).read_unread, (hs0_22 t).read_unread, (Memref.isWhole_whole cc0_scratch1).read_unread, (Memref.isWhole_whole cc0_scratch2).read_unread, pay32_eq, pay26_eq, pay94_eq, pay95_eq]
  rfl

theorem statNext (h0 : ¬cond0_0 (grid0.coords t)) (p : Left Ideal) : (atNext m c t h0 p).stat = statOf m c t p.stat := by
  unfold atNext; dsimp only
  unfold runNext kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_20 t).read_unread, (hs0_21 t).read_unread, (hs0_22 t).read_unread, (Memref.isWhole_whole cc0_scratch1).read_unread, (Memref.isWhole_whole cc0_scratch2).read_unread, pay32_eq, pay26_eq, pay94_eq, pay95_eq]
  simp only [ext0_first _ _ _ 14 (by decide), ext0_first _ _ _ 15 (by decide)]
  refine (rows4_next _ _ _ _ p.stat _ _ _ _ _ _ (Memref.IsWhole.read_unread _ _)).trans ?_
  rfl

theorem dconvNext (h0 : ¬cond0_0 (grid0.coords t)) (p : Left Ideal) : tail1 (atNext m c t h0 p).dconv = top1 (DCONV m c t) := by
  unfold atNext; dsimp only
  rw [View.read_writes_eq_canon _ _ _ (coverDconvNext m c t h0 p)]
  unfold runNext kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_20 t).read_unread, (hs0_21 t).read_unread, (hs0_22 t).read_unread, (Memref.isWhole_whole cc0_scratch1).read_unread, (Memref.isWhole_whole cc0_scratch2).read_unread, pay32_eq, pay26_eq, pay94_eq, pay95_eq]
  refine (tail1_canon _ _ _ _ _ _ _).trans ?_
  rfl

theorem dpoolNext (h0 : ¬cond0_0 (grid0.coords t)) (p : Left Ideal) : tail2 (atNext m c t h0 p).dpool = carry2 (N0 m c t) (N1 m c t) (N2 m c t) (N3 m c t) (tail2 p.dpool) := by
  unfold atNext; dsimp only
  unfold runNext kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_20 t).read_unread, (hs0_21 t).read_unread, (hs0_22 t).read_unread, (Memref.isWhole_whole cc0_scratch1).read_unread, (Memref.isWhole_whole cc0_scratch2).read_unread, pay32_eq, pay26_eq, pay94_eq, pay95_eq]
  refine (carry_next _ _ _ _ _ _ _ _ _ _ _ _ (belowAt_cons _ (belowAt_cons _ (belowAt_cons _ (belowAt_cons _ (belowAt_nil _ (read_unread_whole cc0_scratch2 (Memref.isWhole_whole _) p.dpool)) _ 0 _) _ 256 _) _ 512 _) _ 768 _)).trans ?_
  rfl

end Cert.Mixer

end
-- ==== Proof.Sums.lean ====
module

public import proofs.«01_k».proof.Proof.Proj
public import proofs.«01_k».proof.Proof.Fields

/-! What the sixteen points leave behind, one after the other.

Point `t` works on tile `15 - t`, so the points together take every row of the arrays once. `run_sum` turns a block to which every
point adds a sum over its rows into a sum over all rows; it gives the gradients of the keys (`keys_end`), of the values (`values_end`)
and the block of statistics (`stats_end`). `tails` says that each point finds in the scratch buffers the rows just below its tile. -/

@[expose] public section

set_option maxRecDepth 16384

noncomputable section

namespace Cert.Mixer

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The first `n` points' share of the sum of `G` over all rows. -/
def upTo (G : Fin 4096 → EReal) (n : ℕ) : EReal := ∑ x ∈ Finset.range n, if h : x < 16 then ∑ i, G (row ⟨x, h⟩ i) else 0

theorem upTo_step (G : Fin 4096 → EReal) (t : Fin cfg0.N) : upTo G (t.val + 1) = upTo G t.val + ∑ i, G (row t i) := by
  have ht : t.val < 16 := t.isLt
  rw [upTo, Finset.sum_range_succ, dif_pos ht]
  rfl

theorem upTo_all (G : Fin 4096 → EReal) : upTo G 16 = ∑ r, G r := by
  have h : upTo G 16 = ∑ x : Fin 16, ∑ i : Fin 256, G (row x i) := by
    rw [upTo, Finset.sum_range]
    exact Finset.sum_congr rfl fun x _ => dif_pos x.isLt
  rw [h, ← Fintype.sum_prod_type' (f := fun (x : Fin 16) (i : Fin 256) => G (row x i))]
  refine Fintype.sum_bijective (fun p : Fin 16 × Fin 256 => row p.1 p.2) ⟨?_, ?_⟩ _ _ fun _ => rfl
  · rintro ⟨a, i⟩ ⟨b, j⟩ hab
    have e : 256 * (15 - a.val) + i.val = 256 * (15 - b.val) + j.val := congrArg Fin.val hab
    exact Prod.ext (Fin.ext (by dsimp only; omega)) (Fin.ext (by dsimp only; omega))
  · intro r
    exact ⟨(⟨15 - r.val / 256, by omega⟩, ⟨r.val % 256, by omega⟩), Fin.ext (by simp only [row]; omega)⟩

/-- An entry that starts as the first point's sum of `G` over its rows, and to which each later point adds its own. -/
theorem run_sum (get : Left Ideal → EReal) (G : Fin 4096 → EReal)
    (hf : ∀ t h0, get (atFirst m c t h0) = ∑ i, G (row t i))
    (hs : ∀ t h0 p, get (atNext m c t h0 p) = get p + ∑ i, G (row t i)) :
    ∀ (n : ℕ) (hn : n < cfg0.N), get (outs m c n hn) = upTo G (n + 1) := by
  intro n
  induction n with
  | zero =>
    intro hn
    rw [outs_first m c ⟨0, hn⟩ rfl, hf, upTo_step G ⟨0, hn⟩]
    exact (zero_add _).symm
  | succ n ih =>
    intro hn
    have hn' : n + 1 < 16 := hn
    rw [outs_next m c ⟨n + 1, hn⟩ (by show ¬(n + 1) % 16 = 0; omega), hs, upTo_step G ⟨n + 1, hn⟩]
    exact congrArg (· + _) (ih (Nat.lt_of_succ_lt hn))

theorem run_end (get : Left Ideal → EReal) (G : Fin 4096 → EReal)
    (hf : ∀ t h0, get (atFirst m c t h0) = ∑ i, G (row t i))
    (hs : ∀ t h0 p, get (atNext m c t h0 p) = get p + ∑ i, G (row t i)) (hn : 15 < cfg0.N) : get (outs m c 15 hn) = ∑ r, G r :=
  (run_sum m c get G hf hs 15 hn).trans (upTo_all G)

/-- Row `r`'s part of the gradient of key `k`, column `j`. -/
def keyTerm (k : Fin 256) (j : Fin 1024) (r : Fin 4096) : EReal :=
  DSH m c ⟨j.val / 256, by omega⟩ (j.val / 256 * 256) (by omega) r k * X1 m c (ix2 r ⟨4096 + j.val, by omega⟩)

/-- Row `r`'s part of the gradient of value `k`, column `j`. -/
def valueTerm (k : Fin 256) (j : Fin 1024) (r : Fin 4096) : EReal :=
  PH m c ⟨j.val / 256, by omega⟩ r k * DOH m c (j.val / 256 * 256) (by omega) r ⟨j.val % 256, by omega⟩

theorem key_congr (k : Fin 256) (r : Fin 4096) (j j' : Fin 8192) (h h' : Fin 4) (o o' : ℕ) (ho : o ≤ 768) (ho' : o' ≤ 768) (e : h = h') (eo : o = o') (ej : j = j') :
    DSH m c h o ho r k * X1 m c (ix2 r j) = DSH m c h' o' ho' r k * X1 m c (ix2 r j') := by
  subst e eo ej
  rfl

theorem value_congr (k : Fin 256) (r : Fin 4096) (q q' : Fin 256) (h h' : Fin 4) (o o' : ℕ) (ho : o ≤ 768) (ho' : o' ≤ 768) (e : h = h') (eo : o = o') (eq : q = q') :
    PH m c h r k * DOH m c o ho r q = PH m c h' r k * DOH m c o' ho' r q' := by
  subst e eo eq
  rfl

theorem keyTerm_eq (h : Fin 4) (o : ℕ) (ho : o ≤ 768) (hoh : o = h.val * 256) (q : Fin 256) (j : Fin 1024) (hj : j.val = o + q.val) (k : Fin 256) (r : Fin 4096) (j' : Fin 8192) (hj' : j'.val = 4096 + o + q.val) :
    DSH m c h o ho r k * X1 m c (ix2 r j') = keyTerm m c k j r :=
  key_congr m c k r _ _ _ _ _ _ _ _ (Fin.ext (by show h.val = j.val / 256; omega)) (by omega) (Fin.ext (by show j'.val = 4096 + j.val; omega))

theorem valueTerm_eq (h : Fin 4) (o : ℕ) (ho : o ≤ 768) (hoh : o = h.val * 256) (q : Fin 256) (j : Fin 1024) (hj : j.val = o + q.val) (k : Fin 256) (r : Fin 4096) : PH m c h r k * DOH m c o ho r q = valueTerm m c k j r :=
  value_congr m c k r _ _ _ _ _ _ _ _ (Fin.ext (by show h.val = j.val / 256; omega)) (by omega) (Fin.ext (by show q.val = j.val % 256; omega))

theorem keys_ref (hR : RealInputs m c) (k : Fin 256) (j : Fin 1024) : R235 m c (ix2 k j) = ∑ r, keyTerm m c k j r :=
  dk_ref m c hR ⟨j.val / 256, by omega⟩ (j.val / 256 * 256) (by omega) rfl k ⟨j.val % 256, by omega⟩ j (by dsimp only; omega) ⟨4096 + j.val, by omega⟩ (by dsimp only; omega)

theorem values_ref (k : Fin 256) (j : Fin 1024) : R216 m c (ix2 k j) = ∑ r, valueTerm m c k j r :=
  dv_ref m c ⟨j.val / 256, by omega⟩ (j.val / 256 * 256) (by omega) rfl k ⟨j.val % 256, by omega⟩ j (by dsimp only; omega)

theorem keys_at (t : Fin cfg0.N) (X : Vec Ideal S256x1024 .f32) (k : Fin 256) (j : Fin 1024) : dkOf m c t X (ix2 k j) = X (ix2 k j) + ∑ i, keyTerm m c k j (row t i) := by
  rw [dkOf]
  by_cases h768 : 768 ≤ j.val ∧ j.val < 1024
  · refine (canon_in (Val := Elt Ideal) _ _ _ k j (Nat.zero_le _) (by omega) h768.1 (by omega)).trans (((DK3_at m c t X ⟨k.val - 0, by omega⟩ ⟨j.val - 768, by omega⟩)).trans ?_)
    refine congrArg₂ (fun a b : EReal => a + b) (congrArg X (congrArg₂ ix2 rfl (Fin.ext (by show 768 + (j.val - 768) = j.val; omega)))) ?_
    exact Finset.sum_congr rfl fun i _ => keyTerm_eq m c 3 768 (by decide) rfl ⟨j.val - 768, by omega⟩ j (by show j.val = 768 + (j.val - 768); omega) k (row t i) _ (by show _ + (j.val - _) = 4096 + 768 + (j.val - 768); omega)
  refine (canon_out (Val := Elt Ideal) _ _ _ k j (by omega)).trans ?_
  by_cases h512 : 512 ≤ j.val ∧ j.val < 768
  · refine (canon_in (Val := Elt Ideal) _ _ _ k j (Nat.zero_le _) (by omega) h512.1 (by omega)).trans (((DK2_at m c t X ⟨k.val - 0, by omega⟩ ⟨j.val - 512, by omega⟩)).trans ?_)
    refine congrArg₂ (fun a b : EReal => a + b) (congrArg X (congrArg₂ ix2 rfl (Fin.ext (by show 512 + (j.val - 512) = j.val; omega)))) ?_
    exact Finset.sum_congr rfl fun i _ => keyTerm_eq m c 2 512 (by decide) rfl ⟨j.val - 512, by omega⟩ j (by show j.val = 512 + (j.val - 512); omega) k (row t i) _ (by show _ + (j.val - _) = 4096 + 512 + (j.val - 512); omega)
  refine (canon_out (Val := Elt Ideal) _ _ _ k j (by omega)).trans ?_
  by_cases h256 : 256 ≤ j.val ∧ j.val < 512
  · refine (canon_in (Val := Elt Ideal) _ _ _ k j (Nat.zero_le _) (by omega) h256.1 (by omega)).trans (((DK1_at m c t X ⟨k.val - 0, by omega⟩ ⟨j.val - 256, by omega⟩)).trans ?_)
    refine congrArg₂ (fun a b : EReal => a + b) (congrArg X (congrArg₂ ix2 rfl (Fin.ext (by show 256 + (j.val - 256) = j.val; omega)))) ?_
    exact Finset.sum_congr rfl fun i _ => keyTerm_eq m c 1 256 (by decide) rfl ⟨j.val - 256, by omega⟩ j (by show j.val = 256 + (j.val - 256); omega) k (row t i) _ (by show _ + (j.val - _) = 4096 + 256 + (j.val - 256); omega)
  refine (canon_out (Val := Elt Ideal) _ _ _ k j (by omega)).trans ?_
  by_cases h0 : 0 ≤ j.val ∧ j.val < 256
  · refine (canon_in (Val := Elt Ideal) _ _ _ k j (Nat.zero_le _) (by omega) h0.1 (by omega)).trans (((DK0_at m c t X ⟨k.val - 0, by omega⟩ ⟨j.val - 0, by omega⟩)).trans ?_)
    refine congrArg₂ (fun a b : EReal => a + b) (congrArg X (congrArg₂ ix2 rfl (Fin.ext (by show 0 + (j.val - 0) = j.val; omega)))) ?_
    exact Finset.sum_congr rfl fun i _ => keyTerm_eq m c 0 0 (by decide) rfl ⟨j.val - 0, by omega⟩ j (by show j.val = 0 + (j.val - 0); omega) k (row t i) _ (by show _ + (j.val - _) = 4096 + 0 + (j.val - 0); omega)
  refine (canon_out (Val := Elt Ideal) _ _ _ k j (by omega)).trans ?_
  omega

theorem values_at (t : Fin cfg0.N) (X : Vec Ideal S256x1024 .f32) (k : Fin 256) (j : Fin 1024) : dvOf m c t X (ix2 k j) = X (ix2 k j) + ∑ i, valueTerm m c k j (row t i) := by
  rw [dvOf]
  by_cases h768 : 768 ≤ j.val ∧ j.val < 1024
  · refine (canon_in (Val := Elt Ideal) _ _ _ k j (Nat.zero_le _) (by omega) h768.1 (by omega)).trans (((DV3_at m c t X ⟨k.val - 0, by omega⟩ ⟨j.val - 768, by omega⟩)).trans ?_)
    refine congrArg₂ (fun a b : EReal => a + b) (congrArg X (congrArg₂ ix2 rfl (Fin.ext (by show 768 + (j.val - 768) = j.val; omega)))) ?_
    exact Finset.sum_congr rfl fun i _ => valueTerm_eq m c 3 768 (by decide) rfl ⟨j.val - 768, by omega⟩ j (by show j.val = 768 + (j.val - 768); omega) k (row t i)
  refine (canon_out (Val := Elt Ideal) _ _ _ k j (by omega)).trans ?_
  by_cases h512 : 512 ≤ j.val ∧ j.val < 768
  · refine (canon_in (Val := Elt Ideal) _ _ _ k j (Nat.zero_le _) (by omega) h512.1 (by omega)).trans (((DV2_at m c t X ⟨k.val - 0, by omega⟩ ⟨j.val - 512, by omega⟩)).trans ?_)
    refine congrArg₂ (fun a b : EReal => a + b) (congrArg X (congrArg₂ ix2 rfl (Fin.ext (by show 512 + (j.val - 512) = j.val; omega)))) ?_
    exact Finset.sum_congr rfl fun i _ => valueTerm_eq m c 2 512 (by decide) rfl ⟨j.val - 512, by omega⟩ j (by show j.val = 512 + (j.val - 512); omega) k (row t i)
  refine (canon_out (Val := Elt Ideal) _ _ _ k j (by omega)).trans ?_
  by_cases h256 : 256 ≤ j.val ∧ j.val < 512
  · refine (canon_in (Val := Elt Ideal) _ _ _ k j (Nat.zero_le _) (by omega) h256.1 (by omega)).trans (((DV1_at m c t X ⟨k.val - 0, by omega⟩ ⟨j.val - 256, by omega⟩)).trans ?_)
    refine congrArg₂ (fun a b : EReal => a + b) (congrArg X (congrArg₂ ix2 rfl (Fin.ext (by show 256 + (j.val - 256) = j.val; omega)))) ?_
    exact Finset.sum_congr rfl fun i _ => valueTerm_eq m c 1 256 (by decide) rfl ⟨j.val - 256, by omega⟩ j (by show j.val = 256 + (j.val - 256); omega) k (row t i)
  refine (canon_out (Val := Elt Ideal) _ _ _ k j (by omega)).trans ?_
  by_cases h0 : 0 ≤ j.val ∧ j.val < 256
  · refine (canon_in (Val := Elt Ideal) _ _ _ k j (Nat.zero_le _) (by omega) h0.1 (by omega)).trans (((DV0_at m c t X ⟨k.val - 0, by omega⟩ ⟨j.val - 0, by omega⟩)).trans ?_)
    refine congrArg₂ (fun a b : EReal => a + b) (congrArg X (congrArg₂ ix2 rfl (Fin.ext (by show 0 + (j.val - 0) = j.val; omega)))) ?_
    exact Finset.sum_congr rfl fun i _ => valueTerm_eq m c 0 0 (by decide) rfl ⟨j.val - 0, by omega⟩ j (by show j.val = 0 + (j.val - 0); omega) k (row t i)
  refine (canon_out (Val := Elt Ideal) _ _ _ k j (by omega)).trans ?_
  omega

/-- Row `r`'s part of row `i` of the block of statistics: the gradient of the scale in row 1, of the taps in rows 5 to 7. -/
def statTerm (i : Fin 8) (j : Fin 1024) (r : Fin 4096) : EReal :=
  if i.val = 7 then R307 m c (ix2 r j) * R6 m c (ix2 r j) else if i.val = 6 then R307 m c (ix2 r j) * down m c 1 r j
  else if i.val = 5 then R307 m c (ix2 r j) * down m c 2 r j else if i.val = 1 then R194 m c (ix2 r j) * R110 m c (ix2 r j) else 0

theorem stats_at (t : Fin cfg0.N) (X : Vec Ideal S8x1024 .f32) (i : Fin 8) (j : Fin 1024) : statOf m c t X (ix2 i j) = X (ix2 i j) + ∑ a, statTerm m c i j (row t a) := by
  rw [statOf, rows4, ofIx_apply, ST1_at, ST5_at, ST6_at, ST7_at]
  by_cases h7 : i.val = 7
  · obtain rfl : i = 7 := Fin.ext h7
    rfl
  by_cases h6 : i.val = 6
  · obtain rfl : i = 6 := Fin.ext h6
    rfl
  by_cases h5 : i.val = 5
  · obtain rfl : i = 5 := Fin.ext h5
    rfl
  by_cases h1 : i.val = 1
  · obtain rfl : i = 1 := Fin.ext h1
    rfl
  simp only [statTerm, h7, h6, h5, h1, if_false, Finset.sum_const_zero, add_zero]

/-- In the reference, the block of statistics. -/
abbrev R356 := Cert.ReferenceIdeal.Read.val_main_v356 (X0 m c) (X1 m c) (X3 m c) (X4 m c) (X9 m c)

theorem stats_ref (i : Fin 8) (j : Fin 1024) : R356 m c (ix2 i j) = ∑ r, statTerm m c i j r := by
  have e7 : ∑ r, statTerm m c 7 j r = ∑ r, R307 m c (ix2 r j) * R6 m c (ix2 r j) := rfl
  have e6 : ∑ r, statTerm m c 6 j r = ∑ r, R307 m c (ix2 r j) * down m c 1 r j := rfl
  have e5 : ∑ r, statTerm m c 5 j r = ∑ r, R307 m c (ix2 r j) * down m c 2 r j := rfl
  have e1 : ∑ r, statTerm m c 1 j r = ∑ r, R194 m c (ix2 r j) * R110 m c (ix2 r j) := rfl
  have e0 (i : Fin 8) (h7 : i.val ≠ 7) (h6 : i.val ≠ 6) (h5 : i.val ≠ 5) (h1 : i.val ≠ 1) : ∑ r, statTerm m c i j r = 0 := by
    simp only [statTerm, h7, h6, h5, h1, if_false, Finset.sum_const_zero]
  rw [R356]
  fin_cases i
  · refine Eq.trans ?_ (e0 0 (by decide) (by decide) (by decide) (by decide)).symm
    pointwise [Cert.ReferenceIdeal.Read.val_main_v356, Cert.ReferenceIdeal.Read.val_main_v354, Cert.ReferenceIdeal.Read.val_main_cst_71]
  · refine Eq.trans ?_ ((scale_ref m c j).trans e1.symm)
    pointwise [Cert.ReferenceIdeal.Read.val_main_v356]
  · refine Eq.trans ?_ (e0 2 (by decide) (by decide) (by decide) (by decide)).symm
    pointwise [Cert.ReferenceIdeal.Read.val_main_v356, Cert.ReferenceIdeal.Read.val_main_v355, Cert.ReferenceIdeal.Read.val_main_cst_72]
  · refine Eq.trans ?_ (e0 3 (by decide) (by decide) (by decide) (by decide)).symm
    pointwise [Cert.ReferenceIdeal.Read.val_main_v356, Cert.ReferenceIdeal.Read.val_main_v355, Cert.ReferenceIdeal.Read.val_main_cst_72]
  · refine Eq.trans ?_ (e0 4 (by decide) (by decide) (by decide) (by decide)).symm
    pointwise [Cert.ReferenceIdeal.Read.val_main_v356, Cert.ReferenceIdeal.Read.val_main_v355, Cert.ReferenceIdeal.Read.val_main_cst_72]
  · refine Eq.trans ?_ ((taps0_ref m c j).trans e5.symm)
    pointwise [Cert.ReferenceIdeal.Read.val_main_v356]
  · refine Eq.trans ?_ ((taps1_ref m c j).trans e6.symm)
    pointwise [Cert.ReferenceIdeal.Read.val_main_v356]
  · refine Eq.trans ?_ ((taps2_ref m c j).trans e7.symm)
    pointwise [Cert.ReferenceIdeal.Read.val_main_v356]

theorem keys_end (hR : RealInputs m c) (hn : 15 < cfg0.N) (k : Fin 256) (j : Fin 1024) : (outs m c 15 hn).dk (ix2 k j) = R235 m c (ix2 k j) := by
  refine (run_end m c (fun p => p.dk (ix2 k j)) (keyTerm m c k j) (fun t h0 => ?_) (fun t h0 p => ?_) hn).trans (keys_ref m c hR k j).symm
  · rw [dkFirst, keys_at]
    pointwise [k0_pay1]
  · rw [dkNext, keys_at]

theorem values_end (hn : 15 < cfg0.N) (k : Fin 256) (j : Fin 1024) : (outs m c 15 hn).dv (ix2 k j) = R216 m c (ix2 k j) := by
  refine (run_end m c (fun p => p.dv (ix2 k j)) (valueTerm m c k j) (fun t h0 => ?_) (fun t h0 p => ?_) hn).trans (values_ref m c k j).symm
  · rw [dvFirst, values_at]
    pointwise [k0_pay2]
  · rw [dvNext, values_at]

theorem stats_end (hn : 15 < cfg0.N) (i : Fin 8) (j : Fin 1024) : (outs m c 15 hn).stat (ix2 i j) = R356 m c (ix2 i j) := by
  refine (run_end m c (fun p => p.stat (ix2 i j)) (statTerm m c i j) (fun t h0 => ?_) (fun t h0 p => ?_) hn).trans (stats_ref m c i j).symm
  · rw [statFirst, stats_at]
    pointwise [k0_pay3]
  · rw [statNext, stats_at]

/-- After point `n` the scratch buffers hold what the next point needs. -/
theorem tails : ∀ (n : ℕ) (hn : n + 1 < cfg0.N), Tail1 m c ⟨n + 1, hn⟩ (tail1 (outs m c n (Nat.lt_of_succ_lt hn)).dconv)
    ∧ Tail2 m c ⟨n + 1, hn⟩ (tail2 (outs m c n (Nat.lt_of_succ_lt hn)).dpool) := by
  intro n
  induction n with
  | zero =>
    intro hn
    rw [outs_first m c ⟨0, Nat.lt_of_succ_lt hn⟩ rfl, dconvFirst, dpoolFirst]
    exact ⟨tail1_step m c _ _ rfl, tail2_step m c _ _ rfl _⟩
  | succ n ih =>
    intro hn
    have hn' : n + 1 + 1 < 16 := hn
    rw [outs_next m c ⟨n + 1, Nat.lt_of_succ_lt hn⟩ (by show ¬(n + 1) % 16 = 0; omega), dconvNext, dpoolNext]
    exact ⟨tail1_step m c _ _ rfl, tail2_step m c _ _ rfl _⟩

/-- What point `t` stores of the gradient of the projections. -/
theorem proj_outs (hR : RealInputs m c) (t : Fin cfg0.N) (i : Fin 256) (j : Fin 8192) : (outs m c t.val t.isLt).dproj (ix2 i j) = R353 m c (ix2 (row t i) j) := by
  have ht : t.val < 16 := t.isLt
  by_cases h0 : t.val = 0
  · rw [outs_first m c t (by omega), dprojFirst]
    exact proj_at m c t hR (tail1_start m c t h0) (tail2_start m c t h0) i j
  · rw [outs_next m c t (by omega), dprojNext]
    have e : (⟨t.val - 1 + 1, by omega⟩ : Fin cfg0.N) = t := Fin.ext (by show t.val - 1 + 1 = t.val; omega)
    have h := tails m c (t.val - 1) (by omega)
    rw [e] at h
    exact proj_at m c t hR h.1 h.2 i j

theorem dya_outs (t : Fin cfg0.N) : (outs m c t.val t.isLt).dya = DYA m c t := by
  by_cases h0 : t.val % 16 = 0
  · rw [outs_first m c t h0, dyaFirst]
  · rw [outs_next m c t h0, dyaNext]

theorem dpp_outs (t : Fin cfg0.N) : (outs m c t.val t.isLt).dpp = DPP m c t := by
  by_cases h0 : t.val % 16 = 0
  · rw [outs_first m c t h0, dppFirst]
  · rw [outs_next m c t h0, dppNext]

theorem dyx_outs (t : Fin cfg0.N) : (outs m c t.val t.isLt).dyx = DYX m c t := by
  by_cases h0 : t.val % 16 = 0
  · rw [outs_first m c t h0, dyxFirst]
  · rw [outs_next m c t h0, dyxNext]

end Cert.Mixer

end
-- ==== Proof.Arrays.lean ====
module

public import proofs.«01_k».proof.Proof.Sums

/-! The seven result arrays after the run.

Point `t` writes block `15 - t` of the first four arrays, whose sixteen blocks tile them; the last three are one block each, written
when the last point is done. Each array ends equal to the reference's result over the same arguments. -/

@[expose] public section

set_option maxRecDepth 16384

noncomputable section

namespace Cert.Mixer

open Cert.KernelIdeal Cert.KernelIdeal.Gen
open Idealize.ShloMosaic Idealize.ShloMosaic.TcCoe Idealize.SL.Sem

variable (m : (ℓ : Loc nD τ sig) → Buf (Elt Ideal) ℓ) (c : Dev nD)

theorem oidx : ∀ t : Fin cfg0.N, win0_16.index t = ![15 - t.val, 0] ∧ win0_17.index t = ![15 - t.val, 0]
    ∧ win0_18.index t = ![15 - t.val, 0] ∧ win0_19.index t = ![15 - t.val, 0] :=
  (by decide +kernel : ∀ t : Fin grid0.N, _)

theorem array16 (hR : RealInputs m c) : (dats m 0 c).arrAt 16 cfg0.N = Cert.ReferenceIdeal.Read.val_main_v357 (X0 m c) (X1 m c) (X2 m c) (X3 m c) (X4 m c) (X5 m c) (X6 m c) (X7 m c) (X8 m c) (X9 m c) := by
  refine (dats m 0 c).arrAt_eq_of_covers 16 _ (by decide +kernel) fun t hf y => ?_
  blk_simp
  rw [after0_16]
  rw [eq_ix2 y]
  generalize y 0 = i
  generalize y 1 = j
  have e : (win0_16.blk t).view.emb (ix2 i j) = ix2 (row t i) j := by
    blk_ext [oidx t, row]
  rw [e]
  exact proj_outs m c hR t i j

theorem array17 : (dats m 0 c).arrAt 17 cfg0.N = Cert.ReferenceIdeal.Read.val_main_v358 (X0 m c) (X1 m c) (X9 m c) := by
  refine (dats m 0 c).arrAt_eq_of_covers 17 _ (by decide +kernel) fun t hf y => ?_
  blk_simp
  rw [after0_17]
  rw [eq_ix2 y]
  generalize y 0 = i
  generalize y 1 = j
  have e : (win0_17.blk t).view.emb (ix2 i j) = ix2 (row t i) j := by
    blk_ext [oidx t, row]
  rw [e]
  rw [dya_outs]; exact DYA_at m c t i j

theorem array18 : (dats m 0 c).arrAt 18 cfg0.N = Cert.ReferenceIdeal.Read.val_main_v359 (X0 m c) (X1 m c) (X5 m c) (X9 m c) := by
  refine (dats m 0 c).arrAt_eq_of_covers 18 _ (by decide +kernel) fun t hf y => ?_
  blk_simp
  rw [after0_18]
  rw [eq_ix2 y]
  generalize y 0 = i
  generalize y 1 = j
  have e : (win0_18.blk t).view.emb (ix2 i j) = ix2 (row t i) j := by
    blk_ext [oidx t, row]
  rw [e]
  rw [dpp_outs]; exact DPP_at m c t i j

theorem array19 : (dats m 0 c).arrAt 19 cfg0.N = Cert.ReferenceIdeal.Read.val_main_v360 (X0 m c) (X1 m c) (X9 m c) := by
  refine (dats m 0 c).arrAt_eq_of_covers 19 _ (by decide +kernel) fun t hf y => ?_
  blk_simp
  rw [after0_19]
  rw [eq_ix2 y]
  generalize y 0 = i
  generalize y 1 = j
  have e : (win0_19.blk t).view.emb (ix2 i j) = ix2 (row t i) j := by
    blk_ext [oidx t, row]
  rw [e]
  rw [dyx_outs]; exact DYX_at m c t i j

theorem array20 (hR : RealInputs m c) : (dats m 0 c).arrAt 20 cfg0.N = R235 m c := by
  refine (dats m 0 c).arrAt_eq_of_after_last 20 t0_15 (by decide +kernel) _ fun j => ?_
  blk_simp
  rw [after0_20]
  rw [eq_ix2 j]
  exact keys_end m c hR _ _ _

theorem array21 : (dats m 0 c).arrAt 21 cfg0.N = R216 m c := by
  refine (dats m 0 c).arrAt_eq_of_after_last 21 t0_15 (by decide +kernel) _ fun j => ?_
  blk_simp
  rw [after0_21]
  rw [eq_ix2 j]
  exact values_end m c _ _ _

theorem array22 : (dats m 0 c).arrAt 22 cfg0.N = R356 m c := by
  refine (dats m 0 c).arrAt_eq_of_after_last 22 t0_15 (by decide +kernel) _ fun j => ?_
  blk_simp
  rw [after0_22]
  rw [eq_ix2 j]
  exact stats_end m c _ _ _

variable {m} {c}

theorem result0 (hR : RealInputs m c) {r : PUnit × MemSt nD τ sig (Elt Ideal)} (h : Pipeline.FramePost cfgs (dats m) 0 (V m) r) :
    r.2.mem ((c.tc : Thread nD τ).loc main_v173_0) = Cert.ReferenceIdeal.Read.val_main_v357 (X0 m c) (X1 m c) (X2 m c) (X3 m c) (X4 m c) (X5 m c) (X6 m c) (X7 m c) (X8 m c) (X9 m c) := (h.out_eq c 16).trans (array16 m c hR)

theorem result1 {r : PUnit × MemSt nD τ sig (Elt Ideal)} (h : Pipeline.FramePost cfgs (dats m) 0 (V m) r) :
    r.2.mem ((c.tc : Thread nD τ).loc main_v173_1) = Cert.ReferenceIdeal.Read.val_main_v358 (X0 m c) (X1 m c) (X9 m c) := (h.out_eq c 17).trans (array17 m c)

theorem result2 {r : PUnit × MemSt nD τ sig (Elt Ideal)} (h : Pipeline.FramePost cfgs (dats m) 0 (V m) r) :
    r.2.mem ((c.tc : Thread nD τ).loc main_v173_2) = Cert.ReferenceIdeal.Read.val_main_v359 (X0 m c) (X1 m c) (X5 m c) (X9 m c) := (h.out_eq c 18).trans (array18 m c)

theorem result3 {r : PUnit × MemSt nD τ sig (Elt Ideal)} (h : Pipeline.FramePost cfgs (dats m) 0 (V m) r) :
    r.2.mem ((c.tc : Thread nD τ).loc main_v173_3) = Cert.ReferenceIdeal.Read.val_main_v360 (X0 m c) (X1 m c) (X9 m c) := (h.out_eq c 19).trans (array19 m c)

theorem result4 (hR : RealInputs m c) {r : PUnit × MemSt nD τ sig (Elt Ideal)} (h : Pipeline.FramePost cfgs (dats m) 0 (V m) r) :
    r.2.mem ((c.tc : Thread nD τ).loc main_v173_4) = R235 m c := (h.out_eq c 20).trans (array20 m c hR)

theorem result5 {r : PUnit × MemSt nD τ sig (Elt Ideal)} (h : Pipeline.FramePost cfgs (dats m) 0 (V m) r) :
    r.2.mem ((c.tc : Thread nD τ).loc main_v173_5) = R216 m c := (h.out_eq c 21).trans (array21 m c)

theorem result6 {r : PUnit × MemSt nD τ sig (Elt Ideal)} (h : Pipeline.FramePost cfgs (dats m) 0 (V m) r) :
    r.2.mem ((c.tc : Thread nD τ).loc main_v173_6) = R356 m c := (h.out_eq c 22).trans (array22 m c)

end Cert.Mixer

end
-- ==== Proof.Finite.lean ====
module

public import proofs.«01_k».proof.Defs
public import proofs.«01_k».proof.Proof.Gen.Pre_finite
public import proofs.«01_k».proof.Proof.HeadsRef

/-! What the precondition says: an array whose absolute values all lie below infinity holds real numbers. -/

@[expose] public section

noncomputable section

namespace Cert.Mixer

open Cert.KernelIdeal Cert.KernelIdeal.Gen
open Idealize.ShloMosaic Idealize.ShloMosaic.TcCoe Idealize.SL.Sem

variable (m : (ℓ : Loc nD τ sig) → Buf (Elt Ideal) ℓ) (c : Dev nD)

/-- Under the precondition the reference's arguments that the sums run over are real. -/
theorem reals_of_pre (h : Cert.Pre_KernelIdeal_finite (hPre_finite := Cert.Pre_finite.Gen.facts) m) : RealInputs m c := by
  obtain ⟨h0, h1, h4, h5, h6, h7, h8, h9⟩ := h c
  exact ⟨real_of_mask _ _ (fun _ => rfl) h0, real_of_mask _ _ (fun _ => rfl) h1, real_of_mask _ _ (fun _ => rfl) h4, real_of_mask _ _ (fun _ => rfl) h5,
    real_of_mask _ _ (fun _ => rfl) h6, real_of_mask _ _ (fun _ => rfl) h7, real_of_mask _ _ (fun _ => rfl) h8, real_of_mask _ _ (fun _ => rfl) h9⟩

end Cert.Mixer

end
-- ==== Proof.RowTiles.lean ====
module

public import Mathlib.Data.EReal.Operations
public import Mathlib.Algebra.BigOperators.Fin

/-! Sums over the rows of an array, taken tile by tile. -/

@[expose] public section

noncomputable section

namespace Cert.Tiles

/-- Row `i` of tile `t`, of `T` tiles of `h` rows. -/
def row {T h n : ℕ} (hn : n = T * h) (t : Fin T) (i : Fin h) : Fin n :=
  ⟨h * t.val + i.val, by
    have ht := t.isLt
    have hi := i.isLt
    calc h * t.val + i.val < h * t.val + h := by omega
      _ = h * (t.val + 1) := by ring
      _ ≤ h * T := Nat.mul_le_mul_left h ht
      _ = n := by rw [hn, mul_comm]⟩

/-- The sum over all rows is the sum over the tiles of the sums over their rows. -/
theorem sum_tiles {T h n : ℕ} (hn : n = T * h) (G : Fin n → EReal) : ∑ r, G r = ∑ t : Fin T, ∑ i : Fin h, G (row hn t i) := by
  rw [← Fintype.sum_prod_type' (f := fun (t : Fin T) (i : Fin h) => G (row hn t i))]
  symm
  refine Fintype.sum_bijective (fun p : Fin T × Fin h => row hn p.1 p.2) ⟨?_, ?_⟩ _ _ fun _ => rfl
  · rintro ⟨a, i⟩ ⟨b, j⟩ hab
    have e : h * a.val + i.val = h * b.val + j.val := congrArg Fin.val hab
    have hi := i.isLt
    have hj := j.isLt
    have hpos : 0 < h := by omega
    have ea : a.val = b.val := by
      have := congrArg (· / h) e
      simpa [Nat.mul_add_div hpos, Nat.div_eq_of_lt hi, Nat.div_eq_of_lt hj] using this
    have ei : i.val = j.val := by rw [ea] at e; omega
    exact Prod.ext (Fin.ext ea) (Fin.ext ei)
  · intro r
    have hr := r.isLt
    have hpos : 0 < h := by
      rcases Nat.eq_zero_or_pos h with h0 | h0
      · rw [h0, mul_zero] at hn; omega
      · exact h0
    refine ⟨(⟨r.val / h, Nat.div_lt_of_lt_mul (lt_of_lt_of_eq hr (hn.trans (mul_comm T h)))⟩, ⟨r.val % h, Nat.mod_lt _ hpos⟩), Fin.ext ?_⟩
    exact Nat.div_add_mod r.val h

/-- Two tiles of 2048 rows. -/
theorem sum_two (G : Fin 4096 → EReal) :
    ∑ r, G r = ∑ i : Fin 2048, G ⟨i.val, by omega⟩ + ∑ i : Fin 2048, G ⟨2048 + i.val, by omega⟩ := by
  rw [sum_tiles (T := 2) (h := 2048) (by decide) G, Fin.sum_univ_two]
  refine congrArg₂ (· + ·) (Finset.sum_congr rfl fun i _ => congrArg G (Fin.ext ?_)) (Finset.sum_congr rfl fun i _ => congrArg G (Fin.ext ?_))
  · show 2048 * 0 + i.val = i.val
    omega
  · show 2048 * 1 + i.val = 2048 + i.val
    omega

/-- What starts with the first tile's sum and adds every further tile's is in the end the sum over all rows. -/
theorem run_tiles {T h n : ℕ} (hn : n = (T + 1) * h) (G : Fin n → EReal) (s : (t : ℕ) → t < T + 1 → EReal)
    (h0 : s 0 (Nat.succ_pos T) = ∑ i : Fin h, G (row hn 0 i))
    (hs : ∀ (t : ℕ) (ht : t + 1 < T + 1), s (t + 1) ht = s t (by omega) + ∑ i : Fin h, G (row hn ⟨t + 1, ht⟩ i)) :
    s T (Nat.lt_succ_self T) = ∑ r, G r := by
  have key : ∀ (t : ℕ) (ht : t < T + 1), s t ht = ∑ q : Fin (t + 1), ∑ i : Fin h, G (row hn ⟨q.val, by have := q.isLt; omega⟩ i) := by
    intro t
    induction t with
    | zero => intro ht; rw [h0, Fin.sum_univ_one]; rfl
    | succ t ih => intro ht; rw [hs t ht, ih, Fin.sum_univ_castSucc (n := t + 1)]; rfl
  rw [key, sum_tiles hn]

end Cert.Tiles

end
-- ==== Proof.WeightIn.lean ====
module

public import proofs.«01_k».proof.Proof.RowTiles
public import proofs.«01_k».proof.Proof.Gen.Kernel4Ideal.Value
public import proofs.«01_k».proof.Proof.Gen.Reference4Ideal.Run
public import proofs.«01_k».proof.Proof.Gen.Reference4Ideal.Read
public import proofs.«01_k».proof.Defs
public import Idealize.ShloMosaic.Lib.Pipeline.ValueKit
public import Idealize.ShloMosaic.Lib.StableHlo.RunRead
public import Idealize.ShloMosaic.Lib.Pointwise

/-! The weight gradient of the eight projections, in four column blocks.

The call's grid has four column blocks of 2048 and, inside each, two row tiles of 2048. The first row tile of a column block stores zero
and adds its product, the second adds its own and writes the block back as one matrix of a stack of four; the reference cuts the
product over all 4096 rows into the same four matrices. -/

@[expose] public section

set_option maxRecDepth 16384

noncomputable section

namespace Cert.WeightIn

open Cert.Kernel4Ideal Cert.Kernel4Ideal.Gen
open Idealize.ShloMosaic Idealize.ShloMosaic.TcCoe Idealize.SL.Sem

variable (m : (ℓ : Loc nD τ sig) → Buf (Elt Ideal) ℓ) (c : Dev nD)

/-- Argument 0: the normed input of the projections. -/
abbrev X0 : Vec Ideal S4096x1024 .f32 := m ((c : Thread nD τ).loc main_arg0)

/-- Argument 1: the gradient of the projections. -/
abbrev X1 : Vec Ideal S4096x8192 .f32 := m ((c : Thread nD τ).loc main_arg1)

theorem origin : (![0, 0] : Fin 2 → Nat) = fun _ => 0 := funext fun a => by fin_cases a <;> rfl

theorem origin3 : (![0, 0, 0] : Fin 3 → Nat) = fun _ => 0 := funext fun a => by fin_cases a <;> rfl

/-- The first row tile leaves its product, added to zero. -/
theorem first (i : grid0.Coords) (a2 : Memref sig .tc .vmem S2048x1024 .bf16) (h2 : a2.IsWhole) (a3 : Memref sig .tc .vmem S2048x2048 .bf16) (h3 : a3.IsWhole)
    (a4 : Memref sig .tc .vmem S1x1024x2048 .f32) (h4 : a4.IsWhole) (a5 : Memref sig .tc .vmem S1x1024x2048 .bf16) (h5 : a5.IsWhole)
    (hc0 : cond0_0 i) (hc1 : ¬cond0_1 i) (x : Vec Ideal S2048x1024 .bf16) (y : Vec Ideal S2048x2048 .bf16) :
    out0_A_2 c i a2 h2 a3 h3 a4 h4 a5 h5 hc0 hc1 x y = k0_pay2 k0_pay1 x y := by
  unfold out0_A_2
  rw [View.read_writes_eq_canon _ _ _ (cover0_A_2 c i a2 h2 a3 h3 a4 h4 a5 h5 hc0 hc1 x y)]
  unfold kernelRun0_A
  dsimp only
  sl_unfold_words
  rw [View.canon_cons_unit_zero (S := S1x1024x2048) origin3, View.readCov_unit_zero (S := S1x1024x2048) _ origin3]
  simp only [View.readAt_eq_ld, h2.read_unread, h3.read_unread, View.ld_unit_zero (S := S2048x1024) origin, View.ld_unit_zero (S := S2048x2048) origin]

/-- The second row tile adds its product. -/
theorem second (i : grid0.Coords) (a2 : Memref sig .tc .vmem S2048x1024 .bf16) (h2 : a2.IsWhole) (a3 : Memref sig .tc .vmem S2048x2048 .bf16) (h3 : a3.IsWhole)
    (a4 : Memref sig .tc .vmem S1x1024x2048 .f32) (h4 : a4.IsWhole) (a5 : Memref sig .tc .vmem S1x1024x2048 .bf16) (h5 : a5.IsWhole)
    (hc0 : ¬cond0_0 i) (hc1 : cond0_1 i) (x : Vec Ideal S2048x1024 .bf16) (y : Vec Ideal S2048x2048 .bf16) (z : Vec Ideal S1x1024x2048 .f32) :
    out0_B_2 c i a2 h2 a3 h3 a4 h4 a5 h5 hc0 hc1 x y z = k0_pay2 z x y := by
  unfold out0_B_2
  rw [View.read_writes_eq_canon _ _ _ (cover0_B_2 c i a2 h2 a3 h3 a4 h4 a5 h5 hc0 hc1 x y z)]
  unfold kernelRun0_B
  dsimp only
  sl_unfold_words
  rw [View.canon_unit_zero origin3]
  simp only [View.readAt_eq_ld, h2.read_unread, h3.read_unread, h4.read_unread, View.ld_unit_zero (S := S2048x1024) origin, View.ld_unit_zero (S := S2048x2048) origin,
    View.ld_unit_zero (S := S1x1024x2048) origin3]

/-- Then it rounds the sum for the other result. -/
theorem rounded (i : grid0.Coords) (a2 : Memref sig .tc .vmem S2048x1024 .bf16) (h2 : a2.IsWhole) (a3 : Memref sig .tc .vmem S2048x2048 .bf16) (h3 : a3.IsWhole)
    (a4 : Memref sig .tc .vmem S1x1024x2048 .f32) (h4 : a4.IsWhole) (a5 : Memref sig .tc .vmem S1x1024x2048 .bf16) (h5 : a5.IsWhole)
    (hc0 : ¬cond0_0 i) (hc1 : cond0_1 i) (x : Vec Ideal S2048x1024 .bf16) (y : Vec Ideal S2048x2048 .bf16) (z : Vec Ideal S1x1024x2048 .f32) :
    out0_B_3 c i a2 h2 a3 h3 a4 h4 a5 h5 hc0 hc1 x y z = k0_pay3 (k0_pay2 z x y) := by
  unfold out0_B_3
  rw [View.read_writes_eq_canon _ _ _ (cover0_B_3 c i a2 h2 a3 h3 a4 h4 a5 h5 hc0 hc1 x y z)]
  unfold kernelRun0_B
  dsimp only
  sl_unfold_words
  rw [View.canon_unit_zero origin3, View.readCov_unit_zero (S := S1x1024x2048) _ origin3]
  simp only [View.readAt_eq_ld, h2.read_unread, h3.read_unread, h4.read_unread, View.ld_unit_zero (S := S2048x1024) origin, View.ld_unit_zero (S := S2048x2048) origin,
    View.ld_unit_zero (S := S1x1024x2048) origin3]

theorem add_product (z : Vec Ideal S1x1024x2048 .f32) (x : Vec Ideal S2048x1024 .bf16) (y : Vec Ideal S2048x2048 .bf16) (k : Fin 1024) (j : Fin 2048) :
    k0_pay2 z x y (ix3 0 k j) = z (ix3 0 k j) + ∑ i : Fin 2048, x (ix2 i k) * y (ix2 i j) := by
  pointwise [k0_pay2]

theorem zero_at (k : Fin 1024) (j : Fin 2048) : k0_pay1 (F := Ideal) (ix3 0 k j) = 0 := by
  pointwise [k0_pay1]

theorem stacked (y : S1x1024x2048.Idx) : ∃ (k : Fin 1024) (j : Fin 2048), y = ix3 0 k j :=
  ⟨y 1, y 2, (eq_ix3 y).trans (congrArg (fun a : Fin 1 => ix3 a (y 1) (y 2)) (Subsingleton.elim (α := Fin 1) _ _))⟩

theorem round_at (z : Vec Ideal S1x1024x2048 .f32) : k0_pay3 z = z := by
  funext y
  obtain ⟨k, j, rfl⟩ := stacked y
  pointwise [k0_pay3]

theorem V0 : V m c main_v0 = X0 m c := by
  unfold V
  after_reads_simp
  rfl

theorem V1 : V m c main_v1 = X1 m c := by
  unfold V
  after_reads_simp
  rfl

theorem idx : ∀ t : Fin cfg0.N, win0_0.index t = ![t.val % 2, 0] ∧ win0_1.index t = ![t.val % 2, t.val / 2]
    ∧ win0_2.index t = ![t.val / 2, 0, 0] ∧ win0_3.index t = ![t.val / 2, 0, 0] :=
  (by decide +kernel : ∀ t : Fin grid0.N, _)

theorem lt8 (t : Fin cfg0.N) : t.val < 8 := t.isLt

theorem blk0 (t : Fin cfg0.N) (i : Fin 2048) (k : Fin 1024) :
    iblk m c 0 t (ix2 i k) = X0 m c (ix2 ⟨2048 * (t.val % 2) + i.val, by omega⟩ k) := by
  refine Eq.trans (b := V m c main_v0 (ix2 ⟨2048 * (t.val % 2) + i.val, by omega⟩ k)) ?_ (congrFun (V0 m c) _)
  blk_ext [iblk, idx t]

theorem blk1 (t : Fin cfg0.N) (i : Fin 2048) (j : Fin 2048) :
    iblk m c 1 t (ix2 i j) = X1 m c (ix2 ⟨2048 * (t.val % 2) + i.val, by omega⟩ ⟨2048 * (t.val / 2) + j.val, by have := lt8 t; omega⟩) := by
  refine Eq.trans (b := V m c main_v1 (ix2 ⟨2048 * (t.val % 2) + i.val, by omega⟩ ⟨2048 * (t.val / 2) + j.val, by have := lt8 t; omega⟩)) ?_ (congrFun (V1 m c) _)
  blk_ext [iblk, idx t]

/-- What the second row tile of a column block leaves: the sum of the two tiles' products. -/
def both (t : Fin cfg0.N) : Vec Ideal S1x1024x2048 .f32 :=
  k0_pay2 (k0_pay2 k0_pay1 (iblk m c 0 ⟨t.val - 1, by have := t.isLt; omega⟩) (iblk m c 1 ⟨t.val - 1, by have := t.isLt; omega⟩)) (iblk m c 0 t) (iblk m c 1 t)

theorem outs_both (t : Fin cfg0.N) (h : t.val % 2 = 1) : outsAt0 m c t.val t.isLt = (both m c t, k0_pay3 (both m c t)) := by
  have e := outsAt0_A m c ⟨t.val - 1, by have := t.isLt; omega⟩ (by show (t.val - 1) % 2 = 0; omega) (by show ¬(t.val - 1) % 2 = 1; omega)
  rw [outsAt0_B m c t (by omega) h, second, rounded]
  dsimp only at e
  rw [e, first]
  rfl

/-- The reference's stack of four matrices. -/
abbrev product : Vec Ideal S4x1024x2048 .f32 := Cert.Reference4Ideal.Read.val_main_v12 (X0 m c) (X1 m c)

theorem whole_at (k : Fin 1024) (j : Fin 8192) :
    Cert.Reference4Ideal.Read.val_main_v3 (X0 m c) (X1 m c) (ix2 k j) = ∑ r : Fin 4096, X0 m c (ix2 r k) * X1 m c (ix2 r j) := by
  refine Eq.trans (b := ∑ r : Fin 4096, X1 m c (ix2 r j) * X0 m c (ix2 r k)) ?_ (Finset.sum_congr rfl fun _ _ => mul_comm _ _)
  pointwise [Cert.Reference4Ideal.Read.val_main_v3, Cert.Reference4Ideal.Read.val_main_v2]

theorem product_at (n : Fin 4) (k : Fin 1024) (j : Fin 2048) :
    product m c (ix3 n k j) = Cert.Reference4Ideal.Read.val_main_v3 (X0 m c) (X1 m c) (ix2 k ⟨2048 * n.val + j.val, by omega⟩) := by
  unfold product Cert.Reference4Ideal.Read.val_main_v12
  match n with
  | 0 => pointwise [Cert.Reference4Ideal.Read.val_main_v8, Cert.Reference4Ideal.Read.val_main_v4]
  | 1 => pointwise [Cert.Reference4Ideal.Read.val_main_v9, Cert.Reference4Ideal.Read.val_main_v5]
  | 2 => pointwise [Cert.Reference4Ideal.Read.val_main_v10, Cert.Reference4Ideal.Read.val_main_v6]
  | 3 => pointwise [Cert.Reference4Ideal.Read.val_main_v11, Cert.Reference4Ideal.Read.val_main_v7]

theorem both_at (t : Fin cfg0.N) (h : t.val % 2 = 1) (k : Fin 1024) (j : Fin 2048) :
    both m c t (ix3 0 k j) = product m c (ix3 ⟨t.val / 2, by have := lt8 t; omega⟩ k j) := by
  rw [both, add_product, add_product, zero_at, zero_add, product_at, whole_at, Cert.Tiles.sum_two]
  refine congrArg₂ (· + ·) (Finset.sum_congr rfl fun i _ => ?_) (Finset.sum_congr rfl fun i _ => ?_)
  · rw [blk0, blk1]
    exact congrArg₂ (· * ·) (congrArg (X0 m c) (congrArg₂ ix2 (Fin.ext (by show 2048 * ((t.val - 1) % 2) + i.val = i.val; omega)) rfl))
      (congrArg (X1 m c) (congrArg₂ ix2 (Fin.ext (by show 2048 * ((t.val - 1) % 2) + i.val = i.val; omega)) (Fin.ext (by show 2048 * ((t.val - 1) / 2) + j.val = 2048 * (t.val / 2) + j.val; omega))))
  · rw [blk0, blk1]
    exact congrArg₂ (· * ·) (congrArg (X0 m c) (congrArg₂ ix2 (Fin.ext (by show 2048 * (t.val % 2) + i.val = 2048 + i.val; omega)) rfl))
      (congrArg (X1 m c) (congrArg₂ ix2 (Fin.ext (by show 2048 * (t.val % 2) + i.val = 2048 + i.val; omega)) rfl))

theorem array2 : (dats m 0 c).arrAt 2 cfg0.N = product m c := by
  refine (dats m 0 c).arrAt_eq_of_covers 2 _ (by decide +kernel) fun t hf y => ?_
  have h : t.val % 2 = 1 := (flush0_2 t).mp hf
  blk_simp
  rw [after0_2, outs_both m c t h]
  obtain ⟨k, j, rfl⟩ := stacked y
  have e : (win0_2.blk t).view.emb (ix3 0 k j) = ix3 ⟨t.val / 2, by have := lt8 t; omega⟩ k j := by
    blk_ext [idx t]
  rw [e]
  exact both_at m c t h k j

theorem array3 : (dats m 0 c).arrAt 3 cfg0.N = product m c := by
  refine (dats m 0 c).arrAt_eq_of_covers 3 _ (by decide +kernel) fun t hf y => ?_
  have h : t.val % 2 = 1 := (flush0_3 t).mp hf
  blk_simp
  rw [after0_3, outs_both m c t h]
  obtain ⟨k, j, rfl⟩ := stacked y
  have e : (win0_3.blk t).view.emb (ix3 0 k j) = ix3 ⟨t.val / 2, by have := lt8 t; omega⟩ k j := by
    blk_ext [idx t]
  rw [e]
  dsimp only
  rw [congrFun (round_at (both m c t)) (ix3 0 k j)]
  exact both_at m c t h k j

/-- The reference has no semaphore; its run leaves its two arguments alone. -/
theorem reference_frame : Cert.quiescent_Reference4Ideal (hReference4Ideal := Cert.Reference4Ideal.Gen.facts) :=
  fun m ρ _ => (θ_run Cert.Reference4Ideal.defs _ _).mono
    (fun r h => ⟨fun c => (h c).2.2, Idealize.ShloMosaic.sem_eq_zero_of_no_sems (by decide) r.2⟩)
    (Cert.Reference4Ideal.Value.run (F := Ideal) m ρ)

/-- The call's two results are the reference's. -/
theorem results_equal : Cert.algebraic_Kernel4Ideal_Reference4Ideal (hKernel4Ideal := Cert.Kernel4Ideal.Gen.facts)
    (hReference4Ideal := Cert.Reference4Ideal.Gen.facts) := by
  intro m g m' g' hpre hagree
  refine ⟨fun c => product m c, fun c => product m c, ?_, ?_⟩
  · exact (θ_run Cert.Kernel4Ideal.defs _ _).mono (fun r h c => ⟨(h c).1.trans (array2 m c), (h c).2.1.trans (array3 m c), (h c).2.2⟩)
      (Cert.Kernel4Ideal.Value.run_blocks m g)
  · refine (θ_run Cert.Reference4Ideal.defs _ _).mono (fun r h c => ?_) (Cert.Reference4Ideal.Value.run (F := Ideal) m' g')
    obtain ⟨a0, a1⟩ := hagree c
    obtain ⟨h0, h1, hargs⟩ := h c
    rw [a0, a1] at h0 h1
    exact ⟨h0, h1, hargs⟩

end Cert.WeightIn

end
-- ==== Proof.WeightGate.lean ====
module

public import proofs.«01_k».proof.Proof.RowTiles
public import proofs.«01_k».proof.Proof.Gen.Kernel5Ideal.Value
public import proofs.«01_k».proof.Proof.Gen.Reference5Ideal.Run
public import proofs.«01_k».proof.Defs
public import Idealize.ShloMosaic.Lib.Pipeline.ValueKit
public import Idealize.ShloMosaic.Lib.StableHlo.RunRead
public import Idealize.ShloMosaic.Lib.Pointwise

/-! The weight gradient of the feed-forward block's first two products.

The call's grid has two column blocks of 512 and, inside each, two row tiles of 2048. The first row tile of a column block stores zero
and adds its product, the second adds its own and writes the block back; the reference is one product over all 4096 rows. -/

@[expose] public section

set_option maxRecDepth 16384

noncomputable section

namespace Cert.WeightGate

open Cert.Kernel5Ideal Cert.Kernel5Ideal.Gen
open Idealize.ShloMosaic Idealize.ShloMosaic.TcCoe Idealize.SL.Sem

variable (m : (ℓ : Loc nD τ sig) → Buf (Elt Ideal) ℓ) (c : Dev nD)

/-- Argument 0: the gradient of one of the two products. -/
abbrev X0 : Vec Ideal S4096x2816 .f32 := m ((c : Thread nD τ).loc main_arg0)

/-- Argument 1: the block's normed input. -/
abbrev X1 : Vec Ideal S4096x1024 .f32 := m ((c : Thread nD τ).loc main_arg1)

theorem origin : (![0, 0] : Fin 2 → Nat) = fun _ => 0 := funext fun a => by fin_cases a <;> rfl

/-- The first row tile leaves its product, added to zero. -/
theorem first (i : grid0.Coords) (a2 : Memref sig .tc .vmem S2048x2816 .bf16) (h2 : a2.IsWhole) (a3 : Memref sig .tc .vmem S2048x512 .bf16) (h3 : a3.IsWhole)
    (a4 : Memref sig .tc .vmem S2816x512 .f32) (h4 : a4.IsWhole) (a5 : Memref sig .tc .vmem S2816x512 .bf16) (h5 : a5.IsWhole)
    (hc0 : cond0_0 i) (hc1 : ¬cond0_1 i) (x : Vec Ideal S2048x2816 .bf16) (y : Vec Ideal S2048x512 .bf16) :
    out0_A_2 c i a2 h2 a3 h3 a4 h4 a5 h5 hc0 hc1 x y = k0_pay2 k0_pay1 x y := by
  unfold out0_A_2
  rw [View.read_writes_eq_canon _ _ _ (cover0_A_2 c i a2 h2 a3 h3 a4 h4 a5 h5 hc0 hc1 x y)]
  unfold kernelRun0_A
  dsimp only
  sl_unfold_words
  rw [View.canon_cons_unit_zero (S := S2816x512) origin, View.readCov_unit_zero (S := S2816x512) _ origin]
  simp only [View.readAt_eq_ld, h2.read_unread, h3.read_unread, View.ld_unit_zero (S := S2048x2816) origin, View.ld_unit_zero (S := S2048x512) origin]

/-- The second row tile adds its product. -/
theorem second (i : grid0.Coords) (a2 : Memref sig .tc .vmem S2048x2816 .bf16) (h2 : a2.IsWhole) (a3 : Memref sig .tc .vmem S2048x512 .bf16) (h3 : a3.IsWhole)
    (a4 : Memref sig .tc .vmem S2816x512 .f32) (h4 : a4.IsWhole) (a5 : Memref sig .tc .vmem S2816x512 .bf16) (h5 : a5.IsWhole)
    (hc0 : ¬cond0_0 i) (hc1 : cond0_1 i) (x : Vec Ideal S2048x2816 .bf16) (y : Vec Ideal S2048x512 .bf16) (z : Vec Ideal S2816x512 .f32) :
    out0_B_2 c i a2 h2 a3 h3 a4 h4 a5 h5 hc0 hc1 x y z = k0_pay2 z x y := by
  unfold out0_B_2
  rw [View.read_writes_eq_canon _ _ _ (cover0_B_2 c i a2 h2 a3 h3 a4 h4 a5 h5 hc0 hc1 x y z)]
  unfold kernelRun0_B
  dsimp only
  sl_unfold_words
  rw [View.canon_unit_zero origin]
  simp only [View.readAt_eq_ld, h2.read_unread, h3.read_unread, h4.read_unread, View.ld_unit_zero (S := S2048x2816) origin, View.ld_unit_zero (S := S2048x512) origin,
    View.ld_unit_zero (S := S2816x512) origin]

/-- Then it rounds the sum for the other result. -/
theorem rounded (i : grid0.Coords) (a2 : Memref sig .tc .vmem S2048x2816 .bf16) (h2 : a2.IsWhole) (a3 : Memref sig .tc .vmem S2048x512 .bf16) (h3 : a3.IsWhole)
    (a4 : Memref sig .tc .vmem S2816x512 .f32) (h4 : a4.IsWhole) (a5 : Memref sig .tc .vmem S2816x512 .bf16) (h5 : a5.IsWhole)
    (hc0 : ¬cond0_0 i) (hc1 : cond0_1 i) (x : Vec Ideal S2048x2816 .bf16) (y : Vec Ideal S2048x512 .bf16) (z : Vec Ideal S2816x512 .f32) :
    out0_B_3 c i a2 h2 a3 h3 a4 h4 a5 h5 hc0 hc1 x y z = k0_pay3 (k0_pay2 z x y) := by
  unfold out0_B_3
  rw [View.read_writes_eq_canon _ _ _ (cover0_B_3 c i a2 h2 a3 h3 a4 h4 a5 h5 hc0 hc1 x y z)]
  unfold kernelRun0_B
  dsimp only
  sl_unfold_words
  rw [View.canon_unit_zero origin, View.readCov_unit_zero (S := S2816x512) _ origin]
  simp only [View.readAt_eq_ld, h2.read_unread, h3.read_unread, h4.read_unread, View.ld_unit_zero (S := S2048x2816) origin, View.ld_unit_zero (S := S2048x512) origin,
    View.ld_unit_zero (S := S2816x512) origin]

theorem add_product (z : Vec Ideal S2816x512 .f32) (x : Vec Ideal S2048x2816 .bf16) (y : Vec Ideal S2048x512 .bf16) (k : Fin 2816) (j : Fin 512) :
    k0_pay2 z x y (ix2 k j) = z (ix2 k j) + ∑ i : Fin 2048, x (ix2 i k) * y (ix2 i j) := by
  pointwise [k0_pay2]

theorem zero_at (k : Fin 2816) (j : Fin 512) : k0_pay1 (F := Ideal) (ix2 k j) = 0 := by
  pointwise [k0_pay1]

theorem round_at (z : Vec Ideal S2816x512 .f32) : k0_pay3 z = z := by
  funext y
  rw [eq_ix2 y]
  pointwise [k0_pay3]

theorem V0 : V m c main_v0 = X0 m c := by
  unfold V
  after_reads_simp
  rfl

theorem V1 : V m c main_v1 = X1 m c := by
  unfold V
  after_reads_simp
  rfl

theorem idx : ∀ t : Fin cfg0.N, win0_0.index t = ![t.val % 2, 0] ∧ win0_1.index t = ![t.val % 2, t.val / 2]
    ∧ win0_2.index t = ![0, t.val / 2] ∧ win0_3.index t = ![0, t.val / 2] :=
  (by decide +kernel : ∀ t : Fin grid0.N, _)

theorem lt4 (t : Fin cfg0.N) : t.val < 4 := t.isLt

theorem blk0 (t : Fin cfg0.N) (i : Fin 2048) (k : Fin 2816) :
    iblk m c 0 t (ix2 i k) = X0 m c (ix2 ⟨2048 * (t.val % 2) + i.val, by omega⟩ k) := by
  refine Eq.trans (b := V m c main_v0 (ix2 ⟨2048 * (t.val % 2) + i.val, by omega⟩ k)) ?_ (congrFun (V0 m c) _)
  blk_ext [iblk, idx t]

theorem blk1 (t : Fin cfg0.N) (i : Fin 2048) (j : Fin 512) :
    iblk m c 1 t (ix2 i j) = X1 m c (ix2 ⟨2048 * (t.val % 2) + i.val, by omega⟩ ⟨512 * (t.val / 2) + j.val, by have := lt4 t; omega⟩) := by
  refine Eq.trans (b := V m c main_v1 (ix2 ⟨2048 * (t.val % 2) + i.val, by omega⟩ ⟨512 * (t.val / 2) + j.val, by have := lt4 t; omega⟩)) ?_ (congrFun (V1 m c) _)
  blk_ext [iblk, idx t]

/-- What the second row tile of a column block leaves: the sum of the two tiles' products. -/
def both (t : Fin cfg0.N) : Vec Ideal S2816x512 .f32 :=
  k0_pay2 (k0_pay2 k0_pay1 (iblk m c 0 ⟨t.val - 1, by have := t.isLt; omega⟩) (iblk m c 1 ⟨t.val - 1, by have := t.isLt; omega⟩)) (iblk m c 0 t) (iblk m c 1 t)

theorem outs_both (t : Fin cfg0.N) (h : t.val % 2 = 1) : outsAt0 m c t.val t.isLt = (both m c t, k0_pay3 (both m c t)) := by
  have e := outsAt0_A m c ⟨t.val - 1, by have := t.isLt; omega⟩ (by show (t.val - 1) % 2 = 0; omega) (by show ¬(t.val - 1) % 2 = 1; omega)
  rw [outsAt0_B m c t (by omega) h, second, rounded]
  dsimp only at e
  rw [e, first]
  rfl

/-- The reference's product. -/
abbrev product : Vec Ideal S2816x1024 .f32 :=
  transpose S2816x1024 [1, 0] (transpose Cert.Reference5Ideal.S1024x2816 [1, 0] (Host.dotGeneral (F := Ideal) (φ₁ := .f32) (φ₂ := .f32) Cert.Reference5Ideal.dot_S4096x2816_S4096x1024_S2816x1024_0_0_1_1_n_n none (X0 m c) (X1 m c)) Cert.Reference5Ideal.Gen.transposes_S2816x1024_S1024x2816_1_0) Cert.Reference5Ideal.Gen.transposes_S1024x2816_S2816x1024_1_0

theorem product_at (k : Fin 2816) (j : Fin 1024) : product m c (ix2 k j) = ∑ r : Fin 4096, X0 m c (ix2 r k) * X1 m c (ix2 r j) := by
  pointwise [product]

theorem both_at (t : Fin cfg0.N) (h : t.val % 2 = 1) (k : Fin 2816) (j : Fin 512) :
    both m c t (ix2 k j) = product m c (ix2 k ⟨512 * (t.val / 2) + j.val, by have := lt4 t; omega⟩) := by
  rw [both, add_product, add_product, zero_at, zero_add, product_at, Cert.Tiles.sum_two]
  refine congrArg₂ (· + ·) (Finset.sum_congr rfl fun i _ => ?_) (Finset.sum_congr rfl fun i _ => ?_)
  · rw [blk0, blk1]
    exact congrArg₂ (· * ·) (congrArg (X0 m c) (congrArg₂ ix2 (Fin.ext (by show 2048 * ((t.val - 1) % 2) + i.val = i.val; omega)) rfl))
      (congrArg (X1 m c) (congrArg₂ ix2 (Fin.ext (by show 2048 * ((t.val - 1) % 2) + i.val = i.val; omega)) (Fin.ext (by show 512 * ((t.val - 1) / 2) + j.val = 512 * (t.val / 2) + j.val; omega))))
  · rw [blk0, blk1]
    exact congrArg₂ (· * ·) (congrArg (X0 m c) (congrArg₂ ix2 (Fin.ext (by show 2048 * (t.val % 2) + i.val = 2048 + i.val; omega)) rfl))
      (congrArg (X1 m c) (congrArg₂ ix2 (Fin.ext (by show 2048 * (t.val % 2) + i.val = 2048 + i.val; omega)) rfl))

theorem array2 : (dats m 0 c).arrAt 2 cfg0.N = product m c := by
  refine (dats m 0 c).arrAt_eq_of_covers 2 _ (by decide +kernel) fun t hf y => ?_
  have h : t.val % 2 = 1 := (flush0_2 t).mp hf
  blk_simp
  rw [after0_2, outs_both m c t h]
  obtain ⟨k, j, rfl⟩ : ∃ (k : Fin 2816) (j : Fin 512), y = ix2 k j := ⟨y 0, y 1, eq_ix2 y⟩
  have e : (win0_2.blk t).view.emb (ix2 k j) = ix2 k ⟨512 * (t.val / 2) + j.val, by have := lt4 t; omega⟩ := by
    blk_ext [idx t]
  rw [e]
  exact both_at m c t h k j

theorem array3 : (dats m 0 c).arrAt 3 cfg0.N = product m c := by
  refine (dats m 0 c).arrAt_eq_of_covers 3 _ (by decide +kernel) fun t hf y => ?_
  have h : t.val % 2 = 1 := (flush0_3 t).mp hf
  blk_simp
  rw [after0_3, outs_both m c t h]
  obtain ⟨k, j, rfl⟩ : ∃ (k : Fin 2816) (j : Fin 512), y = ix2 k j := ⟨y 0, y 1, eq_ix2 y⟩
  have e : (win0_3.blk t).view.emb (ix2 k j) = ix2 k ⟨512 * (t.val / 2) + j.val, by have := lt4 t; omega⟩ := by
    blk_ext [idx t]
  rw [e]
  exact (congrFun (round_at _) _).trans (both_at m c t h k j)

/-- The reference has no semaphore; its run leaves its two arguments alone. -/
theorem reference_frame : Cert.quiescent_Reference5Ideal (hReference5Ideal := Cert.Reference5Ideal.Gen.facts) :=
  fun m ρ _ => (θ_run Cert.Reference5Ideal.defs _ _).mono
    (fun r h => ⟨fun c => (h c).2.2, Idealize.ShloMosaic.sem_eq_zero_of_no_sems (by decide) r.2⟩)
    (Cert.Reference5Ideal.Value.run (F := Ideal) m ρ)

/-- The call's two results are the reference's. -/
theorem results_equal : Cert.algebraic_Kernel5Ideal_Reference5Ideal (hKernel5Ideal := Cert.Kernel5Ideal.Gen.facts)
    (hReference5Ideal := Cert.Reference5Ideal.Gen.facts) := by
  intro m g m' g' hpre hagree
  refine ⟨fun c => product m c, fun c => product m c, ?_, ?_⟩
  · exact (θ_run Cert.Kernel5Ideal.defs _ _).mono (fun r h c => ⟨(h c).1.trans (array2 m c), (h c).2.1.trans (array3 m c), (h c).2.2⟩)
      (Cert.Kernel5Ideal.Value.run_blocks m g)
  · refine (θ_run Cert.Reference5Ideal.defs _ _).mono (fun r h c => ?_) (Cert.Reference5Ideal.Value.run (F := Ideal) m' g')
    obtain ⟨a0, a1⟩ := hagree c
    obtain ⟨h0, h1, hargs⟩ := h c
    rw [a0, a1] at h0 h1
    exact ⟨h0, h1, hargs⟩

end Cert.WeightGate

end
-- ==== Proof.WeightDown.lean ====
module

public import proofs.«01_k».proof.Proof.RowTiles
public import proofs.«01_k».proof.Proof.Gen.Kernel6Ideal.Value
public import proofs.«01_k».proof.Proof.Gen.Reference6Ideal.Run
public import proofs.«01_k».proof.Defs
public import Idealize.ShloMosaic.Lib.Pipeline.ValueKit
public import Idealize.ShloMosaic.Lib.StableHlo.RunRead
public import Idealize.ShloMosaic.Lib.Pointwise

/-! The weight gradient of the feed-forward block's last product.

The call's grid has two column blocks of 512 and, inside each, two row tiles of 2048. The first row tile of a column block stores zero
and adds its product, the second adds its own and writes the block back; the reference is one product over all 4096 rows. -/

@[expose] public section

set_option maxRecDepth 16384

noncomputable section

namespace Cert.WeightDown

open Cert.Kernel6Ideal Cert.Kernel6Ideal.Gen
open Idealize.ShloMosaic Idealize.ShloMosaic.TcCoe Idealize.SL.Sem

variable (m : (ℓ : Loc nD τ sig) → Buf (Elt Ideal) ℓ) (c : Dev nD)

/-- Argument 0: the activations. -/
abbrev X0 : Vec Ideal S4096x2816 .f32 := m ((c : Thread nD τ).loc main_arg0)

/-- Argument 1: the gradient of the block's output. -/
abbrev X1 : Vec Ideal S4096x1024 .f32 := m ((c : Thread nD τ).loc main_arg1)

theorem origin : (![0, 0] : Fin 2 → Nat) = fun _ => 0 := funext fun a => by fin_cases a <;> rfl

/-- The first row tile leaves its product, added to zero. -/
theorem first (i : grid0.Coords) (a2 : Memref sig .tc .vmem S2048x2816 .bf16) (h2 : a2.IsWhole) (a3 : Memref sig .tc .vmem S2048x512 .f32) (h3 : a3.IsWhole)
    (a4 : Memref sig .tc .vmem S2816x512 .f32) (h4 : a4.IsWhole) (a5 : Memref sig .tc .vmem S2816x512 .bf16) (h5 : a5.IsWhole)
    (hc0 : cond0_0 i) (hc1 : ¬cond0_1 i) (x : Vec Ideal S2048x2816 .bf16) (y : Vec Ideal S2048x512 .f32) :
    out0_A_2 c i a2 h2 a3 h3 a4 h4 a5 h5 hc0 hc1 x y = k0_pay2 k0_pay1 x y := by
  unfold out0_A_2
  rw [View.read_writes_eq_canon _ _ _ (cover0_A_2 c i a2 h2 a3 h3 a4 h4 a5 h5 hc0 hc1 x y)]
  unfold kernelRun0_A
  dsimp only
  sl_unfold_words
  rw [View.canon_cons_unit_zero (S := S2816x512) origin, View.readCov_unit_zero (S := S2816x512) _ origin]
  simp only [View.readAt_eq_ld, h2.read_unread, h3.read_unread, View.ld_unit_zero (S := S2048x2816) origin, View.ld_unit_zero (S := S2048x512) origin]

/-- The second row tile adds its product. -/
theorem second (i : grid0.Coords) (a2 : Memref sig .tc .vmem S2048x2816 .bf16) (h2 : a2.IsWhole) (a3 : Memref sig .tc .vmem S2048x512 .f32) (h3 : a3.IsWhole)
    (a4 : Memref sig .tc .vmem S2816x512 .f32) (h4 : a4.IsWhole) (a5 : Memref sig .tc .vmem S2816x512 .bf16) (h5 : a5.IsWhole)
    (hc0 : ¬cond0_0 i) (hc1 : cond0_1 i) (x : Vec Ideal S2048x2816 .bf16) (y : Vec Ideal S2048x512 .f32) (z : Vec Ideal S2816x512 .f32) :
    out0_B_2 c i a2 h2 a3 h3 a4 h4 a5 h5 hc0 hc1 x y z = k0_pay2 z x y := by
  unfold out0_B_2
  rw [View.read_writes_eq_canon _ _ _ (cover0_B_2 c i a2 h2 a3 h3 a4 h4 a5 h5 hc0 hc1 x y z)]
  unfold kernelRun0_B
  dsimp only
  sl_unfold_words
  rw [View.canon_unit_zero origin]
  simp only [View.readAt_eq_ld, h2.read_unread, h3.read_unread, h4.read_unread, View.ld_unit_zero (S := S2048x2816) origin, View.ld_unit_zero (S := S2048x512) origin,
    View.ld_unit_zero (S := S2816x512) origin]

/-- Then it rounds the sum for the other result. -/
theorem rounded (i : grid0.Coords) (a2 : Memref sig .tc .vmem S2048x2816 .bf16) (h2 : a2.IsWhole) (a3 : Memref sig .tc .vmem S2048x512 .f32) (h3 : a3.IsWhole)
    (a4 : Memref sig .tc .vmem S2816x512 .f32) (h4 : a4.IsWhole) (a5 : Memref sig .tc .vmem S2816x512 .bf16) (h5 : a5.IsWhole)
    (hc0 : ¬cond0_0 i) (hc1 : cond0_1 i) (x : Vec Ideal S2048x2816 .bf16) (y : Vec Ideal S2048x512 .f32) (z : Vec Ideal S2816x512 .f32) :
    out0_B_3 c i a2 h2 a3 h3 a4 h4 a5 h5 hc0 hc1 x y z = k0_pay3 (k0_pay2 z x y) := by
  unfold out0_B_3
  rw [View.read_writes_eq_canon _ _ _ (cover0_B_3 c i a2 h2 a3 h3 a4 h4 a5 h5 hc0 hc1 x y z)]
  unfold kernelRun0_B
  dsimp only
  sl_unfold_words
  rw [View.canon_unit_zero origin, View.readCov_unit_zero (S := S2816x512) _ origin]
  simp only [View.readAt_eq_ld, h2.read_unread, h3.read_unread, h4.read_unread, View.ld_unit_zero (S := S2048x2816) origin, View.ld_unit_zero (S := S2048x512) origin,
    View.ld_unit_zero (S := S2816x512) origin]

theorem add_product (z : Vec Ideal S2816x512 .f32) (x : Vec Ideal S2048x2816 .bf16) (y : Vec Ideal S2048x512 .f32) (k : Fin 2816) (j : Fin 512) :
    k0_pay2 z x y (ix2 k j) = z (ix2 k j) + ∑ i : Fin 2048, x (ix2 i k) * y (ix2 i j) := by
  pointwise [k0_pay2]

theorem zero_at (k : Fin 2816) (j : Fin 512) : k0_pay1 (F := Ideal) (ix2 k j) = 0 := by
  pointwise [k0_pay1]

theorem round_at (z : Vec Ideal S2816x512 .f32) : k0_pay3 z = z := by
  funext y
  rw [eq_ix2 y]
  pointwise [k0_pay3]

theorem V0 : V m c main_v0 = X0 m c := by
  unfold V
  after_reads_simp
  rfl

theorem idx : ∀ t : Fin cfg0.N, win0_0.index t = ![t.val % 2, 0] ∧ win0_1.index t = ![t.val % 2, t.val / 2]
    ∧ win0_2.index t = ![0, t.val / 2] ∧ win0_3.index t = ![0, t.val / 2] :=
  (by decide +kernel : ∀ t : Fin grid0.N, _)

theorem lt4 (t : Fin cfg0.N) : t.val < 4 := t.isLt

theorem blk0 (t : Fin cfg0.N) (i : Fin 2048) (k : Fin 2816) :
    iblk m c 0 t (ix2 i k) = X0 m c (ix2 ⟨2048 * (t.val % 2) + i.val, by omega⟩ k) := by
  refine Eq.trans (b := V m c main_v0 (ix2 ⟨2048 * (t.val % 2) + i.val, by omega⟩ k)) ?_ (congrFun (V0 m c) _)
  blk_ext [iblk, idx t]

theorem blk1 (t : Fin cfg0.N) (i : Fin 2048) (j : Fin 512) :
    iblk m c 1 t (ix2 i j) = X1 m c (ix2 ⟨2048 * (t.val % 2) + i.val, by omega⟩ ⟨512 * (t.val / 2) + j.val, by have := lt4 t; omega⟩) := by
  refine Eq.trans (b := V m c main_arg1 (ix2 ⟨2048 * (t.val % 2) + i.val, by omega⟩ ⟨512 * (t.val / 2) + j.val, by have := lt4 t; omega⟩)) ?_ (congrFun (V_main_arg1 m c) _)
  blk_ext [iblk, idx t]

/-- What the second row tile of a column block leaves: the sum of the two tiles' products. -/
def both (t : Fin cfg0.N) : Vec Ideal S2816x512 .f32 :=
  k0_pay2 (k0_pay2 k0_pay1 (iblk m c 0 ⟨t.val - 1, by have := t.isLt; omega⟩) (iblk m c 1 ⟨t.val - 1, by have := t.isLt; omega⟩)) (iblk m c 0 t) (iblk m c 1 t)

theorem outs_both (t : Fin cfg0.N) (h : t.val % 2 = 1) : outsAt0 m c t.val t.isLt = (both m c t, k0_pay3 (both m c t)) := by
  have e := outsAt0_A m c ⟨t.val - 1, by have := t.isLt; omega⟩ (by show (t.val - 1) % 2 = 0; omega) (by show ¬(t.val - 1) % 2 = 1; omega)
  rw [outsAt0_B m c t (by omega) h, second, rounded]
  dsimp only at e
  rw [e, first]
  rfl

/-- The reference's product. -/
abbrev product : Vec Ideal S2816x1024 .f32 :=
  transpose S2816x1024 [1, 0] (Host.dotGeneral (F := Ideal) (φ₁ := .f32) (φ₂ := .f32) Cert.Reference6Ideal.dot_S4096x1024_S4096x2816_S1024x2816_0_0_1_1_n_n none (X1 m c) (X0 m c)) Cert.Reference6Ideal.Gen.transposes_S1024x2816_S2816x1024_1_0

theorem product_at (k : Fin 2816) (j : Fin 1024) : product m c (ix2 k j) = ∑ r : Fin 4096, X0 m c (ix2 r k) * X1 m c (ix2 r j) := by
  refine Eq.trans (b := ∑ r : Fin 4096, X1 m c (ix2 r j) * X0 m c (ix2 r k)) ?_ (Finset.sum_congr rfl fun _ _ => mul_comm _ _)
  pointwise [product]

theorem both_at (t : Fin cfg0.N) (h : t.val % 2 = 1) (k : Fin 2816) (j : Fin 512) :
    both m c t (ix2 k j) = product m c (ix2 k ⟨512 * (t.val / 2) + j.val, by have := lt4 t; omega⟩) := by
  rw [both, add_product, add_product, zero_at, zero_add, product_at, Cert.Tiles.sum_two]
  refine congrArg₂ (· + ·) (Finset.sum_congr rfl fun i _ => ?_) (Finset.sum_congr rfl fun i _ => ?_)
  · rw [blk0, blk1]
    exact congrArg₂ (· * ·) (congrArg (X0 m c) (congrArg₂ ix2 (Fin.ext (by show 2048 * ((t.val - 1) % 2) + i.val = i.val; omega)) rfl))
      (congrArg (X1 m c) (congrArg₂ ix2 (Fin.ext (by show 2048 * ((t.val - 1) % 2) + i.val = i.val; omega)) (Fin.ext (by show 512 * ((t.val - 1) / 2) + j.val = 512 * (t.val / 2) + j.val; omega))))
  · rw [blk0, blk1]
    exact congrArg₂ (· * ·) (congrArg (X0 m c) (congrArg₂ ix2 (Fin.ext (by show 2048 * (t.val % 2) + i.val = 2048 + i.val; omega)) rfl))
      (congrArg (X1 m c) (congrArg₂ ix2 (Fin.ext (by show 2048 * (t.val % 2) + i.val = 2048 + i.val; omega)) rfl))

theorem array2 : (dats m 0 c).arrAt 2 cfg0.N = product m c := by
  refine (dats m 0 c).arrAt_eq_of_covers 2 _ (by decide +kernel) fun t hf y => ?_
  have h : t.val % 2 = 1 := (flush0_2 t).mp hf
  blk_simp
  rw [after0_2, outs_both m c t h]
  obtain ⟨k, j, rfl⟩ : ∃ (k : Fin 2816) (j : Fin 512), y = ix2 k j := ⟨y 0, y 1, eq_ix2 y⟩
  have e : (win0_2.blk t).view.emb (ix2 k j) = ix2 k ⟨512 * (t.val / 2) + j.val, by have := lt4 t; omega⟩ := by
    blk_ext [idx t]
  rw [e]
  exact both_at m c t h k j

theorem array3 : (dats m 0 c).arrAt 3 cfg0.N = product m c := by
  refine (dats m 0 c).arrAt_eq_of_covers 3 _ (by decide +kernel) fun t hf y => ?_
  have h : t.val % 2 = 1 := (flush0_3 t).mp hf
  blk_simp
  rw [after0_3, outs_both m c t h]
  obtain ⟨k, j, rfl⟩ : ∃ (k : Fin 2816) (j : Fin 512), y = ix2 k j := ⟨y 0, y 1, eq_ix2 y⟩
  have e : (win0_3.blk t).view.emb (ix2 k j) = ix2 k ⟨512 * (t.val / 2) + j.val, by have := lt4 t; omega⟩ := by
    blk_ext [idx t]
  rw [e]
  exact (congrFun (round_at _) _).trans (both_at m c t h k j)

/-- The reference has no semaphore; its run leaves its two arguments alone. -/
theorem reference_frame : Cert.quiescent_Reference6Ideal (hReference6Ideal := Cert.Reference6Ideal.Gen.facts) :=
  fun m ρ _ => (θ_run Cert.Reference6Ideal.defs _ _).mono
    (fun r h => ⟨fun c => (h c).2.2, Idealize.ShloMosaic.sem_eq_zero_of_no_sems (by decide) r.2⟩)
    (Cert.Reference6Ideal.Value.run (F := Ideal) m ρ)

/-- The call's two results are the reference's. -/
theorem results_equal : Cert.algebraic_Kernel6Ideal_Reference6Ideal (hKernel6Ideal := Cert.Kernel6Ideal.Gen.facts)
    (hReference6Ideal := Cert.Reference6Ideal.Gen.facts) := by
  intro m g m' g' hpre hagree
  refine ⟨fun c => product m c, fun c => product m c, ?_, ?_⟩
  · exact (θ_run Cert.Kernel6Ideal.defs _ _).mono (fun r h c => ⟨(h c).1.trans (array2 m c), (h c).2.1.trans (array3 m c), (h c).2.2⟩)
      (Cert.Kernel6Ideal.Value.run_blocks m g)
  · refine (θ_run Cert.Reference6Ideal.defs _ _).mono (fun r h c => ?_) (Cert.Reference6Ideal.Value.run (F := Ideal) m' g')
    obtain ⟨a0, a1⟩ := hagree c
    obtain ⟨h0, h1, hargs⟩ := h c
    rw [a0, a1] at h0 h1
    exact ⟨h0, h1, hargs⟩

end Cert.WeightDown

end
-- ==== Proof.StatRow.lean ====
module

public import proofs.«01_k».proof.Proof.Tiles2

/-! A block of eight rows whose first row, or first two rows, are stored anew, read back.

The calls that differentiate a norm keep such a block: the first grid point clears it, and every point replaces its first row by that
row plus the point's own sum. The call that also computes the loss keeps a second such sum in the second row. -/

@[expose] public section

noncomputable section

namespace Cert.Stat

open Idealize.ShloMosaic Cert.Mixer

/-- Row 0 is `p`, the others are those of `X`. -/
def topRow (p : (Sh 1 1024).Idx → EReal) (X : (Sh 8 1024).Idx → EReal) (i : Fin 8) (j : Fin 1024) : EReal :=
  if i.val = 0 then p (ix2 0 j) else X (ix2 i j)

section

variable (i0 : ∀ a, (![0, 0] : Fin 2 → ℕ) a + (![1, 1024] : Fin 2 → ℕ) a ≤ (Sh 8 1024).size a)
  (iw : ∀ a, (![0, 0] : Fin 2 → ℕ) a + (![8, 1024] : Fin 2 → ℕ) a ≤ (Sh 8 1024).size a)
  (p : (Sh 1 1024).Idx → EReal) (X : (Sh 8 1024).Idx → EReal) (i : Fin 8) (j : Fin 1024)

/-- A row stored over a block stored whole. -/
theorem over_whole : View.canon (Val := Elt Ideal) (s := Sh 8 1024) (e := .f32)
    [⟨Rect.unit ![0, 0] ![1, 1024] i0, p⟩, ⟨Rect.unit ![0, 0] ![8, 1024] iw, X⟩] (ix2 i j) = topRow p X i j := by
  rw [topRow]
  by_cases h : i.val = 0
  · rw [if_pos h]
    refine (canon_in (Val := Elt Ideal) i0 _ _ _ _ (by omega) (by omega) (by omega) (by omega)).trans ?_
    exact congrArg p (congrArg₂ ix2 (Fin.ext (by simp; omega)) rfl)
  · rw [if_neg h]
    refine (canon_out (Val := Elt Ideal) i0 _ _ _ _ (by omega)).trans ?_
    exact (canon_in (Val := Elt Ideal) iw _ _ _ _ (by omega) (by omega) (by omega) (by omega)).trans rfl

variable {sig : RefSig} {κ : Kind} {sp : Space} (v : View sig κ sp (Sh 8 1024) .f32)

/-- A row stored over what the block held. -/
theorem over_held (f : v.ty.Contents (Elt Ideal)) (hf : v.read (Elt Ideal) f = X) :
    v.read (Elt Ideal) (v.writes (Elt Ideal) f [⟨Rect.unit ![0, 0] ![1, 1024] i0, p⟩]) (ix2 i j) = topRow p X i j := by
  rw [topRow]
  by_cases h : i.val = 0
  · rw [if_pos h]
    refine (writes_in (Val := Elt Ideal) v f i0 _ _ _ _ (by omega) (by omega) (by omega) (by omega)).trans ?_
    exact congrArg p (congrArg₂ ix2 (Fin.ext (by simp; omega)) rfl)
  · rw [if_neg h]
    refine (writes_out (Val := Elt Ideal) v f i0 _ _ _ _ (by omega)).trans ?_
    exact congrFun hf (ix2 i j)

/-- Row 0 of a block stored whole. -/
theorem load_whole : v.readCov (Val := Elt Ideal) [⟨Rect.unit ![0, 0] ![8, 1024] iw, X⟩] (Rect.unit (s := Sh 8 1024) ![0, 0] ![1, 1024] i0).toLoadRect (ix2 0 j)
    = X (ix2 0 j) := by
  refine (readCov_at (Val := Elt Ideal) v _ i0 0 j (by decide) (by omega)).trans ?_
  refine (canon_in (Val := Elt Ideal) iw _ _ _ _ (by simp) (by simp) (by simp) (by simp)).trans ?_
  exact congrArg X (congrArg₂ ix2 (Fin.ext (by simp)) (Fin.ext (by simp)))

/-- Row 0 of what the block held. -/
theorem load_held : View.ld (Val := Elt Ideal) (e' := .f32) X (Rect.unit (s := Sh 8 1024) ![0, 0] ![1, 1024] i0) (ix2 0 j) = X (ix2 0 j) := by
  refine (ld_at (Val := Elt Ideal) (e := .f32) X i0 0 j (by decide) (by omega)).trans ?_
  exact congrArg X (congrArg₂ ix2 (Fin.ext (by simp)) (Fin.ext (by simp)))

end

/-! ### Two rows -/

/-- Row 1 is `q`, the others are those of `topRow p X`. -/
def twoRows (p q : (Sh 1 1024).Idx → EReal) (X : (Sh 8 1024).Idx → EReal) (i : Fin 8) (j : Fin 1024) : EReal :=
  if i.val = 1 then q (ix2 0 j) else topRow p X i j

section

variable (i0 : ∀ a, (![0, 0] : Fin 2 → ℕ) a + (![1, 1024] : Fin 2 → ℕ) a ≤ (Sh 8 1024).size a)
  (i1 : ∀ a, (![1, 0] : Fin 2 → ℕ) a + (![1, 1024] : Fin 2 → ℕ) a ≤ (Sh 8 1024).size a)
  (iw : ∀ a, (![0, 0] : Fin 2 → ℕ) a + (![8, 1024] : Fin 2 → ℕ) a ≤ (Sh 8 1024).size a)
  (p q : (Sh 1 1024).Idx → EReal) (X : (Sh 8 1024).Idx → EReal) (i : Fin 8) (j : Fin 1024)

/-- Two rows stored over a block stored whole. -/
theorem two_over_whole : View.canon (Val := Elt Ideal) (s := Sh 8 1024) (e := .f32)
    [⟨Rect.unit ![1, 0] ![1, 1024] i1, q⟩, ⟨Rect.unit ![0, 0] ![1, 1024] i0, p⟩, ⟨Rect.unit ![0, 0] ![8, 1024] iw, X⟩] (ix2 i j) = twoRows p q X i j := by
  rw [twoRows]
  by_cases h : i.val = 1
  · rw [if_pos h]
    refine (canon_in (Val := Elt Ideal) i1 _ _ _ _ (by omega) (by omega) (by omega) (by omega)).trans ?_
    exact congrArg q (congrArg₂ ix2 (Fin.ext (by simp; omega)) rfl)
  · rw [if_neg h]
    exact (canon_out (Val := Elt Ideal) i1 _ _ _ _ (by omega)).trans (over_whole i0 iw p X i j)

variable {sig : RefSig} {κ : Kind} {sp : Space} (v : View sig κ sp (Sh 8 1024) .f32)

/-- Two rows stored over what the block held. -/
theorem two_over_held (f : v.ty.Contents (Elt Ideal)) (hf : v.read (Elt Ideal) f = X) :
    v.read (Elt Ideal) (v.writes (Elt Ideal) f [⟨Rect.unit ![1, 0] ![1, 1024] i1, q⟩, ⟨Rect.unit ![0, 0] ![1, 1024] i0, p⟩]) (ix2 i j) = twoRows p q X i j := by
  rw [twoRows]
  by_cases h : i.val = 1
  · rw [if_pos h]
    refine (writes_in (Val := Elt Ideal) v f i1 _ _ _ _ (by omega) (by omega) (by omega) (by omega)).trans ?_
    exact congrArg q (congrArg₂ ix2 (Fin.ext (by simp; omega)) rfl)
  · rw [if_neg h]
    exact (writes_out (Val := Elt Ideal) v f i1 _ _ _ _ (by omega)).trans (over_held i0 p X i j v f hf)

/-- Row 1 of a block stored whole, after row 0 has been stored anew. -/
theorem load_second_whole : v.readCov (Val := Elt Ideal) [⟨Rect.unit ![0, 0] ![1, 1024] i0, p⟩, ⟨Rect.unit ![0, 0] ![8, 1024] iw, X⟩]
    (Rect.unit (s := Sh 8 1024) ![1, 0] ![1, 1024] i1).toLoadRect (ix2 0 j) = X (ix2 1 j) := by
  refine (readCov_at (Val := Elt Ideal) v _ i1 0 j (by decide) (by omega)).trans ?_
  refine (over_whole i0 iw p X _ _).trans ((if_neg (by simp)).trans ?_)
  exact congrArg X (congrArg₂ ix2 (Fin.ext (by simp)) (Fin.ext (by simp)))

/-- Row 1 of what the block held. -/
theorem load_second_held : View.ld (Val := Elt Ideal) (e' := .f32) X (Rect.unit (s := Sh 8 1024) ![1, 0] ![1, 1024] i1) (ix2 0 j) = X (ix2 1 j) := by
  refine (ld_at (Val := Elt Ideal) (e := .f32) X i1 0 j (by decide) (by omega)).trans ?_
  exact congrArg X (congrArg₂ ix2 (Fin.ext (by simp)) (Fin.ext (by simp)))

end

end Cert.Stat

end
-- ==== Proof.Norm.lean ====
module

public import proofs.«01_k».proof.Proof.Reals

/-! The gradient of a root-mean-square norm, of one row.

With `z` the row's mean square plus the norm's small constant and `r = 1/√z`, differentiating the norm as it is written gives two
equal terms, each `x` times `(∑ x w) · (-½ · (r / z)) / 1024`. The call uses `r / z = r³` to write the same gradient as
`r · (w - x r · mean (w x r))`. The two agree for extended reals: `r` is real and not negative, so it distributes over every sum. -/

@[expose] public section

noncomputable section

namespace Cert.Norm

open Idealize.ShloMosaic

/-- The number of columns of a row. -/
abbrev width : EReal := Ideal.ofBits .f32 0x44800000#32

/-- The constant the norm adds to the mean square. -/
abbrev small : EReal := Ideal.ofBits .f32 0x358637BD#32

/-- The factor `-1/2` of the derivative of `1/√z`. -/
abbrev minus_half : EReal := Ideal.ofBits .f32 0xBF000000#32

theorem width_eq : width = ((1024 : ℝ) : EReal) := by
  simp [width, Ideal.ofBits, Ideal.ieee, -EReal.coe_mul]
  norm_num

theorem minus_half_eq : minus_half = ((-(1 / 2) : ℝ) : EReal) := by
  simp [minus_half, Ideal.ofBits, Ideal.ieee, -EReal.coe_mul]
  norm_num

theorem small_pos : 0 < small := by
  have : small = ((8796093 * (2 : ℝ) ^ (-43 : Int) : ℝ) : EReal) := by
    simp [small, Ideal.ofBits, Ideal.ieee, -EReal.coe_mul]
  rw [this]
  exact EReal.coe_pos.mpr (by positivity)

theorem div_width (a : EReal) : Ideal.div a width = a * ((1024⁻¹ : ℝ) : EReal) := by
  rw [width_eq, Ideal.div, if_neg (by exact_mod_cast (by norm_num : (1024 : ℝ) ≠ 0)), EReal.coe_inv]

theorem square_nonneg (a : EReal) : 0 ≤ a * a := by
  rcases le_total 0 a with h | h
  · exact mul_nonneg h h
  · rw [← neg_mul_neg]
    exact mul_nonneg (EReal.neg_nonneg.mpr h) (EReal.neg_nonneg.mpr h)

/-- A row's mean square plus the norm's small constant. -/
abbrev meanSquare {n : ℕ} (x : Fin n → EReal) : EReal := Ideal.div (∑ k, x k * x k) width + small

/-- What stands under the root is positive. -/
theorem under_root {n : ℕ} (x : Fin n → EReal) : 0 < meanSquare x := by
  unfold meanSquare
  rw [div_width]
  exact lt_of_lt_of_le small_pos (le_add_of_nonneg_left (mul_nonneg (Finset.sum_nonneg fun k _ => square_nonneg (x k)) (EReal.coe_nonneg.mpr (by norm_num))))

/-- `1/√z` is real and not negative, and `1/√z` over `z` is its cube. -/
theorem root {z : EReal} (hz : 0 < z) : ∃ r : ℝ, 0 ≤ r ∧ Ideal.rsqrt z = r ∧ Ideal.div (Ideal.rsqrt z) z = ((r * r * r : ℝ) : EReal) := by
  induction z with
  | bot => exact absurd hz (by simp)
  | top => exact ⟨0, le_rfl, by simp, by simp [Ideal.div]⟩
  | coe a =>
    have ha : 0 < a := EReal.coe_pos.mp hz
    have hs := Real.sqrt_pos.mpr ha
    have e : Ideal.rsqrt (a : EReal) = (((Real.sqrt a)⁻¹ : ℝ) : EReal) := by
      rw [Ideal.rsqrt_coe, if_neg (not_lt.mpr ha.le), if_neg ha.ne']
    refine ⟨(Real.sqrt a)⁻¹, inv_nonneg.mpr hs.le, e, ?_⟩
    rw [e, Ideal.div, if_neg (by exact_mod_cast ha.ne'), ← EReal.coe_inv, ← EReal.coe_mul]
    refine congrArg _ ?_
    have h2 : a⁻¹ = (Real.sqrt a)⁻¹ * (Real.sqrt a)⁻¹ := by
      rw [← mul_inv, Real.mul_self_sqrt ha.le]
    rw [h2]
    ring

/-- A normed number is real, even in a row that holds an infinity: there `1/√z` is zero. -/
theorem normed_real {n : ℕ} (x : Fin n → EReal) (j : Fin n) : Cert.Mixer.IsReal (x j * Ideal.rsqrt (meanSquare x)) := by
  obtain ⟨r, h0, hr, -⟩ := root (under_root x)
  by_cases hx : x j * x j = ⊤
  · have hs : ∑ k, x k * x k = ⊤ := top_le_iff.mp (hx ▸ Finset.single_le_sum (f := fun k => x k * x k) (fun k _ => square_nonneg (x k)) (Finset.mem_univ j))
    have hz : meanSquare x = ⊤ := by
      rw [meanSquare, hs, div_width, EReal.top_mul_coe_of_pos (by norm_num), EReal.top_add_of_ne_bot (ne_bot_of_gt small_pos)]
    rw [hz, show Ideal.rsqrt ⊤ = 0 from rfl, mul_zero]
    exact Cert.Mixer.IsReal.zero
  · rw [hr]
    generalize x j = a at hx
    induction a with
    | bot => exact absurd (by simp) hx
    | top => exact absurd (by simp) hx
    | coe a => exact ⟨a * r, (EReal.coe_mul a r).symm⟩

/-- A real factor that is not negative goes into a sum. -/
theorem real_sum {n : ℕ} (f : Fin n → EReal) {r : ℝ} (hr : 0 ≤ r) : ∑ k, f k * (r : EReal) = (∑ k, f k) * (r : EReal) := by
  classical
  induction (Finset.univ : Finset (Fin n)) using Finset.induction_on with
  | empty => simp
  | insert a s ha ih =>
    rw [Finset.sum_insert ha, Finset.sum_insert ha, ih, mul_comm (_ + _), EReal.left_distrib_of_nonneg_of_ne_top (EReal.coe_nonneg.mpr hr) (EReal.coe_ne_top r),
      mul_comm (f a), mul_comm (∑ k ∈ s, f k)]

theorem twice (a : EReal) : a + a = a * ((2 : ℝ) : EReal) := by
  induction a with
  | bot => exact (EReal.bot_mul_coe_of_pos (by norm_num)).symm
  | top => exact (EReal.top_mul_coe_of_pos (by norm_num)).symm
  | coe a => rw [← EReal.coe_add, ← EReal.coe_mul]; exact congrArg _ (by ring)

/-- The factor that the derivative of `1/√z` puts before each `x`. -/
def through_root (s z : EReal) : EReal := Ideal.div (s * (minus_half * Ideal.div (Ideal.rsqrt z) z)) width

/-- The call's gradient of a row is the norm's. -/
theorem grad {n : ℕ} (x w : Fin n → EReal) (res z : EReal) (hz : 0 < z) (j : Fin n) :
    res + Ideal.rsqrt z * (w j - x j * Ideal.rsqrt z * Ideal.div (∑ k, w k * (x k * Ideal.rsqrt z)) width)
      = res + w j * Ideal.rsqrt z + x j * through_root (∑ k, x k * w k) z + through_root (∑ k, x k * w k) z * x j := by
  obtain ⟨r, h0, hr, hrz⟩ := root hz
  rw [through_root, hrz, hr, div_width, div_width, minus_half_eq]
  have hs : ∑ k, w k * (x k * (r : EReal)) = (∑ k, x k * w k) * (r : EReal) := by
    rw [← real_sum _ h0]
    exact Finset.sum_congr rfl fun k _ => by rw [← mul_assoc, mul_comm (w k)]
  rw [hs]
  generalize ∑ k, x k * w k = s
  rw [mul_comm (_ * _) (x j), add_assoc (_ + _), twice, add_assoc res, sub_eq_add_neg,
    EReal.left_distrib_of_nonneg_of_ne_top (EReal.coe_nonneg.mpr h0) (EReal.coe_ne_top r), mul_comm (r : EReal) (w j)]
  refine congrArg (fun q => res + (w j * (r : EReal) + q)) ?_
  rw [mul_neg, ← mul_neg_one, ← EReal.coe_one, ← EReal.coe_neg, ← EReal.coe_mul]
  have e : ∀ p : ℝ, x j * (r : EReal) * (s * (r : EReal) * (p : EReal)) = x j * s * ((r * r * p : ℝ) : EReal) := by
    intro p
    rw [EReal.coe_mul, EReal.coe_mul]
    ac_rfl
  rw [e, mul_comm (r : EReal), mul_assoc, ← EReal.coe_mul, mul_assoc, ← EReal.coe_mul, mul_assoc s, ← EReal.coe_mul,
    ← mul_assoc (x j) s, mul_assoc (x j * s), ← EReal.coe_mul]
  refine congrArg (fun q : ℝ => x j * s * (q : EReal)) ?_
  ring

end Cert.Norm

end
-- ==== Proof.InBwd.lean ====
module

public import proofs.«01_k».proof.Proof.RowTiles
public import proofs.«01_k».proof.Proof.StatRow
public import proofs.«01_k».proof.Proof.Norm
public import proofs.«01_k».proof.Proof.Gen.Kernel2Ideal.Value
public import proofs.«01_k».proof.Proof.Gen.Reference2Ideal.Run
public import proofs.«01_k».proof.Proof.Gen.Reference2Ideal.Read
public import proofs.«01_k».proof.Defs
public import Idealize.ShloMosaic.Lib.Pipeline.ValueKit
public import Idealize.ShloMosaic.Lib.StableHlo.RunRead
public import Idealize.ShloMosaic.Lib.Pointwise

/-! The gradient of the step's input, through the eight projections and the first norm.

The call walks eight tiles of 512 rows. For each it multiplies the projections' gradient by the transposed weight, takes the product
through the norm and adds the gradient that passes beside the mixer. The norm's weight gradient is the sum of all tiles' row sums, kept
in the first row of a block of eight. -/

@[expose] public section

set_option maxRecDepth 16384

noncomputable section

namespace Cert.InBwd

open Cert.Kernel2Ideal Cert.Kernel2Ideal.Gen
open Idealize.ShloMosaic Idealize.ShloMosaic.TcCoe Idealize.SL.Sem
open Cert.Norm (meanSquare)

variable (m : (ℓ : Loc nD τ sig) → Buf (Elt Ideal) ℓ) (c : Dev nD)

/-- Argument 0: the gradient of the projections. -/
abbrev X0 : Vec Ideal S4096x8192 .f32 := m ((c : Thread nD τ).loc main_arg0)

/-- Argument 1: the projections' weight. -/
abbrev X1 : Vec Ideal S1024x8192 .f32 := m ((c : Thread nD τ).loc main_arg1)

/-- Argument 2: the step's input. -/
abbrev X2 : Vec Ideal S4096x1024 .f32 := m ((c : Thread nD τ).loc main_arg2)

/-- Argument 3: the gradient that passes beside the mixer. -/
abbrev X3 : Vec Ideal S4096x1024 .f32 := m ((c : Thread nD τ).loc main_arg3)

/-- Argument 4: the norm's weight. -/
abbrev X4 : Vec Ideal S1x1024 .f32 := m ((c : Thread nD τ).loc main_arg4)

theorem origin : (![0, 0] : Fin 2 → Nat) = fun _ => 0 := funext fun a => by fin_cases a <;> rfl

section Blocks

variable (t : Fin cfg0.N)

/-- The block of the gradient that point `t` stores. -/
def gradBlock : Vec Ideal S512x1024 .f32 :=
  k0_pay1 (k0_pay4 (iblk m c 2 t)) (k0_pay5 (iblk m c 2 t)) (k0_pay7 (iblk m c 0 t) (iblk m c 1 t) (iblk m c 4 t)) (iblk m c 3 t)
    (k0_pay8 (iblk m c 0 t) (iblk m c 1 t) (iblk m c 2 t) (iblk m c 4 t)) k0_pay9

theorem grad_first (h0 : t.val % 8 = 0) : (outsAt0 m c t.val t.isLt).1 = gradBlock m c t := by
  rw [outsAt0_A m c t h0]
  dsimp only
  unfold out0_A_5
  rw [View.read_writes_eq_canon _ _ _ (cover0_A_5 c _ _ _ _ _ _ _ _ _ _ _ _ _ _ _ _ _ _ _ _ _)]
  unfold kernelRun0_A
  dsimp only
  sl_unfold_words
  rw [View.canon_unit_zero (S := S512x1024) origin]
  simp only [View.readAt_eq_ld, (hs0_0 t).read_unread, (hs0_1 t).read_unread, (hs0_2 t).read_unread, (hs0_3 t).read_unread, (hs0_4 t).read_unread,
    View.ld_unit_zero (S := S512x8192) origin, View.ld_unit_zero (S := S1024x8192) origin, View.ld_unit_zero (S := S512x1024) origin, View.ld_unit_zero (S := S1x1024) origin]
  rfl

theorem grad_next (h0 : ¬t.val % 8 = 0) : (outsAt0 m c t.val t.isLt).1 = gradBlock m c t := by
  rw [outsAt0_B m c t h0]
  dsimp only
  unfold out0_B_5
  rw [View.read_writes_eq_canon _ _ _ (cover0_B_5 c _ _ _ _ _ _ _ _ _ _ _ _ _ _ _ _ _ _ _ _ _ _)]
  unfold kernelRun0_B
  dsimp only
  sl_unfold_words
  rw [View.canon_unit_zero (S := S512x1024) origin]
  simp only [View.readAt_eq_ld, (hs0_0 t).read_unread, (hs0_1 t).read_unread, (hs0_2 t).read_unread, (hs0_3 t).read_unread, (hs0_4 t).read_unread,
    View.ld_unit_zero (S := S512x8192) origin, View.ld_unit_zero (S := S1024x8192) origin, View.ld_unit_zero (S := S512x1024) origin, View.ld_unit_zero (S := S1x1024) origin]
  rfl

/-- What every point stores into the block of the gradient. -/
theorem grad_block : (outsAt0 m c t.val t.isLt).1 = gradBlock m c t :=
  if h0 : t.val % 8 = 0 then grad_first m c t h0 else grad_next m c t h0

/-- The sum point `t` adds to the norm's weight gradient. -/
def rowSum (j : Fin 1024) : EReal := ∑ i : Fin 512, k0_pay3 (iblk m c 0 t) (iblk m c 1 t) (ix2 i j) * k0_pay5 (iblk m c 2 t) (ix2 i j)

theorem add_rows (a : Vec Ideal S512x8192 .bf16) (b : Vec Ideal S1024x8192 .bf16) (x : Vec Ideal S512x1024 .f32) (s : Vec Ideal S1x1024 .f32) (j : Fin 1024) :
    k0_pay6 a b x s (ix2 0 j) = s (ix2 0 j) + ∑ i : Fin 512, k0_pay3 a b (ix2 i j) * k0_pay5 x (ix2 i j) := by
  pointwise [k0_pay6]

theorem zero_at (i : Fin 8) (j : Fin 1024) : k0_pay2 (F := Ideal) (ix2 i j) = 0 := by
  pointwise [k0_pay2]

/-- The first point leaves its own sum under rows of zeros. -/
theorem stat_first (h0 : t.val % 8 = 0) (i : Fin 8) (j : Fin 1024) :
    (outsAt0 m c t.val t.isLt).2 (ix2 i j) = if i.val = 0 then rowSum m c t j else 0 := by
  rw [outsAt0_A m c t h0]
  dsimp only
  unfold out0_A_6
  rw [View.read_writes_eq_canon _ _ _ (cover0_A_6 c _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread,
    View.ld_unit_zero (S := S512x8192) origin, View.ld_unit_zero (S := S1024x8192) origin, View.ld_unit_zero (S := S512x1024) origin, View.ld_unit_zero (S := S1x1024) origin]
  refine (Cert.Stat.over_whole _ _ _ _ i j).trans ?_
  rw [Cert.Stat.topRow]
  refine if_congr Iff.rfl ?_ (zero_at i j)
  rw [add_rows]
  refine Eq.trans (congrArg (· + _) ((Cert.Stat.load_whole _ _ _ j _).trans (zero_at 0 j))) (zero_add _)

/-- Every further point adds its sum. -/
theorem stat_next (h0 : ¬t.val % 8 = 0) (i : Fin 8) (j : Fin 1024) :
    (outsAt0 m c t.val t.isLt).2 (ix2 i j)
      = if i.val = 0 then (outsAt0 m c (t.val - 1) (Nat.lt_of_le_of_lt (Nat.sub_le _ _) t.isLt)).2 (ix2 0 j) + rowSum m c t j
        else (outsAt0 m c (t.val - 1) (Nat.lt_of_le_of_lt (Nat.sub_le _ _) t.isLt)).2 (ix2 i j) := by
  rw [outsAt0_B m c t h0]
  dsimp only
  unfold out0_B_6
  unfold kernelRun0_B
  dsimp only
  sl_unfold_words
  simp only [View.readAt_eq_ld, (hs0_0 t).read_unread, (hs0_1 t).read_unread, (hs0_2 t).read_unread, (hs0_3 t).read_unread, (hs0_4 t).read_unread, (hs0_6 t).read_unread,
    View.ld_unit_zero (S := S512x8192) origin, View.ld_unit_zero (S := S1024x8192) origin, View.ld_unit_zero (S := S512x1024) origin, View.ld_unit_zero (S := S1x1024) origin]
  refine (Cert.Stat.over_held _ _ _ i j _ _ ((hs0_6 t).read_unread _)).trans ?_
  rw [Cert.Stat.topRow]
  refine if_congr Iff.rfl ?_ rfl
  rw [add_rows]
  exact congrArg (· + _) (Cert.Stat.load_held _ _ j)

end Blocks

/-! ### What the blocks hold -/

theorem V0 : V m c main_v0 = X0 m c := by
  unfold V
  after_reads_simp
  rfl

theorem V1 : V m c main_v1 = X1 m c := by
  unfold V
  after_reads_simp
  rfl

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

theorem lt8 (t : Fin cfg0.N) : t.val < 8 := t.isLt

/-- Row `i` of point `t`'s tile. -/
abbrev tileRow (t : Fin cfg0.N) (i : Fin 512) : Fin 4096 := ⟨512 * t.val + i.val, by have := lt8 t; omega⟩

theorem blk0 (t : Fin cfg0.N) (i : Fin 512) (k : Fin 8192) : iblk m c 0 t (ix2 i k) = X0 m c (ix2 (tileRow t i) k) := by
  refine Eq.trans (b := V m c main_v0 (ix2 (tileRow t i) k)) ?_ (congrFun (V0 m c) _)
  blk_ext [iblk, idx t]

theorem blk1 (t : Fin cfg0.N) (j : Fin 1024) (k : Fin 8192) : iblk m c 1 t (ix2 j k) = X1 m c (ix2 j k) := by
  refine Eq.trans (b := V m c main_v1 (ix2 j k)) ?_ (congrFun (V1 m c) _)
  blk_ext [iblk, idx t]

theorem blk2 (t : Fin cfg0.N) (i : Fin 512) (j : Fin 1024) : iblk m c 2 t (ix2 i j) = X2 m c (ix2 (tileRow t i) j) := by
  refine Eq.trans (b := V m c main_arg2 (ix2 (tileRow t i) j)) ?_ (congrFun (V_main_arg2 m c) _)
  blk_ext [iblk, idx t]

theorem blk3 (t : Fin cfg0.N) (i : Fin 512) (j : Fin 1024) : iblk m c 3 t (ix2 i j) = X3 m c (ix2 (tileRow t i) j) := by
  refine Eq.trans (b := V m c main_arg3 (ix2 (tileRow t i) j)) ?_ (congrFun (V_main_arg3 m c) _)
  blk_ext [iblk, idx t]

theorem blk4 (t : Fin cfg0.N) (j : Fin 1024) : iblk m c 4 t (ix2 0 j) = X4 m c (ix2 0 j) := by
  refine Eq.trans (b := V m c main_arg4 (ix2 0 j)) ?_ (congrFun (V_main_arg4 m c) _)
  blk_ext [iblk, idx t]

/-! ### One row of the gradient -/

theorem grad_at (a : Vec Ideal S512x8192 .bf16) (b : Vec Ideal S1024x8192 .bf16) (x res : Vec Ideal S512x1024 .f32) (g : Vec Ideal S1x1024 .f32) (i : Fin 512) (j : Fin 1024) :
    k0_pay1 (k0_pay4 x) (k0_pay5 x) (k0_pay7 a b g) res (k0_pay8 a b x g) k0_pay9 (ix2 i j)
      = res (ix2 i j) + Ideal.rsqrt (meanSquare fun k => x (ix2 i k)) * (k0_pay3 a b (ix2 i j) * g (ix2 0 j)
          - x (ix2 i j) * Ideal.rsqrt (meanSquare fun k => x (ix2 i k))
            * Ideal.div (∑ k : Fin 1024, k0_pay3 a b (ix2 i k) * g (ix2 0 k) * (x (ix2 i k) * Ideal.rsqrt (meanSquare fun k => x (ix2 i k)))) Cert.Norm.width) := by
  pointwise [k0_pay1, k0_pay4, k0_pay5, k0_pay7, k0_pay8, k0_pay9]

theorem product_at (a : Vec Ideal S512x8192 .bf16) (b : Vec Ideal S1024x8192 .bf16) (i : Fin 512) (j : Fin 1024) :
    k0_pay3 a b (ix2 i j) = ∑ k : Fin 8192, a (ix2 i k) * b (ix2 j k) := by
  pointwise [k0_pay3]

theorem normed_at (x : Vec Ideal S512x1024 .f32) (i : Fin 512) (j : Fin 1024) :
    k0_pay5 x (ix2 i j) = x (ix2 i j) * Ideal.rsqrt (meanSquare fun k => x (ix2 i k)) := by
  pointwise [k0_pay4, k0_pay5]

/-- The gradient of the normed input in the reference. -/
abbrev DH : Vec Ideal S4096x1024 .f32 := Cert.Reference2Ideal.Read.val_main_v18 (X0 m c) (X1 m c)

theorem reference_product (r : Fin 4096) (j : Fin 1024) : DH m c (ix2 r j) = ∑ k : Fin 8192, X0 m c (ix2 r k) * X1 m c (ix2 j k) := by
  unfold DH
  pointwise [Cert.Reference2Ideal.Read.val_main_v18]

theorem tile_product (t : Fin cfg0.N) (i : Fin 512) (j : Fin 1024) :
    k0_pay3 (iblk m c 0 t) (iblk m c 1 t) (ix2 i j) = DH m c (ix2 (tileRow t i) j) := by
  rw [product_at, reference_product]
  exact Finset.sum_congr rfl fun k _ => by rw [blk0, blk1]

/-- Row `r`'s mean square plus the small constant. -/
abbrev Z (r : Fin 4096) : EReal := meanSquare fun k => X2 m c (ix2 r k)

/-- The reference's gradient of the input. -/
abbrev gradient : Vec Ideal S4096x1024 .f32 := Cert.Reference2Ideal.Read.val_main_v39 (X0 m c) (X1 m c) (X2 m c) (X3 m c) (X4 m c)

open Cert.Reference2Ideal.Read in
theorem through_at (r : Fin 4096) (k : Fin 1) : Cert.Reference2Ideal.Read.val_main_v33 (X0 m c) (X1 m c) (X2 m c) (X4 m c) (ix2 r k)
    = Cert.Norm.through_root (∑ k : Fin 1024, X2 m c (ix2 r k) * (DH m c (ix2 r k) * X4 m c (ix2 0 k))) (Z m c r) := by
  unfold Cert.Norm.through_root
  pointwise [val_main_v33, val_main_v32, val_main_cst_6, val_main_v31, val_main_v27, val_main_v26, val_main_cst_5, val_main_v25, val_main_v23, val_main_v22,
    val_main_v14, val_main_v0, val_main_v11, val_main_v10, val_main_cst_2, val_main_v9, val_main_v8, val_main_v7, val_main_v6, val_main_cst_1, val_main_v5,
    val_main_v4, val_main_cst_0, val_main_v3, val_main_v2, val_main_cst, val_main_v1]

open Cert.Reference2Ideal.Read in
theorem gradient_at (r : Fin 4096) (j : Fin 1024) : gradient m c (ix2 r j)
    = X3 m c (ix2 r j) + DH m c (ix2 r j) * X4 m c (ix2 0 j) * Ideal.rsqrt (Z m c r)
      + X2 m c (ix2 r j) * Cert.Norm.through_root (∑ k : Fin 1024, X2 m c (ix2 r k) * (DH m c (ix2 r k) * X4 m c (ix2 0 k))) (Z m c r)
      + Cert.Norm.through_root (∑ k : Fin 1024, X2 m c (ix2 r k) * (DH m c (ix2 r k) * X4 m c (ix2 0 k))) (Z m c r) * X2 m c (ix2 r j) := by
  rw [← through_at m c r 0]
  unfold gradient
  pointwise [val_main_v39, val_main_v38, val_main_v37, val_main_v36, val_main_v35, val_main_v34, val_main_cst_7, val_main_v30, val_main_v29, val_main_v28, val_main_v23, val_main_v22,
    val_main_v14, val_main_v0, val_main_v8, val_main_v7, val_main_v6, val_main_cst_1, val_main_v5,
    val_main_v4, val_main_cst_0, val_main_v3, val_main_v2, val_main_cst, val_main_v1]
  simp only [Fin.sum_univ_one]

theorem block_at (t : Fin cfg0.N) (i : Fin 512) (j : Fin 1024) : gradBlock m c t (ix2 i j) = gradient m c (ix2 (tileRow t i) j) := by
  unfold gradBlock
  rw [grad_at, gradient_at]
  simp only [tile_product, blk2, blk3, blk4]
  exact Cert.Norm.grad (fun k => X2 m c (ix2 (tileRow t i) k)) (fun k => DH m c (ix2 (tileRow t i) k) * X4 m c (ix2 0 k)) _ _
    (Cert.Norm.under_root fun k => X2 m c (ix2 (tileRow t i) k)) j

theorem array5 : (dats m 0 c).arrAt 5 cfg0.N = gradient m c := by
  refine (dats m 0 c).arrAt_eq_of_covers 5 _ (by decide +kernel) fun t hf y => ?_
  blk_simp
  rw [after0_5, grad_block m c t]
  obtain ⟨i, j, rfl⟩ : ∃ (i : Fin 512) (j : Fin 1024), y = ix2 i j := ⟨y 0, y 1, eq_ix2 y⟩
  have e : (win0_5.blk t).view.emb (ix2 i j) = ix2 (tileRow t i) j := by
    blk_ext [idx t]
  rw [e]
  exact block_at m c t i j

/-! ### The norm's weight gradient -/

/-- The reference's block: the weight gradient, then seven rows of zeros. -/
abbrev stat : Vec Ideal S8x1024 .f32 := Cert.Reference2Ideal.Read.val_main_v42 (X0 m c) (X1 m c) (X2 m c)

/-- One row's share of the weight gradient. -/
abbrev share (j : Fin 1024) (r : Fin 4096) : EReal := DH m c (ix2 r j) * (X2 m c (ix2 r j) * Ideal.rsqrt (Z m c r))

theorem row_sum (t : Fin cfg0.N) (j : Fin 1024) : rowSum m c t j = ∑ i : Fin 512, share m c j (tileRow t i) := by
  refine Finset.sum_congr rfl fun i _ => ?_
  rw [tile_product, normed_at]
  simp only [blk2]

theorem points : cfg0.N = 7 + 1 := rfl

theorem tiles : 4096 = (7 + 1) * 512 := by norm_num

/-- The weight gradient after point `n`. -/
def top (j : Fin 1024) (n : ℕ) (hn : n < 7 + 1) : EReal := (outsAt0 m c n (lt_of_lt_of_eq hn points.symm)).2 (ix2 0 j)

theorem point_sum (j : Fin 1024) (n : ℕ) (hn : n < 7 + 1) :
    rowSum m c ⟨n, lt_of_lt_of_eq hn points.symm⟩ j = ∑ i : Fin 512, share m c j (Cert.Tiles.row tiles ⟨n, hn⟩ i) :=
  (row_sum m c _ j).trans (Finset.sum_congr rfl fun i _ => congrArg (share m c j) (Fin.ext rfl))

theorem top_first (j : Fin 1024) : top m c j 0 (Nat.succ_pos 7) = ∑ i : Fin 512, share m c j (Cert.Tiles.row tiles 0 i) := by
  refine (stat_first m c ⟨0, lt_of_lt_of_eq (Nat.succ_pos 7) points.symm⟩ rfl 0 j).trans ((if_pos rfl).trans ?_)
  exact point_sum m c j 0 (Nat.succ_pos 7)

theorem top_next (j : Fin 1024) (n : ℕ) (hn : n + 1 < 7 + 1) :
    top m c j (n + 1) hn = top m c j n (by omega) + ∑ i : Fin 512, share m c j (Cert.Tiles.row tiles ⟨n + 1, hn⟩ i) := by
  refine (stat_next m c ⟨n + 1, lt_of_lt_of_eq hn points.symm⟩ (by show ¬(n + 1) % 8 = 0; omega) 0 j).trans ((if_pos rfl).trans ?_)
  rw [point_sum m c j (n + 1) hn]
  rfl

theorem top_last (j : Fin 1024) : top m c j 7 (Nat.lt_succ_self 7) = ∑ r : Fin 4096, share m c j r :=
  Cert.Tiles.run_tiles tiles (share m c j) (top m c j) (top_first m c j) (top_next m c j)

theorem all_rows (t : Fin cfg0.N) (h : t.val % 8 = 7) (j : Fin 1024) : (outsAt0 m c t.val t.isLt).2 (ix2 0 j) = ∑ r : Fin 4096, share m c j r := by
  have ht : t.val = 7 := by have := lt8 t; omega
  have e : t = ⟨7, lt_of_lt_of_eq (Nat.lt_succ_self 7) points.symm⟩ := Fin.ext ht
  rw [← top_last, e]
  rfl

theorem other_rows (i : Fin 8) (hi : i.val ≠ 0) (j : Fin 1024) : ∀ (n : ℕ) (hn : n < cfg0.N), (outsAt0 m c n hn).2 (ix2 i j) = 0
  | 0, hn => (stat_first m c ⟨0, hn⟩ rfl i j).trans (if_neg hi)
  | n + 1, hn => (stat_next m c ⟨n + 1, hn⟩ (by have := lt8 ⟨n + 1, hn⟩; show ¬(n + 1) % 8 = 0; simp only at this; omega) i j).trans
      ((if_neg hi).trans (other_rows i hi j n (by omega)))

open Cert.Reference2Ideal.Read in
theorem stat_top (j : Fin 1024) : val_main_v40 (X0 m c) (X1 m c) (X2 m c) (ix2 0 j) = ∑ r : Fin 4096, share m c j r := by
  refine Eq.trans (b := ∑ r : Fin 4096, X2 m c (ix2 r j) * Ideal.rsqrt (Z m c r) * DH m c (ix2 r j)) ?_ (Finset.sum_congr rfl fun _ _ => mul_comm _ _)
  pointwise [val_main_v40, val_main_v24, val_main_cst_4, val_main_v21, val_main_v20, val_main_cst_3, val_main_v19, val_main_v13, val_main_v12, val_main_v8, val_main_v7, val_main_v6,
    val_main_cst_1, val_main_v5, val_main_v4, val_main_cst_0, val_main_v3, val_main_v2, val_main_cst, val_main_v1]
  simp only [Fin.sum_univ_one]

open Cert.Reference2Ideal.Read in
theorem stat_at (i : Fin 8) (j : Fin 1024) : stat m c (ix2 i j) = if i.val = 0 then ∑ r : Fin 4096, share m c j r else 0 := by
  unfold stat val_main_v42
  rw [← stat_top]
  by_cases hi : i.val = 0
  · obtain rfl : i = 0 := Fin.ext hi
    pointwise []
  · rw [if_neg hi]
    pointwise [val_main_v41, val_main_cst_8]
    exact dif_neg (by omega)

theorem array6 : (dats m 0 c).arrAt 6 cfg0.N = stat m c := by
  refine (dats m 0 c).arrAt_eq_of_covers 6 _ (by decide +kernel) fun t hf y => ?_
  have h : t.val % 8 = 7 := (flush0_6 t).mp hf
  blk_simp
  rw [after0_6]
  obtain ⟨i, j, rfl⟩ : ∃ (i : Fin 8) (j : Fin 1024), y = ix2 i j := ⟨y 0, y 1, eq_ix2 y⟩
  have e : (win0_6.blk t).view.emb (ix2 i j) = ix2 i j := by
    blk_ext [idx t]
  rw [e]
  rw [stat_at]
  by_cases hi : i.val = 0
  · obtain rfl : i = 0 := Fin.ext hi
    exact (all_rows m c t h j).trans (if_pos rfl).symm
  · exact (other_rows m c i hi j t.val t.isLt).trans (if_neg hi).symm

/-- The reference has no semaphore; its run leaves its five arguments alone. -/
theorem reference_frame : Cert.quiescent_Reference2Ideal (hReference2Ideal := Cert.Reference2Ideal.Gen.facts) :=
  fun m ρ _ => (θ_run Cert.Reference2Ideal.defs _ _).mono
    (fun r h => ⟨fun c => (h c).2.2, Idealize.ShloMosaic.sem_eq_zero_of_no_sems (by decide) r.2⟩)
    (Cert.Reference2Ideal.Value.run (F := Ideal) m ρ)

/-- The call's two results are the reference's. -/
theorem results_equal : Cert.algebraic_Kernel2Ideal_Reference2Ideal (hKernel2Ideal := Cert.Kernel2Ideal.Gen.facts)
    (hReference2Ideal := Cert.Reference2Ideal.Gen.facts) := by
  intro m g m' g' hpre hagree
  refine ⟨fun c => gradient m c, fun c => stat m c, ?_, ?_⟩
  · exact (θ_run Cert.Kernel2Ideal.defs _ _).mono (fun r h c => ⟨(h c).1.trans (array5 m c), (h c).2.1.trans (array6 m c), (h c).2.2⟩)
      (Cert.Kernel2Ideal.Value.run_blocks m g)
  · refine (θ_run Cert.Reference2Ideal.defs _ _).mono (fun r h c => ?_) (Cert.Reference2Ideal.Value.run (F := Ideal) m' g')
    obtain ⟨a0, a1, a2, a3, a4⟩ := hagree c
    obtain ⟨h0, h1, hargs⟩ := h c
    rw [Cert.Reference2Ideal.Read.val_main_v39_eq, a0, a1, a2, a3, a4] at h0
    rw [Cert.Reference2Ideal.Read.val_main_v42_eq, a0, a1, a2] at h1
    exact ⟨h0, h1, hargs⟩

end Cert.InBwd

end
-- ==== Proof.FfnBwd.lean ====
module

public import proofs.«01_k».proof.Proof.RowTiles
public import proofs.«01_k».proof.Proof.StatRow
public import proofs.«01_k».proof.Proof.Norm
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Pre_finite3
public import proofs.«01_k».proof.Defs
public import Idealize.ShloMosaic.Lib.Pipeline.ValueKit
public import Idealize.ShloMosaic.Lib.StableHlo.RunRead
public import Idealize.ShloMosaic.Lib.Pointwise

/-! The gradients of the feed-forward layer.

The call walks sixteen tiles of 256 rows. For each it rebuilds the activation from gate and up projection, takes the gradient back to
the two projections, multiplies it by the transposed weights and takes the sum through the norm. It stores the two gradients, the
activation and the normed input for the weight gradients, and adds the tile's row sums to the norm's weight gradient, which it keeps
in the first row of a block of eight. -/

@[expose] public section

set_option maxRecDepth 16384

noncomputable section

namespace Cert.FfnBwd

open Cert.Kernel3Ideal Cert.Kernel3Ideal.Gen
open Idealize.ShloMosaic Idealize.ShloMosaic.TcCoe Idealize.SL.Sem
open Cert.Mixer (IsReal)
open Cert.Norm (meanSquare)

variable (m : (ℓ : Loc nD τ sig) → Buf (Elt Ideal) ℓ) (c : Dev nD)

/-- Argument 0: the gradient of the layer's output. -/
abbrev X0 : Vec Ideal S4096x1024 .f32 := m ((c : Thread nD τ).loc main_arg0)

/-- Argument 1: the layer's input. -/
abbrev X1 : Vec Ideal S4096x1024 .f32 := m ((c : Thread nD τ).loc main_arg1)

/-- Argument 2: the norm's weight. -/
abbrev X2 : Vec Ideal S1x1024 .f32 := m ((c : Thread nD τ).loc main_arg2)

/-- Argument 3: the gate's weight. -/
abbrev X3 : Vec Ideal S1024x2816 .f32 := m ((c : Thread nD τ).loc main_arg3)

/-- Argument 4: the up projection's weight. -/
abbrev X4 : Vec Ideal S1024x2816 .f32 := m ((c : Thread nD τ).loc main_arg4)

/-- Argument 5: the down projection's weight. -/
abbrev X5 : Vec Ideal S2816x1024 .f32 := m ((c : Thread nD τ).loc main_arg5)

theorem origin : (![0, 0] : Fin 2 → Nat) = fun _ => 0 := funext fun a => by fin_cases a <;> rfl

section Blocks

variable (t : Fin cfg0.N)

/-- The gradient of the gate that point `t` stores. -/
def dgateBlock : Vec Ideal S256x2816 .bf16 := k0_pay10 (iblk m c 0 t) (iblk m c 2 t) (iblk m c 3 t) (iblk m c 7 t)

/-- The gradient of the up projection that point `t` stores. -/
def dupBlock : Vec Ideal S256x2816 .bf16 := k0_pay9 (iblk m c 0 t) (iblk m c 2 t) (iblk m c 7 t)

/-- The activation that point `t` stores. -/
def actBlock : Vec Ideal S256x2816 .bf16 := k0_pay7 (iblk m c 2 t) (iblk m c 3 t)

/-- The normed input that point `t` stores. -/
def normedBlock : Vec Ideal S256x1024 .bf16 := k0_pay14 (iblk m c 1 t) (iblk m c 4 t)

/-- The gradient of the normed input at point `t`. -/
def dhBlock : Vec Ideal S256x1024 .f32 := k0_pay11 (dupBlock m c t) (dgateBlock m c t) (iblk m c 5 t) (iblk m c 6 t)

/-- The gradient of the layer's input that point `t` stores. -/
def gradBlock : Vec Ideal S256x1024 .f32 :=
  k0_pay1 (iblk m c 0 t) (k0_pay12 (iblk m c 1 t)) (k0_pay13 (iblk m c 1 t))
    (k0_pay16 (dupBlock m c t) (dgateBlock m c t) (iblk m c 5 t) (iblk m c 6 t) (iblk m c 4 t))
    (k0_pay17 (dupBlock m c t) (dgateBlock m c t) (iblk m c 5 t) (iblk m c 6 t) (iblk m c 1 t) (iblk m c 4 t))

/-- What the first point leaves in the five blocks. -/
theorem first (h0 : t.val % 16 = 0) : outsAt0 m c t.val t.isLt
    = (gradBlock m c t, dgateBlock m c t, dupBlock m c t, actBlock m c t, normedBlock m c t, (outsAt0 m c t.val t.isLt).2.2.2.2.2) := by
  rw [outsAt0_A m c t h0]
  refine Prod.ext ?_ (Prod.ext ?_ (Prod.ext ?_ (Prod.ext ?_ (Prod.ext ?_ ?_))))
  all_goals dsimp only
  on_goal 1 =>
    unfold out0_A_8
    rw [View.read_writes_eq_canon _ _ _ (cover0_A_8 c _ _ _ _ _ _ _ _ _ _ _ _ _ _ _ _ _ _ _ _ _ _ _ _ _ _ _ _ _ _ _ _ _ _ _ _ _ _)]
  on_goal 2 =>
    unfold out0_A_9
    rw [View.read_writes_eq_canon _ _ _ (cover0_A_9 c _ _ _ _ _ _ _ _ _ _ _ _ _ _ _ _ _ _ _ _ _ _ _ _ _ _ _ _ _ _ _ _ _ _ _ _ _ _)]
  on_goal 3 =>
    unfold out0_A_10
    rw [View.read_writes_eq_canon _ _ _ (cover0_A_10 c _ _ _ _ _ _ _ _ _ _ _ _ _ _ _ _ _ _ _ _ _ _ _ _ _ _ _ _ _ _ _ _ _ _ _ _ _ _)]
  on_goal 4 =>
    unfold out0_A_11
    rw [View.read_writes_eq_canon _ _ _ (cover0_A_11 c _ _ _ _ _ _ _ _ _ _ _ _ _ _ _ _ _ _ _ _ _ _ _ _ _ _ _ _ _ _ _ _ _ _ _ _ _ _)]
  on_goal 5 =>
    unfold out0_A_12
    rw [View.read_writes_eq_canon _ _ _ (cover0_A_12 c _ _ _ _ _ _ _ _ _ _ _ _ _ _ _ _ _ _ _ _ _ _ _ _ _ _ _ _ _ _ _ _ _ _ _ _ _ _)]
  all_goals
    unfold kernelRun0_A
    dsimp only
    sl_unfold_words
    simp only [View.canon_unit_zero (S := S256x1024) origin, View.canon_unit_zero (S := S256x2816) origin, View.readAt_eq_ld, (hs0_0 t).read_unread, (hs0_1 t).read_unread,
      (hs0_2 t).read_unread, (hs0_3 t).read_unread, (hs0_4 t).read_unread, (hs0_5 t).read_unread, (hs0_6 t).read_unread, (hs0_7 t).read_unread,
      View.ld_unit_zero (S := S256x2816) origin, View.ld_unit_zero (S := S2816x1024) origin, View.ld_unit_zero (S := S256x1024) origin, View.ld_unit_zero (S := S1x1024) origin]
    rfl

/-- What every further point leaves in them. -/
theorem next (h0 : ¬t.val % 16 = 0) : outsAt0 m c t.val t.isLt
    = (gradBlock m c t, dgateBlock m c t, dupBlock m c t, actBlock m c t, normedBlock m c t, (outsAt0 m c t.val t.isLt).2.2.2.2.2) := by
  rw [outsAt0_B m c t h0]
  refine Prod.ext ?_ (Prod.ext ?_ (Prod.ext ?_ (Prod.ext ?_ (Prod.ext ?_ ?_))))
  all_goals dsimp only
  on_goal 1 =>
    unfold out0_B_8
    rw [View.read_writes_eq_canon _ _ _ (cover0_B_8 c _ _ _ _ _ _ _ _ _ _ _ _ _ _ _ _ _ _ _ _ _ _ _ _ _ _ _ _ _ _ _ _ _ _ _ _ _ _ _)]
  on_goal 2 =>
    unfold out0_B_9
    rw [View.read_writes_eq_canon _ _ _ (cover0_B_9 c _ _ _ _ _ _ _ _ _ _ _ _ _ _ _ _ _ _ _ _ _ _ _ _ _ _ _ _ _ _ _ _ _ _ _ _ _ _ _)]
  on_goal 3 =>
    unfold out0_B_10
    rw [View.read_writes_eq_canon _ _ _ (cover0_B_10 c _ _ _ _ _ _ _ _ _ _ _ _ _ _ _ _ _ _ _ _ _ _ _ _ _ _ _ _ _ _ _ _ _ _ _ _ _ _ _)]
  on_goal 4 =>
    unfold out0_B_11
    rw [View.read_writes_eq_canon _ _ _ (cover0_B_11 c _ _ _ _ _ _ _ _ _ _ _ _ _ _ _ _ _ _ _ _ _ _ _ _ _ _ _ _ _ _ _ _ _ _ _ _ _ _ _)]
  on_goal 5 =>
    unfold out0_B_12
    rw [View.read_writes_eq_canon _ _ _ (cover0_B_12 c _ _ _ _ _ _ _ _ _ _ _ _ _ _ _ _ _ _ _ _ _ _ _ _ _ _ _ _ _ _ _ _ _ _ _ _ _ _ _)]
  all_goals
    unfold kernelRun0_B
    dsimp only
    sl_unfold_words
    simp only [View.canon_unit_zero (S := S256x1024) origin, View.canon_unit_zero (S := S256x2816) origin, View.readAt_eq_ld, (hs0_0 t).read_unread, (hs0_1 t).read_unread,
      (hs0_2 t).read_unread, (hs0_3 t).read_unread, (hs0_4 t).read_unread, (hs0_5 t).read_unread, (hs0_6 t).read_unread, (hs0_7 t).read_unread,
      View.ld_unit_zero (S := S256x2816) origin, View.ld_unit_zero (S := S2816x1024) origin, View.ld_unit_zero (S := S256x1024) origin, View.ld_unit_zero (S := S1x1024) origin]
    rfl

/-- What every point leaves in the five blocks. -/
theorem blocks : outsAt0 m c t.val t.isLt
    = (gradBlock m c t, dgateBlock m c t, dupBlock m c t, actBlock m c t, normedBlock m c t, (outsAt0 m c t.val t.isLt).2.2.2.2.2) :=
  if h0 : t.val % 16 = 0 then first m c t h0 else next m c t h0

/-- The sum point `t` adds to the norm's weight gradient. -/
def rowSum (j : Fin 1024) : EReal := ∑ i : Fin 256, dhBlock m c t (ix2 i j) * k0_pay13 (iblk m c 1 t) (ix2 i j)

theorem add_rows (u g : Vec Ideal S256x2816 .bf16) (a b : Vec Ideal S2816x1024 .bf16) (x : Vec Ideal S256x1024 .f32) (s : Vec Ideal S1x1024 .f32) (j : Fin 1024) :
    k0_pay15 u g a b x s (ix2 0 j) = s (ix2 0 j) + ∑ i : Fin 256, k0_pay11 u g a b (ix2 i j) * k0_pay13 x (ix2 i j) := by
  pointwise [k0_pay15]

theorem zero_at (i : Fin 8) (j : Fin 1024) : k0_pay2 (F := Ideal) (ix2 i j) = 0 := by
  pointwise [k0_pay2]

/-- The first point leaves its own sum under rows of zeros. -/
theorem stat_first (h0 : t.val % 16 = 0) (i : Fin 8) (j : Fin 1024) :
    (outsAt0 m c t.val t.isLt).2.2.2.2.2 (ix2 i j) = if i.val = 0 then rowSum m c t j else 0 := by
  rw [outsAt0_A m c t h0]
  dsimp only
  unfold out0_A_13
  rw [View.read_writes_eq_canon _ _ _ (cover0_A_13 c _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread,
    (hs0_2 t).read_unread, (hs0_3 t).read_unread, (hs0_4 t).read_unread, (hs0_5 t).read_unread, (hs0_6 t).read_unread, (hs0_7 t).read_unread,
    View.ld_unit_zero (S := S256x2816) origin, View.ld_unit_zero (S := S2816x1024) origin, View.ld_unit_zero (S := S256x1024) origin, View.ld_unit_zero (S := S1x1024) origin]
  refine (Cert.Stat.over_whole _ _ _ _ i j).trans ?_
  rw [Cert.Stat.topRow]
  refine if_congr Iff.rfl ?_ (zero_at i j)
  rw [add_rows]
  refine Eq.trans (congrArg (· + _) ((Cert.Stat.load_whole _ _ _ j _).trans (zero_at 0 j))) (zero_add _)

/-- Every further point adds its sum. -/
theorem stat_next (h0 : ¬t.val % 16 = 0) (i : Fin 8) (j : Fin 1024) :
    (outsAt0 m c t.val t.isLt).2.2.2.2.2 (ix2 i j)
      = if i.val = 0 then (outsAt0 m c (t.val - 1) (Nat.lt_of_le_of_lt (Nat.sub_le _ _) t.isLt)).2.2.2.2.2 (ix2 0 j) + rowSum m c t j
        else (outsAt0 m c (t.val - 1) (Nat.lt_of_le_of_lt (Nat.sub_le _ _) t.isLt)).2.2.2.2.2 (ix2 i j) := by
  rw [outsAt0_B m c t h0]
  dsimp only
  unfold out0_B_13
  unfold kernelRun0_B
  dsimp only
  sl_unfold_words
  simp only [View.readAt_eq_ld, (hs0_0 t).read_unread, (hs0_1 t).read_unread, (hs0_13 t).read_unread,
    (hs0_2 t).read_unread, (hs0_3 t).read_unread, (hs0_4 t).read_unread, (hs0_5 t).read_unread, (hs0_6 t).read_unread, (hs0_7 t).read_unread,
    View.ld_unit_zero (S := S256x2816) origin, View.ld_unit_zero (S := S2816x1024) origin, View.ld_unit_zero (S := S256x1024) origin, View.ld_unit_zero (S := S1x1024) origin]
  refine (Cert.Stat.over_held _ _ _ i j _ _ ((hs0_13 t).read_unread _)).trans ?_
  rw [Cert.Stat.topRow]
  refine if_congr Iff.rfl ?_ rfl
  rw [add_rows]
  exact congrArg (· + _) (Cert.Stat.load_held _ _ j)

end Blocks

/-! ### What the blocks hold -/

/-- The reference's normed input. -/
abbrev H : Vec Ideal S4096x1024 .f32 := Cert.Reference3Ideal.Read.val_main_v17 (X1 m c) (X2 m c)

theorem V15 : V m c main_v15 = Cert.Reference3Ideal.Read.val_main_v18 (X1 m c) (X2 m c) (X3 m c) := by
  unfold V
  after_reads_simp
  rfl

theorem V17 : V m c main_v17 = Cert.Reference3Ideal.Read.val_main_v21 (X1 m c) (X2 m c) (X4 m c) := by
  unfold V
  after_reads_simp
  rfl

theorem V19 : V m c main_v19 = transpose S2816x1024 [1, 0] (X3 m c) transposes_S1024x2816_S2816x1024_1_0 := by
  unfold V
  after_reads_simp
  rfl

theorem V21 : V m c main_v21 = transpose S2816x1024 [1, 0] (X4 m c) transposes_S1024x2816_S2816x1024_1_0 := by
  unfold V
  after_reads_simp
  rfl

theorem V22 : V m c main_v22 = X5 m c := by
  unfold V
  after_reads_simp
  rfl

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![0, 0] :=
  (by decide +kernel : ∀ t : Fin grid0.N, _)

theorem lt16 (t : Fin cfg0.N) : t.val < 16 := t.isLt

/-- Row `i` of point `t`'s tile. -/
abbrev tileRow (t : Fin cfg0.N) (i : Fin 256) : Fin 4096 := ⟨256 * t.val + i.val, by have := lt16 t; omega⟩

/-- The reference's gate before the activation. -/
abbrev G : Vec Ideal S4096x2816 .f32 := Cert.Reference3Ideal.Read.val_main_v18 (X1 m c) (X2 m c) (X3 m c)

/-- The reference's up projection. -/
abbrev U : Vec Ideal S4096x2816 .f32 := Cert.Reference3Ideal.Read.val_main_v21 (X1 m c) (X2 m c) (X4 m c)

theorem blk0 (t : Fin cfg0.N) (i : Fin 256) (j : Fin 1024) : iblk m c 0 t (ix2 i j) = X0 m c (ix2 (tileRow t i) j) := by
  refine Eq.trans (b := V m c main_arg0 (ix2 (tileRow t i) j)) ?_ (congrFun (V_main_arg0 m c) _)
  blk_ext [iblk, idx t]

theorem blk1 (t : Fin cfg0.N) (i : Fin 256) (j : Fin 1024) : iblk m c 1 t (ix2 i j) = X1 m c (ix2 (tileRow t i) j) := by
  refine Eq.trans (b := V m c main_arg1 (ix2 (tileRow t i) j)) ?_ (congrFun (V_main_arg1 m c) _)
  blk_ext [iblk, idx t]

theorem blk2 (t : Fin cfg0.N) (i : Fin 256) (n : Fin 2816) : iblk m c 2 t (ix2 i n) = G m c (ix2 (tileRow t i) n) := by
  refine Eq.trans (b := V m c main_v15 (ix2 (tileRow t i) n)) ?_ (congrFun (V15 m c) _)
  blk_ext [iblk, idx t]

theorem blk3 (t : Fin cfg0.N) (i : Fin 256) (n : Fin 2816) : iblk m c 3 t (ix2 i n) = U m c (ix2 (tileRow t i) n) := by
  refine Eq.trans (b := V m c main_v17 (ix2 (tileRow t i) n)) ?_ (congrFun (V17 m c) _)
  blk_ext [iblk, idx t]

theorem blk4 (t : Fin cfg0.N) (j : Fin 1024) : iblk m c 4 t (ix2 0 j) = X2 m c (ix2 0 j) := by
  refine Eq.trans (b := V m c main_arg2 (ix2 0 j)) ?_ (congrFun (V_main_arg2 m c) _)
  blk_ext [iblk, idx t]

theorem blk5 (t : Fin cfg0.N) (n : Fin 2816) (j : Fin 1024) : iblk m c 5 t (ix2 n j) = X3 m c (ix2 j n) := by
  refine Eq.trans (b := V m c main_v19 (ix2 n j)) ?_ ((congrFun (V19 m c) _).trans (by pointwise []))
  blk_ext [iblk, idx t]

theorem blk6 (t : Fin cfg0.N) (n : Fin 2816) (j : Fin 1024) : iblk m c 6 t (ix2 n j) = X4 m c (ix2 j n) := by
  refine Eq.trans (b := V m c main_v21 (ix2 n j)) ?_ ((congrFun (V21 m c) _).trans (by pointwise []))
  blk_ext [iblk, idx t]

theorem blk7 (t : Fin cfg0.N) (n : Fin 2816) (j : Fin 1024) : iblk m c 7 t (ix2 n j) = X5 m c (ix2 n j) := by
  refine Eq.trans (b := V m c main_v22 (ix2 n j)) ?_ (congrFun (V22 m c) _)
  blk_ext [iblk, idx t]

/-! ### The call's formulas -/

/-- The logistic function. -/
abbrev logistic (x : EReal) : EReal := Ideal.div 1 (1 + Ideal.exp (0 - x))

section Formulas

variable (d x : Vec Ideal S256x1024 .f32) (w : Vec Ideal S1x1024 .f32) (g u p q : Vec Ideal S256x2816 .bf16) (a b v : Vec Ideal S2816x1024 .bf16)
  (i : Fin 256) (j : Fin 1024) (n : Fin 2816)

theorem act_at : k0_pay7 g u (ix2 i n) = g (ix2 i n) * logistic (g (ix2 i n)) * u (ix2 i n) := by
  pointwise [k0_pay7, k0_pay6, k0_pay5, k0_pay4, k0_pay3]

theorem product_at : k0_pay8 d v (ix2 i n) = ∑ k : Fin 1024, d (ix2 i k) * v (ix2 n k) := by
  pointwise [k0_pay8]

theorem dup_at : k0_pay9 d g v (ix2 i n) = k0_pay8 d v (ix2 i n) * (g (ix2 i n) * logistic (g (ix2 i n))) := by
  pointwise [k0_pay9, k0_pay6, k0_pay5, k0_pay3]

theorem dgate_at : k0_pay10 d g u v (ix2 i n)
    = k0_pay8 d v (ix2 i n) * u (ix2 i n) * (logistic (g (ix2 i n)) * (1 + g (ix2 i n) * (1 - logistic (g (ix2 i n))))) := by
  pointwise [k0_pay10, k0_pay5, k0_pay4, k0_pay3]

theorem scaled_at : k0_pay13 x (ix2 i j) = x (ix2 i j) * Ideal.rsqrt (meanSquare fun k => x (ix2 i k)) := by
  pointwise [k0_pay13, k0_pay12]

theorem normed_at : k0_pay14 x w (ix2 i j) = k0_pay13 x (ix2 i j) * w (ix2 0 j) := by
  pointwise [k0_pay14]

theorem back_at : k0_pay11 p q a b (ix2 i j) = ∑ n : Fin 2816, q (ix2 i n) * a (ix2 n j) + ∑ n : Fin 2816, p (ix2 i n) * b (ix2 n j) := by
  pointwise [k0_pay11]

theorem grad_at : k0_pay1 d (k0_pay12 x) (k0_pay13 x) (k0_pay16 p q a b w) (k0_pay17 p q a b x w) (ix2 i j)
      = d (ix2 i j) + Ideal.rsqrt (meanSquare fun k => x (ix2 i k)) * (k0_pay11 p q a b (ix2 i j) * w (ix2 0 j)
          - x (ix2 i j) * Ideal.rsqrt (meanSquare fun k => x (ix2 i k))
            * Ideal.div (∑ k : Fin 1024, k0_pay11 p q a b (ix2 i k) * w (ix2 0 k) * (x (ix2 i k) * Ideal.rsqrt (meanSquare fun k => x (ix2 i k)))) Cert.Norm.width) := by
  pointwise [k0_pay1, k0_pay12, k0_pay13, k0_pay16, k0_pay17]

end Formulas

/-! ### The gradient of the gate -/

/-- The call's gradient of the activation is the reference's wherever the factor before it is real; the gate may be infinite. -/
theorem gate_grad (g : EReal) {t : EReal} (ht : IsReal t) : t * (logistic g * (1 + g * (1 - logistic g))) = t * logistic g + g * t * (logistic g * (1 - logistic g)) := by
  obtain ⟨t, rfl⟩ := ht
  induction g with
  | bot =>
    have e : logistic ⊥ = 0 := by
      have h : (1 : EReal) + ⊤ = ⊤ := EReal.add_top_of_ne_bot (EReal.coe_ne_bot 1)
      simp [logistic, Ideal.div, h]
    rw [e]
    simp
  | top =>
    have e : logistic ⊤ = 1 := by simp [logistic, Ideal.div]
    rw [e]
    have z : (1 : EReal) - 1 = 0 := by rw [← EReal.coe_one, ← EReal.coe_sub, sub_self, EReal.coe_zero]
    rw [z]
    simp
  | coe g =>
    obtain ⟨s, hs⟩ := Cert.Mixer.gate_real ⟨g, rfl⟩
    rw [show logistic (g : EReal) = s from hs, ← EReal.coe_one, ← EReal.coe_sub, ← EReal.coe_mul, ← EReal.coe_add, ← EReal.coe_mul, ← EReal.coe_mul, ← EReal.coe_mul,
      ← EReal.coe_mul, ← EReal.coe_mul, ← EReal.coe_mul, ← EReal.coe_add]
    exact congrArg _ (by ring)

/-! ### The reference's formulas -/

section Reference

open Cert.Reference3Ideal.Read

/-- The reference's gradient of the activation. -/
abbrev DA : Vec Ideal S4096x2816 .f32 := val_main_v27 (X0 m c) (X5 m c)

/-- The reference's gradient of the gate. -/
abbrev DG : Vec Ideal S4096x2816 .f32 := val_main_v31 (X0 m c) (X1 m c) (X2 m c) (X3 m c) (X4 m c) (X5 m c)

/-- The reference's gradient of the up projection. -/
abbrev DU : Vec Ideal S4096x2816 .f32 := val_main_v28 (X0 m c) (X1 m c) (X2 m c) (X3 m c) (X5 m c)

/-- The reference's gradient of the normed input. -/
abbrev DH : Vec Ideal S4096x1024 .f32 := val_main_v33 (X0 m c) (X1 m c) (X2 m c) (X3 m c) (X4 m c) (X5 m c)

/-- Row `r`'s mean square plus the small constant. -/
abbrev Z (r : Fin 4096) : EReal := meanSquare fun k => X1 m c (ix2 r k)

variable (r : Fin 4096) (j : Fin 1024) (n : Fin 2816)

theorem H_at : H m c (ix2 r j) = X1 m c (ix2 r j) * Ideal.rsqrt (Z m c r) * X2 m c (ix2 0 j) := by
  unfold H
  pointwise [val_main_v17, val_main_v16, val_main_v15, val_main_v1, val_main_v14, val_main_v13, val_main_v9, val_main_v8, val_main_v7, val_main_cst_2, val_main_v6, val_main_v5,
    val_main_cst_1, val_main_v4, val_main_v3, val_main_cst_0, val_main_v2]

theorem U_at : U m c (ix2 r n) = ∑ k : Fin 1024, H m c (ix2 r k) * X4 m c (ix2 k n) := by
  unfold U H
  pointwise [val_main_v21]

theorem DA_at : DA m c (ix2 r n) = ∑ k : Fin 1024, X0 m c (ix2 r k) * X5 m c (ix2 n k) := by
  unfold DA
  pointwise [val_main_v27, val_main_v26]

theorem gate_at : val_main_v19 (X1 m c) (X2 m c) (X3 m c) (ix2 r n) = G m c (ix2 r n) := by
  unfold G
  pointwise [val_main_v19, val_main_v0, val_main_cst]

theorem up_at : val_main_v22 (X1 m c) (X2 m c) (X4 m c) (ix2 r n) = U m c (ix2 r n) := by
  unfold U
  pointwise [val_main_v22, val_main_v0, val_main_cst]

theorem logistic_at : val_main_v20_2 (X1 m c) (X2 m c) (X3 m c) (ix2 r n) = logistic (G m c (ix2 r n)) := by
  rw [← gate_at, logistic, zero_sub]
  pointwise [val_main_v20_2, val_main_call0_v4, val_main_call0_cst_0, val_main_call0_v3, val_main_call0_v2, val_main_call0_cst, val_main_call0_v1, val_main_call0_v0]

theorem silu_at : val_main_v20_0 (X1 m c) (X2 m c) (X3 m c) (ix2 r n) = G m c (ix2 r n) * logistic (G m c (ix2 r n)) := by
  rw [← logistic_at, ← gate_at]
  pointwise [val_main_v20_0]

theorem A_at : val_main_v23 (X1 m c) (X2 m c) (X3 m c) (X4 m c) (ix2 r n) = G m c (ix2 r n) * logistic (G m c (ix2 r n)) * U m c (ix2 r n) := by
  rw [← silu_at, ← up_at]
  pointwise [val_main_v23]

theorem DU_at : DU m c (ix2 r n) = DA m c (ix2 r n) * (G m c (ix2 r n) * logistic (G m c (ix2 r n))) := by
  rw [← silu_at, mul_comm]
  unfold DU DA
  pointwise [val_main_v28]

theorem DG_at : DG m c (ix2 r n) = DA m c (ix2 r n) * U m c (ix2 r n) * logistic (G m c (ix2 r n))
    + G m c (ix2 r n) * (DA m c (ix2 r n) * U m c (ix2 r n)) * (logistic (G m c (ix2 r n)) * (1 - logistic (G m c (ix2 r n)))) := by
  rw [← logistic_at, ← gate_at, ← up_at]
  unfold DG DA
  pointwise [val_main_v31, val_main_call1_v2, val_main_call1_v1, val_main_call1_v0, val_main_v29, val_main_v20_1, val_main_call0_v7, val_main_call0_v6, val_main_call0_cst_1]

theorem DH_at : DH m c (ix2 r j) = ∑ n : Fin 2816, DU m c (ix2 r n) * X4 m c (ix2 j n) + ∑ n : Fin 2816, DG m c (ix2 r n) * X3 m c (ix2 j n) := by
  unfold DH DU DG
  pointwise [val_main_v33, val_main_v32, val_main_v30]

end Reference

/-! ### The tiles' blocks are the reference's rows -/

/-- What the gate's gradient is a product of holds no infinity. -/
structure RealInputs : Prop where
  x0 : ∀ y, IsReal (X0 m c y)
  x2 : ∀ y, IsReal (X2 m c y)
  x4 : ∀ y, IsReal (X4 m c y)
  x5 : ∀ y, IsReal (X5 m c y)

theorem reals_of_pre (h : Cert.Pre_Kernel3Ideal_finite3 (hPre_finite3 := Cert.Pre_finite3.Gen.facts) m) : RealInputs m c := by
  obtain ⟨h0, h2, h4, h5⟩ := h c
  exact ⟨Cert.Mixer.real_of_mask _ _ (fun _ => rfl) h0, Cert.Mixer.real_of_mask _ _ (fun _ => rfl) h2, Cert.Mixer.real_of_mask _ _ (fun _ => rfl) h4,
    Cert.Mixer.real_of_mask _ _ (fun _ => rfl) h5⟩

variable {m c}

theorem product_real (hR : RealInputs m c) (r : Fin 4096) (n : Fin 2816) : IsReal (DA m c (ix2 r n) * U m c (ix2 r n)) := by
  rw [DA_at, U_at]
  refine (IsReal.sum _ fun k _ => (hR.x0 _).mul (hR.x5 _)).mul (IsReal.sum _ fun k _ => ?_)
  rw [H_at]
  exact ((Cert.Norm.normed_real (fun k => X1 m c (ix2 r k)) k).mul (hR.x2 _)).mul (hR.x4 _)

variable (m c) (t : Fin cfg0.N) (i : Fin 256) (j : Fin 1024) (n : Fin 2816)

theorem block_product : k0_pay8 (iblk m c 0 t) (iblk m c 7 t) (ix2 i n) = DA m c (ix2 (tileRow t i) n) := by
  rw [product_at, DA_at]
  exact Finset.sum_congr rfl fun k _ => by rw [blk0, blk7]

theorem block_act : actBlock m c t (ix2 i n) = Cert.Reference3Ideal.Read.val_main_v23 (X1 m c) (X2 m c) (X3 m c) (X4 m c) (ix2 (tileRow t i) n) := by
  rw [actBlock, act_at, A_at, blk2, blk3]

theorem block_dup : dupBlock m c t (ix2 i n) = DU m c (ix2 (tileRow t i) n) := by
  rw [dupBlock, dup_at, DU_at, block_product, blk2]

theorem block_scaled : k0_pay13 (iblk m c 1 t) (ix2 i j) = X1 m c (ix2 (tileRow t i) j) * Ideal.rsqrt (Z m c (tileRow t i)) := by
  rw [scaled_at]
  simp only [blk1]

theorem block_normed : normedBlock m c t (ix2 i j) = H m c (ix2 (tileRow t i) j) := by
  rw [normedBlock, normed_at, H_at, block_scaled, blk4]

variable {m c}

theorem block_dgate (hR : RealInputs m c) : dgateBlock m c t (ix2 i n) = DG m c (ix2 (tileRow t i) n) := by
  rw [dgateBlock, dgate_at, DG_at, block_product, blk2, blk3]
  exact gate_grad _ (product_real hR _ n)

theorem block_dh (hR : RealInputs m c) : dhBlock m c t (ix2 i j) = DH m c (ix2 (tileRow t i) j) := by
  rw [dhBlock, back_at, DH_at, add_comm]
  exact congrArg₂ (· + ·) (Finset.sum_congr rfl fun n _ => by rw [block_dup, blk6]) (Finset.sum_congr rfl fun n _ => by rw [block_dgate t i n hR, blk5])

variable (m c)

/-- The reference's gradient of the layer's input. -/
abbrev gradient : Vec Ideal S4096x1024 .f32 := Cert.Reference3Ideal.Read.val_main_v54 (X0 m c) (X1 m c) (X2 m c) (X3 m c) (X4 m c) (X5 m c)

open Cert.Reference3Ideal.Read in
theorem through_at (r : Fin 4096) (k : Fin 1) : val_main_v48 (X0 m c) (X1 m c) (X2 m c) (X3 m c) (X4 m c) (X5 m c) (ix2 r k)
    = Cert.Norm.through_root (∑ k : Fin 1024, X1 m c (ix2 r k) * (DH m c (ix2 r k) * X2 m c (ix2 0 k))) (Z m c r) := by
  unfold Cert.Norm.through_root
  pointwise [val_main_v48, val_main_v47, val_main_cst_7, val_main_v46, val_main_v42, val_main_v41, val_main_cst_6, val_main_v40, val_main_v38, val_main_v37, val_main_v15, val_main_v1,
    val_main_v12, val_main_v11, val_main_cst_3, val_main_v10, val_main_v9, val_main_v8, val_main_v7, val_main_cst_2, val_main_v6, val_main_v5, val_main_cst_1, val_main_v4, val_main_v3,
    val_main_cst_0, val_main_v2]

open Cert.Reference3Ideal.Read in
theorem gradient_at (r : Fin 4096) (j : Fin 1024) : gradient m c (ix2 r j)
    = X0 m c (ix2 r j) + DH m c (ix2 r j) * X2 m c (ix2 0 j) * Ideal.rsqrt (Z m c r)
      + X1 m c (ix2 r j) * Cert.Norm.through_root (∑ k : Fin 1024, X1 m c (ix2 r k) * (DH m c (ix2 r k) * X2 m c (ix2 0 k))) (Z m c r)
      + Cert.Norm.through_root (∑ k : Fin 1024, X1 m c (ix2 r k) * (DH m c (ix2 r k) * X2 m c (ix2 0 k))) (Z m c r) * X1 m c (ix2 r j) := by
  rw [← through_at m c r 0]
  unfold gradient
  pointwise [val_main_v54, val_main_v53, val_main_v52, val_main_v51, val_main_v50, val_main_v49, val_main_cst_8, val_main_v45, val_main_v44, val_main_v43, val_main_v38, val_main_v37,
    val_main_v15, val_main_v1, val_main_v9, val_main_v8, val_main_v7, val_main_cst_2, val_main_v6, val_main_v5, val_main_cst_1, val_main_v4, val_main_v3, val_main_cst_0, val_main_v2]
  simp only [Fin.sum_univ_one]

variable {m c}

theorem block_grad (hR : RealInputs m c) : gradBlock m c t (ix2 i j) = gradient m c (ix2 (tileRow t i) j) := by
  rw [gradBlock, grad_at, gradient_at]
  have e : ∀ k : Fin 1024, k0_pay11 (dupBlock m c t) (dgateBlock m c t) (iblk m c 5 t) (iblk m c 6 t) (ix2 i k) = DH m c (ix2 (tileRow t i) k) :=
    fun k => block_dh t i k hR
  simp only [e, blk0, blk1, blk4]
  exact Cert.Norm.grad (fun k => X1 m c (ix2 (tileRow t i) k)) (fun k => DH m c (ix2 (tileRow t i) k) * X2 m c (ix2 0 k)) _ _
    (Cert.Norm.under_root fun k => X1 m c (ix2 (tileRow t i) k)) j

/-! ### The result arrays -/

theorem array8 (hR : RealInputs m c) : (dats m 0 c).arrAt 8 cfg0.N = gradient m c := by
  refine (dats m 0 c).arrAt_eq_of_covers 8 _ (by decide +kernel) fun t hf y => ?_
  blk_simp
  rw [after0_8, blocks m c t]
  obtain ⟨i, j, rfl⟩ : ∃ (i : Fin 256) (j : Fin 1024), y = ix2 i j := ⟨y 0, y 1, eq_ix2 y⟩
  have e : (win0_8.blk t).view.emb (ix2 i j) = ix2 (tileRow t i) j := by
    blk_ext [idx t]
  rw [e]
  exact block_grad t i j hR

theorem array9 (hR : RealInputs m c) : (dats m 0 c).arrAt 9 cfg0.N = DG m c := by
  refine (dats m 0 c).arrAt_eq_of_covers 9 _ (by decide +kernel) fun t hf y => ?_
  blk_simp
  rw [after0_9, blocks m c t]
  obtain ⟨i, j, rfl⟩ : ∃ (i : Fin 256) (j : Fin 2816), y = ix2 i j := ⟨y 0, y 1, eq_ix2 y⟩
  have e : (win0_9.blk t).view.emb (ix2 i j) = ix2 (tileRow t i) j := by
    blk_ext [idx t]
  rw [e]
  exact block_dgate t i j hR

variable (m c)

theorem array10 : (dats m 0 c).arrAt 10 cfg0.N = DU m c := by
  refine (dats m 0 c).arrAt_eq_of_covers 10 _ (by decide +kernel) fun t hf y => ?_
  blk_simp
  rw [after0_10, blocks m c t]
  obtain ⟨i, j, rfl⟩ : ∃ (i : Fin 256) (j : Fin 2816), y = ix2 i j := ⟨y 0, y 1, eq_ix2 y⟩
  have e : (win0_10.blk t).view.emb (ix2 i j) = ix2 (tileRow t i) j := by
    blk_ext [idx t]
  rw [e]
  exact block_dup m c t i j

theorem array11 : (dats m 0 c).arrAt 11 cfg0.N = Cert.Reference3Ideal.Read.val_main_v23 (X1 m c) (X2 m c) (X3 m c) (X4 m c) := by
  refine (dats m 0 c).arrAt_eq_of_covers 11 _ (by decide +kernel) fun t hf y => ?_
  blk_simp
  rw [after0_11, blocks m c t]
  obtain ⟨i, j, rfl⟩ : ∃ (i : Fin 256) (j : Fin 2816), y = ix2 i j := ⟨y 0, y 1, eq_ix2 y⟩
  have e : (win0_11.blk t).view.emb (ix2 i j) = ix2 (tileRow t i) j := by
    blk_ext [idx t]
  rw [e]
  exact block_act m c t i j

theorem array12 : (dats m 0 c).arrAt 12 cfg0.N = H m c := by
  refine (dats m 0 c).arrAt_eq_of_covers 12 _ (by decide +kernel) fun t hf y => ?_
  blk_simp
  rw [after0_12, blocks m c t]
  obtain ⟨i, j, rfl⟩ : ∃ (i : Fin 256) (j : Fin 1024), y = ix2 i j := ⟨y 0, y 1, eq_ix2 y⟩
  have e : (win0_12.blk t).view.emb (ix2 i j) = ix2 (tileRow t i) j := by
    blk_ext [idx t]
  rw [e]
  exact block_normed m c t i j

/-! ### The norm's weight gradient -/

/-- The reference's block: the weight gradient, then seven rows of zeros. -/
abbrev stat : Vec Ideal S8x1024 .f32 := Cert.Reference3Ideal.Read.val_main_v57 (X0 m c) (X1 m c) (X2 m c) (X3 m c) (X4 m c) (X5 m c)

/-- One row's share of the weight gradient. -/
abbrev share (j : Fin 1024) (r : Fin 4096) : EReal := DH m c (ix2 r j) * (X1 m c (ix2 r j) * Ideal.rsqrt (Z m c r))

theorem points : cfg0.N = 15 + 1 := rfl

theorem tiles : 4096 = (15 + 1) * 256 := by norm_num

/-- The weight gradient after point `n`. -/
def top (j : Fin 1024) (n : ℕ) (hn : n < 15 + 1) : EReal := (outsAt0 m c n (lt_of_lt_of_eq hn points.symm)).2.2.2.2.2 (ix2 0 j)

variable {m c}

theorem point_sum (hR : RealInputs m c) (j : Fin 1024) (n : ℕ) (hn : n < 15 + 1) :
    rowSum m c ⟨n, lt_of_lt_of_eq hn points.symm⟩ j = ∑ i : Fin 256, share m c j (Cert.Tiles.row tiles ⟨n, hn⟩ i) :=
  Finset.sum_congr rfl fun i _ => (congrArg₂ (· * ·) (block_dh _ i j hR) (block_scaled m c _ i j)).trans (congrArg (share m c j) (Fin.ext rfl))

theorem top_first (hR : RealInputs m c) (j : Fin 1024) : top m c j 0 (Nat.succ_pos 15) = ∑ i : Fin 256, share m c j (Cert.Tiles.row tiles 0 i) := by
  refine (stat_first m c ⟨0, lt_of_lt_of_eq (Nat.succ_pos 15) points.symm⟩ rfl 0 j).trans ((if_pos rfl).trans ?_)
  exact point_sum hR j 0 (Nat.succ_pos 15)

theorem top_next (hR : RealInputs m c) (j : Fin 1024) (n : ℕ) (hn : n + 1 < 15 + 1) :
    top m c j (n + 1) hn = top m c j n (by omega) + ∑ i : Fin 256, share m c j (Cert.Tiles.row tiles ⟨n + 1, hn⟩ i) := by
  refine (stat_next m c ⟨n + 1, lt_of_lt_of_eq hn points.symm⟩ (by show ¬(n + 1) % 16 = 0; omega) 0 j).trans ((if_pos rfl).trans ?_)
  rw [point_sum hR j (n + 1) hn]
  rfl

theorem top_last (hR : RealInputs m c) (j : Fin 1024) : top m c j 15 (Nat.lt_succ_self 15) = ∑ r : Fin 4096, share m c j r :=
  Cert.Tiles.run_tiles tiles (share m c j) (top m c j) (top_first hR j) (top_next hR j)

theorem all_rows (hR : RealInputs m c) (t : Fin cfg0.N) (h : t.val % 16 = 15) (j : Fin 1024) :
    (outsAt0 m c t.val t.isLt).2.2.2.2.2 (ix2 0 j) = ∑ r : Fin 4096, share m c j r := by
  have ht : t.val = 15 := by have := lt16 t; omega
  have e : t = ⟨15, lt_of_lt_of_eq (Nat.lt_succ_self 15) points.symm⟩ := Fin.ext ht
  rw [← top_last hR, e]
  rfl

variable (m c)

theorem other_rows (i : Fin 8) (hi : i.val ≠ 0) (j : Fin 1024) : ∀ (n : ℕ) (hn : n < cfg0.N), (outsAt0 m c n hn).2.2.2.2.2 (ix2 i j) = 0
  | 0, hn => (stat_first m c ⟨0, hn⟩ rfl i j).trans (if_neg hi)
  | n + 1, hn => (stat_next m c ⟨n + 1, hn⟩ (by have := lt16 ⟨n + 1, hn⟩; show ¬(n + 1) % 16 = 0; simp only at this; omega) i j).trans
      ((if_neg hi).trans (other_rows i hi j n (by omega)))

open Cert.Reference3Ideal.Read in
theorem stat_top (j : Fin 1024) : val_main_v55 (X0 m c) (X1 m c) (X2 m c) (X3 m c) (X4 m c) (X5 m c) (ix2 0 j) = ∑ r : Fin 4096, share m c j r := by
  refine Eq.trans (b := ∑ r : Fin 4096, X1 m c (ix2 r j) * Ideal.rsqrt (Z m c r) * DH m c (ix2 r j)) ?_ (Finset.sum_congr rfl fun _ _ => mul_comm _ _)
  pointwise [val_main_v55, val_main_v39, val_main_cst_5, val_main_v36, val_main_v35, val_main_cst_4, val_main_v34, val_main_v14, val_main_v13, val_main_v9, val_main_v8, val_main_v7,
    val_main_cst_2, val_main_v6, val_main_v5, val_main_cst_1, val_main_v4, val_main_v3, val_main_cst_0, val_main_v2]
  simp only [Fin.sum_univ_one]

open Cert.Reference3Ideal.Read in
theorem stat_at (i : Fin 8) (j : Fin 1024) : stat m c (ix2 i j) = if i.val = 0 then ∑ r : Fin 4096, share m c j r else 0 := by
  unfold stat val_main_v57
  rw [← stat_top]
  by_cases hi : i.val = 0
  · obtain rfl : i = 0 := Fin.ext hi
    pointwise []
  · rw [if_neg hi]
    pointwise [val_main_v56, val_main_cst_9]
    exact dif_neg (by omega)

variable {m c}

theorem array13 (hR : RealInputs m c) : (dats m 0 c).arrAt 13 cfg0.N = stat m c := by
  refine (dats m 0 c).arrAt_eq_of_covers 13 _ (by decide +kernel) fun t hf y => ?_
  have h : t.val % 16 = 15 := (flush0_13 t).mp hf
  blk_simp
  rw [after0_13]
  obtain ⟨i, j, rfl⟩ : ∃ (i : Fin 8) (j : Fin 1024), y = ix2 i j := ⟨y 0, y 1, eq_ix2 y⟩
  have e : (win0_13.blk t).view.emb (ix2 i j) = ix2 i j := by
    blk_ext [idx t]
  rw [e]
  rw [stat_at]
  by_cases hi : i.val = 0
  · obtain rfl : i = 0 := Fin.ext hi
    exact (all_rows hR t h j).trans (if_pos rfl).symm
  · exact (other_rows m c i hi j t.val t.isLt).trans (if_neg hi).symm

/-- The reference has no semaphore; its run leaves its six arguments alone. -/
theorem reference_frame : Cert.quiescent_Reference3Ideal (hReference3Ideal := Cert.Reference3Ideal.Gen.facts) :=
  fun m ρ _ => (θ_run Cert.Reference3Ideal.defs _ _).mono
    (fun r h => ⟨fun c => (h c).2.2.2.2.2.2, Idealize.ShloMosaic.sem_eq_zero_of_no_sems (by decide) r.2⟩)
    (Cert.Reference3Ideal.Value.run (F := Ideal) m ρ)

open Cert.Reference3Ideal.Read in
/-- Where the precondition holds, the call's six results are the reference's. -/
theorem results_equal : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m g m' g' hpre hagree
  have hR : ∀ c, RealInputs m c := fun c => reals_of_pre m c hpre
  refine ⟨fun c => gradient m c, fun c => val_main_v58 (X0 m c) (X1 m c) (X2 m c) (X3 m c) (X4 m c) (X5 m c), fun c => val_main_v59 (X0 m c) (X1 m c) (X2 m c) (X3 m c) (X5 m c),
    fun c => val_main_v60 (X1 m c) (X2 m c) (X3 m c) (X4 m c), fun c => val_main_v61 (X1 m c) (X2 m c), fun c => stat m c, ?_, ?_⟩
  · exact (θ_run Cert.Kernel3Ideal.defs _ _).mono (fun r h c => ⟨(h c).1.trans (array8 (hR c)), (h c).2.1.trans (array9 (hR c)), (h c).2.2.1.trans (array10 m c),
        (h c).2.2.2.1.trans (array11 m c), (h c).2.2.2.2.1.trans (array12 m c), (h c).2.2.2.2.2.1.trans (array13 (hR c)), (h c).2.2.2.2.2.2⟩)
      (Cert.Kernel3Ideal.Value.run_blocks m g)
  · refine (θ_run Cert.Reference3Ideal.defs _ _).mono (fun r h c => ?_) (Cert.Reference3Ideal.Value.run (F := Ideal) m' g')
    obtain ⟨a0, a1, a2, a3, a4, a5⟩ := hagree c
    obtain ⟨h0, h1, h2, h3, h4, h5, hargs⟩ := h c
    rw [val_main_v54_eq, a0, a1, a2, a3, a4, a5] at h0
    rw [val_main_v58_eq, a0, a1, a2, a3, a4, a5] at h1
    rw [val_main_v59_eq, a0, a1, a2, a3, a5] at h2
    rw [val_main_v60_eq, a1, a2, a3, a4] at h3
    rw [val_main_v61_eq, a1, a2] at h4
    rw [val_main_v57_eq, a0, a1, a2, a3, a4, a5] at h5
    exact ⟨h0, h1, h2, h3, h4, h5, hargs⟩

end Cert.FfnBwd

end
-- ==== Proof.FfnFwd.lean ====
module

public import proofs.«01_k».proof.Proof.RowTiles
public import proofs.«01_k».proof.Proof.StatRow
public import proofs.«01_k».proof.Proof.Norm
public import proofs.«01_k».proof.Proof.Gen.Kernel8Ideal.Value
public import proofs.«01_k».proof.Proof.Gen.Reference8Ideal.Run
public import proofs.«01_k».proof.Proof.Gen.Reference8Ideal.Read
public import proofs.«01_k».proof.Defs
public import Idealize.ShloMosaic.Lib.Pipeline.ValueKit
public import Idealize.ShloMosaic.Lib.StableHlo.RunRead
public import Idealize.ShloMosaic.Lib.Pointwise

/-! The feed-forward block, the last norm and the loss, with the loss's gradient.

The call walks eight tiles of 512 rows. For each it computes the gate, the up product and the block's output, norms it, compares it with
the target and takes the difference back through the norm. Two sums over all rows are kept in the first two rows of a block of eight:
the gradient of the last norm's weight, and the loss column by column. -/

@[expose] public section

set_option maxRecDepth 16384

noncomputable section

namespace Cert.FfnFwd

open Cert.Kernel8Ideal Cert.Kernel8Ideal.Gen
open Idealize.ShloMosaic Idealize.ShloMosaic.TcCoe Idealize.SL.Sem
open Cert.Norm (meanSquare)

variable (m : (ℓ : Loc nD τ sig) → Buf (Elt Ideal) ℓ) (c : Dev nD)

/-- Argument 0: the feed-forward block's input. -/
abbrev X0 : Vec Ideal S4096x1024 .f32 := m ((c : Thread nD τ).loc main_arg0)

/-- Argument 1: the target of the loss. -/
abbrev X1 : Vec Ideal S4096x1024 .f32 := m ((c : Thread nD τ).loc main_arg1)

/-- Argument 2: the weight of the block's norm. -/
abbrev X2 : Vec Ideal S1x1024 .f32 := m ((c : Thread nD τ).loc main_arg2)

/-- Argument 3: the gate's weight. -/
abbrev X3 : Vec Ideal S1024x2816 .f32 := m ((c : Thread nD τ).loc main_arg3)

/-- Argument 4: the weight of the up product. -/
abbrev X4 : Vec Ideal S1024x2816 .f32 := m ((c : Thread nD τ).loc main_arg4)

/-- Argument 5: the down weight. -/
abbrev X5 : Vec Ideal S2816x1024 .f32 := m ((c : Thread nD τ).loc main_arg5)

/-- Argument 6: the weight of the last norm. -/
abbrev X6 : Vec Ideal S1024 .f32 := m ((c : Thread nD τ).loc main_arg6)

theorem origin : (![0, 0] : Fin 2 → Nat) = fun _ => 0 := funext fun a => by fin_cases a <;> rfl

section Blocks

variable (t : Fin cfg0.N)

/-- The gate that point `t` stores. -/
def gateBlock : Vec Ideal S512x2816 .bf16 := k0_pay6 (iblk m c 0 t) (iblk m c 2 t) (iblk m c 3 t)

/-- The up product that point `t` stores. -/
def upBlock : Vec Ideal S512x2816 .bf16 := k0_pay7 (iblk m c 0 t) (iblk m c 2 t) (iblk m c 4 t)

/-- The up product at point `t`, not rounded. -/
abbrev up : Vec Ideal S512x2816 .f32 := k0_pay5 (iblk m c 0 t) (iblk m c 2 t) (iblk m c 4 t)

/-- The gate at point `t` times its logistic function. -/
abbrev silu : Vec Ideal S512x2816 .f32 := k0_pay8 (iblk m c 0 t) (iblk m c 2 t) (iblk m c 3 t)

/-- The block's output at point `t`, normed. -/
def hatBlock : Vec Ideal S512x1024 .f32 := k0_pay11 (iblk m c 0 t) (up m c t) (silu m c t) (iblk m c 5 t)

/-- Its difference to the target, after the norm's weight. -/
def diffBlock : Vec Ideal S512x1024 .f32 := k0_pay12 (iblk m c 0 t) (up m c t) (silu m c t) (iblk m c 5 t) (iblk m c 6 t) (iblk m c 1 t)

/-- The loss's gradient at the norm's output. -/
def dyBlock : Vec Ideal S512x1024 .f32 := k0_pay13 (iblk m c 0 t) (up m c t) (silu m c t) (iblk m c 5 t) (iblk m c 6 t) (iblk m c 1 t)

/-- The loss's gradient at the block's output, which point `t` stores. -/
def gradBlock : Vec Ideal S512x1024 .f32 :=
  k0_pay1 (k0_pay10 (iblk m c 0 t) (up m c t) (silu m c t) (iblk m c 5 t)) (hatBlock m c t) (dyBlock m c t) (iblk m c 6 t)

/-- What the first point leaves in the three blocks. -/
theorem first (h0 : t.val % 8 = 0) : outsAt0 m c t.val t.isLt = (gateBlock m c t, upBlock m c t, gradBlock m c t, (outsAt0 m c t.val t.isLt).2.2.2) := by
  rw [outsAt0_A m c t h0]
  refine Prod.ext ?_ (Prod.ext ?_ (Prod.ext ?_ ?_))
  all_goals dsimp only
  on_goal 1 =>
    unfold out0_A_7
    rw [View.read_writes_eq_canon _ _ _ (cover0_A_7 c _ _ _ _ _ _ _ _ _ _ _ _ _ _ _ _ _ _ _ _ _ _ _ _ _ _ _ _ _ _ _)]
  on_goal 2 =>
    unfold out0_A_8
    rw [View.read_writes_eq_canon _ _ _ (cover0_A_8 c _ _ _ _ _ _ _ _ _ _ _ _ _ _ _ _ _ _ _ _ _ _ _ _ _ _ _ _ _ _ _)]
  on_goal 3 =>
    unfold out0_A_9
    rw [View.read_writes_eq_canon _ _ _ (cover0_A_9 c _ _ _ _ _ _ _ _ _ _ _ _ _ _ _ _ _ _ _ _ _ _ _ _ _ _ _ _ _ _ _)]
  all_goals
    unfold kernelRun0_A
    dsimp only
    sl_unfold_words
    simp only [View.canon_unit_zero (S := S512x1024) origin, View.canon_unit_zero (S := S512x2816) origin, View.readAt_eq_ld, (hs0_0 t).read_unread, (hs0_1 t).read_unread,
      (hs0_2 t).read_unread, (hs0_3 t).read_unread, (hs0_4 t).read_unread, (hs0_5 t).read_unread, (hs0_6 t).read_unread,
      View.ld_unit_zero (S := S2816x1024) origin, View.ld_unit_zero (S := S512x1024) origin, View.ld_unit_zero (S := S1x1024) origin]
    rfl

/-- What every further point leaves in them. -/
theorem next (h0 : ¬t.val % 8 = 0) : outsAt0 m c t.val t.isLt = (gateBlock m c t, upBlock m c t, gradBlock m c t, (outsAt0 m c t.val t.isLt).2.2.2) := by
  rw [outsAt0_B m c t h0]
  refine Prod.ext ?_ (Prod.ext ?_ (Prod.ext ?_ ?_))
  all_goals dsimp only
  on_goal 1 =>
    unfold out0_B_7
    rw [View.read_writes_eq_canon _ _ _ (cover0_B_7 c _ _ _ _ _ _ _ _ _ _ _ _ _ _ _ _ _ _ _ _ _ _ _ _ _ _ _ _ _ _ _ _)]
  on_goal 2 =>
    unfold out0_B_8
    rw [View.read_writes_eq_canon _ _ _ (cover0_B_8 c _ _ _ _ _ _ _ _ _ _ _ _ _ _ _ _ _ _ _ _ _ _ _ _ _ _ _ _ _ _ _ _)]
  on_goal 3 =>
    unfold out0_B_9
    rw [View.read_writes_eq_canon _ _ _ (cover0_B_9 c _ _ _ _ _ _ _ _ _ _ _ _ _ _ _ _ _ _ _ _ _ _ _ _ _ _ _ _ _ _ _ _)]
  all_goals
    unfold kernelRun0_B
    dsimp only
    sl_unfold_words
    simp only [View.canon_unit_zero (S := S512x1024) origin, View.canon_unit_zero (S := S512x2816) origin, View.readAt_eq_ld, (hs0_0 t).read_unread, (hs0_1 t).read_unread,
      (hs0_2 t).read_unread, (hs0_3 t).read_unread, (hs0_4 t).read_unread, (hs0_5 t).read_unread, (hs0_6 t).read_unread,
      View.ld_unit_zero (S := S2816x1024) origin, View.ld_unit_zero (S := S512x1024) origin, View.ld_unit_zero (S := S1x1024) origin]
    rfl

/-- What every point leaves in the three blocks. -/
theorem blocks : outsAt0 m c t.val t.isLt = (gateBlock m c t, upBlock m c t, gradBlock m c t, (outsAt0 m c t.val t.isLt).2.2.2) :=
  if h0 : t.val % 8 = 0 then first m c t h0 else next m c t h0

/-- The sum point `t` adds to the weight gradient of the last norm. -/
def gradSum (j : Fin 1024) : EReal := ∑ i : Fin 512, dyBlock m c t (ix2 i j) * hatBlock m c t (ix2 i j)

/-- The factor of the loss's squares: half of one over the number of columns. -/
abbrev halfMean : EReal := Ideal.ofBits .f32 0x3A000000#32

/-- The sum point `t` adds to the loss by columns. -/
def lossSum (j : Fin 1024) : EReal := halfMean * ∑ i : Fin 512, diffBlock m c t (ix2 i j) * diffBlock m c t (ix2 i j)

section Rows

variable (x y : Vec Ideal S512x1024 .f32) (u p : Vec Ideal S512x2816 .f32) (w : Vec Ideal S2816x1024 .bf16) (g s : Vec Ideal S1x1024 .f32) (j : Fin 1024)

theorem add_grads : k0_pay14 x u p w g y s (ix2 0 j) = s (ix2 0 j) + ∑ i : Fin 512, k0_pay13 x u p w g y (ix2 i j) * k0_pay11 x u p w (ix2 i j) := by
  pointwise [k0_pay14]

theorem add_losses : k0_pay15 x u p w g y s (ix2 0 j) = s (ix2 0 j) + halfMean * ∑ i : Fin 512, k0_pay12 x u p w g y (ix2 i j) * k0_pay12 x u p w g y (ix2 i j) := by
  pointwise [k0_pay15]

end Rows

theorem zero_at (i : Fin 8) (j : Fin 1024) : k0_pay2 (F := Ideal) (ix2 i j) = 0 := by
  pointwise [k0_pay2]

/-- The first point leaves its own two sums over rows of zeros. -/
theorem stat_first (h0 : t.val % 8 = 0) (i : Fin 8) (j : Fin 1024) :
    (outsAt0 m c t.val t.isLt).2.2.2 (ix2 i j) = if i.val = 1 then lossSum m c t j else if i.val = 0 then gradSum m c t j else 0 := by
  rw [outsAt0_A m c t h0]
  dsimp only
  unfold out0_A_10
  rw [View.read_writes_eq_canon _ _ _ (cover0_A_10 c _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread,
    (hs0_2 t).read_unread, (hs0_3 t).read_unread, (hs0_4 t).read_unread, (hs0_5 t).read_unread, (hs0_6 t).read_unread,
    View.ld_unit_zero (S := S2816x1024) origin, View.ld_unit_zero (S := S512x1024) origin, View.ld_unit_zero (S := S1x1024) origin]
  refine (Cert.Stat.two_over_whole _ _ _ _ _ _ i j).trans ?_
  rw [Cert.Stat.twoRows, Cert.Stat.topRow]
  refine if_congr Iff.rfl ?_ (if_congr Iff.rfl ?_ (zero_at i j))
  · rw [add_losses]
    exact (congrArg (· + _) ((Cert.Stat.load_second_whole _ _ _ _ _ j _).trans (zero_at 1 j))).trans (zero_add _)
  · rw [add_grads]
    exact (congrArg (· + _) ((Cert.Stat.load_whole _ _ _ j _).trans (zero_at 0 j))).trans (zero_add _)

/-- What the point before `t` left in the block of sums. -/
abbrev before : Vec Ideal S8x1024 .f32 := (outsAt0 m c (t.val - 1) (Nat.lt_of_le_of_lt (Nat.sub_le _ _) t.isLt)).2.2.2

/-- Every further point adds its sums. -/
theorem stat_next (h0 : ¬t.val % 8 = 0) (i : Fin 8) (j : Fin 1024) :
    (outsAt0 m c t.val t.isLt).2.2.2 (ix2 i j) = if i.val = 1 then before m c t (ix2 1 j) + lossSum m c t j
      else if i.val = 0 then before m c t (ix2 0 j) + gradSum m c t j else before m c t (ix2 i j) := by
  rw [outsAt0_B m c t h0]
  dsimp only
  unfold out0_B_10
  unfold kernelRun0_B
  dsimp only
  sl_unfold_words
  simp only [View.readAt_eq_ld, (hs0_0 t).read_unread, (hs0_1 t).read_unread, (hs0_10 t).read_unread,
    (hs0_2 t).read_unread, (hs0_3 t).read_unread, (hs0_4 t).read_unread, (hs0_5 t).read_unread, (hs0_6 t).read_unread,
    View.ld_unit_zero (S := S2816x1024) origin, View.ld_unit_zero (S := S512x1024) origin, View.ld_unit_zero (S := S1x1024) origin]
  refine (Cert.Stat.two_over_held _ _ _ _ _ i j _ _ ((hs0_10 t).read_unread _)).trans ?_
  rw [Cert.Stat.twoRows, Cert.Stat.topRow]
  refine if_congr Iff.rfl ?_ (if_congr Iff.rfl ?_ rfl)
  · rw [add_losses]
    exact congrArg (· + _) (Cert.Stat.load_second_held _ _ j)
  · rw [add_grads]
    exact congrArg (· + _) (Cert.Stat.load_held _ _ j)

end Blocks

/-! ### What the blocks hold -/

theorem V1 : V m c main_v1 = transpose S2816x1024 [1, 0] (X3 m c) transposes_S1024x2816_S2816x1024_1_0 := by
  unfold V
  after_reads_simp
  rfl

theorem V3 : V m c main_v3 = transpose S2816x1024 [1, 0] (X4 m c) transposes_S1024x2816_S2816x1024_1_0 := by
  unfold V
  after_reads_simp
  rfl

theorem V4 : V m c main_v4 = X5 m c := by
  unfold V
  after_reads_simp
  rfl

theorem V5 : V m c main_v5 = shapeCast S1x1024 (X6 m c) shapeCasts_S1024_S1x1024 := by
  unfold V
  after_reads_simp
  rfl

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0] ∧ win0_7.index t = ![t.val, 0]
    ∧ win0_8.index t = ![t.val, 0] ∧ win0_9.index t = ![t.val, 0] ∧ win0_10.index t = ![0, 0] :=
  (by decide +kernel : ∀ t : Fin grid0.N, _)

theorem lt8 (t : Fin cfg0.N) : t.val < 8 := t.isLt

/-- Row `i` of point `t`'s tile. -/
abbrev tileRow (t : Fin cfg0.N) (i : Fin 512) : Fin 4096 := ⟨512 * t.val + i.val, by have := lt8 t; omega⟩

theorem blk0 (t : Fin cfg0.N) (i : Fin 512) (j : Fin 1024) : iblk m c 0 t (ix2 i j) = X0 m c (ix2 (tileRow t i) j) := by
  refine Eq.trans (b := V m c main_arg0 (ix2 (tileRow t i) j)) ?_ (congrFun (V_main_arg0 m c) _)
  blk_ext [iblk, idx t]

theorem blk1 (t : Fin cfg0.N) (i : Fin 512) (j : Fin 1024) : iblk m c 1 t (ix2 i j) = X1 m c (ix2 (tileRow t i) j) := by
  refine Eq.trans (b := V m c main_arg1 (ix2 (tileRow t i) j)) ?_ (congrFun (V_main_arg1 m c) _)
  blk_ext [iblk, idx t]

theorem blk2 (t : Fin cfg0.N) (j : Fin 1024) : iblk m c 2 t (ix2 0 j) = X2 m c (ix2 0 j) := by
  refine Eq.trans (b := V m c main_arg2 (ix2 0 j)) ?_ (congrFun (V_main_arg2 m c) _)
  blk_ext [iblk, idx t]

theorem blk3 (t : Fin cfg0.N) (n : Fin 2816) (j : Fin 1024) : iblk m c 3 t (ix2 n j) = X3 m c (ix2 j n) := by
  refine Eq.trans (b := V m c main_v1 (ix2 n j)) ?_ ((congrFun (V1 m c) _).trans (by pointwise []))
  blk_ext [iblk, idx t]

theorem blk4 (t : Fin cfg0.N) (n : Fin 2816) (j : Fin 1024) : iblk m c 4 t (ix2 n j) = X4 m c (ix2 j n) := by
  refine Eq.trans (b := V m c main_v3 (ix2 n j)) ?_ ((congrFun (V3 m c) _).trans (by pointwise []))
  blk_ext [iblk, idx t]

theorem blk5 (t : Fin cfg0.N) (n : Fin 2816) (j : Fin 1024) : iblk m c 5 t (ix2 n j) = X5 m c (ix2 n j) := by
  refine Eq.trans (b := V m c main_v4 (ix2 n j)) ?_ (congrFun (V4 m c) _)
  blk_ext [iblk, idx t]

theorem blk6 (t : Fin cfg0.N) (j : Fin 1024) : iblk m c 6 t (ix2 0 j) = X6 m c (ix1 j) := by
  refine Eq.trans (b := V m c main_v5 (ix2 0 j)) ?_ ((congrFun (V5 m c) _).trans (by pointwise []))
  blk_ext [iblk, idx t]

/-! ### The call's formulas -/

/-- The logistic function. -/
abbrev logistic (x : EReal) : EReal := Ideal.div 1 (1 + Ideal.exp (0 - x))

/-- The factor of the loss's gradient: one over the number of columns. -/
abbrev mean : EReal := Ideal.ofBits .f32 0x3A800000#32

section Formulas

variable (x y d : Vec Ideal S512x1024 .f32) (g w : Vec Ideal S1x1024 .f32) (u p : Vec Ideal S512x2816 .f32) (a v : Vec Ideal S2816x1024 .bf16)
  (i : Fin 512) (j : Fin 1024) (n : Fin 2816)

theorem normed_at : k0_pay3 x g (ix2 i j) = x (ix2 i j) * Ideal.rsqrt (meanSquare fun k => x (ix2 i k)) * g (ix2 0 j) := by
  pointwise [k0_pay3]

theorem gate_at : k0_pay4 x g a (ix2 i n) = ∑ k : Fin 1024, k0_pay3 x g (ix2 i k) * a (ix2 n k) := by
  pointwise [k0_pay4]

theorem up_at : k0_pay5 x g a (ix2 i n) = ∑ k : Fin 1024, k0_pay3 x g (ix2 i k) * a (ix2 n k) := by
  pointwise [k0_pay5]

theorem gate_stored : k0_pay6 x g a (ix2 i n) = k0_pay4 x g a (ix2 i n) := by
  pointwise [k0_pay6]

theorem up_stored : k0_pay7 x g a (ix2 i n) = k0_pay5 x g a (ix2 i n) := by
  pointwise [k0_pay7]

theorem silu_at : k0_pay8 x g a (ix2 i n) = k0_pay4 x g a (ix2 i n) * logistic (k0_pay4 x g a (ix2 i n)) := by
  pointwise [k0_pay8]

theorem out_at : k0_pay9 x u p v (ix2 i j) = x (ix2 i j) + ∑ n : Fin 2816, p (ix2 i n) * u (ix2 i n) * v (ix2 n j) := by
  pointwise [k0_pay9]

theorem hat_at : k0_pay11 x u p v (ix2 i j) = k0_pay9 x u p v (ix2 i j) * Ideal.rsqrt (meanSquare fun k => k0_pay9 x u p v (ix2 i k)) := by
  pointwise [k0_pay11, k0_pay10]

theorem diff_at : k0_pay12 x u p v w y (ix2 i j) = k0_pay11 x u p v (ix2 i j) * w (ix2 0 j) - y (ix2 i j) := by
  pointwise [k0_pay12]

theorem dy_at : k0_pay13 x u p v w y (ix2 i j) = k0_pay12 x u p v w y (ix2 i j) * mean := by
  pointwise [k0_pay13]

theorem grad_at : k0_pay1 (k0_pay10 x u p v) (k0_pay11 x u p v) d w (ix2 i j)
      = Ideal.rsqrt (meanSquare fun k => k0_pay9 x u p v (ix2 i k)) * (d (ix2 i j) * w (ix2 0 j)
          - k0_pay9 x u p v (ix2 i j) * Ideal.rsqrt (meanSquare fun k => k0_pay9 x u p v (ix2 i k))
            * Ideal.div (∑ k : Fin 1024, d (ix2 i k) * w (ix2 0 k) * (k0_pay9 x u p v (ix2 i k) * Ideal.rsqrt (meanSquare fun k => k0_pay9 x u p v (ix2 i k)))) Cert.Norm.width) := by
  pointwise [k0_pay1, k0_pay10, k0_pay11]

end Formulas

/-! ### The loss's factors -/

theorem mean_eq : mean = ((1024⁻¹ : ℝ) : EReal) := by
  simp [mean, Ideal.ofBits, Ideal.ieee, -EReal.coe_mul]
  norm_num

theorem halfMean_eq : halfMean = ((2048⁻¹ : ℝ) : EReal) := by
  simp [halfMean, Ideal.ofBits, Ideal.ieee, -EReal.coe_mul]
  norm_num

/-- The constant `1/2`. -/
abbrev half : EReal := Ideal.ofBits .f32 0x3F000000#32

/-- The constant `2`. -/
abbrev two : EReal := Ideal.ofBits .f32 0x40000000#32

theorem half_eq : half = ((2⁻¹ : ℝ) : EReal) := by
  simp [half, Ideal.ofBits, Ideal.ieee, -EReal.coe_mul]
  norm_num

theorem two_eq : two = ((2 : ℝ) : EReal) := by
  simp [two, Ideal.ofBits, Ideal.ieee, -EReal.coe_mul]
  norm_num

/-- Half the mean's factor times the square's derivative is the mean's factor times the difference. -/
theorem slope (d : EReal) : Ideal.div (half * 1) Cert.Norm.width * (two * d) = d * mean := by
  rw [Cert.Norm.div_width, half_eq, two_eq, mean_eq, mul_one, ← mul_assoc, ← EReal.coe_mul, ← EReal.coe_mul, mul_comm]
  exact congrArg (fun q : ℝ => d * (q : EReal)) (by norm_num)

/-- Half a sum of means is the sum with both factors in one. -/
theorem half_sum {n : ℕ} (f : Fin n → EReal) : half * ∑ k, Ideal.div (f k) Cert.Norm.width = ∑ k, f k * ((2048⁻¹ : ℝ) : EReal) := by
  simp only [Cert.Norm.div_width]
  rw [Cert.Norm.real_sum _ (by norm_num), Cert.Norm.real_sum _ (by norm_num), half_eq, mul_comm, mul_assoc, ← EReal.coe_mul]
  exact congrArg (fun q : ℝ => (∑ k, f k) * (q : EReal)) (by norm_num)

/-! ### The reference's formulas -/

section Reference

open Cert.Reference8Ideal.Read

/-- The reference's normed input. -/
abbrev H : Vec Ideal S4096x1024 .f32 := val_main_v13 (X0 m c) (X2 m c)

/-- The reference's gate before the activation. -/
abbrev G : Vec Ideal S4096x2816 .f32 := val_main_v14 (X0 m c) (X2 m c) (X3 m c)

/-- The reference's up product. -/
abbrev U : Vec Ideal S4096x2816 .f32 := val_main_v15 (X0 m c) (X2 m c) (X4 m c)

/-- The reference's output of the feed-forward block. -/
abbrev Y : Vec Ideal S4096x1024 .f32 := val_main_v19 (X0 m c) (X2 m c) (X3 m c) (X4 m c) (X5 m c)

/-- Its rows, normed. -/
abbrev N : Vec Ideal S4096x1024 .f32 := val_main_v32 (X0 m c) (X2 m c) (X3 m c) (X4 m c) (X5 m c)

/-- The reference's difference to the target. -/
abbrev E : Vec Ideal S4096x1024 .f32 := val_main_v36 (X0 m c) (X1 m c) (X2 m c) (X3 m c) (X4 m c) (X5 m c) (X6 m c)

/-- The reference's gradient of the last norm's output. -/
abbrev DY : Vec Ideal S4096x1024 .f32 := val_main_v55 (X0 m c) (X1 m c) (X2 m c) (X3 m c) (X4 m c) (X5 m c) (X6 m c)

/-- The mean square of row `r` of the output, plus the small constant. -/
abbrev Z (r : Fin 4096) : EReal := meanSquare fun k => Y m c (ix2 r k)

variable (r : Fin 4096) (j : Fin 1024) (n : Fin 2816)

theorem H_at : H m c (ix2 r j) = X0 m c (ix2 r j) * Ideal.rsqrt (meanSquare fun k => X0 m c (ix2 r k)) * X2 m c (ix2 0 j) := by
  unfold H
  pointwise [val_main_v13, val_main_v12, val_main_v11, val_main_v0, val_main_v10, val_main_v9, val_main_v8, val_main_v7, val_main_v6, val_main_cst_1, val_main_v5, val_main_v4,
    val_main_cst_0, val_main_v3, val_main_v2, val_main_cst, val_main_v1]

theorem G_at : G m c (ix2 r n) = ∑ k : Fin 1024, H m c (ix2 r k) * X3 m c (ix2 k n) := by
  unfold G H
  pointwise [val_main_v14]

theorem U_at : U m c (ix2 r n) = ∑ k : Fin 1024, H m c (ix2 r k) * X4 m c (ix2 k n) := by
  unfold U H
  pointwise [val_main_v15]

theorem act_at : val_main_v17 (X0 m c) (X2 m c) (X3 m c) (X4 m c) (ix2 r n) = G m c (ix2 r n) * logistic (G m c (ix2 r n)) * U m c (ix2 r n) := by
  rw [logistic, zero_sub]
  unfold G U
  pointwise [val_main_v17, val_main_v16, val_main_call0_v5, val_main_call0_v4, val_main_call0_cst_0, val_main_call0_v3, val_main_call0_v2, val_main_call0_cst, val_main_call0_v1,
    val_main_call0_v0]

theorem Y_at : Y m c (ix2 r j) = X0 m c (ix2 r j) + ∑ n : Fin 2816, G m c (ix2 r n) * logistic (G m c (ix2 r n)) * U m c (ix2 r n) * X5 m c (ix2 n j) := by
  refine Eq.trans (b := X0 m c (ix2 r j) + ∑ n : Fin 2816, val_main_v17 (X0 m c) (X2 m c) (X3 m c) (X4 m c) (ix2 r n) * X5 m c (ix2 n j)) ?_
    (congrArg (_ + ·) (Finset.sum_congr rfl fun n _ => congrArg (· * _) (act_at m c r n)))
  unfold Y
  pointwise [val_main_v19, val_main_v18]

theorem N_at : N m c (ix2 r j) = Y m c (ix2 r j) * Ideal.rsqrt (Z m c r) := by
  unfold N
  pointwise [val_main_v32, val_main_v31, val_main_v27, val_main_v26, val_main_v25, val_main_cst_4, val_main_v24, val_main_v23, val_main_cst_3, val_main_v22, val_main_v21,
    val_main_cst_2, val_main_v20]

theorem E_at : E m c (ix2 r j) = N m c (ix2 r j) * X6 m c (ix1 j) - X1 m c (ix2 r j) := by
  unfold E N
  pointwise [val_main_v36, val_main_v35, val_main_v34, val_main_v33]

theorem DY_at : DY m c (ix2 r j) = E m c (ix2 r j) * mean := by
  rw [← slope]
  unfold DY E
  pointwise [val_main_v55, val_main_v54, val_main_v53, val_main_v52, val_main_cst_16, val_main_v51, val_main_v50, val_main_cst_15, val_main_cst_14, val_main_v39, val_main_v38,
    val_main_cst_6]

/-- The reference's gradient of the block's output. -/
abbrev gradient : Vec Ideal S4096x1024 .f32 := val_main_v75 (X0 m c) (X1 m c) (X2 m c) (X3 m c) (X4 m c) (X5 m c) (X6 m c)

theorem through_at (k : Fin 1) : val_main_v69 (X0 m c) (X1 m c) (X2 m c) (X3 m c) (X4 m c) (X5 m c) (X6 m c) (ix2 r k)
    = Cert.Norm.through_root (∑ k : Fin 1024, Y m c (ix2 r k) * (DY m c (ix2 r k) * X6 m c (ix1 k))) (Z m c r) := by
  unfold Cert.Norm.through_root
  pointwise [val_main_v69, val_main_v68, val_main_cst_20, val_main_v67, val_main_v64, val_main_v63, val_main_cst_19, val_main_v62, val_main_v60, val_main_v59, val_main_v33,
    val_main_v30, val_main_v29, val_main_cst_5, val_main_v28, val_main_v27, val_main_v26, val_main_v25, val_main_cst_4, val_main_v24, val_main_v23, val_main_cst_3, val_main_v22,
    val_main_v21, val_main_cst_2, val_main_v20]

theorem gradient_at : gradient m c (ix2 r j) = DY m c (ix2 r j) * X6 m c (ix1 j) * Ideal.rsqrt (Z m c r)
      + Y m c (ix2 r j) * Cert.Norm.through_root (∑ k : Fin 1024, Y m c (ix2 r k) * (DY m c (ix2 r k) * X6 m c (ix1 k))) (Z m c r)
      + Cert.Norm.through_root (∑ k : Fin 1024, Y m c (ix2 r k) * (DY m c (ix2 r k) * X6 m c (ix1 k))) (Z m c r) * Y m c (ix2 r j) := by
  rw [← through_at m c r 0]
  unfold gradient
  pointwise [val_main_v75, val_main_v74, val_main_v73, val_main_v72, val_main_v71, val_main_v70, val_main_cst_21, val_main_v66, val_main_v65, val_main_v60, val_main_v59, val_main_v33,
    val_main_v27, val_main_v26, val_main_v25, val_main_cst_4, val_main_v24, val_main_v23, val_main_cst_3, val_main_v22, val_main_v21, val_main_cst_2, val_main_v20]
  simp only [Fin.sum_univ_one]

end Reference

/-! ### The tiles' blocks are the reference's rows -/

section Rows

variable (t : Fin cfg0.N) (i : Fin 512) (j : Fin 1024) (n : Fin 2816)

theorem block_normed : k0_pay3 (iblk m c 0 t) (iblk m c 2 t) (ix2 i j) = H m c (ix2 (tileRow t i) j) := by
  rw [normed_at, H_at, blk2]
  simp only [blk0]

theorem block_gate : k0_pay4 (iblk m c 0 t) (iblk m c 2 t) (iblk m c 3 t) (ix2 i n) = G m c (ix2 (tileRow t i) n) := by
  rw [gate_at, G_at]
  exact Finset.sum_congr rfl fun k _ => by rw [block_normed, blk3]

theorem block_up : up m c t (ix2 i n) = U m c (ix2 (tileRow t i) n) := by
  rw [up, up_at, U_at]
  exact Finset.sum_congr rfl fun k _ => by rw [block_normed, blk4]

theorem block_out : k0_pay9 (iblk m c 0 t) (up m c t) (silu m c t) (iblk m c 5 t) (ix2 i j) = Y m c (ix2 (tileRow t i) j) := by
  rw [out_at, Y_at, blk0]
  exact congrArg (_ + ·) (Finset.sum_congr rfl fun n _ => by rw [silu, silu_at, block_gate, block_up, blk5])

theorem block_hat : hatBlock m c t (ix2 i j) = N m c (ix2 (tileRow t i) j) := by
  rw [hatBlock, hat_at, N_at]
  simp only [block_out]

theorem block_diff : diffBlock m c t (ix2 i j) = E m c (ix2 (tileRow t i) j) := by
  rw [diffBlock, diff_at, E_at, blk1, blk6]
  exact congrArg (fun q => q * _ - _) (block_hat m c t i j)

theorem block_dy : dyBlock m c t (ix2 i j) = DY m c (ix2 (tileRow t i) j) := by
  rw [dyBlock, dy_at, DY_at]
  exact congrArg (· * _) (block_diff m c t i j)

theorem block_grad : gradBlock m c t (ix2 i j) = gradient m c (ix2 (tileRow t i) j) := by
  rw [gradBlock, hatBlock, grad_at, gradient_at]
  simp only [block_out, block_dy, blk6]
  have h := Cert.Norm.grad (fun k => Y m c (ix2 (tileRow t i) k)) (fun k => DY m c (ix2 (tileRow t i) k) * X6 m c (ix1 k)) 0 _
    (Cert.Norm.under_root fun k => Y m c (ix2 (tileRow t i) k)) j
  rw [zero_add, zero_add] at h
  exact h

end Rows

/-! ### The result arrays -/

theorem array7 : (dats m 0 c).arrAt 7 cfg0.N = G m c := by
  refine (dats m 0 c).arrAt_eq_of_covers 7 _ (by decide +kernel) fun t hf y => ?_
  blk_simp
  rw [after0_7, blocks m c t]
  obtain ⟨i, j, rfl⟩ : ∃ (i : Fin 512) (j : Fin 2816), y = ix2 i j := ⟨y 0, y 1, eq_ix2 y⟩
  have e : (win0_7.blk t).view.emb (ix2 i j) = ix2 (tileRow t i) j := by
    blk_ext [idx t]
  rw [e]
  exact (gate_stored _ _ _ i j).trans (block_gate m c t i j)

theorem array8 : (dats m 0 c).arrAt 8 cfg0.N = U m c := by
  refine (dats m 0 c).arrAt_eq_of_covers 8 _ (by decide +kernel) fun t hf y => ?_
  blk_simp
  rw [after0_8, blocks m c t]
  obtain ⟨i, j, rfl⟩ : ∃ (i : Fin 512) (j : Fin 2816), y = ix2 i j := ⟨y 0, y 1, eq_ix2 y⟩
  have e : (win0_8.blk t).view.emb (ix2 i j) = ix2 (tileRow t i) j := by
    blk_ext [idx t]
  rw [e]
  exact (up_stored _ _ _ i j).trans (block_up m c t i j)

theorem array9 : (dats m 0 c).arrAt 9 cfg0.N = gradient m c := by
  refine (dats m 0 c).arrAt_eq_of_covers 9 _ (by decide +kernel) fun t hf y => ?_
  blk_simp
  rw [after0_9, blocks m c t]
  obtain ⟨i, j, rfl⟩ : ∃ (i : Fin 512) (j : Fin 1024), y = ix2 i j := ⟨y 0, y 1, eq_ix2 y⟩
  have e : (win0_9.blk t).view.emb (ix2 i j) = ix2 (tileRow t i) j := by
    blk_ext [idx t]
  rw [e]
  exact block_grad m c t i j

/-! ### The two sums over all rows -/

/-- The reference's block: the weight gradient, the loss by columns, then six rows of zeros. -/
abbrev stat : Vec Ideal S8x1024 .f32 := Cert.Reference8Ideal.Read.val_main_v79 (X0 m c) (X1 m c) (X2 m c) (X3 m c) (X4 m c) (X5 m c) (X6 m c)

/-- One row's share of the weight gradient. -/
abbrev gradShare (j : Fin 1024) (r : Fin 4096) : EReal := DY m c (ix2 r j) * N m c (ix2 r j)

/-- One row's share of the loss. -/
abbrev lossShare (j : Fin 1024) (r : Fin 4096) : EReal := E m c (ix2 r j) * E m c (ix2 r j) * ((2048⁻¹ : ℝ) : EReal)

theorem points : cfg0.N = 7 + 1 := rfl

theorem tiles : 4096 = (7 + 1) * 512 := by norm_num

/-- Row `i` of the block of sums after point `n`. -/
def sums (i : Fin 8) (j : Fin 1024) (n : ℕ) (hn : n < 7 + 1) : EReal := (outsAt0 m c n (lt_of_lt_of_eq hn points.symm)).2.2.2 (ix2 i j)

theorem point_grads (j : Fin 1024) (n : ℕ) (hn : n < 7 + 1) :
    gradSum m c ⟨n, lt_of_lt_of_eq hn points.symm⟩ j = ∑ i : Fin 512, gradShare m c j (Cert.Tiles.row tiles ⟨n, hn⟩ i) :=
  Finset.sum_congr rfl fun i _ => (congrArg₂ (· * ·) (block_dy m c _ i j) (block_hat m c _ i j)).trans (congrArg (gradShare m c j) (Fin.ext rfl))

theorem point_losses (j : Fin 1024) (n : ℕ) (hn : n < 7 + 1) :
    lossSum m c ⟨n, lt_of_lt_of_eq hn points.symm⟩ j = ∑ i : Fin 512, lossShare m c j (Cert.Tiles.row tiles ⟨n, hn⟩ i) := by
  rw [lossSum, halfMean_eq, mul_comm, ← Cert.Norm.real_sum _ (by norm_num)]
  exact Finset.sum_congr rfl fun i _ => (congrArg (fun q => q * q * _) (block_diff m c _ i j)).trans (congrArg (lossShare m c j) (Fin.ext rfl))

theorem further (n : ℕ) (hn : n + 1 < 7 + 1) : ¬(n + 1) % 8 = 0 := by omega

theorem grads_last (j : Fin 1024) : sums m c 0 j 7 (Nat.lt_succ_self 7) = ∑ r : Fin 4096, gradShare m c j r := by
  refine Cert.Tiles.run_tiles tiles (gradShare m c j) (sums m c 0 j) ?_ fun n hn => ?_
  · exact (stat_first m c ⟨0, lt_of_lt_of_eq (Nat.succ_pos 7) points.symm⟩ rfl 0 j).trans
      ((if_neg (by simp)).trans ((if_pos rfl).trans (point_grads m c j 0 (Nat.succ_pos 7))))
  · refine (stat_next m c ⟨n + 1, lt_of_lt_of_eq hn points.symm⟩ (further n hn) 0 j).trans ((if_neg (by simp)).trans ((if_pos rfl).trans ?_))
    rw [point_grads m c j (n + 1) hn]
    rfl

theorem losses_last (j : Fin 1024) : sums m c 1 j 7 (Nat.lt_succ_self 7) = ∑ r : Fin 4096, lossShare m c j r := by
  refine Cert.Tiles.run_tiles tiles (lossShare m c j) (sums m c 1 j) ?_ fun n hn => ?_
  · exact (stat_first m c ⟨0, lt_of_lt_of_eq (Nat.succ_pos 7) points.symm⟩ rfl 1 j).trans
      ((if_pos rfl).trans (point_losses m c j 0 (Nat.succ_pos 7)))
  · refine (stat_next m c ⟨n + 1, lt_of_lt_of_eq hn points.symm⟩ (further n hn) 1 j).trans ((if_pos rfl).trans ?_)
    rw [point_losses m c j (n + 1) hn]
    rfl

theorem other_rows (i : Fin 8) (h0 : i.val ≠ 0) (h1 : i.val ≠ 1) (j : Fin 1024) : ∀ (n : ℕ) (hn : n < 7 + 1), sums m c i j n hn = 0
  | 0, hn => (stat_first m c ⟨0, lt_of_lt_of_eq hn points.symm⟩ rfl i j).trans ((if_neg h1).trans (if_neg h0))
  | n + 1, hn => (stat_next m c ⟨n + 1, lt_of_lt_of_eq hn points.symm⟩ (further n hn) i j).trans
      ((if_neg h1).trans ((if_neg h0).trans (other_rows i h0 h1 j n (by omega))))

section Reference

open Cert.Reference8Ideal.Read

theorem grads_at (j : Fin 1024) : val_main_v76 (X0 m c) (X1 m c) (X2 m c) (X3 m c) (X4 m c) (X5 m c) (X6 m c) (ix2 0 j) = ∑ r : Fin 4096, gradShare m c j r := by
  refine Eq.trans (b := ∑ r : Fin 4096, N m c (ix2 r j) * DY m c (ix2 r j)) ?_ (Finset.sum_congr rfl fun _ _ => mul_comm _ _)
  pointwise [val_main_v76, val_main_v61, val_main_cst_18, val_main_v58, val_main_v57, val_main_cst_17, val_main_v56]
  simp only [Fin.sum_univ_one]

theorem losses_at (j : Fin 1024) : val_main_v77 (X0 m c) (X1 m c) (X2 m c) (X3 m c) (X4 m c) (X5 m c) (X6 m c) (ix2 0 j) = ∑ r : Fin 4096, lossShare m c j r := by
  refine Eq.trans ?_ (half_sum fun r => E m c (ix2 r j) * E m c (ix2 r j))
  pointwise [val_main_v77, val_main_v49, val_main_v48, val_main_cst_13, val_main_v47, val_main_cst_12, val_main_v46, val_main_v45, val_main_cst_11, val_main_v37]

theorem stat_at (i : Fin 8) (j : Fin 1024) : stat m c (ix2 i j)
    = if i.val = 1 then ∑ r : Fin 4096, lossShare m c j r else if i.val = 0 then ∑ r : Fin 4096, gradShare m c j r else 0 := by
  unfold stat val_main_v79
  rw [← grads_at, ← losses_at]
  by_cases h1 : i.val = 1
  · obtain rfl : i = 1 := Fin.ext h1
    pointwise []
  · rw [if_neg h1]
    by_cases h0 : i.val = 0
    · obtain rfl : i = 0 := Fin.ext h0
      pointwise []
    · rw [if_neg h0]
      pointwise [val_main_v78, val_main_cst_22]
      exact (dif_neg (by omega)).trans (dif_neg (by omega))

end Reference

theorem array10 : (dats m 0 c).arrAt 10 cfg0.N = stat m c := by
  refine (dats m 0 c).arrAt_eq_of_covers 10 _ (by decide +kernel) fun t hf y => ?_
  have h : t.val % 8 = 7 := (flush0_10 t).mp hf
  have ht : t.val = 7 := by have := lt8 t; omega
  have et : t = ⟨7, lt_of_lt_of_eq (Nat.lt_succ_self 7) points.symm⟩ := Fin.ext ht
  blk_simp
  rw [after0_10]
  obtain ⟨i, j, rfl⟩ : ∃ (i : Fin 8) (j : Fin 1024), y = ix2 i j := ⟨y 0, y 1, eq_ix2 y⟩
  have e : (win0_10.blk t).view.emb (ix2 i j) = ix2 i j := by
    blk_ext [idx t]
  rw [e, stat_at]
  subst et
  by_cases h1 : i.val = 1
  · obtain rfl : i = 1 := Fin.ext h1
    exact (losses_last m c j).trans (if_pos rfl).symm
  · rw [if_neg h1]
    by_cases h0 : i.val = 0
    · obtain rfl : i = 0 := Fin.ext h0
      exact (grads_last m c j).trans (if_pos rfl).symm
    · exact (other_rows m c i h0 h1 j 7 (Nat.lt_succ_self 7)).trans (if_neg h0).symm

/-- The reference has no semaphore; its run leaves its seven arguments alone. -/
theorem reference_frame : Cert.quiescent_Reference8Ideal (hReference8Ideal := Cert.Reference8Ideal.Gen.facts) :=
  fun m ρ _ => (θ_run Cert.Reference8Ideal.defs _ _).mono
    (fun r h => ⟨fun c => (h c).2.2.2.2, Idealize.ShloMosaic.sem_eq_zero_of_no_sems (by decide) r.2⟩)
    (Cert.Reference8Ideal.Value.run (F := Ideal) m ρ)

open Cert.Reference8Ideal.Read in
/-- The call's four results are the reference's, whatever the inputs hold. -/
theorem results_equal : Cert.algebraic_Kernel8Ideal_Reference8Ideal (hKernel8Ideal := Cert.Kernel8Ideal.Gen.facts)
    (hReference8Ideal := Cert.Reference8Ideal.Gen.facts) := by
  intro m g m' g' hpre hagree
  refine ⟨fun c => val_main_v80 (X0 m c) (X2 m c) (X3 m c), fun c => val_main_v81 (X0 m c) (X2 m c) (X4 m c), fun c => gradient m c, fun c => stat m c, ?_, ?_⟩
  · exact (θ_run Cert.Kernel8Ideal.defs _ _).mono (fun r h c => ⟨(h c).1.trans (array7 m c), (h c).2.1.trans (array8 m c), (h c).2.2.1.trans (array9 m c),
        (h c).2.2.2.1.trans (array10 m c), (h c).2.2.2.2⟩)
      (Cert.Kernel8Ideal.Value.run_blocks m g)
  · refine (θ_run Cert.Reference8Ideal.defs _ _).mono (fun r h c => ?_) (Cert.Reference8Ideal.Value.run (F := Ideal) m' g')
    obtain ⟨a0, a1, a2, a3, a4, a5, a6⟩ := hagree c
    obtain ⟨h0, h1, h2, h3, hargs⟩ := h c
    rw [val_main_v80_eq, a0, a2, a3] at h0
    rw [val_main_v81_eq, a0, a2, a4] at h1
    rw [val_main_v75_eq, a0, a1, a2, a3, a4, a5, a6] at h2
    rw [val_main_v79_eq, a0, a1, a2, a3, a4, a5, a6] at h3
    exact ⟨h0, h1, h2, h3, hargs⟩

end Cert.FfnFwd

end
-- ==== Proof.ProjRun.lean ====
module

public import proofs.«01_k».proof.Proof.Gen.Kernel7Ideal.Frame
public import proofs.«01_k».proof.Proof.Gen.Kernel7Ideal.Skeleton
public import proofs.«01_k».proof.Proof.Gen.Kernel7
public import proofs.«01_k».proof.Defs
public import Idealize.ShloMosaic.Lib.Claim
public import Idealize.ShloMosaic.Lib.Pipeline.ValueKit

/-! The run of the forward projections.

The grid has four tiles of 1024 rows and, inside each, four column blocks of 2048. The first column block of a tile stores the
normed rows into the second output's block, which stays in place for the tile's other three column blocks and is written back after the
last; every point multiplies it with its column block of the weight. The block that the three later points find is the one that the
first stored: by induction on the point, since the rows of a tile are the same at its four points. -/

@[expose] public section

set_option maxRecDepth 16384

noncomputable section

namespace Cert.ProjFwd

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## The points -/

/-- The first column block of a tile. -/
abbrev First (i : grid0.Coords) : Prop := k0_cond1 i = 1#1

theorem first_iff : ∀ t : Fin cfg0.N, First (grid0.coords t) ↔ t.val % 4 = 0 :=
  (by decide +kernel : ∀ t : Fin grid0.N, _)

/-- The second output is stored at a tile's first point, -/
theorem stored : ∀ t : Fin cfg0.N, t.val % 4 = 0 → cfg0.idle 4 (grid0.coords t) = false :=
  (by decide +kernel : ∀ t : Fin grid0.N, _)

/-- and at no other. -/
theorem held : ∀ t : Fin cfg0.N, t.val % 4 ≠ 0 → cfg0.idle 4 (grid0.coords t) = true :=
  (by decide +kernel : ∀ t : Fin grid0.N, _)

theorem idx : ∀ t : Fin cfg0.N, win0_0.index t = ![t.val / 4, 0] ∧ win0_1.index t = ![0, 0] ∧ win0_2.index t = ![0, t.val % 4]
    ∧ win0_3.index t = ![t.val / 4, t.val % 4] ∧ win0_4.index t = ![t.val / 4, 0] :=
  (by decide +kernel : ∀ t : Fin grid0.N, _)

theorem lt16 (t : Fin cfg0.N) : t.val < 16 := t.isLt

/-- The rows of a point's tile. -/
theorem rows_at (t : Fin cfg0.N) (i j : Fin 1024) :
    iblk m c 0 t (ix2 i j) = V m c main_arg0 (ix2 ⟨1024 * (t.val / 4) + i.val, by have := lt16 t; omega⟩ j) := by
  blk_ext [iblk, idx t]

/-- The norm's weight. -/
theorem norm_at (t : Fin cfg0.N) (j : Fin 1024) : iblk m c 1 t (ix2 0 j) = V m c main_arg1 (ix2 0 j) := by
  blk_ext [iblk, idx t]

/-- The normed rows of a point's tile. -/
def normed (t : Fin cfg0.N) : Vec F S1024x1024 .bf16 := k0_pay1 (iblk m c 0 t) (iblk m c 1 t)

/-- The points of one tile have the same normed rows. -/
theorem normed_eq (t t' : Fin cfg0.N) (h : t.val / 4 = t'.val / 4) : normed m c t = normed m c t' := by
  refine congrArg₂ k0_pay1 (funext fun y => ?_) (funext fun y => ?_)
  · obtain ⟨i, j, rfl⟩ : ∃ (i j : Fin 1024), y = ix2 i j := ⟨y 0, y 1, eq_ix2 y⟩
    rw [rows_at, rows_at]
    exact congrArg (V m c main_arg0) (congrArg₂ ix2 (Fin.ext (by show 1024 * (t.val / 4) + i.val = 1024 * (t'.val / 4) + i.val; rw [h])) rfl)
  · obtain ⟨i, j, rfl⟩ : ∃ (i : Fin 1) (j : Fin 1024), y = ix2 i j := ⟨y 0, y 1, eq_ix2 y⟩
    obtain rfl : i = 0 := Fin.eq_zero i
    rw [norm_at, norm_at]

/-! ## The body -/

section Body

variable (i : grid0.Coords) (a2 : Memref sig .tc .vmem S1024x1024 .f32) (h2 : a2.IsWhole) (a3 : Memref sig .tc .vmem S1x1024 .f32) (h3 : a3.IsWhole)
  (a4 : Memref sig .tc .vmem S1024x2048 .bf16) (h4 : a4.IsWhole) (a5 : Memref sig .tc .vmem S1024x2048 .bf16) (h5 : a5.IsWhole)
  (a6 : Memref sig .tc .vmem S1024x1024 .bf16) (h6 : a6.IsWhole)

set_option maxHeartbeats 1000000 in
/-- The body at a tile's first point: the pieces stored into the two outputs, with the triple. -/
noncomputable def runFirst (hc : First i) (x : Vec F S1024x1024 .f32) (g : Vec F S1x1024 .f32) (w : Vec F S1024x2048 .bf16) :
    Σ' (L5 : List (View.Piece (Elt F) S1024x2048 .bf16)), { L6 : List (View.Piece (Elt F) S1024x1024 .bf16) //
      ∀ (E : Set ℕ) (K : PUnit → sProp 𝕄),
        iprop(owns (c : Thread nD τ) a2 fullShare x ∗ owns (c : Thread nD τ) a3 fullShare g ∗ owns (c : Thread nD τ) a4 fullShare w
            ∗ (∃ d, owns (c : Thread nD τ) a5 fullShare d) ∗ (∃ d, owns (c : Thread nD τ) a6 fullShare d)
            ∗ (iprop(owns (c : Thread nD τ) a2 fullShare x ∗ owns (c : Thread nD τ) a3 fullShare g ∗ owns (c : Thread nD τ) a4 fullShare w
              ∗ (∃ f, a5.view.loc (c : Thread nD τ) ↦[a5.view.set]{fullShare} a5.view.writes (Elt F) f L5)
              ∗ (∃ f, a6.view.loc (c : Thread nD τ) ↦[a6.view.set]{fullShare} a6.view.writes (Elt F) f L6)) -∗ K ⟨⟩))
          ⊢ wp frame (wpE (defs₀ (F := F)) Variants.none c none) E (cc0_proj_fwd i a2 h2 a3 h3 a4 h4 a5 h5 a6 h6) K } := by
  refine ⟨?_, ?_, fun E K => ?run⟩
  case run =>
    simp only [cc0_proj_fwd_eq_skeleton]; unfold cc0_proj_fwd_skel
    unfold owns
    iintro ⟨⟨%f2, %hf2, H2⟩, ⟨%f3, %hf3, H3⟩, ⟨%f4, %hf4, H4⟩, ⟨%d5, %f5, -, H5⟩, ⟨%d6, %f6, -, H6⟩, Hk⟩
    obtain rfl := h2.eq_unread hf2; obtain rfl := h3.eq_unread hf3; obtain rfl := h4.eq_unread hf4
    sl_exec (disch := sl_exact hc)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    iexists _; iexact H6

set_option maxHeartbeats 1000000 in
/-- The body at a tile's later points, which leave the second output's block as they find it. -/
noncomputable def runLater (hc : ¬First i) (x : Vec F S1024x1024 .f32) (g : Vec F S1x1024 .f32) (w : Vec F S1024x2048 .bf16) (h : Vec F S1024x1024 .bf16) :
    { L5 : List (View.Piece (Elt F) S1024x2048 .bf16) //
      ∀ (E : Set ℕ) (K : PUnit → sProp 𝕄),
        iprop(owns (c : Thread nD τ) a2 fullShare x ∗ owns (c : Thread nD τ) a3 fullShare g ∗ owns (c : Thread nD τ) a4 fullShare w
            ∗ (∃ d, owns (c : Thread nD τ) a5 fullShare d) ∗ owns (c : Thread nD τ) a6 fullShare h
            ∗ (iprop(owns (c : Thread nD τ) a2 fullShare x ∗ owns (c : Thread nD τ) a3 fullShare g ∗ owns (c : Thread nD τ) a4 fullShare w
              ∗ (∃ f, a5.view.loc (c : Thread nD τ) ↦[a5.view.set]{fullShare} a5.view.writes (Elt F) f L5)
              ∗ owns (c : Thread nD τ) a6 fullShare h) -∗ K ⟨⟩))
          ⊢ wp frame (wpE (defs₀ (F := F)) Variants.none c none) E (cc0_proj_fwd i a2 h2 a3 h3 a4 h4 a5 h5 a6 h6) K } := by
  refine ⟨?_, fun E K => ?run⟩
  case run =>
    simp only [cc0_proj_fwd_eq_skeleton]; unfold cc0_proj_fwd_skel
    unfold owns
    iintro ⟨⟨%f2, %hf2, H2⟩, ⟨%f3, %hf3, H3⟩, ⟨%f4, %hf4, H4⟩, ⟨%d5, %f5, -, H5⟩, ⟨%f6, %hf6, H6⟩, Hk⟩
    obtain rfl := h2.eq_unread hf2; obtain rfl := h3.eq_unread hf3; obtain rfl := h4.eq_unread hf4; obtain rfl := h6.eq_unread hf6
    sl_exec (disch := sl_exact hc)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    iexists _; isplitr; · ipureintro; exact h6.read_unread _
    iexact H6

theorem origin : (![0, 0] : Fin 2 → Nat) = fun _ => 0 := funext fun a => by fin_cases a <;> rfl

variable (x : Vec F S1024x1024 .f32) (g : Vec F S1x1024 .f32) (w : Vec F S1024x2048 .bf16) (h : Vec F S1024x1024 .bf16)

theorem cover5First (hc : First i) (y : S1024x2048.Idx) : ∃ pc ∈ (runFirst c i a2 h2 a3 h3 a4 h4 a5 h5 a6 h6 hc x g w).1, y ∈ pc.1.set :=
  View.cover_of_tiledL (runFirst c i a2 h2 a3 h3 a4 h4 a5 h5 a6 h6 hc x g w).1 S1024x2048.size (by sl_kernel_rfl) y

theorem cover6First (hc : First i) (y : S1024x1024.Idx) : ∃ pc ∈ (runFirst c i a2 h2 a3 h3 a4 h4 a5 h5 a6 h6 hc x g w).2.1, y ∈ pc.1.set :=
  View.cover_of_tiledL (runFirst c i a2 h2 a3 h3 a4 h4 a5 h5 a6 h6 hc x g w).2.1 S1024x1024.size (by sl_kernel_rfl) y

theorem cover5Later (hc : ¬First i) (y : S1024x2048.Idx) : ∃ pc ∈ (runLater c i a2 h2 a3 h3 a4 h4 a5 h5 a6 h6 hc x g w h).1, y ∈ pc.1.set :=
  View.cover_of_tiledL (runLater c i a2 h2 a3 h3 a4 h4 a5 h5 a6 h6 hc x g w h).1 S1024x2048.size (by sl_kernel_rfl) y

/-- The first point leaves the product of its normed rows with its column block, -/
theorem product_first (hc : First i) (f) :
    a5.view.read (Elt F) (a5.view.writes (Elt F) f (runFirst c i a2 h2 a3 h3 a4 h4 a5 h5 a6 h6 hc x g w).1) = k0_pay2 (k0_pay1 x g) w := by
  rw [View.read_writes_eq_canon _ _ _ (cover5First c i a2 h2 a3 h3 a4 h4 a5 h5 a6 h6 x g w hc)]
  unfold runFirst
  dsimp only
  sl_unfold_words
  rw [View.canon_unit_zero origin, View.readCov_unit_zero (S := S1024x1024) _ origin]
  simp only [View.readAt_eq_ld, h2.read_unread, h3.read_unread, h4.read_unread, View.ld_unit_zero (S := S1024x1024) origin, View.ld_unit_zero (S := S1x1024) origin,
    View.ld_unit_zero (S := S1024x2048) origin]

/-- and its normed rows. -/
theorem normed_first (hc : First i) (f) :
    a6.view.read (Elt F) (a6.view.writes (Elt F) f (runFirst c i a2 h2 a3 h3 a4 h4 a5 h5 a6 h6 hc x g w).2.1) = k0_pay1 x g := by
  rw [View.read_writes_eq_canon _ _ _ (cover6First c i a2 h2 a3 h3 a4 h4 a5 h5 a6 h6 x g w hc)]
  unfold runFirst
  dsimp only
  sl_unfold_words
  rw [View.canon_unit_zero origin]
  simp only [View.readAt_eq_ld, h2.read_unread, h3.read_unread, View.ld_unit_zero (S := S1024x1024) origin, View.ld_unit_zero (S := S1x1024) origin]

/-- A later point leaves the product of the rows that it finds with its column block. -/
theorem product_later (hc : ¬First i) (f) :
    a5.view.read (Elt F) (a5.view.writes (Elt F) f (runLater c i a2 h2 a3 h3 a4 h4 a5 h5 a6 h6 hc x g w h).1) = k0_pay2 h w := by
  rw [View.read_writes_eq_canon _ _ _ (cover5Later c i a2 h2 a3 h3 a4 h4 a5 h5 a6 h6 x g w h hc)]
  unfold runLater
  dsimp only
  sl_unfold_words
  rw [View.canon_unit_zero origin]
  simp only [View.readAt_eq_ld, h4.read_unread, h6.read_unread, View.ld_unit_zero (S := S1024x1024) origin, View.ld_unit_zero (S := S1024x2048) origin]

end Body

/-! ## The pipeline's proof data -/

/-- What each window's block holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (normed m c t) (iblk m c 2 t)
    | ⟨4, _⟩ => normed m c t
  Φ _ := Pipeline.ΦA spec0 c
  q _ := fullShare
  owed _ := 0

theorem A_eq (w : Fin cfg0.W) : (dats m 0 c).A w = V m c (Pipeline.arrRef spec0 w) := by dsimp only [dats]

theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = k0_pay2 (normed m c t) (iblk m c 2 t) := by dsimp only [dats]
theorem after4 (t : Fin cfg0.N) : (dats m 0 c).after 4 t = normed m c t := by dsimp only [dats]

theorem before0 (t : Fin cfg0.N) (d) : (dats m 0 c).before 0 t d = iblk m c 0 t := before0_0_of m (dats m 0 c) (A_eq m c 0) (after0 m c) t d
theorem before1 (t : Fin cfg0.N) (d) : (dats m 0 c).before 1 t d = iblk m c 1 t := before0_1_of m (dats m 0 c) (A_eq m c 1) (after1 m c) t d
theorem before2 (t : Fin cfg0.N) (d) : (dats m 0 c).before 2 t d = iblk m c 2 t := before0_2_of m (dats m 0 c) (A_eq m c 2) (after2 m c) t d

/-- A tile's later points find its normed rows in the second output's block. -/
theorem before4 (n : ℕ) (hn : n < cfg0.N) (h : n % 4 ≠ 0) (d) : (dats m 0 c).before 4 ⟨n, hn⟩ d = normed m c ⟨n, hn⟩ := by
  induction n with
  | zero => exact absurd rfl h
  | succ n ih =>
    have hN : n + 1 < 16 := hn
    have hp : n < cfg0.N := Nat.lt_of_succ_lt hn
    rw [Dat.before_of_pos _ 4 ⟨n + 1, hn⟩ (Nat.succ_ne_zero n) rfl d]
    refine (if_neg fun hf => ?_).trans ?_
    · have := (flush0_4 _).mp hf
      dsimp only at this
      omega
    · refine Eq.trans (b := normed m c ⟨n, hp⟩) ?_ (normed_eq m c _ _ (by show n / 4 = (n + 1) / 4; omega))
      show (dats m 0 c).left 4 ⟨n, hp⟩ d = _
      unfold Dat.left
      by_cases h0 : n % 4 = 0
      · rw [stored ⟨n, hp⟩ h0]
        exact after4 m c ⟨n, hp⟩
      · rw [held ⟨n, hp⟩ h0]
        exact ih hp h0

/-- Each window's current block at a point. -/
abbrev st0 (t : Fin cfg0.N) : Memref sig .tc .vmem S1024x1024 .f32 := win0_0.stage (cfg0.slots t 0)
abbrev st1 (t : Fin cfg0.N) : Memref sig .tc .vmem S1x1024 .f32 := win0_1.stage (cfg0.slots t 1)
abbrev st2 (t : Fin cfg0.N) : Memref sig .tc .vmem S1024x2048 .bf16 := win0_2.stage (cfg0.slots t 2)
abbrev st3 (t : Fin cfg0.N) : Memref sig .tc .vmem S1024x2048 .bf16 := win0_3.stage (cfg0.slots t 3)
abbrev st4 (t : Fin cfg0.N) : Memref sig .tc .vmem S1024x1024 .bf16 := win0_4.stage (cfg0.slots t 4)

theorem leaves0 (t : Fin cfg0.N) : (dats m 0 c).leavesExact 0 t = owns (c : Thread nD τ) (st0 t) fullShare (iblk m c 0 t) := by
  unfold Dat.leavesExact; rw [show cfg0.idle 0 (grid0.coords t) = false from rfl, after0]
theorem leaves1 (t : Fin cfg0.N) : (dats m 0 c).leavesExact 1 t = owns (c : Thread nD τ) (st1 t) fullShare (iblk m c 1 t) := by
  unfold Dat.leavesExact; rw [show cfg0.idle 1 (grid0.coords t) = false from rfl, after1]
theorem leaves2 (t : Fin cfg0.N) : (dats m 0 c).leavesExact 2 t = owns (c : Thread nD τ) (st2 t) fullShare (iblk m c 2 t) := by
  unfold Dat.leavesExact; rw [show cfg0.idle 2 (grid0.coords t) = false from rfl, after2]
theorem leaves3 (t : Fin cfg0.N) : (dats m 0 c).leavesExact 3 t = owns (c : Thread nD τ) (st3 t) fullShare (k0_pay2 (normed m c t) (iblk m c 2 t)) := by
  unfold Dat.leavesExact; rw [show cfg0.idle 3 (grid0.coords t) = false from rfl, after3]

/-- What the body must leave in the second output's block: the tile's normed rows, at each of its points. -/
theorem leaves4 (t : Fin cfg0.N) : owns (c : Thread nD τ) (st4 t) fullShare (normed m c t) ⊢ (dats (F := F) m 0 c).leavesExact 4 t := by
  by_cases h0 : t.val % 4 = 0
  · refine Eq.subst (motive := fun X => owns (c : Thread nD τ) (st4 t) fullShare (normed m c t) ⊢ X) (Eq.symm ?_) (Idealize.SL.BI.Entails.refl _)
    unfold Dat.leavesExact; rw [stored t h0, after4]
  · by_cases h3 : t.val % 4 = 3
    · refine Eq.subst (motive := fun X => owns (c : Thread nD τ) (st4 t) fullShare (normed m c t) ⊢ X) (Eq.symm ?_) (Idealize.SL.BI.Entails.refl _)
      unfold Dat.leavesExact; rw [held t h0, (flush0_4 t).mpr h3, after4]
    · rw [Dat.leavesExact_idle (dats m 0 c) 4 t (held t h0) (Bool.eq_false_iff.mpr fun h => h3 ((flush0_4 t).mp h))]
      rw [← before4 m c t.val t.isLt h0 (normed m c t)]
      iintro H
      iexists _; iexact H

/-- What the body is called with at a point, -/
def bodyPre (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d)))

/-- and what it returns. -/
def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 800000 in
/-- The body at any point. -/
theorem sound_body (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    leaves0, leaves1, leaves2, leaves3]
  by_cases h0 : t.val % 4 = 0
  · iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((first_iff t).mpr h0) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact product_first c _ _ _ _ _ _ _ _ _ _ _ _ _ _ _ _
    iapply (leaves4 m c t)
    unfold owns; iexists _; isplitr
    swap; · iexact H4
    ipureintro; exact normed_first c _ _ _ _ _ _ _ _ _ _ _ _ _ _ _ _
  · simp only [show ∀ d, (dats m 0 c).before 4 t d = normed m c t from before4 m c t.val t.isLt h0]
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((first_iff t).mp h)) (iblk m c 0 t) (iblk m c 1 t) (iblk m c 2 t) (normed m c t)).2 Set.univ _)
    isplitl [H0]; · iexact H0
    isplitl [H1]; · iexact H1
    isplitl [H2]; · iexact H2
    isplitl [H3]; · iexists _; iexact H3
    isplitl [H4]; · iexact H4
    iintro ⟨H0, H1, H2, ⟨%e3, H3⟩, H4⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact product_later c _ _ _ _ _ _ _ _ _ _ _ _ _ _ _ _ _
    iapply (leaves4 m c t)
    iexact H4

/-- The body table's row at a point is the body. -/
theorem defs₀_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run: every array of the pipeline at what the proof data says, every other buffer as found, every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run m ρ)

/-- The frame, at any arithmetic. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_quiescent m ρ))

/-- The run's two results, and its arguments. -/
theorem run_arrays : θ_run defs (onTc (τ := τ) (main (F := F))) ⟨m, fun _ => 0, ρ⟩ fun r => ∀ c : Dev nD,
      r.2.mem ((c : Thread nD τ).loc main_v1_0) = (dats m 0 c).arrAt 3 cfg0.N
      ∧ r.2.mem ((c : Thread nD τ).loc main_v1_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3, (h.1 c).1 4, h.2 c⟩) (θ_run_and (run m ρ) (unchanged m ρ))

/-! ## The frame of the kernel as printed

No rule changed an operation, so that the program printed for exact arithmetic and the one as printed are one term, and so are the two
frames at machine arithmetic. -/

/-- The program runs, its semaphores end at zero and its arguments unchanged, at machine arithmetic. -/
def FrameBits : Prop :=
  ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frameBits_eq : FrameBits = Cert.quiescent_Kernel7 (hKernel7 := Cert.Kernel7.Gen.facts) := by
  sl_kernel_rfl

theorem kernel_frame : Cert.quiescent_Kernel7 (hKernel7 := Cert.Kernel7.Gen.facts) :=
  frameBits_eq ▸ (fun m ρ _ => frame (F := Bits) m ρ : FrameBits)

end Cert.ProjFwd

end
-- ==== Proof.ProjFwd.lean ====
module

public import proofs.«01_k».proof.Proof.Norm
public import proofs.«01_k».proof.Proof.ProjRun
public import proofs.«01_k».proof.Proof.Gen.Reference7Ideal.Run
public import proofs.«01_k».proof.Proof.Gen.Reference7Ideal.Read
public import proofs.«01_k».proof.Defs
public import Idealize.ShloMosaic.Lib.Pipeline.ValueKit
public import Idealize.ShloMosaic.Lib.StableHlo.RunRead
public import Idealize.ShloMosaic.Lib.Pointwise

/-! The norm and the eight projections of the forward pass.

At each point the block of the projections is the product of the tile's normed rows with a column block of the weight, and the block of
the normed rows is written back at the tile's last point. Both are the reference's rows and columns there. -/

@[expose] public section

set_option maxRecDepth 16384

noncomputable section

namespace Cert.ProjFwd

open Cert.Kernel7Ideal Cert.Kernel7Ideal.Gen
open Idealize.ShloMosaic Idealize.ShloMosaic.TcCoe Idealize.SL.Sem
open Cert.Norm (meanSquare)
open Cert.Reference7Ideal.Read

variable (m : (ℓ : Loc nD τ sig) → Buf (Elt Ideal) ℓ) (c : Dev nD)

/-- Argument 0: the layer's input. -/
abbrev X0 : Vec Ideal S4096x1024 .f32 := m ((c : Thread nD τ).loc main_arg0)

/-- Argument 1: the weight of the norm. -/
abbrev X1 : Vec Ideal S1x1024 .f32 := m ((c : Thread nD τ).loc main_arg1)

/-- Argument 2: the weight of the projections. -/
abbrev X2 : Vec Ideal S1024x8192 .f32 := m ((c : Thread nD τ).loc main_arg2)

theorem V0 : V m c main_v0 = X2 m c := by
  unfold V
  after_reads_simp
  rfl

theorem blk0 (t : Fin cfg0.N) (i j : Fin 1024) : iblk m c 0 t (ix2 i j) = X0 m c (ix2 ⟨1024 * (t.val / 4) + i.val, by have := lt16 t; omega⟩ j) :=
  (rows_at m c t i j).trans (congrFun (V_main_arg0 m c) _)

theorem blk1 (t : Fin cfg0.N) (j : Fin 1024) : iblk m c 1 t (ix2 0 j) = X1 m c (ix2 0 j) :=
  (norm_at m c t j).trans (congrFun (V_main_arg1 m c) _)

theorem blk2 (t : Fin cfg0.N) (k : Fin 1024) (n : Fin 2048) :
    iblk m c 2 t (ix2 k n) = X2 m c (ix2 k ⟨2048 * (t.val % 4) + n.val, by omega⟩) := by
  refine Eq.trans (b := V m c main_v0 (ix2 k ⟨2048 * (t.val % 4) + n.val, by omega⟩)) ?_ (congrFun (V0 m c) _)
  blk_ext [iblk, idx t]

section Formulas

variable (x : Vec Ideal S1024x1024 .f32) (g : Vec Ideal S1x1024 .f32) (h : Vec Ideal S1024x1024 .bf16) (w : Vec Ideal S1024x2048 .bf16)
  (i j : Fin 1024) (n : Fin 2048)

theorem norm_formula : k0_pay1 x g (ix2 i j) = x (ix2 i j) * Ideal.rsqrt (meanSquare fun k => x (ix2 i k)) * g (ix2 0 j) := by
  pointwise [k0_pay1]

theorem product_formula : k0_pay2 h w (ix2 i n) = ∑ k : Fin 1024, h (ix2 i k) * w (ix2 k n) := by
  pointwise [k0_pay2]

end Formulas

/-- The reference's normed input, before and after its rounding. -/
abbrev H : Vec Ideal S4096x1024 .f32 := val_main_v13 (X0 m c) (X1 m c)

abbrev H16 : Vec Ideal S4096x1024 .bf16 := val_main_v16 (X0 m c) (X1 m c)

/-- The reference's projections. -/
abbrev P : Vec Ideal S4096x8192 .bf16 := val_main_v15 (X0 m c) (X1 m c) (X2 m c)

variable (r : Fin 4096) (j : Fin 1024) (n : Fin 8192)

theorem H_at : H m c (ix2 r j) = X0 m c (ix2 r j) * Ideal.rsqrt (meanSquare fun k => X0 m c (ix2 r k)) * X1 m c (ix2 0 j) := by
  unfold H
  pointwise [val_main_v13, val_main_v12, val_main_v11, val_main_v0, val_main_v10, val_main_v9, val_main_v8, val_main_v7, val_main_v6, val_main_cst_1, val_main_v5, val_main_v4,
    val_main_cst_0, val_main_v3, val_main_v2, val_main_cst, val_main_v1]

theorem H16_at : H16 m c (ix2 r j) = H m c (ix2 r j) := by
  unfold H16 H
  pointwise [val_main_v16]

theorem P_at : P m c (ix2 r n) = ∑ k : Fin 1024, H m c (ix2 r k) * X2 m c (ix2 k n) := by
  unfold P H
  pointwise [val_main_v15, val_main_v14]

/-- A tile's normed rows are the reference's. -/
theorem normed_at (t : Fin cfg0.N) (i j : Fin 1024) : normed m c t (ix2 i j) = H m c (ix2 ⟨1024 * (t.val / 4) + i.val, by have := lt16 t; omega⟩ j) := by
  rw [normed, norm_formula, H_at, blk1]
  simp only [blk0]

theorem product_at (t : Fin cfg0.N) (i : Fin 1024) (n : Fin 2048) : k0_pay2 (normed m c t) (iblk m c 2 t) (ix2 i n)
    = P m c (ix2 ⟨1024 * (t.val / 4) + i.val, by have := lt16 t; omega⟩ ⟨2048 * (t.val % 4) + n.val, by omega⟩) := by
  rw [product_formula, P_at]
  exact Finset.sum_congr rfl fun k _ => congrArg₂ (· * ·) (normed_at m c t i k) (blk2 m c t k n)

theorem array3 : (dats m 0 c).arrAt 3 cfg0.N = P m c := by
  refine (dats m 0 c).arrAt_eq_of_covers 3 _ (by decide +kernel) fun t hf y => ?_
  blk_simp
  rw [after3]
  obtain ⟨i, n, rfl⟩ : ∃ (i : Fin 1024) (n : Fin 2048), y = ix2 i n := ⟨y 0, y 1, eq_ix2 y⟩
  have e : (win0_3.blk t).view.emb (ix2 i n) = ix2 ⟨1024 * (t.val / 4) + i.val, by have := lt16 t; omega⟩ ⟨2048 * (t.val % 4) + n.val, by omega⟩ := by
    blk_ext [idx t]
  rw [e]
  exact product_at m c t i n

theorem array4 : (dats m 0 c).arrAt 4 cfg0.N = H16 m c := by
  refine (dats m 0 c).arrAt_eq_of_covers 4 _ (by decide +kernel) fun t hf y => ?_
  blk_simp
  rw [after4]
  obtain ⟨i, j, rfl⟩ : ∃ (i j : Fin 1024), y = ix2 i j := ⟨y 0, y 1, eq_ix2 y⟩
  have e : (win0_4.blk t).view.emb (ix2 i j) = ix2 ⟨1024 * (t.val / 4) + i.val, by have := lt16 t; omega⟩ j := by
    blk_ext [idx t]
  rw [e, H16_at]
  exact normed_at m c t i j

/-- The reference has no semaphore; its run leaves its three arguments alone. -/
theorem reference_frame : Cert.quiescent_Reference7Ideal (hReference7Ideal := Cert.Reference7Ideal.Gen.facts) :=
  fun m ρ _ => (θ_run Cert.Reference7Ideal.defs _ _).mono
    (fun r h => ⟨fun c => (h c).2.2, Idealize.ShloMosaic.sem_eq_zero_of_no_sems (by decide) r.2⟩)
    (Cert.Reference7Ideal.Value.run (F := Ideal) m ρ)

/-- The call's two results are the reference's, whatever the inputs hold. -/
theorem results_equal : Cert.algebraic_Kernel7Ideal_Reference7Ideal (hKernel7Ideal := Cert.Kernel7Ideal.Gen.facts)
    (hReference7Ideal := Cert.Reference7Ideal.Gen.facts) := by
  intro m g m' g' hpre hagree
  refine ⟨fun c => P m c, fun c => H16 m c, ?_, ?_⟩
  · exact (θ_run Cert.Kernel7Ideal.defs _ _).mono (fun r h c => ⟨(h c).1.trans (array3 m c), (h c).2.1.trans (array4 m c), (h c).2.2⟩)
      (run_arrays m g)
  · refine (θ_run Cert.Reference7Ideal.defs _ _).mono (fun r h c => ?_) (Cert.Reference7Ideal.Value.run (F := Ideal) m' g')
    obtain ⟨a0, a1, a2⟩ := hagree c
    obtain ⟨h0, h1, hargs⟩ := h c
    rw [val_main_v15_eq, a0, a1, a2] at h0
    rw [val_main_v16_eq, a0, a1] at h1
    exact ⟨h0, h1, hargs⟩

end Cert.ProjFwd

end
-- ==== Proof.WeightConvOut.lean ====
module

public import proofs.«01_k».proof.Proof.RowTiles
public import proofs.«01_k».proof.Proof.Gen.Kernel9Ideal.Value
public import proofs.«01_k».proof.Proof.Gen.Reference9Ideal.Run
public import proofs.«01_k».proof.Defs
public import Idealize.ShloMosaic.Lib.Pipeline.ValueKit
public import Idealize.ShloMosaic.Lib.StableHlo.RunRead
public import Idealize.ShloMosaic.Lib.Pointwise

/-! The weight gradient of an output projection of the convolution or the attention.

The call's grid has one column block and two row tiles of 2048. The first stores zero and adds its product, the second adds its own and
writes the block back; the reference is one product over all 4096 rows. -/

@[expose] public section

set_option maxRecDepth 16384

noncomputable section

namespace Cert.WeightConvOut

open Cert.Kernel9Ideal Cert.Kernel9Ideal.Gen
open Idealize.ShloMosaic Idealize.ShloMosaic.TcCoe Idealize.SL.Sem

variable (m : (ℓ : Loc nD τ sig) → Buf (Elt Ideal) ℓ) (c : Dev nD)

/-- Argument 0: the rows the projection reads. -/
abbrev X0 : Vec Ideal S4096x1024 .f32 := m ((c : Thread nD τ).loc main_arg0)

/-- Argument 1: the gradient of the projection's output. -/
abbrev X1 : Vec Ideal S4096x1024 .f32 := m ((c : Thread nD τ).loc main_arg1)

theorem origin : (![0, 0] : Fin 2 → Nat) = fun _ => 0 := funext fun a => by fin_cases a <;> rfl

/-- The first row tile leaves its product, added to zero. -/
theorem first (i : grid0.Coords) (a2 : Memref sig .tc .vmem S2048x1024 .bf16) (h2 : a2.IsWhole) (a3 : Memref sig .tc .vmem S2048x1024 .bf16) (h3 : a3.IsWhole)
    (a4 : Memref sig .tc .vmem S1024x1024 .f32) (h4 : a4.IsWhole) (a5 : Memref sig .tc .vmem S1024x1024 .bf16) (h5 : a5.IsWhole)
    (hc0 : cond0_0 i) (hc1 : ¬cond0_1 i) (x : Vec Ideal S2048x1024 .bf16) (y : Vec Ideal S2048x1024 .bf16) :
    out0_A_2 c i a2 h2 a3 h3 a4 h4 a5 h5 hc0 hc1 x y = k0_pay2 k0_pay1 x y := by
  unfold out0_A_2
  rw [View.read_writes_eq_canon _ _ _ (cover0_A_2 c i a2 h2 a3 h3 a4 h4 a5 h5 hc0 hc1 x y)]
  unfold kernelRun0_A
  dsimp only
  sl_unfold_words
  rw [View.canon_cons_unit_zero (S := S1024x1024) origin, View.readCov_unit_zero (S := S1024x1024) _ origin]
  simp only [View.readAt_eq_ld, h2.read_unread, h3.read_unread, View.ld_unit_zero (S := S2048x1024) origin, View.ld_unit_zero (S := S2048x1024) origin]

/-- The second row tile adds its product. -/
theorem second (i : grid0.Coords) (a2 : Memref sig .tc .vmem S2048x1024 .bf16) (h2 : a2.IsWhole) (a3 : Memref sig .tc .vmem S2048x1024 .bf16) (h3 : a3.IsWhole)
    (a4 : Memref sig .tc .vmem S1024x1024 .f32) (h4 : a4.IsWhole) (a5 : Memref sig .tc .vmem S1024x1024 .bf16) (h5 : a5.IsWhole)
    (hc0 : ¬cond0_0 i) (hc1 : cond0_1 i) (x : Vec Ideal S2048x1024 .bf16) (y : Vec Ideal S2048x1024 .bf16) (z : Vec Ideal S1024x1024 .f32) :
    out0_B_2 c i a2 h2 a3 h3 a4 h4 a5 h5 hc0 hc1 x y z = k0_pay2 z x y := by
  unfold out0_B_2
  rw [View.read_writes_eq_canon _ _ _ (cover0_B_2 c i a2 h2 a3 h3 a4 h4 a5 h5 hc0 hc1 x y z)]
  unfold kernelRun0_B
  dsimp only
  sl_unfold_words
  rw [View.canon_unit_zero origin]
  simp only [View.readAt_eq_ld, h2.read_unread, h3.read_unread, h4.read_unread, View.ld_unit_zero (S := S2048x1024) origin, View.ld_unit_zero (S := S2048x1024) origin,
    View.ld_unit_zero (S := S1024x1024) origin]

/-- Then it rounds the sum for the other result. -/
theorem rounded (i : grid0.Coords) (a2 : Memref sig .tc .vmem S2048x1024 .bf16) (h2 : a2.IsWhole) (a3 : Memref sig .tc .vmem S2048x1024 .bf16) (h3 : a3.IsWhole)
    (a4 : Memref sig .tc .vmem S1024x1024 .f32) (h4 : a4.IsWhole) (a5 : Memref sig .tc .vmem S1024x1024 .bf16) (h5 : a5.IsWhole)
    (hc0 : ¬cond0_0 i) (hc1 : cond0_1 i) (x : Vec Ideal S2048x1024 .bf16) (y : Vec Ideal S2048x1024 .bf16) (z : Vec Ideal S1024x1024 .f32) :
    out0_B_3 c i a2 h2 a3 h3 a4 h4 a5 h5 hc0 hc1 x y z = k0_pay3 (k0_pay2 z x y) := by
  unfold out0_B_3
  rw [View.read_writes_eq_canon _ _ _ (cover0_B_3 c i a2 h2 a3 h3 a4 h4 a5 h5 hc0 hc1 x y z)]
  unfold kernelRun0_B
  dsimp only
  sl_unfold_words
  rw [View.canon_unit_zero origin, View.readCov_unit_zero (S := S1024x1024) _ origin]
  simp only [View.readAt_eq_ld, h2.read_unread, h3.read_unread, h4.read_unread, View.ld_unit_zero (S := S2048x1024) origin, View.ld_unit_zero (S := S2048x1024) origin,
    View.ld_unit_zero (S := S1024x1024) origin]

theorem add_product (z : Vec Ideal S1024x1024 .f32) (x : Vec Ideal S2048x1024 .bf16) (y : Vec Ideal S2048x1024 .bf16) (k : Fin 1024) (j : Fin 1024) :
    k0_pay2 z x y (ix2 k j) = z (ix2 k j) + ∑ i : Fin 2048, x (ix2 i k) * y (ix2 i j) := by
  pointwise [k0_pay2]

theorem zero_at (k : Fin 1024) (j : Fin 1024) : k0_pay1 (F := Ideal) (ix2 k j) = 0 := by
  pointwise [k0_pay1]

theorem round_at (z : Vec Ideal S1024x1024 .f32) : k0_pay3 z = z := by
  funext y
  rw [eq_ix2 y]
  pointwise [k0_pay3]

theorem V0 : V m c main_v0 = X0 m c := by
  unfold V
  after_reads_simp
  rfl

theorem V1 : V m c main_v1 = X1 m c := by
  unfold V
  after_reads_simp
  rfl

theorem idx : ∀ t : Fin cfg0.N, win0_0.index t = ![t.val % 2, 0] ∧ win0_1.index t = ![t.val % 2, 0]
    ∧ win0_2.index t = ![0, 0] ∧ win0_3.index t = ![0, 0] :=
  (by decide +kernel : ∀ t : Fin grid0.N, _)

theorem blk0 (t : Fin cfg0.N) (i : Fin 2048) (k : Fin 1024) :
    iblk m c 0 t (ix2 i k) = X0 m c (ix2 ⟨2048 * (t.val % 2) + i.val, by omega⟩ k) := by
  refine Eq.trans (b := V m c main_v0 (ix2 ⟨2048 * (t.val % 2) + i.val, by omega⟩ k)) ?_ (congrFun (V0 m c) _)
  blk_ext [iblk, idx t]

theorem blk1 (t : Fin cfg0.N) (i : Fin 2048) (j : Fin 1024) :
    iblk m c 1 t (ix2 i j) = X1 m c (ix2 ⟨2048 * (t.val % 2) + i.val, by omega⟩ j) := by
  refine Eq.trans (b := V m c main_v1 (ix2 ⟨2048 * (t.val % 2) + i.val, by omega⟩ j)) ?_ (congrFun (V1 m c) _)
  blk_ext [iblk, idx t]

/-- What the second row tile leaves: the sum of the two tiles' products. -/
def both (t : Fin cfg0.N) : Vec Ideal S1024x1024 .f32 :=
  k0_pay2 (k0_pay2 k0_pay1 (iblk m c 0 ⟨t.val - 1, by have := t.isLt; omega⟩) (iblk m c 1 ⟨t.val - 1, by have := t.isLt; omega⟩)) (iblk m c 0 t) (iblk m c 1 t)

theorem outs_both (t : Fin cfg0.N) (h : t.val % 2 = 1) : outsAt0 m c t.val t.isLt = (both m c t, k0_pay3 (both m c t)) := by
  have e := outsAt0_A m c ⟨t.val - 1, by have := t.isLt; omega⟩ (by show (t.val - 1) % 2 = 0; omega) (by show ¬(t.val - 1) % 2 = 1; omega)
  rw [outsAt0_B m c t (by omega) h, second, rounded]
  dsimp only at e
  rw [e, first]
  rfl

/-- The reference's product. -/
abbrev product : Vec Ideal S1024x1024 .f32 :=
  transpose S1024x1024 [1, 0] (Host.dotGeneral (F := Ideal) (φ₁ := .f32) (φ₂ := .f32) Cert.Reference9Ideal.dot_S4096x1024_S4096x1024_S1024x1024_0_0_1_1_n_n none (X1 m c) (X0 m c)) Cert.Reference9Ideal.Gen.transposes_S1024x1024_S1024x1024_1_0

theorem product_at (k : Fin 1024) (j : Fin 1024) : product m c (ix2 k j) = ∑ r : Fin 4096, X0 m c (ix2 r k) * X1 m c (ix2 r j) := by
  refine Eq.trans (b := ∑ r : Fin 4096, X1 m c (ix2 r j) * X0 m c (ix2 r k)) ?_ (Finset.sum_congr rfl fun _ _ => mul_comm _ _)
  pointwise [product]

theorem both_at (t : Fin cfg0.N) (h : t.val % 2 = 1) (k : Fin 1024) (j : Fin 1024) :
    both m c t (ix2 k j) = product m c (ix2 k j) := by
  rw [both, add_product, add_product, zero_at, zero_add, product_at, Cert.Tiles.sum_two]
  refine congrArg₂ (· + ·) (Finset.sum_congr rfl fun i _ => ?_) (Finset.sum_congr rfl fun i _ => ?_)
  · rw [blk0, blk1]
    exact congrArg₂ (· * ·) (congrArg (X0 m c) (congrArg₂ ix2 (Fin.ext (by show 2048 * ((t.val - 1) % 2) + i.val = i.val; omega)) rfl))
      (congrArg (X1 m c) (congrArg₂ ix2 (Fin.ext (by show 2048 * ((t.val - 1) % 2) + i.val = i.val; omega)) rfl))
  · rw [blk0, blk1]
    exact congrArg₂ (· * ·) (congrArg (X0 m c) (congrArg₂ ix2 (Fin.ext (by show 2048 * (t.val % 2) + i.val = 2048 + i.val; omega)) rfl))
      (congrArg (X1 m c) (congrArg₂ ix2 (Fin.ext (by show 2048 * (t.val % 2) + i.val = 2048 + i.val; omega)) rfl))

theorem array2 : (dats m 0 c).arrAt 2 cfg0.N = product m c := by
  refine (dats m 0 c).arrAt_eq_of_covers 2 _ (by decide +kernel) fun t hf y => ?_
  have h : t.val % 2 = 1 := (flush0_2 t).mp hf
  blk_simp
  rw [after0_2, outs_both m c t h]
  obtain ⟨k, j, rfl⟩ : ∃ (k : Fin 1024) (j : Fin 1024), y = ix2 k j := ⟨y 0, y 1, eq_ix2 y⟩
  have e : (win0_2.blk t).view.emb (ix2 k j) = ix2 k j := by
    blk_ext [idx t]
  rw [e]
  exact both_at m c t h k j

theorem array3 : (dats m 0 c).arrAt 3 cfg0.N = product m c := by
  refine (dats m 0 c).arrAt_eq_of_covers 3 _ (by decide +kernel) fun t hf y => ?_
  have h : t.val % 2 = 1 := (flush0_3 t).mp hf
  blk_simp
  rw [after0_3, outs_both m c t h]
  obtain ⟨k, j, rfl⟩ : ∃ (k : Fin 1024) (j : Fin 1024), y = ix2 k j := ⟨y 0, y 1, eq_ix2 y⟩
  have e : (win0_3.blk t).view.emb (ix2 k j) = ix2 k j := by
    blk_ext [idx t]
  rw [e]
  exact (congrFun (round_at _) _).trans (both_at m c t h k j)

/-- The reference has no semaphore; its run leaves its two arguments alone. -/
theorem reference_frame : Cert.quiescent_Reference9Ideal (hReference9Ideal := Cert.Reference9Ideal.Gen.facts) :=
  fun m ρ _ => (θ_run Cert.Reference9Ideal.defs _ _).mono
    (fun r h => ⟨fun c => (h c).2.2, Idealize.ShloMosaic.sem_eq_zero_of_no_sems (by decide) r.2⟩)
    (Cert.Reference9Ideal.Value.run (F := Ideal) m ρ)

/-- The call's two results are the reference's. -/
theorem results_equal : Cert.algebraic_Kernel9Ideal_Reference9Ideal (hKernel9Ideal := Cert.Kernel9Ideal.Gen.facts)
    (hReference9Ideal := Cert.Reference9Ideal.Gen.facts) := by
  intro m g m' g' hpre hagree
  refine ⟨fun c => product m c, fun c => product m c, ?_, ?_⟩
  · exact (θ_run Cert.Kernel9Ideal.defs _ _).mono (fun r h c => ⟨(h c).1.trans (array2 m c), (h c).2.1.trans (array3 m c), (h c).2.2⟩)
      (Cert.Kernel9Ideal.Value.run_blocks m g)
  · refine (θ_run Cert.Reference9Ideal.defs _ _).mono (fun r h c => ?_) (Cert.Reference9Ideal.Value.run (F := Ideal) m' g')
    obtain ⟨a0, a1⟩ := hagree c
    obtain ⟨h0, h1, hargs⟩ := h c
    rw [a0, a1] at h0 h1
    exact ⟨h0, h1, hargs⟩

end Cert.WeightConvOut

end
-- ==== Proof.WeightOut.lean ====
module

public import proofs.«01_k».proof.Proof.RowTiles
public import proofs.«01_k».proof.Proof.Gen.Kernel10Ideal.Value
public import proofs.«01_k».proof.Proof.Gen.Reference10Ideal.Run
public import proofs.«01_k».proof.Defs
public import Idealize.ShloMosaic.Lib.Pipeline.ValueKit
public import Idealize.ShloMosaic.Lib.StableHlo.RunRead
public import Idealize.ShloMosaic.Lib.Pointwise

/-! The weight gradient of the mixer's output projection.

The call's grid has one column block and two row tiles of 2048. The first stores zero and adds its product, the second adds its own and
writes the block back; the reference is one product over all 4096 rows. -/

@[expose] public section

set_option maxRecDepth 16384

noncomputable section

namespace Cert.WeightOut

open Cert.Kernel10Ideal Cert.Kernel10Ideal.Gen
open Idealize.ShloMosaic Idealize.ShloMosaic.TcCoe Idealize.SL.Sem

variable (m : (ℓ : Loc nD τ sig) → Buf (Elt Ideal) ℓ) (c : Dev nD)

/-- Argument 0: the merged mixer output. -/
abbrev X0 : Vec Ideal S4096x1024 .f32 := m ((c : Thread nD τ).loc main_arg0)

/-- Argument 1: the gradient of the projection's output. -/
abbrev X1 : Vec Ideal S4096x1024 .f32 := m ((c : Thread nD τ).loc main_arg1)

theorem origin : (![0, 0] : Fin 2 → Nat) = fun _ => 0 := funext fun a => by fin_cases a <;> rfl

/-- The first row tile leaves its product, added to zero. -/
theorem first (i : grid0.Coords) (a2 : Memref sig .tc .vmem S2048x1024 .bf16) (h2 : a2.IsWhole) (a3 : Memref sig .tc .vmem S2048x1024 .f32) (h3 : a3.IsWhole)
    (a4 : Memref sig .tc .vmem S1024x1024 .f32) (h4 : a4.IsWhole) (a5 : Memref sig .tc .vmem S1024x1024 .bf16) (h5 : a5.IsWhole)
    (hc0 : cond0_0 i) (hc1 : ¬cond0_1 i) (x : Vec Ideal S2048x1024 .bf16) (y : Vec Ideal S2048x1024 .f32) :
    out0_A_2 c i a2 h2 a3 h3 a4 h4 a5 h5 hc0 hc1 x y = k0_pay2 k0_pay1 x y := by
  unfold out0_A_2
  rw [View.read_writes_eq_canon _ _ _ (cover0_A_2 c i a2 h2 a3 h3 a4 h4 a5 h5 hc0 hc1 x y)]
  unfold kernelRun0_A
  dsimp only
  sl_unfold_words
  rw [View.canon_cons_unit_zero (S := S1024x1024) origin, View.readCov_unit_zero (S := S1024x1024) _ origin]
  simp only [View.readAt_eq_ld, h2.read_unread, h3.read_unread, View.ld_unit_zero (S := S2048x1024) origin, View.ld_unit_zero (S := S2048x1024) origin]

/-- The second row tile adds its product. -/
theorem second (i : grid0.Coords) (a2 : Memref sig .tc .vmem S2048x1024 .bf16) (h2 : a2.IsWhole) (a3 : Memref sig .tc .vmem S2048x1024 .f32) (h3 : a3.IsWhole)
    (a4 : Memref sig .tc .vmem S1024x1024 .f32) (h4 : a4.IsWhole) (a5 : Memref sig .tc .vmem S1024x1024 .bf16) (h5 : a5.IsWhole)
    (hc0 : ¬cond0_0 i) (hc1 : cond0_1 i) (x : Vec Ideal S2048x1024 .bf16) (y : Vec Ideal S2048x1024 .f32) (z : Vec Ideal S1024x1024 .f32) :
    out0_B_2 c i a2 h2 a3 h3 a4 h4 a5 h5 hc0 hc1 x y z = k0_pay2 z x y := by
  unfold out0_B_2
  rw [View.read_writes_eq_canon _ _ _ (cover0_B_2 c i a2 h2 a3 h3 a4 h4 a5 h5 hc0 hc1 x y z)]
  unfold kernelRun0_B
  dsimp only
  sl_unfold_words
  rw [View.canon_unit_zero origin]
  simp only [View.readAt_eq_ld, h2.read_unread, h3.read_unread, h4.read_unread, View.ld_unit_zero (S := S2048x1024) origin, View.ld_unit_zero (S := S2048x1024) origin,
    View.ld_unit_zero (S := S1024x1024) origin]

/-- Then it rounds the sum for the other result. -/
theorem rounded (i : grid0.Coords) (a2 : Memref sig .tc .vmem S2048x1024 .bf16) (h2 : a2.IsWhole) (a3 : Memref sig .tc .vmem S2048x1024 .f32) (h3 : a3.IsWhole)
    (a4 : Memref sig .tc .vmem S1024x1024 .f32) (h4 : a4.IsWhole) (a5 : Memref sig .tc .vmem S1024x1024 .bf16) (h5 : a5.IsWhole)
    (hc0 : ¬cond0_0 i) (hc1 : cond0_1 i) (x : Vec Ideal S2048x1024 .bf16) (y : Vec Ideal S2048x1024 .f32) (z : Vec Ideal S1024x1024 .f32) :
    out0_B_3 c i a2 h2 a3 h3 a4 h4 a5 h5 hc0 hc1 x y z = k0_pay3 (k0_pay2 z x y) := by
  unfold out0_B_3
  rw [View.read_writes_eq_canon _ _ _ (cover0_B_3 c i a2 h2 a3 h3 a4 h4 a5 h5 hc0 hc1 x y z)]
  unfold kernelRun0_B
  dsimp only
  sl_unfold_words
  rw [View.canon_unit_zero origin, View.readCov_unit_zero (S := S1024x1024) _ origin]
  simp only [View.readAt_eq_ld, h2.read_unread, h3.read_unread, h4.read_unread, View.ld_unit_zero (S := S2048x1024) origin, View.ld_unit_zero (S := S2048x1024) origin,
    View.ld_unit_zero (S := S1024x1024) origin]

theorem add_product (z : Vec Ideal S1024x1024 .f32) (x : Vec Ideal S2048x1024 .bf16) (y : Vec Ideal S2048x1024 .f32) (k : Fin 1024) (j : Fin 1024) :
    k0_pay2 z x y (ix2 k j) = z (ix2 k j) + ∑ i : Fin 2048, x (ix2 i k) * y (ix2 i j) := by
  pointwise [k0_pay2]

theorem zero_at (k : Fin 1024) (j : Fin 1024) : k0_pay1 (F := Ideal) (ix2 k j) = 0 := by
  pointwise [k0_pay1]

theorem round_at (z : Vec Ideal S1024x1024 .f32) : k0_pay3 z = z := by
  funext y
  rw [eq_ix2 y]
  pointwise [k0_pay3]

theorem V0 : V m c main_v0 = X0 m c := by
  unfold V
  after_reads_simp
  rfl

theorem idx : ∀ t : Fin cfg0.N, win0_0.index t = ![t.val % 2, 0] ∧ win0_1.index t = ![t.val % 2, 0]
    ∧ win0_2.index t = ![0, 0] ∧ win0_3.index t = ![0, 0] :=
  (by decide +kernel : ∀ t : Fin grid0.N, _)

theorem blk0 (t : Fin cfg0.N) (i : Fin 2048) (k : Fin 1024) :
    iblk m c 0 t (ix2 i k) = X0 m c (ix2 ⟨2048 * (t.val % 2) + i.val, by omega⟩ k) := by
  refine Eq.trans (b := V m c main_v0 (ix2 ⟨2048 * (t.val % 2) + i.val, by omega⟩ k)) ?_ (congrFun (V0 m c) _)
  blk_ext [iblk, idx t]

theorem blk1 (t : Fin cfg0.N) (i : Fin 2048) (j : Fin 1024) :
    iblk m c 1 t (ix2 i j) = X1 m c (ix2 ⟨2048 * (t.val % 2) + i.val, by omega⟩ j) := by
  refine Eq.trans (b := V m c main_arg1 (ix2 ⟨2048 * (t.val % 2) + i.val, by omega⟩ j)) ?_ (congrFun (V_main_arg1 m c) _)
  blk_ext [iblk, idx t]

/-- What the second row tile leaves: the sum of the two tiles' products. -/
def both (t : Fin cfg0.N) : Vec Ideal S1024x1024 .f32 :=
  k0_pay2 (k0_pay2 k0_pay1 (iblk m c 0 ⟨t.val - 1, by have := t.isLt; omega⟩) (iblk m c 1 ⟨t.val - 1, by have := t.isLt; omega⟩)) (iblk m c 0 t) (iblk m c 1 t)

theorem outs_both (t : Fin cfg0.N) (h : t.val % 2 = 1) : outsAt0 m c t.val t.isLt = (both m c t, k0_pay3 (both m c t)) := by
  have e := outsAt0_A m c ⟨t.val - 1, by have := t.isLt; omega⟩ (by show (t.val - 1) % 2 = 0; omega) (by show ¬(t.val - 1) % 2 = 1; omega)
  rw [outsAt0_B m c t (by omega) h, second, rounded]
  dsimp only at e
  rw [e, first]
  rfl

/-- The reference's product. -/
abbrev product : Vec Ideal S1024x1024 .f32 :=
  transpose S1024x1024 [1, 0] (Host.dotGeneral (F := Ideal) (φ₁ := .f32) (φ₂ := .f32) Cert.Reference10Ideal.dot_S4096x1024_S4096x1024_S1024x1024_0_0_1_1_n_n none (X1 m c) (X0 m c)) Cert.Reference10Ideal.Gen.transposes_S1024x1024_S1024x1024_1_0

theorem product_at (k : Fin 1024) (j : Fin 1024) : product m c (ix2 k j) = ∑ r : Fin 4096, X0 m c (ix2 r k) * X1 m c (ix2 r j) := by
  refine Eq.trans (b := ∑ r : Fin 4096, X1 m c (ix2 r j) * X0 m c (ix2 r k)) ?_ (Finset.sum_congr rfl fun _ _ => mul_comm _ _)
  pointwise [product]

theorem both_at (t : Fin cfg0.N) (h : t.val % 2 = 1) (k : Fin 1024) (j : Fin 1024) :
    both m c t (ix2 k j) = product m c (ix2 k j) := by
  rw [both, add_product, add_product, zero_at, zero_add, product_at, Cert.Tiles.sum_two]
  refine congrArg₂ (· + ·) (Finset.sum_congr rfl fun i _ => ?_) (Finset.sum_congr rfl fun i _ => ?_)
  · rw [blk0, blk1]
    exact congrArg₂ (· * ·) (congrArg (X0 m c) (congrArg₂ ix2 (Fin.ext (by show 2048 * ((t.val - 1) % 2) + i.val = i.val; omega)) rfl))
      (congrArg (X1 m c) (congrArg₂ ix2 (Fin.ext (by show 2048 * ((t.val - 1) % 2) + i.val = i.val; omega)) rfl))
  · rw [blk0, blk1]
    exact congrArg₂ (· * ·) (congrArg (X0 m c) (congrArg₂ ix2 (Fin.ext (by show 2048 * (t.val % 2) + i.val = 2048 + i.val; omega)) rfl))
      (congrArg (X1 m c) (congrArg₂ ix2 (Fin.ext (by show 2048 * (t.val % 2) + i.val = 2048 + i.val; omega)) rfl))

theorem array2 : (dats m 0 c).arrAt 2 cfg0.N = product m c := by
  refine (dats m 0 c).arrAt_eq_of_covers 2 _ (by decide +kernel) fun t hf y => ?_
  have h : t.val % 2 = 1 := (flush0_2 t).mp hf
  blk_simp
  rw [after0_2, outs_both m c t h]
  obtain ⟨k, j, rfl⟩ : ∃ (k : Fin 1024) (j : Fin 1024), y = ix2 k j := ⟨y 0, y 1, eq_ix2 y⟩
  have e : (win0_2.blk t).view.emb (ix2 k j) = ix2 k j := by
    blk_ext [idx t]
  rw [e]
  exact both_at m c t h k j

theorem array3 : (dats m 0 c).arrAt 3 cfg0.N = product m c := by
  refine (dats m 0 c).arrAt_eq_of_covers 3 _ (by decide +kernel) fun t hf y => ?_
  have h : t.val % 2 = 1 := (flush0_3 t).mp hf
  blk_simp
  rw [after0_3, outs_both m c t h]
  obtain ⟨k, j, rfl⟩ : ∃ (k : Fin 1024) (j : Fin 1024), y = ix2 k j := ⟨y 0, y 1, eq_ix2 y⟩
  have e : (win0_3.blk t).view.emb (ix2 k j) = ix2 k j := by
    blk_ext [idx t]
  rw [e]
  exact (congrFun (round_at _) _).trans (both_at m c t h k j)

/-- The reference has no semaphore; its run leaves its two arguments alone. -/
theorem reference_frame : Cert.quiescent_Reference10Ideal (hReference10Ideal := Cert.Reference10Ideal.Gen.facts) :=
  fun m ρ _ => (θ_run Cert.Reference10Ideal.defs _ _).mono
    (fun r h => ⟨fun c => (h c).2.2, Idealize.ShloMosaic.sem_eq_zero_of_no_sems (by decide) r.2⟩)
    (Cert.Reference10Ideal.Value.run (F := Ideal) m ρ)

/-- The call's two results are the reference's. -/
theorem results_equal : Cert.algebraic_Kernel10Ideal_Reference10Ideal (hKernel10Ideal := Cert.Kernel10Ideal.Gen.facts)
    (hReference10Ideal := Cert.Reference10Ideal.Gen.facts) := by
  intro m g m' g' hpre hagree
  refine ⟨fun c => product m c, fun c => product m c, ?_, ?_⟩
  · exact (θ_run Cert.Kernel10Ideal.defs _ _).mono (fun r h c => ⟨(h c).1.trans (array2 m c), (h c).2.1.trans (array3 m c), (h c).2.2⟩)
      (Cert.Kernel10Ideal.Value.run_blocks m g)
  · refine (θ_run Cert.Reference10Ideal.defs _ _).mono (fun r h c => ?_) (Cert.Reference10Ideal.Value.run (F := Ideal) m' g')
    obtain ⟨a0, a1⟩ := hagree c
    obtain ⟨h0, h1, hargs⟩ := h c
    rw [a0, a1] at h0 h1
    exact ⟨h0, h1, hargs⟩

end Cert.WeightOut

end
-- ==== Proof.AdamSmall.lean ====
module

public import proofs.«01_k».proof.Proof.Gen.Kernel11Ideal.Value
public import proofs.«01_k».proof.Proof.Gen.Reference11Ideal.Run
public import proofs.«01_k».proof.Proof.Gen.Reference11Ideal.Read
public import proofs.«01_k».proof.Defs

/-! The optimiser's step for the small weights.

The call has one point and no tiles. Its three results are, entry by entry, the reference's operations on the same entries of the four
arguments: the two running averages and the step. -/

@[expose] public section

noncomputable section

namespace Cert.AdamSmall

open Idealize.ShloMosaic Idealize.ShloMosaic.TcCoe Idealize.SL.Sem
open Cert.Kernel11Ideal (S8x1024)
open Cert.Kernel11Ideal.Value (G4 G5 G6)
open Cert.Reference11Ideal.Read

variable (w g u v : Vec Ideal S8x1024 .f32)

/-- The average of the gradients. -/
theorem average : G5 (F := Ideal) g u = val_main_v4 (F := Ideal) g u := by
  funext i
  simp only [val_main_v4_apply, val_main_v3_apply, val_main_v2_apply, val_main_cst_0_apply, val_main_v1_apply, val_main_v0_apply, val_main_cst_apply]

/-- The average of their squares. -/
theorem average_square : G6 (F := Ideal) g v = val_main_v10 (F := Ideal) g v := by
  funext i
  simp only [val_main_v10_apply, val_main_v9_apply, val_main_v8_apply, val_main_cst_2_apply, val_main_v7_apply, val_main_v6_apply, val_main_v5_apply,
    val_main_cst_1_apply]

/-- The step: the first average over the root of the second, and the decay of the weight. -/
theorem step : G4 (F := Ideal) w g u v = val_main_v23 (F := Ideal) w g u v := by
  funext i
  have e1 := congrFun (average g u) i
  have e2 := congrFun (average_square g v) i
  simp only [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, ← e1, ← e2,
    val_main_cst_3_apply, val_main_cst_4_apply, val_main_cst_5_apply, val_main_cst_6_apply, val_main_cst_7_apply]
  rfl

/-- The reference has no semaphore; its run leaves its four arguments alone. -/
theorem reference_frame : Cert.quiescent_Reference11Ideal (hReference11Ideal := Cert.Reference11Ideal.Gen.facts) :=
  fun m ρ _ => (θ_run Cert.Reference11Ideal.defs _ _).mono
    (fun r h => ⟨fun c => (h c).2.2.2, Idealize.ShloMosaic.sem_eq_zero_of_no_sems (by decide) r.2⟩)
    (Cert.Reference11Ideal.Value.run (F := Ideal) m ρ)

/-- The call's three results are the reference's, whatever the arguments hold. -/
theorem results_equal : Cert.algebraic_Kernel11Ideal_Reference11Ideal (hKernel11Ideal := Cert.Kernel11Ideal.Gen.facts)
    (hReference11Ideal := Cert.Reference11Ideal.Gen.facts) := by
  intro m ρ m' ρ' hpre hagree
  refine ⟨fun c => val_main_v23 (F := Ideal) (m ((c.tc : Thread _ _).loc Cert.Kernel11Ideal.main_arg0)) (m ((c.tc : Thread _ _).loc Cert.Kernel11Ideal.main_arg1))
      (m ((c.tc : Thread _ _).loc Cert.Kernel11Ideal.main_arg2)) (m ((c.tc : Thread _ _).loc Cert.Kernel11Ideal.main_arg3)),
    fun c => val_main_v4 (F := Ideal) (m ((c.tc : Thread _ _).loc Cert.Kernel11Ideal.main_arg1)) (m ((c.tc : Thread _ _).loc Cert.Kernel11Ideal.main_arg2)),
    fun c => val_main_v10 (F := Ideal) (m ((c.tc : Thread _ _).loc Cert.Kernel11Ideal.main_arg1)) (m ((c.tc : Thread _ _).loc Cert.Kernel11Ideal.main_arg3)), ?_, ?_⟩
  · exact (θ_run Cert.Kernel11Ideal.defs _ _).mono
      (fun r h c => ⟨(h c).1.trans (step _ _ _ _), (h c).2.1.trans (average _ _), (h c).2.2.1.trans (average_square _ _), (h c).2.2.2⟩)
      (Cert.Kernel11Ideal.Value.run (F := Ideal) m ρ)
  · refine (θ_run Cert.Reference11Ideal.defs _ _).mono (fun r h c => ?_) (Cert.Reference11Ideal.Value.run (F := Ideal) m' ρ')
    obtain ⟨a0, a1, a2, a3⟩ := hagree c
    obtain ⟨h0, h1, h2, hargs⟩ := h c
    rw [val_main_v23_eq, a0, a1, a2, a3] at h0
    rw [val_main_v4_eq, a1, a2] at h1
    rw [val_main_v10_eq, a1, a3] at h2
    exact ⟨h0, h1, h2, hargs⟩

end Cert.AdamSmall

end
-- ==== Proof.lean ====
module

public import proofs.«01_k».proof.Defs
public import proofs.«01_k».proof.Proof.Gen.Kernel11.Frame
public import proofs.«01_k».proof.Proof.Gen.Kernel11Ideal.Frame
public import proofs.«01_k».proof.Proof.Gen.Kernel

public import proofs.«01_k».proof.Proof.Points
public import proofs.«01_k».proof.Proof.KernelFrame
public import proofs.«01_k».proof.Proof.Arrays
public import proofs.«01_k».proof.Proof.Finite
public import proofs.«01_k».proof.Proof.Gen.ReferenceIdeal
public import proofs.«01_k».proof.Proof.Gen.ReferenceIdeal.Run
public import proofs.«01_k».proof.Proof.Gen.ReferenceIdeal.Read
public import proofs.«01_k».proof.Proof.WeightIn
public import proofs.«01_k».proof.Proof.WeightGate
public import proofs.«01_k».proof.Proof.WeightDown
public import proofs.«01_k».proof.Proof.InBwd
public import proofs.«01_k».proof.Proof.FfnBwd
public import proofs.«01_k».proof.Proof.FfnFwd
public import proofs.«01_k».proof.Proof.ProjFwd
public import proofs.«01_k».proof.Proof.WeightConvOut
public import proofs.«01_k».proof.Proof.WeightOut
public import proofs.«01_k».proof.Proof.AdamSmall
public import proofs.«01_k».proof.Proof.Gen.Kernel2.Frame
public import proofs.«01_k».proof.Proof.Gen.Kernel2Ideal.Frame
public import proofs.«01_k».proof.Proof.Gen.Reference2Ideal
public import proofs.«01_k».proof.Proof.Gen.Kernel3.Frame
public import proofs.«01_k».proof.Proof.Gen.Kernel3Ideal.Frame
public import proofs.«01_k».proof.Proof.Gen.Reference3Ideal
public import proofs.«01_k».proof.Proof.Gen.Kernel4.Frame
public import proofs.«01_k».proof.Proof.Gen.Kernel4Ideal.Frame
public import proofs.«01_k».proof.Proof.Gen.Reference4Ideal
public import proofs.«01_k».proof.Proof.Gen.Kernel5.Frame
public import proofs.«01_k».proof.Proof.Gen.Kernel5Ideal.Frame
public import proofs.«01_k».proof.Proof.Gen.Reference5Ideal
public import proofs.«01_k».proof.Proof.Gen.Kernel6.Frame
public import proofs.«01_k».proof.Proof.Gen.Kernel6Ideal.Frame
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8.Frame
public import proofs.«01_k».proof.Proof.Gen.Kernel8Ideal.Frame
public import proofs.«01_k».proof.Proof.Gen.Reference8Ideal
public import proofs.«01_k».proof.Proof.Gen.Kernel9.Frame
public import proofs.«01_k».proof.Proof.Gen.Kernel9Ideal.Frame
public import proofs.«01_k».proof.Proof.Gen.Reference9Ideal
public import proofs.«01_k».proof.Proof.Gen.Kernel10.Frame
public import proofs.«01_k».proof.Proof.Gen.Kernel10Ideal.Frame
public import proofs.«01_k».proof.Proof.Gen.Reference10Ideal
public import proofs.«01_k».proof.Proof.Gen.Pre_finite3
public import proofs.«01_k».proof.Proof.Gen.Pre_finite
public import Idealize.ShloMosaic.Adequacy
public import Idealize.ShloMosaic.Init

@[expose] public section

noncomputable section

namespace Cert.Proof

open Idealize.ShloMosaic Idealize.SL.Sem Cert.Kernel

/-- The reference has no semaphore; its run leaves its ten arguments alone. -/
theorem reference_frame : Cert.quiescent_ReferenceIdeal (hReferenceIdeal := Cert.ReferenceIdeal.Gen.facts) :=
  fun m ρ _ => (θ_run Cert.ReferenceIdeal.defs _ _).mono
    (fun r h => ⟨fun c => (h c).2.2.2.2.2.2.2, Idealize.ShloMosaic.sem_eq_zero_of_no_sems (by decide) r.2⟩)
    (Cert.ReferenceIdeal.Value.run (F := Ideal) m ρ)

open Cert.Mixer in
/-- Where the arguments hold no infinity, the call's seven results are the reference's. -/
theorem results_equal : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  have hR : ∀ c, RealInputs m c := fun c => reals_of_pre m c hpre
  refine ⟨fun c => Cert.ReferenceIdeal.Read.val_main_v357 (X0 m c) (X1 m c) (X2 m c) (X3 m c) (X4 m c) (X5 m c) (X6 m c) (X7 m c) (X8 m c) (X9 m c), fun c => Cert.ReferenceIdeal.Read.val_main_v358 (X0 m c) (X1 m c) (X9 m c), fun c => Cert.ReferenceIdeal.Read.val_main_v359 (X0 m c) (X1 m c) (X5 m c) (X9 m c), fun c => Cert.ReferenceIdeal.Read.val_main_v360 (X0 m c) (X1 m c) (X9 m c), fun c => Cert.ReferenceIdeal.Read.val_main_v235 (X0 m c) (X1 m c) (X6 m c) (X7 m c) (X8 m c) (X9 m c), fun c => Cert.ReferenceIdeal.Read.val_main_v216 (X0 m c) (X1 m c) (X6 m c) (X8 m c) (X9 m c), fun c => Cert.ReferenceIdeal.Read.val_main_v356 (X0 m c) (X1 m c) (X3 m c) (X4 m c) (X9 m c), ?_, ?_⟩
  · exact (θ_run Cert.KernelIdeal.defs _ _).mono (fun r h c => ⟨result0 (hR c) h.1,
        result1 h.1,
        result2 h.1,
        result3 h.1,
        result4 (hR c) h.1,
        result5 h.1,
        result6 h.1, h.2 c⟩)
      (θ_run_and (run_main m g) (unchanged m g))
  · refine (θ_run Cert.ReferenceIdeal.defs _ _).mono (fun r h c => ?_) (Cert.ReferenceIdeal.Value.run (F := Ideal) m' g')
    obtain ⟨a0, a1, a2, a3, a4, a5, a6, a7, a8, a9⟩ := hagree c
    exact ⟨(h c).1.trans ((Cert.ReferenceIdeal.Read.val_main_v357_eq _).trans (congr (congr (congr (congr (congr (congr (congr (congr (congr (congrArg Cert.ReferenceIdeal.Read.val_main_v357 a0) a1) a2) a3) a4) a5) a6) a7) a8) a9)),
      (h c).2.1.trans ((Cert.ReferenceIdeal.Read.val_main_v358_eq _).trans (congr (congr (congrArg Cert.ReferenceIdeal.Read.val_main_v358 a0) a1) a9)),
      (h c).2.2.1.trans ((Cert.ReferenceIdeal.Read.val_main_v359_eq _).trans (congr (congr (congr (congrArg Cert.ReferenceIdeal.Read.val_main_v359 a0) a1) a5) a9)),
      (h c).2.2.2.1.trans ((Cert.ReferenceIdeal.Read.val_main_v360_eq _).trans (congr (congr (congrArg Cert.ReferenceIdeal.Read.val_main_v360 a0) a1) a9)),
      (h c).2.2.2.2.1.trans ((Cert.ReferenceIdeal.Read.val_main_v235_eq _).trans (congr (congr (congr (congr (congr (congrArg Cert.ReferenceIdeal.Read.val_main_v235 a0) a1) a6) a7) a8) a9)),
      (h c).2.2.2.2.2.1.trans ((Cert.ReferenceIdeal.Read.val_main_v216_eq _).trans (congr (congr (congr (congr (congrArg Cert.ReferenceIdeal.Read.val_main_v216 a0) a1) a6) a8) a9)),
      (h c).2.2.2.2.2.2.1.trans ((Cert.ReferenceIdeal.Read.val_main_v356_eq _).trans (congr (congr (congr (congr (congrArg Cert.ReferenceIdeal.Read.val_main_v356 a0) a1) a3) a4) a9)), (h c).2.2.2.2.2.2.2⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_finite.Gen.facts, Cert.Pre_finite3.Gen.facts,
  Cert.Mixer.kernel_frame, fun m ρ _ => Cert.Mixer.frame m ρ, fun m ρ _ => Cert.Mixer.frame m ρ, reference_frame,
  fun m ρ _ => reference_frame m ρ trivial,
  fun m ρ _ => Cert.Kernel2.Gen.frame m ρ, fun m ρ _ => Cert.Kernel2Ideal.Gen.frame m ρ, Cert.InBwd.reference_frame,
  fun m ρ _ => Cert.Kernel3.Gen.frame m ρ, fun m ρ _ => Cert.Kernel3Ideal.Gen.frame m ρ, fun m ρ _ => Cert.Kernel3Ideal.Gen.frame m ρ,
  Cert.FfnBwd.reference_frame, fun m ρ _ => Cert.FfnBwd.reference_frame m ρ trivial,
  fun m ρ _ => Cert.Kernel4.Gen.frame m ρ, fun m ρ _ => Cert.Kernel4Ideal.Gen.frame m ρ, Cert.WeightIn.reference_frame,
  fun m ρ _ => Cert.Kernel5.Gen.frame m ρ, fun m ρ _ => Cert.Kernel5Ideal.Gen.frame m ρ, Cert.WeightGate.reference_frame,
  fun m ρ _ => Cert.Kernel6.Gen.frame m ρ, fun m ρ _ => Cert.Kernel6Ideal.Gen.frame m ρ, Cert.WeightDown.reference_frame,
  Cert.ProjFwd.kernel_frame, fun m ρ _ => Cert.ProjFwd.frame m ρ, Cert.ProjFwd.reference_frame,
  fun m ρ _ => Cert.Kernel8.Gen.frame m ρ, fun m ρ _ => Cert.Kernel8Ideal.Gen.frame m ρ, Cert.FfnFwd.reference_frame,
  fun m ρ _ => Cert.Kernel9.Gen.frame m ρ, fun m ρ _ => Cert.Kernel9Ideal.Gen.frame m ρ, Cert.WeightConvOut.reference_frame,
  fun m ρ _ => Cert.Kernel10.Gen.frame m ρ, fun m ρ _ => Cert.Kernel10Ideal.Gen.frame m ρ, Cert.WeightOut.reference_frame,
  fun m ρ _ => Cert.Kernel11.Gen.frame m ρ, fun m ρ _ => Cert.Kernel11Ideal.Gen.frame m ρ, Cert.AdamSmall.reference_frame,
  trivial, results_equal, trivial, Cert.InBwd.results_equal, trivial, Cert.FfnBwd.results_equal, trivial, Cert.WeightIn.results_equal, trivial, Cert.WeightGate.results_equal, trivial, Cert.WeightDown.results_equal,
  trivial, Cert.ProjFwd.results_equal, trivial, Cert.FfnFwd.results_equal, trivial, Cert.WeightConvOut.results_equal,
  trivial, Cert.WeightOut.results_equal, trivial, Cert.AdamSmall.results_equal⟩

end Cert.Proof

end
